-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactReferenceIdeal (m : (ℓ : Loc Cert.DactReferenceIdeal.nD Cert.DactReferenceIdeal.τ Cert.DactReferenceIdeal.sig) → Buf (Elt Ideal) ℓ) : Prop :=
  True

def Pre_DactReferenceIdeal_dact_finite [hPre_dact_finite : Cert.Pre_dact_finite.Facts] (m : (ℓ : Loc Cert.DactReferenceIdeal.nD Cert.DactReferenceIdeal.τ Cert.DactReferenceIdeal.sig) → Buf (Elt Ideal) ℓ) : Prop :=
  ∀ c : Dev Cert.DactReferenceIdeal.nD,
    (Cert.Pre_dact_finite.fn (F := Ideal) (m ((c.tc : Thread Cert.DactReferenceIdeal.nD Cert.DactReferenceIdeal.τ).loc Cert.DactReferenceIdeal.main_arg0)) (m ((c.tc : Thread Cert.DactReferenceIdeal.nD Cert.DactReferenceIdeal.τ).loc Cert.DactReferenceIdeal.main_arg1)) (m ((c.tc : Thread Cert.DactReferenceIdeal.nD Cert.DactReferenceIdeal.τ).loc Cert.DactReferenceIdeal.main_arg2)) (m ((c.tc : Thread Cert.DactReferenceIdeal.nD Cert.DactReferenceIdeal.τ).loc Cert.DactReferenceIdeal.main_arg3))) = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgReferenceIdeal (m : (ℓ : Loc Cert.DwgReferenceIdeal.nD Cert.DwgReferenceIdeal.τ Cert.DwgReferenceIdeal.sig) → Buf (Elt Ideal) ℓ) : Prop :=
  True

def Pre_Dxa (m : (ℓ : Loc Cert.Dxa.nD Cert.Dxa.τ Cert.Dxa.sig) → Buf (Elt Bits) ℓ) : Prop :=
  True

def Pre_DxaIdeal (m : (ℓ : Loc Cert.DxaIdeal.nD Cert.DxaIdeal.τ Cert.DxaIdeal.sig) → Buf (Elt Ideal) ℓ) : Prop :=
  True

def Pre_DxaIdeal_dxa_finite [hPre_dxa_finite : Cert.Pre_dxa_finite.Facts] (m : (ℓ : Loc Cert.DxaIdeal.nD Cert.DxaIdeal.τ Cert.DxaIdeal.sig) → Buf (Elt Ideal) ℓ) : Prop :=
  ∀ c : Dev Cert.DxaIdeal.nD,
    (Cert.Pre_dxa_finite.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))) = (fun _ => 1#1)

def Pre_DxaReferenceIdeal (m : (ℓ : Loc Cert.DxaReferenceIdeal.nD Cert.DxaReferenceIdeal.τ Cert.DxaReferenceIdeal.sig) → Buf (Elt Ideal) ℓ) : Prop :=
  True

def Pre_DxaReferenceIdeal_dxa_finite [hPre_dxa_finite : Cert.Pre_dxa_finite.Facts] (m : (ℓ : Loc Cert.DxaReferenceIdeal.nD Cert.DxaReferenceIdeal.τ Cert.DxaReferenceIdeal.sig) → Buf (Elt Ideal) ℓ) : Prop :=
  ∀ c : Dev Cert.DxaReferenceIdeal.nD,
    (Cert.Pre_dxa_finite.fn (F := Ideal) (m ((c.tc : Thread Cert.DxaReferenceIdeal.nD Cert.DxaReferenceIdeal.τ).loc Cert.DxaReferenceIdeal.main_arg0)) (m ((c.tc : Thread Cert.DxaReferenceIdeal.nD Cert.DxaReferenceIdeal.τ).loc Cert.DxaReferenceIdeal.main_arg1)) (m ((c.tc : Thread Cert.DxaReferenceIdeal.nD Cert.DxaReferenceIdeal.τ).loc Cert.DxaReferenceIdeal.main_arg2)) (m ((c.tc : Thread Cert.DxaReferenceIdeal.nD Cert.DxaReferenceIdeal.τ).loc Cert.DxaReferenceIdeal.main_arg3)) (m ((c.tc : Thread Cert.DxaReferenceIdeal.nD Cert.DxaReferenceIdeal.τ).loc Cert.DxaReferenceIdeal.main_arg4)) (m ((c.tc : Thread Cert.DxaReferenceIdeal.nD Cert.DxaReferenceIdeal.τ).loc Cert.DxaReferenceIdeal.main_arg5)) (m ((c.tc : Thread Cert.DxaReferenceIdeal.nD Cert.DxaReferenceIdeal.τ).loc Cert.DxaReferenceIdeal.main_arg6))) = (fun _ => 1#1)

def Pre_Dxb (m : (ℓ : Loc Cert.Dxb.nD Cert.Dxb.τ Cert.Dxb.sig) → Buf (Elt Bits) ℓ) : Prop :=
  True

def Pre_DxbIdeal (m : (ℓ : Loc Cert.DxbIdeal.nD Cert.DxbIdeal.τ Cert.DxbIdeal.sig) → Buf (Elt Ideal) ℓ) : Prop :=
  True

def Pre_DxbIdeal_dxb_finite [hPre_dxb_finite : Cert.Pre_dxb_finite.Facts] (m : (ℓ : Loc Cert.DxbIdeal.nD Cert.DxbIdeal.τ Cert.DxbIdeal.sig) → Buf (Elt Ideal) ℓ) : Prop :=
  ∀ c : Dev Cert.DxbIdeal.nD,
    (Cert.Pre_dxb_finite.fn (F := Ideal) (m ((c.tc : Thread Cert.DxbIdeal.nD Cert.DxbIdeal.τ).loc Cert.DxbIdeal.main_arg0)) (m ((c.tc : Thread Cert.DxbIdeal.nD Cert.DxbIdeal.τ).loc Cert.DxbIdeal.main_arg1)) (m ((c.tc : Thread Cert.DxbIdeal.nD Cert.DxbIdeal.τ).loc Cert.DxbIdeal.main_arg2)) (m ((c.tc : Thread Cert.DxbIdeal.nD Cert.DxbIdeal.τ).loc Cert.DxbIdeal.main_arg3)) (m ((c.tc : Thread Cert.DxbIdeal.nD Cert.DxbIdeal.τ).loc Cert.DxbIdeal.main_arg4)) (m ((c.tc : Thread Cert.DxbIdeal.nD Cert.DxbIdeal.τ).loc Cert.DxbIdeal.main_arg5)) (m ((c.tc : Thread Cert.DxbIdeal.nD Cert.DxbIdeal.τ).loc Cert.DxbIdeal.main_arg6)) (m ((c.tc : Thread Cert.DxbIdeal.nD Cert.DxbIdeal.τ).loc Cert.DxbIdeal.main_arg7)) (m ((c.tc : Thread Cert.DxbIdeal.nD Cert.DxbIdeal.τ).loc Cert.DxbIdeal.main_arg8))) = (fun _ => 1#1)

def Pre_DxbReferenceIdeal (m : (ℓ : Loc Cert.DxbReferenceIdeal.nD Cert.DxbReferenceIdeal.τ Cert.DxbReferenceIdeal.sig) → Buf (Elt Ideal) ℓ) : Prop :=
  True

def Pre_DxbReferenceIdeal_dxb_finite [hPre_dxb_finite : Cert.Pre_dxb_finite.Facts] (m : (ℓ : Loc Cert.DxbReferenceIdeal.nD Cert.DxbReferenceIdeal.τ Cert.DxbReferenceIdeal.sig) → Buf (Elt Ideal) ℓ) : Prop :=
  ∀ c : Dev Cert.DxbReferenceIdeal.nD,
    (Cert.Pre_dxb_finite.fn (F := Ideal) (m ((c.tc : Thread Cert.DxbReferenceIdeal.nD Cert.DxbReferenceIdeal.τ).loc Cert.DxbReferenceIdeal.main_arg0)) (m ((c.tc : Thread Cert.DxbReferenceIdeal.nD Cert.DxbReferenceIdeal.τ).loc Cert.DxbReferenceIdeal.main_arg1)) (m ((c.tc : Thread Cert.DxbReferenceIdeal.nD Cert.DxbReferenceIdeal.τ).loc Cert.DxbReferenceIdeal.main_arg2)) (m ((c.tc : Thread Cert.DxbReferenceIdeal.nD Cert.DxbReferenceIdeal.τ).loc Cert.DxbReferenceIdeal.main_arg3)) (m ((c.tc : Thread Cert.DxbReferenceIdeal.nD Cert.DxbReferenceIdeal.τ).loc Cert.DxbReferenceIdeal.main_arg4)) (m ((c.tc : Thread Cert.DxbReferenceIdeal.nD Cert.DxbReferenceIdeal.τ).loc Cert.DxbReferenceIdeal.main_arg5)) (m ((c.tc : Thread Cert.DxbReferenceIdeal.nD Cert.DxbReferenceIdeal.τ).loc Cert.DxbReferenceIdeal.main_arg6)) (m ((c.tc : Thread Cert.DxbReferenceIdeal.nD Cert.DxbReferenceIdeal.τ).loc Cert.DxbReferenceIdeal.main_arg7)) (m ((c.tc : Thread Cert.DxbReferenceIdeal.nD Cert.DxbReferenceIdeal.τ).loc Cert.DxbReferenceIdeal.main_arg8))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Dmerge (m : (ℓ : Loc Cert.Dmerge.nD Cert.Dmerge.τ Cert.Dmerge.sig) → Buf (Elt Bits) ℓ) : Prop :=
  True

def Pre_DmergeIdeal (m : (ℓ : Loc Cert.DmergeIdeal.nD Cert.DmergeIdeal.τ Cert.DmergeIdeal.sig) → Buf (Elt Ideal) ℓ) : Prop :=
  True

def Pre_DmergeReferenceIdeal (m : (ℓ : Loc Cert.DmergeReferenceIdeal.nD Cert.DmergeReferenceIdeal.τ Cert.DmergeReferenceIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutReferenceIdeal (m : (ℓ : Loc Cert.DwoutReferenceIdeal.nD Cert.DwoutReferenceIdeal.τ Cert.DwoutReferenceIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupReferenceIdeal (m : (ℓ : Loc Cert.DwupReferenceIdeal.nD Cert.DwupReferenceIdeal.τ Cert.DwupReferenceIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_Dxin (m : (ℓ : Loc Cert.Dxin.nD Cert.Dxin.τ Cert.Dxin.sig) → Buf (Elt Bits) ℓ) : Prop :=
  True

def Pre_DxinIdeal (m : (ℓ : Loc Cert.DxinIdeal.nD Cert.DxinIdeal.τ Cert.DxinIdeal.sig) → Buf (Elt Ideal) ℓ) : Prop :=
  True

def Pre_DxinIdeal_dxin_finite [hPre_dxin_finite : Cert.Pre_dxin_finite.Facts] (m : (ℓ : Loc Cert.DxinIdeal.nD Cert.DxinIdeal.τ Cert.DxinIdeal.sig) → Buf (Elt Ideal) ℓ) : Prop :=
  ∀ c : Dev Cert.DxinIdeal.nD,
    (Cert.Pre_dxin_finite.fn (F := Ideal) (m ((c.tc : Thread Cert.DxinIdeal.nD Cert.DxinIdeal.τ).loc Cert.DxinIdeal.main_arg0)) (m ((c.tc : Thread Cert.DxinIdeal.nD Cert.DxinIdeal.τ).loc Cert.DxinIdeal.main_arg1)) (m ((c.tc : Thread Cert.DxinIdeal.nD Cert.DxinIdeal.τ).loc Cert.DxinIdeal.main_arg2)) (m ((c.tc : Thread Cert.DxinIdeal.nD Cert.DxinIdeal.τ).loc Cert.DxinIdeal.main_arg3)) (m ((c.tc : Thread Cert.DxinIdeal.nD Cert.DxinIdeal.τ).loc Cert.DxinIdeal.main_arg4))) = (fun _ => 1#1)

def Pre_DxinReferenceIdeal (m : (ℓ : Loc Cert.DxinReferenceIdeal.nD Cert.DxinReferenceIdeal.τ Cert.DxinReferenceIdeal.sig) → Buf (Elt Ideal) ℓ) : Prop :=
  True

def Pre_DxinReferenceIdeal_dxin_finite [hPre_dxin_finite : Cert.Pre_dxin_finite.Facts] (m : (ℓ : Loc Cert.DxinReferenceIdeal.nD Cert.DxinReferenceIdeal.τ Cert.DxinReferenceIdeal.sig) → Buf (Elt Ideal) ℓ) : Prop :=
  ∀ c : Dev Cert.DxinReferenceIdeal.nD,
    (Cert.Pre_dxin_finite.fn (F := Ideal) (m ((c.tc : Thread Cert.DxinReferenceIdeal.nD Cert.DxinReferenceIdeal.τ).loc Cert.DxinReferenceIdeal.main_arg0)) (m ((c.tc : Thread Cert.DxinReferenceIdeal.nD Cert.DxinReferenceIdeal.τ).loc Cert.DxinReferenceIdeal.main_arg1)) (m ((c.tc : Thread Cert.DxinReferenceIdeal.nD Cert.DxinReferenceIdeal.τ).loc Cert.DxinReferenceIdeal.main_arg2)) (m ((c.tc : Thread Cert.DxinReferenceIdeal.nD Cert.DxinReferenceIdeal.τ).loc Cert.DxinReferenceIdeal.main_arg3)) (m ((c.tc : Thread Cert.DxinReferenceIdeal.nD Cert.DxinReferenceIdeal.τ).loc Cert.DxinReferenceIdeal.main_arg4))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Pledgate (m : (ℓ : Loc Cert.Pledgate.nD Cert.Pledgate.τ Cert.Pledgate.sig) → Buf (Elt Bits) ℓ) : Prop :=
  True

def Pre_PledgateIdeal (m : (ℓ : Loc Cert.PledgateIdeal.nD Cert.PledgateIdeal.τ Cert.PledgateIdeal.sig) → Buf (Elt Ideal) ℓ) : Prop :=
  True

def Pre_PledgateReferenceIdeal (m : (ℓ : Loc Cert.PledgateReferenceIdeal.nD Cert.PledgateReferenceIdeal.τ Cert.PledgateReferenceIdeal.sig) → Buf (Elt Ideal) ℓ) : Prop :=
  True

def Pre_Pledwp (m : (ℓ : Loc Cert.Pledwp.nD Cert.Pledwp.τ Cert.Pledwp.sig) → Buf (Elt Bits) ℓ) : Prop :=
  True

def Pre_PledwpIdeal (m : (ℓ : Loc Cert.PledwpIdeal.nD Cert.PledwpIdeal.τ Cert.PledwpIdeal.sig) → Buf (Elt Ideal) ℓ) : Prop :=
  True

def Pre_PledwpReferenceIdeal (m : (ℓ : Loc Cert.PledwpReferenceIdeal.nD Cert.PledwpReferenceIdeal.τ Cert.PledwpReferenceIdeal.sig) → Buf (Elt Ideal) ℓ) : Prop :=
  True

def Pre_Pledwg (m : (ℓ : Loc Cert.Pledwg.nD Cert.Pledwg.τ Cert.Pledwg.sig) → Buf (Elt Bits) ℓ) : Prop :=
  True

def Pre_PledwgIdeal (m : (ℓ : Loc Cert.PledwgIdeal.nD Cert.PledwgIdeal.τ Cert.PledwgIdeal.sig) → Buf (Elt Ideal) ℓ) : Prop :=
  True

def Pre_PledwgReferenceIdeal (m : (ℓ : Loc Cert.PledwgReferenceIdeal.nD Cert.PledwgReferenceIdeal.τ Cert.PledwgReferenceIdeal.sig) → Buf (Elt Ideal) ℓ) : Prop :=
  True

def Pre_Pledx (m : (ℓ : Loc Cert.Pledx.nD Cert.Pledx.τ Cert.Pledx.sig) → Buf (Elt Bits) ℓ) : Prop :=
  True

def Pre_PledxIdeal (m : (ℓ : Loc Cert.PledxIdeal.nD Cert.PledxIdeal.τ Cert.PledxIdeal.sig) → Buf (Elt Ideal) ℓ) : Prop :=
  True

def Pre_PledxIdeal_pledx_finite [hPre_pledx_finite : Cert.Pre_pledx_finite.Facts] (m : (ℓ : Loc Cert.PledxIdeal.nD Cert.PledxIdeal.τ Cert.PledxIdeal.sig) → Buf (Elt Ideal) ℓ) : Prop :=
  ∀ c : Dev Cert.PledxIdeal.nD,
    (Cert.Pre_pledx_finite.fn (F := Ideal) (m ((c.tc : Thread Cert.PledxIdeal.nD Cert.PledxIdeal.τ).loc Cert.PledxIdeal.main_arg0)) (m ((c.tc : Thread Cert.PledxIdeal.nD Cert.PledxIdeal.τ).loc Cert.PledxIdeal.main_arg1)) (m ((c.tc : Thread Cert.PledxIdeal.nD Cert.PledxIdeal.τ).loc Cert.PledxIdeal.main_arg2)) (m ((c.tc : Thread Cert.PledxIdeal.nD Cert.PledxIdeal.τ).loc Cert.PledxIdeal.main_arg3)) (m ((c.tc : Thread Cert.PledxIdeal.nD Cert.PledxIdeal.τ).loc Cert.PledxIdeal.main_arg4))) = (fun _ => 1#1)

def Pre_PledxReferenceIdeal (m : (ℓ : Loc Cert.PledxReferenceIdeal.nD Cert.PledxReferenceIdeal.τ Cert.PledxReferenceIdeal.sig) → Buf (Elt Ideal) ℓ) : Prop :=
  True

def Pre_PledxReferenceIdeal_pledx_finite [hPre_pledx_finite : Cert.Pre_pledx_finite.Facts] (m : (ℓ : Loc Cert.PledxReferenceIdeal.nD Cert.PledxReferenceIdeal.τ Cert.PledxReferenceIdeal.sig) → Buf (Elt Ideal) ℓ) : Prop :=
  ∀ c : Dev Cert.PledxReferenceIdeal.nD,
    (Cert.Pre_pledx_finite.fn (F := Ideal) (m ((c.tc : Thread Cert.PledxReferenceIdeal.nD Cert.PledxReferenceIdeal.τ).loc Cert.PledxReferenceIdeal.main_arg0)) (m ((c.tc : Thread Cert.PledxReferenceIdeal.nD Cert.PledxReferenceIdeal.τ).loc Cert.PledxReferenceIdeal.main_arg1)) (m ((c.tc : Thread Cert.PledxReferenceIdeal.nD Cert.PledxReferenceIdeal.τ).loc Cert.PledxReferenceIdeal.main_arg2)) (m ((c.tc : Thread Cert.PledxReferenceIdeal.nD Cert.PledxReferenceIdeal.τ).loc Cert.PledxReferenceIdeal.main_arg3)) (m ((c.tc : Thread Cert.PledxReferenceIdeal.nD Cert.PledxReferenceIdeal.τ).loc Cert.PledxReferenceIdeal.main_arg4))) = (fun _ => 1#1)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_DactReferenceIdeal_pre_dact_finite [hDactReferenceIdeal : Cert.DactReferenceIdeal.Facts] [hPre_dact_finite : Cert.Pre_dact_finite.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal_dact_finite m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2)
      ∧ r.2.mem ((c.tc : Thread Cert.DactReferenceIdeal.nD Cert.DactReferenceIdeal.τ).loc Cert.DactReferenceIdeal.main_arg3) = m ((c.tc : Thread Cert.DactReferenceIdeal.nD Cert.DactReferenceIdeal.τ).loc Cert.DactReferenceIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_DwgReferenceIdeal [hDwgReferenceIdeal : Cert.DwgReferenceIdeal.Facts] : Prop :=
  ∀ (m : (ℓ : Loc Cert.DwgReferenceIdeal.nD Cert.DwgReferenceIdeal.τ Cert.DwgReferenceIdeal.sig) → Buf (Elt Ideal) ℓ) (g : Dev Cert.DwgReferenceIdeal.nD → PrngReg), Pre_DwgReferenceIdeal m →
    θ_run (Cert.DwgReferenceIdeal.defs (F := Ideal)) (onTc (τ := Cert.DwgReferenceIdeal.τ) (Cert.DwgReferenceIdeal.main (F := Ideal))) ⟨m, fun _ => 0, g⟩ (fun r => (∀ c : Dev Cert.DwgReferenceIdeal.nD,
      r.2.mem ((c.tc : Thread Cert.DwgReferenceIdeal.nD Cert.DwgReferenceIdeal.τ).loc Cert.DwgReferenceIdeal.main_arg0) = m ((c.tc : Thread Cert.DwgReferenceIdeal.nD Cert.DwgReferenceIdeal.τ).loc Cert.DwgReferenceIdeal.main_arg0)
      ∧ r.2.mem ((c.tc : Thread Cert.DwgReferenceIdeal.nD Cert.DwgReferenceIdeal.τ).loc Cert.DwgReferenceIdeal.main_arg1) = m ((c.tc : Thread Cert.DwgReferenceIdeal.nD Cert.DwgReferenceIdeal.τ).loc Cert.DwgReferenceIdeal.main_arg1))
      ∧ r.2.sem = fun _ => 0)

def quiescent_Dxa [hDxa : Cert.Dxa.Facts] : Prop :=
  ∀ (m : (ℓ : Loc Cert.Dxa.nD Cert.Dxa.τ Cert.Dxa.sig) → Buf (Elt Bits) ℓ) (g : Dev Cert.Dxa.nD → PrngReg), Pre_Dxa m →
    θ_run (Cert.Dxa.defs (F := Bits)) (onTc (τ := Cert.Dxa.τ) (Cert.Dxa.main (F := Bits))) ⟨m, fun _ => 0, g⟩ (fun r => (∀ c : Dev Cert.Dxa.nD,
      r.2.mem ((c.tc : Thread Cert.Dxa.nD Cert.Dxa.τ).loc Cert.Dxa.main_arg0) = m ((c.tc : Thread Cert.Dxa.nD Cert.Dxa.τ).loc Cert.Dxa.main_arg0)
      ∧ r.2.mem ((c.tc : Thread Cert.Dxa.nD Cert.Dxa.τ).loc Cert.Dxa.main_arg1) = m ((c.tc : Thread Cert.Dxa.nD Cert.Dxa.τ).loc Cert.Dxa.main_arg1)
      ∧ r.2.mem ((c.tc : Thread Cert.Dxa.nD Cert.Dxa.τ).loc Cert.Dxa.main_arg2) = m ((c.tc : Thread Cert.Dxa.nD Cert.Dxa.τ).loc Cert.Dxa.main_arg2)
      ∧ r.2.mem ((c.tc : Thread Cert.Dxa.nD Cert.Dxa.τ).loc Cert.Dxa.main_arg3) = m ((c.tc : Thread Cert.Dxa.nD Cert.Dxa.τ).loc Cert.Dxa.main_arg3)
      ∧ r.2.mem ((c.tc : Thread Cert.Dxa.nD Cert.Dxa.τ).loc Cert.Dxa.main_arg4) = m ((c.tc : Thread Cert.Dxa.nD Cert.Dxa.τ).loc Cert.Dxa.main_arg4)
      ∧ r.2.mem ((c.tc : Thread Cert.Dxa.nD Cert.Dxa.τ).loc Cert.Dxa.main_arg5) = m ((c.tc : Thread Cert.Dxa.nD Cert.Dxa.τ).loc Cert.Dxa.main_arg5)
      ∧ r.2.mem ((c.tc : Thread Cert.Dxa.nD Cert.Dxa.τ).loc Cert.Dxa.main_arg6) = m ((c.tc : Thread Cert.Dxa.nD Cert.Dxa.τ).loc Cert.Dxa.main_arg6))
      ∧ r.2.sem = fun _ => 0)

def quiescent_DxaIdeal [hDxaIdeal : Cert.DxaIdeal.Facts] : Prop :=
  ∀ (m : (ℓ : Loc Cert.DxaIdeal.nD Cert.DxaIdeal.τ Cert.DxaIdeal.sig) → Buf (Elt Ideal) ℓ) (g : Dev Cert.DxaIdeal.nD → PrngReg), Pre_DxaIdeal m →
    θ_run (Cert.DxaIdeal.defs (F := Ideal)) (onTc (τ := Cert.DxaIdeal.τ) (Cert.DxaIdeal.main (F := Ideal))) ⟨m, fun _ => 0, g⟩ (fun r => (∀ c : Dev Cert.DxaIdeal.nD,
      r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
      ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
      ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2)
      ∧ r.2.mem ((c.tc : Thread Cert.DxaIdeal.nD Cert.DxaIdeal.τ).loc Cert.DxaIdeal.main_arg3) = m ((c.tc : Thread Cert.DxaIdeal.nD Cert.DxaIdeal.τ).loc Cert.DxaIdeal.main_arg3)
      ∧ r.2.mem ((c.tc : Thread Cert.DxaIdeal.nD Cert.DxaIdeal.τ).loc Cert.DxaIdeal.main_arg4) = m ((c.tc : Thread Cert.DxaIdeal.nD Cert.DxaIdeal.τ).loc Cert.DxaIdeal.main_arg4)
      ∧ r.2.mem ((c.tc : Thread Cert.DxaIdeal.nD Cert.DxaIdeal.τ).loc Cert.DxaIdeal.main_arg5) = m ((c.tc : Thread Cert.DxaIdeal.nD Cert.DxaIdeal.τ).loc Cert.DxaIdeal.main_arg5)
      ∧ r.2.mem ((c.tc : Thread Cert.DxaIdeal.nD Cert.DxaIdeal.τ).loc Cert.DxaIdeal.main_arg6) = m ((c.tc : Thread Cert.DxaIdeal.nD Cert.DxaIdeal.τ).loc Cert.DxaIdeal.main_arg6))
      ∧ r.2.sem = fun _ => 0)

def quiescent_DxaIdeal_pre_dxa_finite [hDxaIdeal : Cert.DxaIdeal.Facts] [hPre_dxa_finite : Cert.Pre_dxa_finite.Facts] : Prop :=
  ∀ (m : (ℓ : Loc Cert.DxaIdeal.nD Cert.DxaIdeal.τ Cert.DxaIdeal.sig) → Buf (Elt Ideal) ℓ) (g : Dev Cert.DxaIdeal.nD → PrngReg), Pre_DxaIdeal_dxa_finite m →
    θ_run (Cert.DxaIdeal.defs (F := Ideal)) (onTc (τ := Cert.DxaIdeal.τ) (Cert.DxaIdeal.main (F := Ideal))) ⟨m, fun _ => 0, g⟩ (fun r => (∀ c : Dev Cert.DxaIdeal.nD,
      r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
      ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
      ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2)
      ∧ r.2.mem ((c.tc : Thread Cert.DxaIdeal.nD Cert.DxaIdeal.τ).loc Cert.DxaIdeal.main_arg3) = m ((c.tc : Thread Cert.DxaIdeal.nD Cert.DxaIdeal.τ).loc Cert.DxaIdeal.main_arg3)
      ∧ r.2.mem ((c.tc : Thread Cert.DxaIdeal.nD Cert.DxaIdeal.τ).loc Cert.DxaIdeal.main_arg4) = m ((c.tc : Thread Cert.DxaIdeal.nD Cert.DxaIdeal.τ).loc Cert.DxaIdeal.main_arg4)
      ∧ r.2.mem ((c.tc : Thread Cert.DxaIdeal.nD Cert.DxaIdeal.τ).loc Cert.DxaIdeal.main_arg5) = m ((c.tc : Thread Cert.DxaIdeal.nD Cert.DxaIdeal.τ).loc Cert.DxaIdeal.main_arg5)
      ∧ r.2.mem ((c.tc : Thread Cert.DxaIdeal.nD Cert.DxaIdeal.τ).loc Cert.DxaIdeal.main_arg6) = m ((c.tc : Thread Cert.DxaIdeal.nD Cert.DxaIdeal.τ).loc Cert.DxaIdeal.main_arg6))
      ∧ r.2.sem = fun _ => 0)

def quiescent_DxaReferenceIdeal [hDxaReferenceIdeal : Cert.DxaReferenceIdeal.Facts] : Prop :=
  ∀ (m : (ℓ : Loc Cert.DxaReferenceIdeal.nD Cert.DxaReferenceIdeal.τ Cert.DxaReferenceIdeal.sig) → Buf (Elt Ideal) ℓ) (g : Dev Cert.DxaReferenceIdeal.nD → PrngReg), Pre_DxaReferenceIdeal m →
    θ_run (Cert.DxaReferenceIdeal.defs (F := Ideal)) (onTc (τ := Cert.DxaReferenceIdeal.τ) (Cert.DxaReferenceIdeal.main (F := Ideal))) ⟨m, fun _ => 0, g⟩ (fun r => (∀ c : Dev Cert.DxaReferenceIdeal.nD,
      r.2.mem ((c.tc : Thread Cert.DxaReferenceIdeal.nD Cert.DxaReferenceIdeal.τ).loc Cert.DxaReferenceIdeal.main_arg0) = m ((c.tc : Thread Cert.DxaReferenceIdeal.nD Cert.DxaReferenceIdeal.τ).loc Cert.DxaReferenceIdeal.main_arg0)
      ∧ r.2.mem ((c.tc : Thread Cert.DxaReferenceIdeal.nD Cert.DxaReferenceIdeal.τ).loc Cert.DxaReferenceIdeal.main_arg1) = m ((c.tc : Thread Cert.DxaReferenceIdeal.nD Cert.DxaReferenceIdeal.τ).loc Cert.DxaReferenceIdeal.main_arg1)
      ∧ r.2.mem ((c.tc : Thread Cert.DxaReferenceIdeal.nD Cert.DxaReferenceIdeal.τ).loc Cert.DxaReferenceIdeal.main_arg2) = m ((c.tc : Thread Cert.DxaReferenceIdeal.nD Cert.DxaReferenceIdeal.τ).loc Cert.DxaReferenceIdeal.main_arg2)
      ∧ r.2.mem ((c.tc : Thread Cert.DxaReferenceIdeal.nD Cert.DxaReferenceIdeal.τ).loc Cert.DxaReferenceIdeal.main_arg3) = m ((c.tc : Thread Cert.DxaReferenceIdeal.nD Cert.DxaReferenceIdeal.τ).loc Cert.DxaReferenceIdeal.main_arg3)
      ∧ r.2.mem ((c.tc : Thread Cert.DxaReferenceIdeal.nD Cert.DxaReferenceIdeal.τ).loc Cert.DxaReferenceIdeal.main_arg4) = m ((c.tc : Thread Cert.DxaReferenceIdeal.nD Cert.DxaReferenceIdeal.τ).loc Cert.DxaReferenceIdeal.main_arg4)
      ∧ r.2.mem ((c.tc : Thread Cert.DxaReferenceIdeal.nD Cert.DxaReferenceIdeal.τ).loc Cert.DxaReferenceIdeal.main_arg5) = m ((c.tc : Thread Cert.DxaReferenceIdeal.nD Cert.DxaReferenceIdeal.τ).loc Cert.DxaReferenceIdeal.main_arg5)
      ∧ r.2.mem ((c.tc : Thread Cert.DxaReferenceIdeal.nD Cert.DxaReferenceIdeal.τ).loc Cert.DxaReferenceIdeal.main_arg6) = m ((c.tc : Thread Cert.DxaReferenceIdeal.nD Cert.DxaReferenceIdeal.τ).loc Cert.DxaReferenceIdeal.main_arg6))
      ∧ r.2.sem = fun _ => 0)

def quiescent_DxaReferenceIdeal_pre_dxa_finite [hDxaReferenceIdeal : Cert.DxaReferenceIdeal.Facts] [hPre_dxa_finite : Cert.Pre_dxa_finite.Facts] : Prop :=
  ∀ (m : (ℓ : Loc Cert.DxaReferenceIdeal.nD Cert.DxaReferenceIdeal.τ Cert.DxaReferenceIdeal.sig) → Buf (Elt Ideal) ℓ) (g : Dev Cert.DxaReferenceIdeal.nD → PrngReg), Pre_DxaReferenceIdeal_dxa_finite m →
    θ_run (Cert.DxaReferenceIdeal.defs (F := Ideal)) (onTc (τ := Cert.DxaReferenceIdeal.τ) (Cert.DxaReferenceIdeal.main (F := Ideal))) ⟨m, fun _ => 0, g⟩ (fun r => (∀ c : Dev Cert.DxaReferenceIdeal.nD,
      r.2.mem ((c.tc : Thread Cert.DxaReferenceIdeal.nD Cert.DxaReferenceIdeal.τ).loc Cert.DxaReferenceIdeal.main_arg0) = m ((c.tc : Thread Cert.DxaReferenceIdeal.nD Cert.DxaReferenceIdeal.τ).loc Cert.DxaReferenceIdeal.main_arg0)
      ∧ r.2.mem ((c.tc : Thread Cert.DxaReferenceIdeal.nD Cert.DxaReferenceIdeal.τ).loc Cert.DxaReferenceIdeal.main_arg1) = m ((c.tc : Thread Cert.DxaReferenceIdeal.nD Cert.DxaReferenceIdeal.τ).loc Cert.DxaReferenceIdeal.main_arg1)
      ∧ r.2.mem ((c.tc : Thread Cert.DxaReferenceIdeal.nD Cert.DxaReferenceIdeal.τ).loc Cert.DxaReferenceIdeal.main_arg2) = m ((c.tc : Thread Cert.DxaReferenceIdeal.nD Cert.DxaReferenceIdeal.τ).loc Cert.DxaReferenceIdeal.main_arg2)
      ∧ r.2.mem ((c.tc : Thread Cert.DxaReferenceIdeal.nD Cert.DxaReferenceIdeal.τ).loc Cert.DxaReferenceIdeal.main_arg3) = m ((c.tc : Thread Cert.DxaReferenceIdeal.nD Cert.DxaReferenceIdeal.τ).loc Cert.DxaReferenceIdeal.main_arg3)
      ∧ r.2.mem ((c.tc : Thread Cert.DxaReferenceIdeal.nD Cert.DxaReferenceIdeal.τ).loc Cert.DxaReferenceIdeal.main_arg4) = m ((c.tc : Thread Cert.DxaReferenceIdeal.nD Cert.DxaReferenceIdeal.τ).loc Cert.DxaReferenceIdeal.main_arg4)
      ∧ r.2.mem ((c.tc : Thread Cert.DxaReferenceIdeal.nD Cert.DxaReferenceIdeal.τ).loc Cert.DxaReferenceIdeal.main_arg5) = m ((c.tc : Thread Cert.DxaReferenceIdeal.nD Cert.DxaReferenceIdeal.τ).loc Cert.DxaReferenceIdeal.main_arg5)
      ∧ r.2.mem ((c.tc : Thread Cert.DxaReferenceIdeal.nD Cert.DxaReferenceIdeal.τ).loc Cert.DxaReferenceIdeal.main_arg6) = m ((c.tc : Thread Cert.DxaReferenceIdeal.nD Cert.DxaReferenceIdeal.τ).loc Cert.DxaReferenceIdeal.main_arg6))
      ∧ r.2.sem = fun _ => 0)

def quiescent_Dxb [hDxb : Cert.Dxb.Facts] : Prop :=
  ∀ (m : (ℓ : Loc Cert.Dxb.nD Cert.Dxb.τ Cert.Dxb.sig) → Buf (Elt Bits) ℓ) (g : Dev Cert.Dxb.nD → PrngReg), Pre_Dxb m →
    θ_run (Cert.Dxb.defs (F := Bits)) (onTc (τ := Cert.Dxb.τ) (Cert.Dxb.main (F := Bits))) ⟨m, fun _ => 0, g⟩ (fun r => (∀ c : Dev Cert.Dxb.nD,
      r.2.mem ((c.tc : Thread Cert.Dxb.nD Cert.Dxb.τ).loc Cert.Dxb.main_arg0) = m ((c.tc : Thread Cert.Dxb.nD Cert.Dxb.τ).loc Cert.Dxb.main_arg0)
      ∧ r.2.mem ((c.tc : Thread Cert.Dxb.nD Cert.Dxb.τ).loc Cert.Dxb.main_arg1) = m ((c.tc : Thread Cert.Dxb.nD Cert.Dxb.τ).loc Cert.Dxb.main_arg1)
      ∧ r.2.mem ((c.tc : Thread Cert.Dxb.nD Cert.Dxb.τ).loc Cert.Dxb.main_arg2) = m ((c.tc : Thread Cert.Dxb.nD Cert.Dxb.τ).loc Cert.Dxb.main_arg2)
      ∧ r.2.mem ((c.tc : Thread Cert.Dxb.nD Cert.Dxb.τ).loc Cert.Dxb.main_arg3) = m ((c.tc : Thread Cert.Dxb.nD Cert.Dxb.τ).loc Cert.Dxb.main_arg3)
      ∧ r.2.mem ((c.tc : Thread Cert.Dxb.nD Cert.Dxb.τ).loc Cert.Dxb.main_arg4) = m ((c.tc : Thread Cert.Dxb.nD Cert.Dxb.τ).loc Cert.Dxb.main_arg4)
      ∧ r.2.mem ((c.tc : Thread Cert.Dxb.nD Cert.Dxb.τ).loc Cert.Dxb.main_arg5) = m ((c.tc : Thread Cert.Dxb.nD Cert.Dxb.τ).loc Cert.Dxb.main_arg5)
      ∧ r.2.mem ((c.tc : Thread Cert.Dxb.nD Cert.Dxb.τ).loc Cert.Dxb.main_arg6) = m ((c.tc : Thread Cert.Dxb.nD Cert.Dxb.τ).loc Cert.Dxb.main_arg6)
      ∧ r.2.mem ((c.tc : Thread Cert.Dxb.nD Cert.Dxb.τ).loc Cert.Dxb.main_arg7) = m ((c.tc : Thread Cert.Dxb.nD Cert.Dxb.τ).loc Cert.Dxb.main_arg7)
      ∧ r.2.mem ((c.tc : Thread Cert.Dxb.nD Cert.Dxb.τ).loc Cert.Dxb.main_arg8) = m ((c.tc : Thread Cert.Dxb.nD Cert.Dxb.τ).loc Cert.Dxb.main_arg8))
      ∧ r.2.sem = fun _ => 0)

def quiescent_DxbIdeal [hDxbIdeal : Cert.DxbIdeal.Facts] : Prop :=
  ∀ (m : (ℓ : Loc Cert.DxbIdeal.nD Cert.DxbIdeal.τ Cert.DxbIdeal.sig) → Buf (Elt Ideal) ℓ) (g : Dev Cert.DxbIdeal.nD → PrngReg), Pre_DxbIdeal m →
    θ_run (Cert.DxbIdeal.defs (F := Ideal)) (onTc (τ := Cert.DxbIdeal.τ) (Cert.DxbIdeal.main (F := Ideal))) ⟨m, fun _ => 0, g⟩ (fun r => (∀ c : Dev Cert.DxbIdeal.nD,
      r.2.mem ((c.tc : Thread Cert.DxbIdeal.nD Cert.DxbIdeal.τ).loc Cert.DxbIdeal.main_arg0) = m ((c.tc : Thread Cert.DxbIdeal.nD Cert.DxbIdeal.τ).loc Cert.DxbIdeal.main_arg0)
      ∧ r.2.mem ((c.tc : Thread Cert.DxbIdeal.nD Cert.DxbIdeal.τ).loc Cert.DxbIdeal.main_arg1) = m ((c.tc : Thread Cert.DxbIdeal.nD Cert.DxbIdeal.τ).loc Cert.DxbIdeal.main_arg1)
      ∧ r.2.mem ((c.tc : Thread Cert.DxbIdeal.nD Cert.DxbIdeal.τ).loc Cert.DxbIdeal.main_arg2) = m ((c.tc : Thread Cert.DxbIdeal.nD Cert.DxbIdeal.τ).loc Cert.DxbIdeal.main_arg2)
      ∧ r.2.mem ((c.tc : Thread Cert.DxbIdeal.nD Cert.DxbIdeal.τ).loc Cert.DxbIdeal.main_arg3) = m ((c.tc : Thread Cert.DxbIdeal.nD Cert.DxbIdeal.τ).loc Cert.DxbIdeal.main_arg3)
      ∧ r.2.mem ((c.tc : Thread Cert.DxbIdeal.nD Cert.DxbIdeal.τ).loc Cert.DxbIdeal.main_arg4) = m ((c.tc : Thread Cert.DxbIdeal.nD Cert.DxbIdeal.τ).loc Cert.DxbIdeal.main_arg4)
      ∧ r.2.mem ((c.tc : Thread Cert.DxbIdeal.nD Cert.DxbIdeal.τ).loc Cert.DxbIdeal.main_arg5) = m ((c.tc : Thread Cert.DxbIdeal.nD Cert.DxbIdeal.τ).loc Cert.DxbIdeal.main_arg5)
      ∧ r.2.mem ((c.tc : Thread Cert.DxbIdeal.nD Cert.DxbIdeal.τ).loc Cert.DxbIdeal.main_arg6) = m ((c.tc : Thread Cert.DxbIdeal.nD Cert.DxbIdeal.τ).loc Cert.DxbIdeal.main_arg6)
      ∧ r.2.mem ((c.tc : Thread Cert.DxbIdeal.nD Cert.DxbIdeal.τ).loc Cert.DxbIdeal.main_arg7) = m ((c.tc : Thread Cert.DxbIdeal.nD Cert.DxbIdeal.τ).loc Cert.DxbIdeal.main_arg7)
      ∧ r.2.mem ((c.tc : Thread Cert.DxbIdeal.nD Cert.DxbIdeal.τ).loc Cert.DxbIdeal.main_arg8) = m ((c.tc : Thread Cert.DxbIdeal.nD Cert.DxbIdeal.τ).loc Cert.DxbIdeal.main_arg8))
      ∧ r.2.sem = fun _ => 0)

def quiescent_DxbIdeal_pre_dxb_finite [hDxbIdeal : Cert.DxbIdeal.Facts] [hPre_dxb_finite : Cert.Pre_dxb_finite.Facts] : Prop :=
  ∀ (m : (ℓ : Loc Cert.DxbIdeal.nD Cert.DxbIdeal.τ Cert.DxbIdeal.sig) → Buf (Elt Ideal) ℓ) (g : Dev Cert.DxbIdeal.nD → PrngReg), Pre_DxbIdeal_dxb_finite m →
    θ_run (Cert.DxbIdeal.defs (F := Ideal)) (onTc (τ := Cert.DxbIdeal.τ) (Cert.DxbIdeal.main (F := Ideal))) ⟨m, fun _ => 0, g⟩ (fun r => (∀ c : Dev Cert.DxbIdeal.nD,
      r.2.mem ((c.tc : Thread Cert.DxbIdeal.nD Cert.DxbIdeal.τ).loc Cert.DxbIdeal.main_arg0) = m ((c.tc : Thread Cert.DxbIdeal.nD Cert.DxbIdeal.τ).loc Cert.DxbIdeal.main_arg0)
      ∧ r.2.mem ((c.tc : Thread Cert.DxbIdeal.nD Cert.DxbIdeal.τ).loc Cert.DxbIdeal.main_arg1) = m ((c.tc : Thread Cert.DxbIdeal.nD Cert.DxbIdeal.τ).loc Cert.DxbIdeal.main_arg1)
      ∧ r.2.mem ((c.tc : Thread Cert.DxbIdeal.nD Cert.DxbIdeal.τ).loc Cert.DxbIdeal.main_arg2) = m ((c.tc : Thread Cert.DxbIdeal.nD Cert.DxbIdeal.τ).loc Cert.DxbIdeal.main_arg2)
      ∧ r.2.mem ((c.tc : Thread Cert.DxbIdeal.nD Cert.DxbIdeal.τ).loc Cert.DxbIdeal.main_arg3) = m ((c.tc : Thread Cert.DxbIdeal.nD Cert.DxbIdeal.τ).loc Cert.DxbIdeal.main_arg3)
      ∧ r.2.mem ((c.tc : Thread Cert.DxbIdeal.nD Cert.DxbIdeal.τ).loc Cert.DxbIdeal.main_arg4) = m ((c.tc : Thread Cert.DxbIdeal.nD Cert.DxbIdeal.τ).loc Cert.DxbIdeal.main_arg4)
      ∧ r.2.mem ((c.tc : Thread Cert.DxbIdeal.nD Cert.DxbIdeal.τ).loc Cert.DxbIdeal.main_arg5) = m ((c.tc : Thread Cert.DxbIdeal.nD Cert.DxbIdeal.τ).loc Cert.DxbIdeal.main_arg5)
      ∧ r.2.mem ((c.tc : Thread Cert.DxbIdeal.nD Cert.DxbIdeal.τ).loc Cert.DxbIdeal.main_arg6) = m ((c.tc : Thread Cert.DxbIdeal.nD Cert.DxbIdeal.τ).loc Cert.DxbIdeal.main_arg6)
      ∧ r.2.mem ((c.tc : Thread Cert.DxbIdeal.nD Cert.DxbIdeal.τ).loc Cert.DxbIdeal.main_arg7) = m ((c.tc : Thread Cert.DxbIdeal.nD Cert.DxbIdeal.τ).loc Cert.DxbIdeal.main_arg7)
      ∧ r.2.mem ((c.tc : Thread Cert.DxbIdeal.nD Cert.DxbIdeal.τ).loc Cert.DxbIdeal.main_arg8) = m ((c.tc : Thread Cert.DxbIdeal.nD Cert.DxbIdeal.τ).loc Cert.DxbIdeal.main_arg8))
      ∧ r.2.sem = fun _ => 0)

def quiescent_DxbReferenceIdeal [hDxbReferenceIdeal : Cert.DxbReferenceIdeal.Facts] : Prop :=
  ∀ (m : (ℓ : Loc Cert.DxbReferenceIdeal.nD Cert.DxbReferenceIdeal.τ Cert.DxbReferenceIdeal.sig) → Buf (Elt Ideal) ℓ) (g : Dev Cert.DxbReferenceIdeal.nD → PrngReg), Pre_DxbReferenceIdeal m →
    θ_run (Cert.DxbReferenceIdeal.defs (F := Ideal)) (onTc (τ := Cert.DxbReferenceIdeal.τ) (Cert.DxbReferenceIdeal.main (F := Ideal))) ⟨m, fun _ => 0, g⟩ (fun r => (∀ c : Dev Cert.DxbReferenceIdeal.nD,
      r.2.mem ((c.tc : Thread Cert.DxbReferenceIdeal.nD Cert.DxbReferenceIdeal.τ).loc Cert.DxbReferenceIdeal.main_arg0) = m ((c.tc : Thread Cert.DxbReferenceIdeal.nD Cert.DxbReferenceIdeal.τ).loc Cert.DxbReferenceIdeal.main_arg0)
      ∧ r.2.mem ((c.tc : Thread Cert.DxbReferenceIdeal.nD Cert.DxbReferenceIdeal.τ).loc Cert.DxbReferenceIdeal.main_arg1) = m ((c.tc : Thread Cert.DxbReferenceIdeal.nD Cert.DxbReferenceIdeal.τ).loc Cert.DxbReferenceIdeal.main_arg1)
      ∧ r.2.mem ((c.tc : Thread Cert.DxbReferenceIdeal.nD Cert.DxbReferenceIdeal.τ).loc Cert.DxbReferenceIdeal.main_arg2) = m ((c.tc : Thread Cert.DxbReferenceIdeal.nD Cert.DxbReferenceIdeal.τ).loc Cert.DxbReferenceIdeal.main_arg2)
      ∧ r.2.mem ((c.tc : Thread Cert.DxbReferenceIdeal.nD Cert.DxbReferenceIdeal.τ).loc Cert.DxbReferenceIdeal.main_arg3) = m ((c.tc : Thread Cert.DxbReferenceIdeal.nD Cert.DxbReferenceIdeal.τ).loc Cert.DxbReferenceIdeal.main_arg3)
      ∧ r.2.mem ((c.tc : Thread Cert.DxbReferenceIdeal.nD Cert.DxbReferenceIdeal.τ).loc Cert.DxbReferenceIdeal.main_arg4) = m ((c.tc : Thread Cert.DxbReferenceIdeal.nD Cert.DxbReferenceIdeal.τ).loc Cert.DxbReferenceIdeal.main_arg4)
      ∧ r.2.mem ((c.tc : Thread Cert.DxbReferenceIdeal.nD Cert.DxbReferenceIdeal.τ).loc Cert.DxbReferenceIdeal.main_arg5) = m ((c.tc : Thread Cert.DxbReferenceIdeal.nD Cert.DxbReferenceIdeal.τ).loc Cert.DxbReferenceIdeal.main_arg5)
      ∧ r.2.mem ((c.tc : Thread Cert.DxbReferenceIdeal.nD Cert.DxbReferenceIdeal.τ).loc Cert.DxbReferenceIdeal.main_arg6) = m ((c.tc : Thread Cert.DxbReferenceIdeal.nD Cert.DxbReferenceIdeal.τ).loc Cert.DxbReferenceIdeal.main_arg6)
      ∧ r.2.mem ((c.tc : Thread Cert.DxbReferenceIdeal.nD Cert.DxbReferenceIdeal.τ).loc Cert.DxbReferenceIdeal.main_arg7) = m ((c.tc : Thread Cert.DxbReferenceIdeal.nD Cert.DxbReferenceIdeal.τ).loc Cert.DxbReferenceIdeal.main_arg7)
      ∧ r.2.mem ((c.tc : Thread Cert.DxbReferenceIdeal.nD Cert.DxbReferenceIdeal.τ).loc Cert.DxbReferenceIdeal.main_arg8) = m ((c.tc : Thread Cert.DxbReferenceIdeal.nD Cert.DxbReferenceIdeal.τ).loc Cert.DxbReferenceIdeal.main_arg8))
      ∧ r.2.sem = fun _ => 0)

def quiescent_DxbReferenceIdeal_pre_dxb_finite [hDxbReferenceIdeal : Cert.DxbReferenceIdeal.Facts] [hPre_dxb_finite : Cert.Pre_dxb_finite.Facts] : Prop :=
  ∀ (m : (ℓ : Loc Cert.DxbReferenceIdeal.nD Cert.DxbReferenceIdeal.τ Cert.DxbReferenceIdeal.sig) → Buf (Elt Ideal) ℓ) (g : Dev Cert.DxbReferenceIdeal.nD → PrngReg), Pre_DxbReferenceIdeal_dxb_finite m →
    θ_run (Cert.DxbReferenceIdeal.defs (F := Ideal)) (onTc (τ := Cert.DxbReferenceIdeal.τ) (Cert.DxbReferenceIdeal.main (F := Ideal))) ⟨m, fun _ => 0, g⟩ (fun r => (∀ c : Dev Cert.DxbReferenceIdeal.nD,
      r.2.mem ((c.tc : Thread Cert.DxbReferenceIdeal.nD Cert.DxbReferenceIdeal.τ).loc Cert.DxbReferenceIdeal.main_arg0) = m ((c.tc : Thread Cert.DxbReferenceIdeal.nD Cert.DxbReferenceIdeal.τ).loc Cert.DxbReferenceIdeal.main_arg0)
      ∧ r.2.mem ((c.tc : Thread Cert.DxbReferenceIdeal.nD Cert.DxbReferenceIdeal.τ).loc Cert.DxbReferenceIdeal.main_arg1) = m ((c.tc : Thread Cert.DxbReferenceIdeal.nD Cert.DxbReferenceIdeal.τ).loc Cert.DxbReferenceIdeal.main_arg1)
      ∧ r.2.mem ((c.tc : Thread Cert.DxbReferenceIdeal.nD Cert.DxbReferenceIdeal.τ).loc Cert.DxbReferenceIdeal.main_arg2) = m ((c.tc : Thread Cert.DxbReferenceIdeal.nD Cert.DxbReferenceIdeal.τ).loc Cert.DxbReferenceIdeal.main_arg2)
      ∧ r.2.mem ((c.tc : Thread Cert.DxbReferenceIdeal.nD Cert.DxbReferenceIdeal.τ).loc Cert.DxbReferenceIdeal.main_arg3) = m ((c.tc : Thread Cert.DxbReferenceIdeal.nD Cert.DxbReferenceIdeal.τ).loc Cert.DxbReferenceIdeal.main_arg3)
      ∧ r.2.mem ((c.tc : Thread Cert.DxbReferenceIdeal.nD Cert.DxbReferenceIdeal.τ).loc Cert.DxbReferenceIdeal.main_arg4) = m ((c.tc : Thread Cert.DxbReferenceIdeal.nD Cert.DxbReferenceIdeal.τ).loc Cert.DxbReferenceIdeal.main_arg4)
      ∧ r.2.mem ((c.tc : Thread Cert.DxbReferenceIdeal.nD Cert.DxbReferenceIdeal.τ).loc Cert.DxbReferenceIdeal.main_arg5) = m ((c.tc : Thread Cert.DxbReferenceIdeal.nD Cert.DxbReferenceIdeal.τ).loc Cert.DxbReferenceIdeal.main_arg5)
      ∧ r.2.mem ((c.tc : Thread Cert.DxbReferenceIdeal.nD Cert.DxbReferenceIdeal.τ).loc Cert.DxbReferenceIdeal.main_arg6) = m ((c.tc : Thread Cert.DxbReferenceIdeal.nD Cert.DxbReferenceIdeal.τ).loc Cert.DxbReferenceIdeal.main_arg6)
      ∧ r.2.mem ((c.tc : Thread Cert.DxbReferenceIdeal.nD Cert.DxbReferenceIdeal.τ).loc Cert.DxbReferenceIdeal.main_arg7) = m ((c.tc : Thread Cert.DxbReferenceIdeal.nD Cert.DxbReferenceIdeal.τ).loc Cert.DxbReferenceIdeal.main_arg7)
      ∧ r.2.mem ((c.tc : Thread Cert.DxbReferenceIdeal.nD Cert.DxbReferenceIdeal.τ).loc Cert.DxbReferenceIdeal.main_arg8) = m ((c.tc : Thread Cert.DxbReferenceIdeal.nD Cert.DxbReferenceIdeal.τ).loc Cert.DxbReferenceIdeal.main_arg8))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Dmerge [hDmerge : Cert.Dmerge.Facts] : Prop :=
  ∀ (m : (ℓ : Loc Cert.Dmerge.nD Cert.Dmerge.τ Cert.Dmerge.sig) → Buf (Elt Bits) ℓ) (g : Dev Cert.Dmerge.nD → PrngReg), Pre_Dmerge m →
    θ_run (Cert.Dmerge.defs (F := Bits)) (onTc (τ := Cert.Dmerge.τ) (Cert.Dmerge.main (F := Bits))) ⟨m, fun _ => 0, g⟩ (fun r => (∀ c : Dev Cert.Dmerge.nD,
      r.2.mem ((c.tc : Thread Cert.Dmerge.nD Cert.Dmerge.τ).loc Cert.Dmerge.main_arg0) = m ((c.tc : Thread Cert.Dmerge.nD Cert.Dmerge.τ).loc Cert.Dmerge.main_arg0)
      ∧ r.2.mem ((c.tc : Thread Cert.Dmerge.nD Cert.Dmerge.τ).loc Cert.Dmerge.main_arg1) = m ((c.tc : Thread Cert.Dmerge.nD Cert.Dmerge.τ).loc Cert.Dmerge.main_arg1)
      ∧ r.2.mem ((c.tc : Thread Cert.Dmerge.nD Cert.Dmerge.τ).loc Cert.Dmerge.main_arg2) = m ((c.tc : Thread Cert.Dmerge.nD Cert.Dmerge.τ).loc Cert.Dmerge.main_arg2)
      ∧ r.2.mem ((c.tc : Thread Cert.Dmerge.nD Cert.Dmerge.τ).loc Cert.Dmerge.main_arg3) = m ((c.tc : Thread Cert.Dmerge.nD Cert.Dmerge.τ).loc Cert.Dmerge.main_arg3)
      ∧ r.2.mem ((c.tc : Thread Cert.Dmerge.nD Cert.Dmerge.τ).loc Cert.Dmerge.main_arg4) = m ((c.tc : Thread Cert.Dmerge.nD Cert.Dmerge.τ).loc Cert.Dmerge.main_arg4))
      ∧ r.2.sem = fun _ => 0)

def quiescent_DmergeIdeal [hDmergeIdeal : Cert.DmergeIdeal.Facts] : Prop :=
  ∀ (m : (ℓ : Loc Cert.DmergeIdeal.nD Cert.DmergeIdeal.τ Cert.DmergeIdeal.sig) → Buf (Elt Ideal) ℓ) (g : Dev Cert.DmergeIdeal.nD → PrngReg), Pre_DmergeIdeal m →
    θ_run (Cert.DmergeIdeal.defs (F := Ideal)) (onTc (τ := Cert.DmergeIdeal.τ) (Cert.DmergeIdeal.main (F := Ideal))) ⟨m, fun _ => 0, g⟩ (fun r => (∀ c : Dev Cert.DmergeIdeal.nD,
      r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
      ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
      ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
      ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
      ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4))
      ∧ r.2.sem = fun _ => 0)

def quiescent_DmergeReferenceIdeal [hDmergeReferenceIdeal : Cert.DmergeReferenceIdeal.Facts] : Prop :=
  ∀ (m : (ℓ : Loc Cert.DmergeReferenceIdeal.nD Cert.DmergeReferenceIdeal.τ Cert.DmergeReferenceIdeal.sig) → Buf (Elt Ideal) ℓ) (g : Dev Cert.DmergeReferenceIdeal.nD → PrngReg), Pre_DmergeReferenceIdeal m →
    θ_run (Cert.DmergeReferenceIdeal.defs (F := Ideal)) (onTc (τ := Cert.DmergeReferenceIdeal.τ) (Cert.DmergeReferenceIdeal.main (F := Ideal))) ⟨m, fun _ => 0, g⟩ (fun r => (∀ c : Dev Cert.DmergeReferenceIdeal.nD,
      r.2.mem ((c.tc : Thread Cert.DmergeReferenceIdeal.nD Cert.DmergeReferenceIdeal.τ).loc Cert.DmergeReferenceIdeal.main_arg0) = m ((c.tc : Thread Cert.DmergeReferenceIdeal.nD Cert.DmergeReferenceIdeal.τ).loc Cert.DmergeReferenceIdeal.main_arg0)
      ∧ r.2.mem ((c.tc : Thread Cert.DmergeReferenceIdeal.nD Cert.DmergeReferenceIdeal.τ).loc Cert.DmergeReferenceIdeal.main_arg1) = m ((c.tc : Thread Cert.DmergeReferenceIdeal.nD Cert.DmergeReferenceIdeal.τ).loc Cert.DmergeReferenceIdeal.main_arg1)
      ∧ r.2.mem ((c.tc : Thread Cert.DmergeReferenceIdeal.nD Cert.DmergeReferenceIdeal.τ).loc Cert.DmergeReferenceIdeal.main_arg2) = m ((c.tc : Thread Cert.DmergeReferenceIdeal.nD Cert.DmergeReferenceIdeal.τ).loc Cert.DmergeReferenceIdeal.main_arg2)
      ∧ r.2.mem ((c.tc : Thread Cert.DmergeReferenceIdeal.nD Cert.DmergeReferenceIdeal.τ).loc Cert.DmergeReferenceIdeal.main_arg3) = m ((c.tc : Thread Cert.DmergeReferenceIdeal.nD Cert.DmergeReferenceIdeal.τ).loc Cert.DmergeReferenceIdeal.main_arg3)
      ∧ r.2.mem ((c.tc : Thread Cert.DmergeReferenceIdeal.nD Cert.DmergeReferenceIdeal.τ).loc Cert.DmergeReferenceIdeal.main_arg4) = m ((c.tc : Thread Cert.DmergeReferenceIdeal.nD Cert.DmergeReferenceIdeal.τ).loc Cert.DmergeReferenceIdeal.main_arg4))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutReferenceIdeal [hDwoutReferenceIdeal : Cert.DwoutReferenceIdeal.Facts] : Prop :=
  ∀ (m : (ℓ : Loc Cert.DwoutReferenceIdeal.nD Cert.DwoutReferenceIdeal.τ Cert.DwoutReferenceIdeal.sig) → Buf (Elt Ideal) ℓ) (g : Dev Cert.DwoutReferenceIdeal.nD → PrngReg), Pre_DwoutReferenceIdeal m →
    θ_run (Cert.DwoutReferenceIdeal.defs (F := Ideal)) (onTc (τ := Cert.DwoutReferenceIdeal.τ) (Cert.DwoutReferenceIdeal.main (F := Ideal))) ⟨m, fun _ => 0, g⟩ (fun r => (∀ c : Dev Cert.DwoutReferenceIdeal.nD,
      r.2.mem ((c.tc : Thread Cert.DwoutReferenceIdeal.nD Cert.DwoutReferenceIdeal.τ).loc Cert.DwoutReferenceIdeal.main_arg0) = m ((c.tc : Thread Cert.DwoutReferenceIdeal.nD Cert.DwoutReferenceIdeal.τ).loc Cert.DwoutReferenceIdeal.main_arg0)
      ∧ r.2.mem ((c.tc : Thread Cert.DwoutReferenceIdeal.nD Cert.DwoutReferenceIdeal.τ).loc Cert.DwoutReferenceIdeal.main_arg1) = m ((c.tc : Thread Cert.DwoutReferenceIdeal.nD Cert.DwoutReferenceIdeal.τ).loc Cert.DwoutReferenceIdeal.main_arg1))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1)
      ∧ r.2.mem ((c.tc : Thread Cert.Dwup.nD Cert.Dwup.τ).loc Cert.Dwup.main_arg2) = m ((c.tc : Thread Cert.Dwup.nD Cert.Dwup.τ).loc Cert.Dwup.main_arg2)
      ∧ r.2.mem ((c.tc : Thread Cert.Dwup.nD Cert.Dwup.τ).loc Cert.Dwup.main_arg3) = m ((c.tc : Thread Cert.Dwup.nD Cert.Dwup.τ).loc Cert.Dwup.main_arg3))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
      ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2)
      ∧ r.2.mem ((c.tc : Thread Cert.DwupIdeal.nD Cert.DwupIdeal.τ).loc Cert.DwupIdeal.main_arg3) = m ((c.tc : Thread Cert.DwupIdeal.nD Cert.DwupIdeal.τ).loc Cert.DwupIdeal.main_arg3))
      ∧ r.2.sem = fun _ => 0)

def quiescent_DwupReferenceIdeal [hDwupReferenceIdeal : Cert.DwupReferenceIdeal.Facts] : Prop :=
  ∀ (m : (ℓ : Loc Cert.DwupReferenceIdeal.nD Cert.DwupReferenceIdeal.τ Cert.DwupReferenceIdeal.sig) → Buf (Elt Ideal) ℓ) (g : Dev Cert.DwupReferenceIdeal.nD → PrngReg), Pre_DwupReferenceIdeal m →
    θ_run (Cert.DwupReferenceIdeal.defs (F := Ideal)) (onTc (τ := Cert.DwupReferenceIdeal.τ) (Cert.DwupReferenceIdeal.main (F := Ideal))) ⟨m, fun _ => 0, g⟩ (fun r => (∀ c : Dev Cert.DwupReferenceIdeal.nD,
      r.2.mem ((c.tc : Thread Cert.DwupReferenceIdeal.nD Cert.DwupReferenceIdeal.τ).loc Cert.DwupReferenceIdeal.main_arg0) = m ((c.tc : Thread Cert.DwupReferenceIdeal.nD Cert.DwupReferenceIdeal.τ).loc Cert.DwupReferenceIdeal.main_arg0)
      ∧ r.2.mem ((c.tc : Thread Cert.DwupReferenceIdeal.nD Cert.DwupReferenceIdeal.τ).loc Cert.DwupReferenceIdeal.main_arg1) = m ((c.tc : Thread Cert.DwupReferenceIdeal.nD Cert.DwupReferenceIdeal.τ).loc Cert.DwupReferenceIdeal.main_arg1)
      ∧ r.2.mem ((c.tc : Thread Cert.DwupReferenceIdeal.nD Cert.DwupReferenceIdeal.τ).loc Cert.DwupReferenceIdeal.main_arg2) = m ((c.tc : Thread Cert.DwupReferenceIdeal.nD Cert.DwupReferenceIdeal.τ).loc Cert.DwupReferenceIdeal.main_arg2)
      ∧ r.2.mem ((c.tc : Thread Cert.DwupReferenceIdeal.nD Cert.DwupReferenceIdeal.τ).loc Cert.DwupReferenceIdeal.main_arg3) = m ((c.tc : Thread Cert.DwupReferenceIdeal.nD Cert.DwupReferenceIdeal.τ).loc Cert.DwupReferenceIdeal.main_arg3))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1)
      ∧ r.2.mem ((c.tc : Thread Cert.Dmix.nD Cert.Dmix.τ).loc Cert.Dmix.main_arg2) = m ((c.tc : Thread Cert.Dmix.nD Cert.Dmix.τ).loc Cert.Dmix.main_arg2)
      ∧ r.2.mem ((c.tc : Thread Cert.Dmix.nD Cert.Dmix.τ).loc Cert.Dmix.main_arg3) = m ((c.tc : Thread Cert.Dmix.nD Cert.Dmix.τ).loc Cert.Dmix.main_arg3))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1)
      ∧ r.2.mem ((c.tc : Thread Cert.DmixReferenceIdeal.nD Cert.DmixReferenceIdeal.τ).loc Cert.DmixReferenceIdeal.main_arg2) = m ((c.tc : Thread Cert.DmixReferenceIdeal.nD Cert.DmixReferenceIdeal.τ).loc Cert.DmixReferenceIdeal.main_arg2)
      ∧ r.2.mem ((c.tc : Thread Cert.DmixReferenceIdeal.nD Cert.DmixReferenceIdeal.τ).loc Cert.DmixReferenceIdeal.main_arg3) = m ((c.tc : Thread Cert.DmixReferenceIdeal.nD Cert.DmixReferenceIdeal.τ).loc Cert.DmixReferenceIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_Dxin [hDxin : Cert.Dxin.Facts] : Prop :=
  ∀ (m : (ℓ : Loc Cert.Dxin.nD Cert.Dxin.τ Cert.Dxin.sig) → Buf (Elt Bits) ℓ) (g : Dev Cert.Dxin.nD → PrngReg), Pre_Dxin m →
    θ_run (Cert.Dxin.defs (F := Bits)) (onTc (τ := Cert.Dxin.τ) (Cert.Dxin.main (F := Bits))) ⟨m, fun _ => 0, g⟩ (fun r => (∀ c : Dev Cert.Dxin.nD,
      r.2.mem ((c.tc : Thread Cert.Dxin.nD Cert.Dxin.τ).loc Cert.Dxin.main_arg0) = m ((c.tc : Thread Cert.Dxin.nD Cert.Dxin.τ).loc Cert.Dxin.main_arg0)
      ∧ r.2.mem ((c.tc : Thread Cert.Dxin.nD Cert.Dxin.τ).loc Cert.Dxin.main_arg1) = m ((c.tc : Thread Cert.Dxin.nD Cert.Dxin.τ).loc Cert.Dxin.main_arg1)
      ∧ r.2.mem ((c.tc : Thread Cert.Dxin.nD Cert.Dxin.τ).loc Cert.Dxin.main_arg2) = m ((c.tc : Thread Cert.Dxin.nD Cert.Dxin.τ).loc Cert.Dxin.main_arg2)
      ∧ r.2.mem ((c.tc : Thread Cert.Dxin.nD Cert.Dxin.τ).loc Cert.Dxin.main_arg3) = m ((c.tc : Thread Cert.Dxin.nD Cert.Dxin.τ).loc Cert.Dxin.main_arg3)
      ∧ r.2.mem ((c.tc : Thread Cert.Dxin.nD Cert.Dxin.τ).loc Cert.Dxin.main_arg4) = m ((c.tc : Thread Cert.Dxin.nD Cert.Dxin.τ).loc Cert.Dxin.main_arg4))
      ∧ r.2.sem = fun _ => 0)

def quiescent_DxinIdeal [hDxinIdeal : Cert.DxinIdeal.Facts] : Prop :=
  ∀ (m : (ℓ : Loc Cert.DxinIdeal.nD Cert.DxinIdeal.τ Cert.DxinIdeal.sig) → Buf (Elt Ideal) ℓ) (g : Dev Cert.DxinIdeal.nD → PrngReg), Pre_DxinIdeal m →
    θ_run (Cert.DxinIdeal.defs (F := Ideal)) (onTc (τ := Cert.DxinIdeal.τ) (Cert.DxinIdeal.main (F := Ideal))) ⟨m, fun _ => 0, g⟩ (fun r => (∀ c : Dev Cert.DxinIdeal.nD,
      r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
      ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
      ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2)
      ∧ r.2.mem ((c.tc : Thread Cert.DxinIdeal.nD Cert.DxinIdeal.τ).loc Cert.DxinIdeal.main_arg3) = m ((c.tc : Thread Cert.DxinIdeal.nD Cert.DxinIdeal.τ).loc Cert.DxinIdeal.main_arg3)
      ∧ r.2.mem ((c.tc : Thread Cert.DxinIdeal.nD Cert.DxinIdeal.τ).loc Cert.DxinIdeal.main_arg4) = m ((c.tc : Thread Cert.DxinIdeal.nD Cert.DxinIdeal.τ).loc Cert.DxinIdeal.main_arg4))
      ∧ r.2.sem = fun _ => 0)

def quiescent_DxinIdeal_pre_dxin_finite [hDxinIdeal : Cert.DxinIdeal.Facts] [hPre_dxin_finite : Cert.Pre_dxin_finite.Facts] : Prop :=
  ∀ (m : (ℓ : Loc Cert.DxinIdeal.nD Cert.DxinIdeal.τ Cert.DxinIdeal.sig) → Buf (Elt Ideal) ℓ) (g : Dev Cert.DxinIdeal.nD → PrngReg), Pre_DxinIdeal_dxin_finite m →
    θ_run (Cert.DxinIdeal.defs (F := Ideal)) (onTc (τ := Cert.DxinIdeal.τ) (Cert.DxinIdeal.main (F := Ideal))) ⟨m, fun _ => 0, g⟩ (fun r => (∀ c : Dev Cert.DxinIdeal.nD,
      r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
      ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
      ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2)
      ∧ r.2.mem ((c.tc : Thread Cert.DxinIdeal.nD Cert.DxinIdeal.τ).loc Cert.DxinIdeal.main_arg3) = m ((c.tc : Thread Cert.DxinIdeal.nD Cert.DxinIdeal.τ).loc Cert.DxinIdeal.main_arg3)
      ∧ r.2.mem ((c.tc : Thread Cert.DxinIdeal.nD Cert.DxinIdeal.τ).loc Cert.DxinIdeal.main_arg4) = m ((c.tc : Thread Cert.DxinIdeal.nD Cert.DxinIdeal.τ).loc Cert.DxinIdeal.main_arg4))
      ∧ r.2.sem = fun _ => 0)

def quiescent_DxinReferenceIdeal [hDxinReferenceIdeal : Cert.DxinReferenceIdeal.Facts] : Prop :=
  ∀ (m : (ℓ : Loc Cert.DxinReferenceIdeal.nD Cert.DxinReferenceIdeal.τ Cert.DxinReferenceIdeal.sig) → Buf (Elt Ideal) ℓ) (g : Dev Cert.DxinReferenceIdeal.nD → PrngReg), Pre_DxinReferenceIdeal m →
    θ_run (Cert.DxinReferenceIdeal.defs (F := Ideal)) (onTc (τ := Cert.DxinReferenceIdeal.τ) (Cert.DxinReferenceIdeal.main (F := Ideal))) ⟨m, fun _ => 0, g⟩ (fun r => (∀ c : Dev Cert.DxinReferenceIdeal.nD,
      r.2.mem ((c.tc : Thread Cert.DxinReferenceIdeal.nD Cert.DxinReferenceIdeal.τ).loc Cert.DxinReferenceIdeal.main_arg0) = m ((c.tc : Thread Cert.DxinReferenceIdeal.nD Cert.DxinReferenceIdeal.τ).loc Cert.DxinReferenceIdeal.main_arg0)
      ∧ r.2.mem ((c.tc : Thread Cert.DxinReferenceIdeal.nD Cert.DxinReferenceIdeal.τ).loc Cert.DxinReferenceIdeal.main_arg1) = m ((c.tc : Thread Cert.DxinReferenceIdeal.nD Cert.DxinReferenceIdeal.τ).loc Cert.DxinReferenceIdeal.main_arg1)
      ∧ r.2.mem ((c.tc : Thread Cert.DxinReferenceIdeal.nD Cert.DxinReferenceIdeal.τ).loc Cert.DxinReferenceIdeal.main_arg2) = m ((c.tc : Thread Cert.DxinReferenceIdeal.nD Cert.DxinReferenceIdeal.τ).loc Cert.DxinReferenceIdeal.main_arg2)
      ∧ r.2.mem ((c.tc : Thread Cert.DxinReferenceIdeal.nD Cert.DxinReferenceIdeal.τ).loc Cert.DxinReferenceIdeal.main_arg3) = m ((c.tc : Thread Cert.DxinReferenceIdeal.nD Cert.DxinReferenceIdeal.τ).loc Cert.DxinReferenceIdeal.main_arg3)
      ∧ r.2.mem ((c.tc : Thread Cert.DxinReferenceIdeal.nD Cert.DxinReferenceIdeal.τ).loc Cert.DxinReferenceIdeal.main_arg4) = m ((c.tc : Thread Cert.DxinReferenceIdeal.nD Cert.DxinReferenceIdeal.τ).loc Cert.DxinReferenceIdeal.main_arg4))
      ∧ r.2.sem = fun _ => 0)

def quiescent_DxinReferenceIdeal_pre_dxin_finite [hDxinReferenceIdeal : Cert.DxinReferenceIdeal.Facts] [hPre_dxin_finite : Cert.Pre_dxin_finite.Facts] : Prop :=
  ∀ (m : (ℓ : Loc Cert.DxinReferenceIdeal.nD Cert.DxinReferenceIdeal.τ Cert.DxinReferenceIdeal.sig) → Buf (Elt Ideal) ℓ) (g : Dev Cert.DxinReferenceIdeal.nD → PrngReg), Pre_DxinReferenceIdeal_dxin_finite m →
    θ_run (Cert.DxinReferenceIdeal.defs (F := Ideal)) (onTc (τ := Cert.DxinReferenceIdeal.τ) (Cert.DxinReferenceIdeal.main (F := Ideal))) ⟨m, fun _ => 0, g⟩ (fun r => (∀ c : Dev Cert.DxinReferenceIdeal.nD,
      r.2.mem ((c.tc : Thread Cert.DxinReferenceIdeal.nD Cert.DxinReferenceIdeal.τ).loc Cert.DxinReferenceIdeal.main_arg0) = m ((c.tc : Thread Cert.DxinReferenceIdeal.nD Cert.DxinReferenceIdeal.τ).loc Cert.DxinReferenceIdeal.main_arg0)
      ∧ r.2.mem ((c.tc : Thread Cert.DxinReferenceIdeal.nD Cert.DxinReferenceIdeal.τ).loc Cert.DxinReferenceIdeal.main_arg1) = m ((c.tc : Thread Cert.DxinReferenceIdeal.nD Cert.DxinReferenceIdeal.τ).loc Cert.DxinReferenceIdeal.main_arg1)
      ∧ r.2.mem ((c.tc : Thread Cert.DxinReferenceIdeal.nD Cert.DxinReferenceIdeal.τ).loc Cert.DxinReferenceIdeal.main_arg2) = m ((c.tc : Thread Cert.DxinReferenceIdeal.nD Cert.DxinReferenceIdeal.τ).loc Cert.DxinReferenceIdeal.main_arg2)
      ∧ r.2.mem ((c.tc : Thread Cert.DxinReferenceIdeal.nD Cert.DxinReferenceIdeal.τ).loc Cert.DxinReferenceIdeal.main_arg3) = m ((c.tc : Thread Cert.DxinReferenceIdeal.nD Cert.DxinReferenceIdeal.τ).loc Cert.DxinReferenceIdeal.main_arg3)
      ∧ r.2.mem ((c.tc : Thread Cert.DxinReferenceIdeal.nD Cert.DxinReferenceIdeal.τ).loc Cert.DxinReferenceIdeal.main_arg4) = m ((c.tc : Thread Cert.DxinReferenceIdeal.nD Cert.DxinReferenceIdeal.τ).loc Cert.DxinReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_Pledgate [hPledgate : Cert.Pledgate.Facts] : Prop :=
  ∀ (m : (ℓ : Loc Cert.Pledgate.nD Cert.Pledgate.τ Cert.Pledgate.sig) → Buf (Elt Bits) ℓ) (g : Dev Cert.Pledgate.nD → PrngReg), Pre_Pledgate m →
    θ_run (Cert.Pledgate.defs (F := Bits)) (onTc (τ := Cert.Pledgate.τ) (Cert.Pledgate.main (F := Bits))) ⟨m, fun _ => 0, g⟩ (fun r => (∀ c : Dev Cert.Pledgate.nD,
      r.2.mem ((c.tc : Thread Cert.Pledgate.nD Cert.Pledgate.τ).loc Cert.Pledgate.main_arg0) = m ((c.tc : Thread Cert.Pledgate.nD Cert.Pledgate.τ).loc Cert.Pledgate.main_arg0)
      ∧ r.2.mem ((c.tc : Thread Cert.Pledgate.nD Cert.Pledgate.τ).loc Cert.Pledgate.main_arg1) = m ((c.tc : Thread Cert.Pledgate.nD Cert.Pledgate.τ).loc Cert.Pledgate.main_arg1)
      ∧ r.2.mem ((c.tc : Thread Cert.Pledgate.nD Cert.Pledgate.τ).loc Cert.Pledgate.main_arg2) = m ((c.tc : Thread Cert.Pledgate.nD Cert.Pledgate.τ).loc Cert.Pledgate.main_arg2))
      ∧ r.2.sem = fun _ => 0)

def quiescent_PledgateIdeal [hPledgateIdeal : Cert.PledgateIdeal.Facts] : Prop :=
  ∀ (m : (ℓ : Loc Cert.PledgateIdeal.nD Cert.PledgateIdeal.τ Cert.PledgateIdeal.sig) → Buf (Elt Ideal) ℓ) (g : Dev Cert.PledgateIdeal.nD → PrngReg), Pre_PledgateIdeal m →
    θ_run (Cert.PledgateIdeal.defs (F := Ideal)) (onTc (τ := Cert.PledgateIdeal.τ) (Cert.PledgateIdeal.main (F := Ideal))) ⟨m, fun _ => 0, g⟩ (fun r => (∀ c : Dev Cert.PledgateIdeal.nD,
      r.2.mem ((c.tc : Thread Cert.PledgateIdeal.nD Cert.PledgateIdeal.τ).loc Cert.PledgateIdeal.main_arg0) = m ((c.tc : Thread Cert.PledgateIdeal.nD Cert.PledgateIdeal.τ).loc Cert.PledgateIdeal.main_arg0)
      ∧ r.2.mem ((c.tc : Thread Cert.PledgateIdeal.nD Cert.PledgateIdeal.τ).loc Cert.PledgateIdeal.main_arg1) = m ((c.tc : Thread Cert.PledgateIdeal.nD Cert.PledgateIdeal.τ).loc Cert.PledgateIdeal.main_arg1)
      ∧ r.2.mem ((c.tc : Thread Cert.PledgateIdeal.nD Cert.PledgateIdeal.τ).loc Cert.PledgateIdeal.main_arg2) = m ((c.tc : Thread Cert.PledgateIdeal.nD Cert.PledgateIdeal.τ).loc Cert.PledgateIdeal.main_arg2))
      ∧ r.2.sem = fun _ => 0)

def quiescent_PledgateReferenceIdeal [hPledgateReferenceIdeal : Cert.PledgateReferenceIdeal.Facts] : Prop :=
  ∀ (m : (ℓ : Loc Cert.PledgateReferenceIdeal.nD Cert.PledgateReferenceIdeal.τ Cert.PledgateReferenceIdeal.sig) → Buf (Elt Ideal) ℓ) (g : Dev Cert.PledgateReferenceIdeal.nD → PrngReg), Pre_PledgateReferenceIdeal m →
    θ_run (Cert.PledgateReferenceIdeal.defs (F := Ideal)) (onTc (τ := Cert.PledgateReferenceIdeal.τ) (Cert.PledgateReferenceIdeal.main (F := Ideal))) ⟨m, fun _ => 0, g⟩ (fun r => (∀ c : Dev Cert.PledgateReferenceIdeal.nD,
      r.2.mem ((c.tc : Thread Cert.PledgateReferenceIdeal.nD Cert.PledgateReferenceIdeal.τ).loc Cert.PledgateReferenceIdeal.main_arg0) = m ((c.tc : Thread Cert.PledgateReferenceIdeal.nD Cert.PledgateReferenceIdeal.τ).loc Cert.PledgateReferenceIdeal.main_arg0)
      ∧ r.2.mem ((c.tc : Thread Cert.PledgateReferenceIdeal.nD Cert.PledgateReferenceIdeal.τ).loc Cert.PledgateReferenceIdeal.main_arg1) = m ((c.tc : Thread Cert.PledgateReferenceIdeal.nD Cert.PledgateReferenceIdeal.τ).loc Cert.PledgateReferenceIdeal.main_arg1)
      ∧ r.2.mem ((c.tc : Thread Cert.PledgateReferenceIdeal.nD Cert.PledgateReferenceIdeal.τ).loc Cert.PledgateReferenceIdeal.main_arg2) = m ((c.tc : Thread Cert.PledgateReferenceIdeal.nD Cert.PledgateReferenceIdeal.τ).loc Cert.PledgateReferenceIdeal.main_arg2))
      ∧ r.2.sem = fun _ => 0)

def quiescent_Pledwp [hPledwp : Cert.Pledwp.Facts] : Prop :=
  ∀ (m : (ℓ : Loc Cert.Pledwp.nD Cert.Pledwp.τ Cert.Pledwp.sig) → Buf (Elt Bits) ℓ) (g : Dev Cert.Pledwp.nD → PrngReg), Pre_Pledwp m →
    θ_run (Cert.Pledwp.defs (F := Bits)) (onTc (τ := Cert.Pledwp.τ) (Cert.Pledwp.main (F := Bits))) ⟨m, fun _ => 0, g⟩ (fun r => (∀ c : Dev Cert.Pledwp.nD,
      r.2.mem ((c.tc : Thread Cert.Pledwp.nD Cert.Pledwp.τ).loc Cert.Pledwp.main_arg0) = m ((c.tc : Thread Cert.Pledwp.nD Cert.Pledwp.τ).loc Cert.Pledwp.main_arg0)
      ∧ r.2.mem ((c.tc : Thread Cert.Pledwp.nD Cert.Pledwp.τ).loc Cert.Pledwp.main_arg1) = m ((c.tc : Thread Cert.Pledwp.nD Cert.Pledwp.τ).loc Cert.Pledwp.main_arg1))
      ∧ r.2.sem = fun _ => 0)

def quiescent_PledwpIdeal [hPledwpIdeal : Cert.PledwpIdeal.Facts] : Prop :=
  ∀ (m : (ℓ : Loc Cert.PledwpIdeal.nD Cert.PledwpIdeal.τ Cert.PledwpIdeal.sig) → Buf (Elt Ideal) ℓ) (g : Dev Cert.PledwpIdeal.nD → PrngReg), Pre_PledwpIdeal m →
    θ_run (Cert.PledwpIdeal.defs (F := Ideal)) (onTc (τ := Cert.PledwpIdeal.τ) (Cert.PledwpIdeal.main (F := Ideal))) ⟨m, fun _ => 0, g⟩ (fun r => (∀ c : Dev Cert.PledwpIdeal.nD,
      r.2.mem ((c.tc : Thread Cert.PledwpIdeal.nD Cert.PledwpIdeal.τ).loc Cert.PledwpIdeal.main_arg0) = m ((c.tc : Thread Cert.PledwpIdeal.nD Cert.PledwpIdeal.τ).loc Cert.PledwpIdeal.main_arg0)
      ∧ r.2.mem ((c.tc : Thread Cert.PledwpIdeal.nD Cert.PledwpIdeal.τ).loc Cert.PledwpIdeal.main_arg1) = m ((c.tc : Thread Cert.PledwpIdeal.nD Cert.PledwpIdeal.τ).loc Cert.PledwpIdeal.main_arg1))
      ∧ r.2.sem = fun _ => 0)

def quiescent_PledwpReferenceIdeal [hPledwpReferenceIdeal : Cert.PledwpReferenceIdeal.Facts] : Prop :=
  ∀ (m : (ℓ : Loc Cert.PledwpReferenceIdeal.nD Cert.PledwpReferenceIdeal.τ Cert.PledwpReferenceIdeal.sig) → Buf (Elt Ideal) ℓ) (g : Dev Cert.PledwpReferenceIdeal.nD → PrngReg), Pre_PledwpReferenceIdeal m →
    θ_run (Cert.PledwpReferenceIdeal.defs (F := Ideal)) (onTc (τ := Cert.PledwpReferenceIdeal.τ) (Cert.PledwpReferenceIdeal.main (F := Ideal))) ⟨m, fun _ => 0, g⟩ (fun r => (∀ c : Dev Cert.PledwpReferenceIdeal.nD,
      r.2.mem ((c.tc : Thread Cert.PledwpReferenceIdeal.nD Cert.PledwpReferenceIdeal.τ).loc Cert.PledwpReferenceIdeal.main_arg0) = m ((c.tc : Thread Cert.PledwpReferenceIdeal.nD Cert.PledwpReferenceIdeal.τ).loc Cert.PledwpReferenceIdeal.main_arg0)
      ∧ r.2.mem ((c.tc : Thread Cert.PledwpReferenceIdeal.nD Cert.PledwpReferenceIdeal.τ).loc Cert.PledwpReferenceIdeal.main_arg1) = m ((c.tc : Thread Cert.PledwpReferenceIdeal.nD Cert.PledwpReferenceIdeal.τ).loc Cert.PledwpReferenceIdeal.main_arg1))
      ∧ r.2.sem = fun _ => 0)

def quiescent_Pledwg [hPledwg : Cert.Pledwg.Facts] : Prop :=
  ∀ (m : (ℓ : Loc Cert.Pledwg.nD Cert.Pledwg.τ Cert.Pledwg.sig) → Buf (Elt Bits) ℓ) (g : Dev Cert.Pledwg.nD → PrngReg), Pre_Pledwg m →
    θ_run (Cert.Pledwg.defs (F := Bits)) (onTc (τ := Cert.Pledwg.τ) (Cert.Pledwg.main (F := Bits))) ⟨m, fun _ => 0, g⟩ (fun r => (∀ c : Dev Cert.Pledwg.nD,
      r.2.mem ((c.tc : Thread Cert.Pledwg.nD Cert.Pledwg.τ).loc Cert.Pledwg.main_arg0) = m ((c.tc : Thread Cert.Pledwg.nD Cert.Pledwg.τ).loc Cert.Pledwg.main_arg0)
      ∧ r.2.mem ((c.tc : Thread Cert.Pledwg.nD Cert.Pledwg.τ).loc Cert.Pledwg.main_arg1) = m ((c.tc : Thread Cert.Pledwg.nD Cert.Pledwg.τ).loc Cert.Pledwg.main_arg1))
      ∧ r.2.sem = fun _ => 0)

def quiescent_PledwgIdeal [hPledwgIdeal : Cert.PledwgIdeal.Facts] : Prop :=
  ∀ (m : (ℓ : Loc Cert.PledwgIdeal.nD Cert.PledwgIdeal.τ Cert.PledwgIdeal.sig) → Buf (Elt Ideal) ℓ) (g : Dev Cert.PledwgIdeal.nD → PrngReg), Pre_PledwgIdeal m →
    θ_run (Cert.PledwgIdeal.defs (F := Ideal)) (onTc (τ := Cert.PledwgIdeal.τ) (Cert.PledwgIdeal.main (F := Ideal))) ⟨m, fun _ => 0, g⟩ (fun r => (∀ c : Dev Cert.PledwgIdeal.nD,
      r.2.mem ((c.tc : Thread Cert.PledwgIdeal.nD Cert.PledwgIdeal.τ).loc Cert.PledwgIdeal.main_arg0) = m ((c.tc : Thread Cert.PledwgIdeal.nD Cert.PledwgIdeal.τ).loc Cert.PledwgIdeal.main_arg0)
      ∧ r.2.mem ((c.tc : Thread Cert.PledwgIdeal.nD Cert.PledwgIdeal.τ).loc Cert.PledwgIdeal.main_arg1) = m ((c.tc : Thread Cert.PledwgIdeal.nD Cert.PledwgIdeal.τ).loc Cert.PledwgIdeal.main_arg1))
      ∧ r.2.sem = fun _ => 0)

def quiescent_PledwgReferenceIdeal [hPledwgReferenceIdeal : Cert.PledwgReferenceIdeal.Facts] : Prop :=
  ∀ (m : (ℓ : Loc Cert.PledwgReferenceIdeal.nD Cert.PledwgReferenceIdeal.τ Cert.PledwgReferenceIdeal.sig) → Buf (Elt Ideal) ℓ) (g : Dev Cert.PledwgReferenceIdeal.nD → PrngReg), Pre_PledwgReferenceIdeal m →
    θ_run (Cert.PledwgReferenceIdeal.defs (F := Ideal)) (onTc (τ := Cert.PledwgReferenceIdeal.τ) (Cert.PledwgReferenceIdeal.main (F := Ideal))) ⟨m, fun _ => 0, g⟩ (fun r => (∀ c : Dev Cert.PledwgReferenceIdeal.nD,
      r.2.mem ((c.tc : Thread Cert.PledwgReferenceIdeal.nD Cert.PledwgReferenceIdeal.τ).loc Cert.PledwgReferenceIdeal.main_arg0) = m ((c.tc : Thread Cert.PledwgReferenceIdeal.nD Cert.PledwgReferenceIdeal.τ).loc Cert.PledwgReferenceIdeal.main_arg0)
      ∧ r.2.mem ((c.tc : Thread Cert.PledwgReferenceIdeal.nD Cert.PledwgReferenceIdeal.τ).loc Cert.PledwgReferenceIdeal.main_arg1) = m ((c.tc : Thread Cert.PledwgReferenceIdeal.nD Cert.PledwgReferenceIdeal.τ).loc Cert.PledwgReferenceIdeal.main_arg1))
      ∧ r.2.sem = fun _ => 0)

def quiescent_Pledx [hPledx : Cert.Pledx.Facts] : Prop :=
  ∀ (m : (ℓ : Loc Cert.Pledx.nD Cert.Pledx.τ Cert.Pledx.sig) → Buf (Elt Bits) ℓ) (g : Dev Cert.Pledx.nD → PrngReg), Pre_Pledx m →
    θ_run (Cert.Pledx.defs (F := Bits)) (onTc (τ := Cert.Pledx.τ) (Cert.Pledx.main (F := Bits))) ⟨m, fun _ => 0, g⟩ (fun r => (∀ c : Dev Cert.Pledx.nD,
      r.2.mem ((c.tc : Thread Cert.Pledx.nD Cert.Pledx.τ).loc Cert.Pledx.main_arg0) = m ((c.tc : Thread Cert.Pledx.nD Cert.Pledx.τ).loc Cert.Pledx.main_arg0)
      ∧ r.2.mem ((c.tc : Thread Cert.Pledx.nD Cert.Pledx.τ).loc Cert.Pledx.main_arg1) = m ((c.tc : Thread Cert.Pledx.nD Cert.Pledx.τ).loc Cert.Pledx.main_arg1)
      ∧ r.2.mem ((c.tc : Thread Cert.Pledx.nD Cert.Pledx.τ).loc Cert.Pledx.main_arg2) = m ((c.tc : Thread Cert.Pledx.nD Cert.Pledx.τ).loc Cert.Pledx.main_arg2)
      ∧ r.2.mem ((c.tc : Thread Cert.Pledx.nD Cert.Pledx.τ).loc Cert.Pledx.main_arg3) = m ((c.tc : Thread Cert.Pledx.nD Cert.Pledx.τ).loc Cert.Pledx.main_arg3)
      ∧ r.2.mem ((c.tc : Thread Cert.Pledx.nD Cert.Pledx.τ).loc Cert.Pledx.main_arg4) = m ((c.tc : Thread Cert.Pledx.nD Cert.Pledx.τ).loc Cert.Pledx.main_arg4))
      ∧ r.2.sem = fun _ => 0)

def quiescent_PledxIdeal [hPledxIdeal : Cert.PledxIdeal.Facts] : Prop :=
  ∀ (m : (ℓ : Loc Cert.PledxIdeal.nD Cert.PledxIdeal.τ Cert.PledxIdeal.sig) → Buf (Elt Ideal) ℓ) (g : Dev Cert.PledxIdeal.nD → PrngReg), Pre_PledxIdeal m →
    θ_run (Cert.PledxIdeal.defs (F := Ideal)) (onTc (τ := Cert.PledxIdeal.τ) (Cert.PledxIdeal.main (F := Ideal))) ⟨m, fun _ => 0, g⟩ (fun r => (∀ c : Dev Cert.PledxIdeal.nD,
      r.2.mem ((c.tc : Thread Cert.PledxIdeal.nD Cert.PledxIdeal.τ).loc Cert.PledxIdeal.main_arg0) = m ((c.tc : Thread Cert.PledxIdeal.nD Cert.PledxIdeal.τ).loc Cert.PledxIdeal.main_arg0)
      ∧ r.2.mem ((c.tc : Thread Cert.PledxIdeal.nD Cert.PledxIdeal.τ).loc Cert.PledxIdeal.main_arg1) = m ((c.tc : Thread Cert.PledxIdeal.nD Cert.PledxIdeal.τ).loc Cert.PledxIdeal.main_arg1)
      ∧ r.2.mem ((c.tc : Thread Cert.PledxIdeal.nD Cert.PledxIdeal.τ).loc Cert.PledxIdeal.main_arg2) = m ((c.tc : Thread Cert.PledxIdeal.nD Cert.PledxIdeal.τ).loc Cert.PledxIdeal.main_arg2)
      ∧ r.2.mem ((c.tc : Thread Cert.PledxIdeal.nD Cert.PledxIdeal.τ).loc Cert.PledxIdeal.main_arg3) = m ((c.tc : Thread Cert.PledxIdeal.nD Cert.PledxIdeal.τ).loc Cert.PledxIdeal.main_arg3)
      ∧ r.2.mem ((c.tc : Thread Cert.PledxIdeal.nD Cert.PledxIdeal.τ).loc Cert.PledxIdeal.main_arg4) = m ((c.tc : Thread Cert.PledxIdeal.nD Cert.PledxIdeal.τ).loc Cert.PledxIdeal.main_arg4))
      ∧ r.2.sem = fun _ => 0)

def quiescent_PledxIdeal_pre_pledx_finite [hPledxIdeal : Cert.PledxIdeal.Facts] [hPre_pledx_finite : Cert.Pre_pledx_finite.Facts] : Prop :=
  ∀ (m : (ℓ : Loc Cert.PledxIdeal.nD Cert.PledxIdeal.τ Cert.PledxIdeal.sig) → Buf (Elt Ideal) ℓ) (g : Dev Cert.PledxIdeal.nD → PrngReg), Pre_PledxIdeal_pledx_finite m →
    θ_run (Cert.PledxIdeal.defs (F := Ideal)) (onTc (τ := Cert.PledxIdeal.τ) (Cert.PledxIdeal.main (F := Ideal))) ⟨m, fun _ => 0, g⟩ (fun r => (∀ c : Dev Cert.PledxIdeal.nD,
      r.2.mem ((c.tc : Thread Cert.PledxIdeal.nD Cert.PledxIdeal.τ).loc Cert.PledxIdeal.main_arg0) = m ((c.tc : Thread Cert.PledxIdeal.nD Cert.PledxIdeal.τ).loc Cert.PledxIdeal.main_arg0)
      ∧ r.2.mem ((c.tc : Thread Cert.PledxIdeal.nD Cert.PledxIdeal.τ).loc Cert.PledxIdeal.main_arg1) = m ((c.tc : Thread Cert.PledxIdeal.nD Cert.PledxIdeal.τ).loc Cert.PledxIdeal.main_arg1)
      ∧ r.2.mem ((c.tc : Thread Cert.PledxIdeal.nD Cert.PledxIdeal.τ).loc Cert.PledxIdeal.main_arg2) = m ((c.tc : Thread Cert.PledxIdeal.nD Cert.PledxIdeal.τ).loc Cert.PledxIdeal.main_arg2)
      ∧ r.2.mem ((c.tc : Thread Cert.PledxIdeal.nD Cert.PledxIdeal.τ).loc Cert.PledxIdeal.main_arg3) = m ((c.tc : Thread Cert.PledxIdeal.nD Cert.PledxIdeal.τ).loc Cert.PledxIdeal.main_arg3)
      ∧ r.2.mem ((c.tc : Thread Cert.PledxIdeal.nD Cert.PledxIdeal.τ).loc Cert.PledxIdeal.main_arg4) = m ((c.tc : Thread Cert.PledxIdeal.nD Cert.PledxIdeal.τ).loc Cert.PledxIdeal.main_arg4))
      ∧ r.2.sem = fun _ => 0)

def quiescent_PledxReferenceIdeal [hPledxReferenceIdeal : Cert.PledxReferenceIdeal.Facts] : Prop :=
  ∀ (m : (ℓ : Loc Cert.PledxReferenceIdeal.nD Cert.PledxReferenceIdeal.τ Cert.PledxReferenceIdeal.sig) → Buf (Elt Ideal) ℓ) (g : Dev Cert.PledxReferenceIdeal.nD → PrngReg), Pre_PledxReferenceIdeal m →
    θ_run (Cert.PledxReferenceIdeal.defs (F := Ideal)) (onTc (τ := Cert.PledxReferenceIdeal.τ) (Cert.PledxReferenceIdeal.main (F := Ideal))) ⟨m, fun _ => 0, g⟩ (fun r => (∀ c : Dev Cert.PledxReferenceIdeal.nD,
      r.2.mem ((c.tc : Thread Cert.PledxReferenceIdeal.nD Cert.PledxReferenceIdeal.τ).loc Cert.PledxReferenceIdeal.main_arg0) = m ((c.tc : Thread Cert.PledxReferenceIdeal.nD Cert.PledxReferenceIdeal.τ).loc Cert.PledxReferenceIdeal.main_arg0)
      ∧ r.2.mem ((c.tc : Thread Cert.PledxReferenceIdeal.nD Cert.PledxReferenceIdeal.τ).loc Cert.PledxReferenceIdeal.main_arg1) = m ((c.tc : Thread Cert.PledxReferenceIdeal.nD Cert.PledxReferenceIdeal.τ).loc Cert.PledxReferenceIdeal.main_arg1)
      ∧ r.2.mem ((c.tc : Thread Cert.PledxReferenceIdeal.nD Cert.PledxReferenceIdeal.τ).loc Cert.PledxReferenceIdeal.main_arg2) = m ((c.tc : Thread Cert.PledxReferenceIdeal.nD Cert.PledxReferenceIdeal.τ).loc Cert.PledxReferenceIdeal.main_arg2)
      ∧ r.2.mem ((c.tc : Thread Cert.PledxReferenceIdeal.nD Cert.PledxReferenceIdeal.τ).loc Cert.PledxReferenceIdeal.main_arg3) = m ((c.tc : Thread Cert.PledxReferenceIdeal.nD Cert.PledxReferenceIdeal.τ).loc Cert.PledxReferenceIdeal.main_arg3)
      ∧ r.2.mem ((c.tc : Thread Cert.PledxReferenceIdeal.nD Cert.PledxReferenceIdeal.τ).loc Cert.PledxReferenceIdeal.main_arg4) = m ((c.tc : Thread Cert.PledxReferenceIdeal.nD Cert.PledxReferenceIdeal.τ).loc Cert.PledxReferenceIdeal.main_arg4))
      ∧ r.2.sem = fun _ => 0)

def quiescent_PledxReferenceIdeal_pre_pledx_finite [hPledxReferenceIdeal : Cert.PledxReferenceIdeal.Facts] [hPre_pledx_finite : Cert.Pre_pledx_finite.Facts] : Prop :=
  ∀ (m : (ℓ : Loc Cert.PledxReferenceIdeal.nD Cert.PledxReferenceIdeal.τ Cert.PledxReferenceIdeal.sig) → Buf (Elt Ideal) ℓ) (g : Dev Cert.PledxReferenceIdeal.nD → PrngReg), Pre_PledxReferenceIdeal_pledx_finite m →
    θ_run (Cert.PledxReferenceIdeal.defs (F := Ideal)) (onTc (τ := Cert.PledxReferenceIdeal.τ) (Cert.PledxReferenceIdeal.main (F := Ideal))) ⟨m, fun _ => 0, g⟩ (fun r => (∀ c : Dev Cert.PledxReferenceIdeal.nD,
      r.2.mem ((c.tc : Thread Cert.PledxReferenceIdeal.nD Cert.PledxReferenceIdeal.τ).loc Cert.PledxReferenceIdeal.main_arg0) = m ((c.tc : Thread Cert.PledxReferenceIdeal.nD Cert.PledxReferenceIdeal.τ).loc Cert.PledxReferenceIdeal.main_arg0)
      ∧ r.2.mem ((c.tc : Thread Cert.PledxReferenceIdeal.nD Cert.PledxReferenceIdeal.τ).loc Cert.PledxReferenceIdeal.main_arg1) = m ((c.tc : Thread Cert.PledxReferenceIdeal.nD Cert.PledxReferenceIdeal.τ).loc Cert.PledxReferenceIdeal.main_arg1)
      ∧ r.2.mem ((c.tc : Thread Cert.PledxReferenceIdeal.nD Cert.PledxReferenceIdeal.τ).loc Cert.PledxReferenceIdeal.main_arg2) = m ((c.tc : Thread Cert.PledxReferenceIdeal.nD Cert.PledxReferenceIdeal.τ).loc Cert.PledxReferenceIdeal.main_arg2)
      ∧ r.2.mem ((c.tc : Thread Cert.PledxReferenceIdeal.nD Cert.PledxReferenceIdeal.τ).loc Cert.PledxReferenceIdeal.main_arg3) = m ((c.tc : Thread Cert.PledxReferenceIdeal.nD Cert.PledxReferenceIdeal.τ).loc Cert.PledxReferenceIdeal.main_arg3)
      ∧ r.2.mem ((c.tc : Thread Cert.PledxReferenceIdeal.nD Cert.PledxReferenceIdeal.τ).loc Cert.PledxReferenceIdeal.main_arg4) = m ((c.tc : Thread Cert.PledxReferenceIdeal.nD Cert.PledxReferenceIdeal.τ).loc Cert.PledxReferenceIdeal.main_arg4))
      ∧ r.2.sem = fun _ => 0)

def preserves_Up_UpIdeal : Prop :=
  True

def preserves_Down_DownIdeal : Prop :=
  True

def preserves_Dact_DactIdeal : Prop :=
  True

def preserves_Dwd_DwdIdeal : Prop :=
  True

def preserves_Dwg_DwgIdeal : Prop :=
  True

def preserves_Dxa_DxaIdeal : Prop :=
  True

def preserves_Dxb_DxbIdeal : Prop :=
  True

def preserves_Rms_RmsIdeal : Prop :=
  True

def preserves_Proj_ProjIdeal : Prop :=
  True

def preserves_Merge_MergeIdeal : Prop :=
  True

def preserves_Out_OutIdeal : Prop :=
  True

def preserves_Dmerge_DmergeIdeal : Prop :=
  True

def preserves_Dwout_DwoutIdeal : Prop :=
  True

def preserves_Dwup_DwupIdeal : Prop :=
  True

def preserves_Dmix_DmixIdeal : Prop :=
  True

def preserves_Dwin_DwinIdeal : Prop :=
  True

def preserves_Dxin_DxinIdeal : Prop :=
  True

def preserves_Ple_PleIdeal : Prop :=
  True

def preserves_Pledgate_PledgateIdeal : Prop :=
  True

def preserves_Pledwp_PledwpIdeal : Prop :=
  True

def preserves_Pledwg_PledwgIdeal : Prop :=
  True

def preserves_Pledx_PledxIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)) (v2 : (c : Dev Cert.UpIdeal.nD) → Buf (Elt Ideal) ((c.tc : Thread Cert.UpIdeal.nD Cert.UpIdeal.τ).loc Cert.UpIdeal.main_v6_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_v6_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_v10) = v1 c
          ∧ r.2.mem ((c.tc : Thread Cert.UpReferenceIdeal.nD Cert.UpReferenceIdeal.τ).loc Cert.UpReferenceIdeal.main_v13) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def algebraic_DactIdeal_DactReferenceIdeal_pre_dact_finite [hDactIdeal : Cert.DactIdeal.Facts] [hDactReferenceIdeal : Cert.DactReferenceIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal_dact_finite m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)
      ∧ m' ((c.tc : Thread Cert.DactReferenceIdeal.nD Cert.DactReferenceIdeal.τ).loc Cert.DactReferenceIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v7_0)) (v1 : (c : Dev Cert.DactIdeal.nD) → Buf (Elt Ideal) ((c.tc : Thread Cert.DactIdeal.nD Cert.DactIdeal.τ).loc Cert.DactIdeal.main_v7_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v7_0) = v0 c
          ∧ r.2.mem ((c.tc : Thread Cert.DactIdeal.nD Cert.DactIdeal.τ).loc Cert.DactIdeal.main_v7_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v15) = v0 c
          ∧ r.2.mem ((c.tc : Thread Cert.DactReferenceIdeal.nD Cert.DactReferenceIdeal.τ).loc Cert.DactReferenceIdeal.main_v18) = v1 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2)
          ∧ r.2.mem ((c.tc : Thread Cert.DactReferenceIdeal.nD Cert.DactReferenceIdeal.τ).loc Cert.DactReferenceIdeal.main_arg3) = m' ((c.tc : Thread Cert.DactReferenceIdeal.nD Cert.DactReferenceIdeal.τ).loc Cert.DactReferenceIdeal.main_arg3))

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v3)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v3) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v10) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def algebraic_DwgIdeal_DwgReferenceIdeal [hDwgIdeal : Cert.DwgIdeal.Facts] [hDwgReferenceIdeal : Cert.DwgReferenceIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgReferenceIdeal.nD Cert.DwgReferenceIdeal.τ Cert.DwgReferenceIdeal.sig) → Buf (Elt Ideal) ℓ) (g' : Dev Cert.DwgReferenceIdeal.nD → PrngReg), Pre_DwgIdeal m →
    (∀ c : Dev Cert.DwgIdeal.nD,
      m' ((c.tc : Thread Cert.DwgReferenceIdeal.nD Cert.DwgReferenceIdeal.τ).loc Cert.DwgReferenceIdeal.main_arg0) = m ((c.tc : Thread Cert.DwgIdeal.nD Cert.DwgIdeal.τ).loc Cert.DwgIdeal.main_arg0)
      ∧ m' ((c.tc : Thread Cert.DwgReferenceIdeal.nD Cert.DwgReferenceIdeal.τ).loc Cert.DwgReferenceIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v2)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v2) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.DwgReferenceIdeal.defs (F := Ideal)) (onTc (τ := Cert.DwgReferenceIdeal.τ) (Cert.DwgReferenceIdeal.main (F := Ideal))) ⟨m', fun _ => 0, g'⟩ (fun r => ∀ c : Dev Cert.DwgReferenceIdeal.nD,
          r.2.mem ((c.tc : Thread Cert.DwgReferenceIdeal.nD Cert.DwgReferenceIdeal.τ).loc Cert.DwgReferenceIdeal.main_v8) = v0 c
          ∧ r.2.mem ((c.tc : Thread Cert.DwgReferenceIdeal.nD Cert.DwgReferenceIdeal.τ).loc Cert.DwgReferenceIdeal.main_arg0) = m' ((c.tc : Thread Cert.DwgReferenceIdeal.nD Cert.DwgReferenceIdeal.τ).loc Cert.DwgReferenceIdeal.main_arg0)
          ∧ r.2.mem ((c.tc : Thread Cert.DwgReferenceIdeal.nD Cert.DwgReferenceIdeal.τ).loc Cert.DwgReferenceIdeal.main_arg1) = m' ((c.tc : Thread Cert.DwgReferenceIdeal.nD Cert.DwgReferenceIdeal.τ).loc Cert.DwgReferenceIdeal.main_arg1))

def algebraic_DxaIdeal_DxaReferenceIdeal_on_first_half_pre_dxa_finite [hDxaIdeal : Cert.DxaIdeal.Facts] [hDxaReferenceIdeal : Cert.DxaReferenceIdeal.Facts] [hPre_dxa_finite : Cert.Pre_dxa_finite.Facts] [hOn_first_half : Cert.On_first_half.Facts] : Prop :=
  ∀ (m : (ℓ : Loc Cert.DxaIdeal.nD Cert.DxaIdeal.τ Cert.DxaIdeal.sig) → Buf (Elt Ideal) ℓ) (g : Dev Cert.DxaIdeal.nD → PrngReg)
    (m' : (ℓ : Loc Cert.DxaReferenceIdeal.nD Cert.DxaReferenceIdeal.τ Cert.DxaReferenceIdeal.sig) → Buf (Elt Ideal) ℓ) (g' : Dev Cert.DxaReferenceIdeal.nD → PrngReg), Pre_DxaIdeal_dxa_finite m →
    (∀ c : Dev Cert.DxaIdeal.nD,
      m' ((c.tc : Thread Cert.DxaReferenceIdeal.nD Cert.DxaReferenceIdeal.τ).loc Cert.DxaReferenceIdeal.main_arg0) = m ((c.tc : Thread Cert.DxaIdeal.nD Cert.DxaIdeal.τ).loc Cert.DxaIdeal.main_arg0)
      ∧ m' ((c.tc : Thread Cert.DxaReferenceIdeal.nD Cert.DxaReferenceIdeal.τ).loc Cert.DxaReferenceIdeal.main_arg1) = m ((c.tc : Thread Cert.DxaIdeal.nD Cert.DxaIdeal.τ).loc Cert.DxaIdeal.main_arg1)
      ∧ m' ((c.tc : Thread Cert.DxaReferenceIdeal.nD Cert.DxaReferenceIdeal.τ).loc Cert.DxaReferenceIdeal.main_arg2) = m ((c.tc : Thread Cert.DxaIdeal.nD Cert.DxaIdeal.τ).loc Cert.DxaIdeal.main_arg2)
      ∧ m' ((c.tc : Thread Cert.DxaReferenceIdeal.nD Cert.DxaReferenceIdeal.τ).loc Cert.DxaReferenceIdeal.main_arg3) = m ((c.tc : Thread Cert.DxaIdeal.nD Cert.DxaIdeal.τ).loc Cert.DxaIdeal.main_arg3)
      ∧ m' ((c.tc : Thread Cert.DxaReferenceIdeal.nD Cert.DxaReferenceIdeal.τ).loc Cert.DxaReferenceIdeal.main_arg4) = m ((c.tc : Thread Cert.DxaIdeal.nD Cert.DxaIdeal.τ).loc Cert.DxaIdeal.main_arg4)
      ∧ m' ((c.tc : Thread Cert.DxaReferenceIdeal.nD Cert.DxaReferenceIdeal.τ).loc Cert.DxaReferenceIdeal.main_arg5) = m ((c.tc : Thread Cert.DxaIdeal.nD Cert.DxaIdeal.τ).loc Cert.DxaIdeal.main_arg5)
      ∧ m' ((c.tc : Thread Cert.DxaReferenceIdeal.nD Cert.DxaReferenceIdeal.τ).loc Cert.DxaReferenceIdeal.main_arg6) = m ((c.tc : Thread Cert.DxaIdeal.nD Cert.DxaIdeal.τ).loc Cert.DxaIdeal.main_arg6)) →
    ∃ (v0 : (c : Dev Cert.DxaIdeal.nD) → Buf (Elt Ideal) ((c.tc : Thread Cert.DxaIdeal.nD Cert.DxaIdeal.τ).loc Cert.DxaIdeal.main_v10_0)) (v1 : (c : Dev Cert.DxaIdeal.nD) → Buf (Elt Ideal) ((c.tc : Thread Cert.DxaIdeal.nD Cert.DxaIdeal.τ).loc Cert.DxaIdeal.main_v10_1)) (v2 : (c : Dev Cert.DxaIdeal.nD) → Buf (Elt Ideal) ((c.tc : Thread Cert.DxaIdeal.nD Cert.DxaIdeal.τ).loc Cert.DxaIdeal.main_v10_2)),
      θ_run (Cert.DxaIdeal.defs (F := Ideal)) (onTc (τ := Cert.DxaIdeal.τ) (Cert.DxaIdeal.main (F := Ideal))) ⟨m, fun _ => 0, g⟩ (fun r => ∀ c : Dev Cert.DxaIdeal.nD,
          (∀ i : (⟨2, ![4096, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).1 i = 1#1 → r.2.mem ((c.tc : Thread Cert.DxaIdeal.nD Cert.DxaIdeal.τ).loc Cert.DxaIdeal.main_v10_0) i = v0 c i)
          ∧ (∀ i : (⟨2, ![4096, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).2.1 i = 1#1 → r.2.mem ((c.tc : Thread Cert.DxaIdeal.nD Cert.DxaIdeal.τ).loc Cert.DxaIdeal.main_v10_1) i = v1 c i)
          ∧ (∀ i : (⟨2, ![1, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).2.2 i = 1#1 → r.2.mem ((c.tc : Thread Cert.DxaIdeal.nD Cert.DxaIdeal.τ).loc Cert.DxaIdeal.main_v10_2) i = v2 c i)
          ∧ r.2.mem ((c.tc : Thread Cert.DxaIdeal.nD Cert.DxaIdeal.τ).loc Cert.DxaIdeal.main_arg0) = m ((c.tc : Thread Cert.DxaIdeal.nD Cert.DxaIdeal.τ).loc Cert.DxaIdeal.main_arg0)
          ∧ r.2.mem ((c.tc : Thread Cert.DxaIdeal.nD Cert.DxaIdeal.τ).loc Cert.DxaIdeal.main_arg1) = m ((c.tc : Thread Cert.DxaIdeal.nD Cert.DxaIdeal.τ).loc Cert.DxaIdeal.main_arg1)
          ∧ r.2.mem ((c.tc : Thread Cert.DxaIdeal.nD Cert.DxaIdeal.τ).loc Cert.DxaIdeal.main_arg2) = m ((c.tc : Thread Cert.DxaIdeal.nD Cert.DxaIdeal.τ).loc Cert.DxaIdeal.main_arg2)
          ∧ r.2.mem ((c.tc : Thread Cert.DxaIdeal.nD Cert.DxaIdeal.τ).loc Cert.DxaIdeal.main_arg3) = m ((c.tc : Thread Cert.DxaIdeal.nD Cert.DxaIdeal.τ).loc Cert.DxaIdeal.main_arg3)
          ∧ r.2.mem ((c.tc : Thread Cert.DxaIdeal.nD Cert.DxaIdeal.τ).loc Cert.DxaIdeal.main_arg4) = m ((c.tc : Thread Cert.DxaIdeal.nD Cert.DxaIdeal.τ).loc Cert.DxaIdeal.main_arg4)
          ∧ r.2.mem ((c.tc : Thread Cert.DxaIdeal.nD Cert.DxaIdeal.τ).loc Cert.DxaIdeal.main_arg5) = m ((c.tc : Thread Cert.DxaIdeal.nD Cert.DxaIdeal.τ).loc Cert.DxaIdeal.main_arg5)
          ∧ r.2.mem ((c.tc : Thread Cert.DxaIdeal.nD Cert.DxaIdeal.τ).loc Cert.DxaIdeal.main_arg6) = m ((c.tc : Thread Cert.DxaIdeal.nD Cert.DxaIdeal.τ).loc Cert.DxaIdeal.main_arg6))
      ∧ θ_run (Cert.DxaReferenceIdeal.defs (F := Ideal)) (onTc (τ := Cert.DxaReferenceIdeal.τ) (Cert.DxaReferenceIdeal.main (F := Ideal))) ⟨m', fun _ => 0, g'⟩ (fun r => ∀ c : Dev Cert.DxaReferenceIdeal.nD,
          (∀ i : (⟨2, ![4096, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).1 i = 1#1 → r.2.mem ((c.tc : Thread Cert.DxaReferenceIdeal.nD Cert.DxaReferenceIdeal.τ).loc Cert.DxaReferenceIdeal.main_v51) i = v0 c i)
          ∧ (∀ i : (⟨2, ![4096, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).2.1 i = 1#1 → r.2.mem ((c.tc : Thread Cert.DxaReferenceIdeal.nD Cert.DxaReferenceIdeal.τ).loc Cert.DxaReferenceIdeal.main_v52) i = v1 c i)
          ∧ (∀ i : (⟨2, ![1, 2048]⟩ : Shape).Idx, (Cert.On_first_half.fn (F := Ideal) (m ((c.tc : Thread Cert.DxaIdeal.nD Cert.DxaIdeal.τ).loc Cert.DxaIdeal.main_arg0)) (m ((c.tc : Thread Cert.DxaIdeal.nD Cert.DxaIdeal.τ).loc Cert.DxaIdeal.main_arg1)) (m ((c.tc : Thread Cert.DxaIdeal.nD Cert.DxaIdeal.τ).loc Cert.DxaIdeal.main_arg2)) (m ((c.tc : Thread Cert.DxaIdeal.nD Cert.DxaIdeal.τ).loc Cert.DxaIdeal.main_arg3)) (m ((c.tc : Thread Cert.DxaIdeal.nD Cert.DxaIdeal.τ).loc Cert.DxaIdeal.main_arg4)) (m ((c.tc : Thread Cert.DxaIdeal.nD Cert.DxaIdeal.τ).loc Cert.DxaIdeal.main_arg5)) (m ((c.tc : Thread Cert.DxaIdeal.nD Cert.DxaIdeal.τ).loc Cert.DxaIdeal.main_arg6))).2.2 i = 1#1 → r.2.mem ((c.tc : Thread Cert.DxaReferenceIdeal.nD Cert.DxaReferenceIdeal.τ).loc Cert.DxaReferenceIdeal.main_v49) i = v2 c i)
          ∧ r.2.mem ((c.tc : Thread Cert.DxaReferenceIdeal.nD Cert.DxaReferenceIdeal.τ).loc Cert.DxaReferenceIdeal.main_arg0) = m' ((c.tc : Thread Cert.DxaReferenceIdeal.nD Cert.DxaReferenceIdeal.τ).loc Cert.DxaReferenceIdeal.main_arg0)
          ∧ r.2.mem ((c.tc : Thread Cert.DxaReferenceIdeal.nD Cert.DxaReferenceIdeal.τ).loc Cert.DxaReferenceIdeal.main_arg1) = m' ((c.tc : Thread Cert.DxaReferenceIdeal.nD Cert.DxaReferenceIdeal.τ).loc Cert.DxaReferenceIdeal.main_arg1)
          ∧ r.2.mem ((c.tc : Thread Cert.DxaReferenceIdeal.nD Cert.DxaReferenceIdeal.τ).loc Cert.DxaReferenceIdeal.main_arg2) = m' ((c.tc : Thread Cert.DxaReferenceIdeal.nD Cert.DxaReferenceIdeal.τ).loc Cert.DxaReferenceIdeal.main_arg2)
          ∧ r.2.mem ((c.tc : Thread Cert.DxaReferenceIdeal.nD Cert.DxaReferenceIdeal.τ).loc Cert.DxaReferenceIdeal.main_arg3) = m' ((c.tc : Thread Cert.DxaReferenceIdeal.nD Cert.DxaReferenceIdeal.τ).loc Cert.DxaReferenceIdeal.main_arg3)
          ∧ r.2.mem ((c.tc : Thread Cert.DxaReferenceIdeal.nD Cert.DxaReferenceIdeal.τ).loc Cert.DxaReferenceIdeal.main_arg4) = m' ((c.tc : Thread Cert.DxaReferenceIdeal.nD Cert.DxaReferenceIdeal.τ).loc Cert.DxaReferenceIdeal.main_arg4)
          ∧ r.2.mem ((c.tc : Thread Cert.DxaReferenceIdeal.nD Cert.DxaReferenceIdeal.τ).loc Cert.DxaReferenceIdeal.main_arg5) = m' ((c.tc : Thread Cert.DxaReferenceIdeal.nD Cert.DxaReferenceIdeal.τ).loc Cert.DxaReferenceIdeal.main_arg5)
          ∧ r.2.mem ((c.tc : Thread Cert.DxaReferenceIdeal.nD Cert.DxaReferenceIdeal.τ).loc Cert.DxaReferenceIdeal.main_arg6) = m' ((c.tc : Thread Cert.DxaReferenceIdeal.nD Cert.DxaReferenceIdeal.τ).loc Cert.DxaReferenceIdeal.main_arg6))

def algebraic_DxbIdeal_DxbReferenceIdeal_pre_dxb_finite [hDxbIdeal : Cert.DxbIdeal.Facts] [hDxbReferenceIdeal : Cert.DxbReferenceIdeal.Facts] [hPre_dxb_finite : Cert.Pre_dxb_finite.Facts] : Prop :=
  ∀ (m : (ℓ : Loc Cert.DxbIdeal.nD Cert.DxbIdeal.τ Cert.DxbIdeal.sig) → Buf (Elt Ideal) ℓ) (g : Dev Cert.DxbIdeal.nD → PrngReg)
    (m' : (ℓ : Loc Cert.DxbReferenceIdeal.nD Cert.DxbReferenceIdeal.τ Cert.DxbReferenceIdeal.sig) → Buf (Elt Ideal) ℓ) (g' : Dev Cert.DxbReferenceIdeal.nD → PrngReg), Pre_DxbIdeal_dxb_finite m →
    (∀ c : Dev Cert.DxbIdeal.nD,
      m' ((c.tc : Thread Cert.DxbReferenceIdeal.nD Cert.DxbReferenceIdeal.τ).loc Cert.DxbReferenceIdeal.main_arg0) = m ((c.tc : Thread Cert.DxbIdeal.nD Cert.DxbIdeal.τ).loc Cert.DxbIdeal.main_arg0)
      ∧ m' ((c.tc : Thread Cert.DxbReferenceIdeal.nD Cert.DxbReferenceIdeal.τ).loc Cert.DxbReferenceIdeal.main_arg1) = m ((c.tc : Thread Cert.DxbIdeal.nD Cert.DxbIdeal.τ).loc Cert.DxbIdeal.main_arg1)
      ∧ m' ((c.tc : Thread Cert.DxbReferenceIdeal.nD Cert.DxbReferenceIdeal.τ).loc Cert.DxbReferenceIdeal.main_arg2) = m ((c.tc : Thread Cert.DxbIdeal.nD Cert.DxbIdeal.τ).loc Cert.DxbIdeal.main_arg2)
      ∧ m' ((c.tc : Thread Cert.DxbReferenceIdeal.nD Cert.DxbReferenceIdeal.τ).loc Cert.DxbReferenceIdeal.main_arg3) = m ((c.tc : Thread Cert.DxbIdeal.nD Cert.DxbIdeal.τ).loc Cert.DxbIdeal.main_arg3)
      ∧ m' ((c.tc : Thread Cert.DxbReferenceIdeal.nD Cert.DxbReferenceIdeal.τ).loc Cert.DxbReferenceIdeal.main_arg4) = m ((c.tc : Thread Cert.DxbIdeal.nD Cert.DxbIdeal.τ).loc Cert.DxbIdeal.main_arg4)
      ∧ m' ((c.tc : Thread Cert.DxbReferenceIdeal.nD Cert.DxbReferenceIdeal.τ).loc Cert.DxbReferenceIdeal.main_arg5) = m ((c.tc : Thread Cert.DxbIdeal.nD Cert.DxbIdeal.τ).loc Cert.DxbIdeal.main_arg5)
      ∧ m' ((c.tc : Thread Cert.DxbReferenceIdeal.nD Cert.DxbReferenceIdeal.τ).loc Cert.DxbReferenceIdeal.main_arg6) = m ((c.tc : Thread Cert.DxbIdeal.nD Cert.DxbIdeal.τ).loc Cert.DxbIdeal.main_arg6)
      ∧ m' ((c.tc : Thread Cert.DxbReferenceIdeal.nD Cert.DxbReferenceIdeal.τ).loc Cert.DxbReferenceIdeal.main_arg7) = m ((c.tc : Thread Cert.DxbIdeal.nD Cert.DxbIdeal.τ).loc Cert.DxbIdeal.main_arg7)
      ∧ m' ((c.tc : Thread Cert.DxbReferenceIdeal.nD Cert.DxbReferenceIdeal.τ).loc Cert.DxbReferenceIdeal.main_arg8) = m ((c.tc : Thread Cert.DxbIdeal.nD Cert.DxbIdeal.τ).loc Cert.DxbIdeal.main_arg8)) →
    ∃ (v0 : (c : Dev Cert.DxbIdeal.nD) → Buf (Elt Ideal) ((c.tc : Thread Cert.DxbIdeal.nD Cert.DxbIdeal.τ).loc Cert.DxbIdeal.main_v10_0)) (v1 : (c : Dev Cert.DxbIdeal.nD) → Buf (Elt Ideal) ((c.tc : Thread Cert.DxbIdeal.nD Cert.DxbIdeal.τ).loc Cert.DxbIdeal.main_v10_1)) (v2 : (c : Dev Cert.DxbIdeal.nD) → Buf (Elt Ideal) ((c.tc : Thread Cert.DxbIdeal.nD Cert.DxbIdeal.τ).loc Cert.DxbIdeal.main_v10_2)),
      θ_run (Cert.DxbIdeal.defs (F := Ideal)) (onTc (τ := Cert.DxbIdeal.τ) (Cert.DxbIdeal.main (F := Ideal))) ⟨m, fun _ => 0, g⟩ (fun r => ∀ c : Dev Cert.DxbIdeal.nD,
          r.2.mem ((c.tc : Thread Cert.DxbIdeal.nD Cert.DxbIdeal.τ).loc Cert.DxbIdeal.main_v10_0) = v0 c
          ∧ r.2.mem ((c.tc : Thread Cert.DxbIdeal.nD Cert.DxbIdeal.τ).loc Cert.DxbIdeal.main_v10_1) = v1 c
          ∧ r.2.mem ((c.tc : Thread Cert.DxbIdeal.nD Cert.DxbIdeal.τ).loc Cert.DxbIdeal.main_v10_2) = v2 c
          ∧ r.2.mem ((c.tc : Thread Cert.DxbIdeal.nD Cert.DxbIdeal.τ).loc Cert.DxbIdeal.main_arg0) = m ((c.tc : Thread Cert.DxbIdeal.nD Cert.DxbIdeal.τ).loc Cert.DxbIdeal.main_arg0)
          ∧ r.2.mem ((c.tc : Thread Cert.DxbIdeal.nD Cert.DxbIdeal.τ).loc Cert.DxbIdeal.main_arg1) = m ((c.tc : Thread Cert.DxbIdeal.nD Cert.DxbIdeal.τ).loc Cert.DxbIdeal.main_arg1)
          ∧ r.2.mem ((c.tc : Thread Cert.DxbIdeal.nD Cert.DxbIdeal.τ).loc Cert.DxbIdeal.main_arg2) = m ((c.tc : Thread Cert.DxbIdeal.nD Cert.DxbIdeal.τ).loc Cert.DxbIdeal.main_arg2)
          ∧ r.2.mem ((c.tc : Thread Cert.DxbIdeal.nD Cert.DxbIdeal.τ).loc Cert.DxbIdeal.main_arg3) = m ((c.tc : Thread Cert.DxbIdeal.nD Cert.DxbIdeal.τ).loc Cert.DxbIdeal.main_arg3)
          ∧ r.2.mem ((c.tc : Thread Cert.DxbIdeal.nD Cert.DxbIdeal.τ).loc Cert.DxbIdeal.main_arg4) = m ((c.tc : Thread Cert.DxbIdeal.nD Cert.DxbIdeal.τ).loc Cert.DxbIdeal.main_arg4)
          ∧ r.2.mem ((c.tc : Thread Cert.DxbIdeal.nD Cert.DxbIdeal.τ).loc Cert.DxbIdeal.main_arg5) = m ((c.tc : Thread Cert.DxbIdeal.nD Cert.DxbIdeal.τ).loc Cert.DxbIdeal.main_arg5)
          ∧ r.2.mem ((c.tc : Thread Cert.DxbIdeal.nD Cert.DxbIdeal.τ).loc Cert.DxbIdeal.main_arg6) = m ((c.tc : Thread Cert.DxbIdeal.nD Cert.DxbIdeal.τ).loc Cert.DxbIdeal.main_arg6)
          ∧ r.2.mem ((c.tc : Thread Cert.DxbIdeal.nD Cert.DxbIdeal.τ).loc Cert.DxbIdeal.main_arg7) = m ((c.tc : Thread Cert.DxbIdeal.nD Cert.DxbIdeal.τ).loc Cert.DxbIdeal.main_arg7)
          ∧ r.2.mem ((c.tc : Thread Cert.DxbIdeal.nD Cert.DxbIdeal.τ).loc Cert.DxbIdeal.main_arg8) = m ((c.tc : Thread Cert.DxbIdeal.nD Cert.DxbIdeal.τ).loc Cert.DxbIdeal.main_arg8))
      ∧ θ_run (Cert.DxbReferenceIdeal.defs (F := Ideal)) (onTc (τ := Cert.DxbReferenceIdeal.τ) (Cert.DxbReferenceIdeal.main (F := Ideal))) ⟨m', fun _ => 0, g'⟩ (fun r => ∀ c : Dev Cert.DxbReferenceIdeal.nD,
          r.2.mem ((c.tc : Thread Cert.DxbReferenceIdeal.nD Cert.DxbReferenceIdeal.τ).loc Cert.DxbReferenceIdeal.main_v51) = v0 c
          ∧ r.2.mem ((c.tc : Thread Cert.DxbReferenceIdeal.nD Cert.DxbReferenceIdeal.τ).loc Cert.DxbReferenceIdeal.main_v54) = v1 c
          ∧ r.2.mem ((c.tc : Thread Cert.DxbReferenceIdeal.nD Cert.DxbReferenceIdeal.τ).loc Cert.DxbReferenceIdeal.main_v49) = v2 c
          ∧ r.2.mem ((c.tc : Thread Cert.DxbReferenceIdeal.nD Cert.DxbReferenceIdeal.τ).loc Cert.DxbReferenceIdeal.main_arg0) = m' ((c.tc : Thread Cert.DxbReferenceIdeal.nD Cert.DxbReferenceIdeal.τ).loc Cert.DxbReferenceIdeal.main_arg0)
          ∧ r.2.mem ((c.tc : Thread Cert.DxbReferenceIdeal.nD Cert.DxbReferenceIdeal.τ).loc Cert.DxbReferenceIdeal.main_arg1) = m' ((c.tc : Thread Cert.DxbReferenceIdeal.nD Cert.DxbReferenceIdeal.τ).loc Cert.DxbReferenceIdeal.main_arg1)
          ∧ r.2.mem ((c.tc : Thread Cert.DxbReferenceIdeal.nD Cert.DxbReferenceIdeal.τ).loc Cert.DxbReferenceIdeal.main_arg2) = m' ((c.tc : Thread Cert.DxbReferenceIdeal.nD Cert.DxbReferenceIdeal.τ).loc Cert.DxbReferenceIdeal.main_arg2)
          ∧ r.2.mem ((c.tc : Thread Cert.DxbReferenceIdeal.nD Cert.DxbReferenceIdeal.τ).loc Cert.DxbReferenceIdeal.main_arg3) = m' ((c.tc : Thread Cert.DxbReferenceIdeal.nD Cert.DxbReferenceIdeal.τ).loc Cert.DxbReferenceIdeal.main_arg3)
          ∧ r.2.mem ((c.tc : Thread Cert.DxbReferenceIdeal.nD Cert.DxbReferenceIdeal.τ).loc Cert.DxbReferenceIdeal.main_arg4) = m' ((c.tc : Thread Cert.DxbReferenceIdeal.nD Cert.DxbReferenceIdeal.τ).loc Cert.DxbReferenceIdeal.main_arg4)
          ∧ r.2.mem ((c.tc : Thread Cert.DxbReferenceIdeal.nD Cert.DxbReferenceIdeal.τ).loc Cert.DxbReferenceIdeal.main_arg5) = m' ((c.tc : Thread Cert.DxbReferenceIdeal.nD Cert.DxbReferenceIdeal.τ).loc Cert.DxbReferenceIdeal.main_arg5)
          ∧ r.2.mem ((c.tc : Thread Cert.DxbReferenceIdeal.nD Cert.DxbReferenceIdeal.τ).loc Cert.DxbReferenceIdeal.main_arg6) = m' ((c.tc : Thread Cert.DxbReferenceIdeal.nD Cert.DxbReferenceIdeal.τ).loc Cert.DxbReferenceIdeal.main_arg6)
          ∧ r.2.mem ((c.tc : Thread Cert.DxbReferenceIdeal.nD Cert.DxbReferenceIdeal.τ).loc Cert.DxbReferenceIdeal.main_arg7) = m' ((c.tc : Thread Cert.DxbReferenceIdeal.nD Cert.DxbReferenceIdeal.τ).loc Cert.DxbReferenceIdeal.main_arg7)
          ∧ r.2.mem ((c.tc : Thread Cert.DxbReferenceIdeal.nD Cert.DxbReferenceIdeal.τ).loc Cert.DxbReferenceIdeal.main_arg8) = m' ((c.tc : Thread Cert.DxbReferenceIdeal.nD Cert.DxbReferenceIdeal.τ).loc Cert.DxbReferenceIdeal.main_arg8))

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v14) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_v22) = v1 c
          ∧ r.2.mem ((c.tc : Thread Cert.MergeReferenceIdeal.nD Cert.MergeReferenceIdeal.τ).loc Cert.MergeReferenceIdeal.main_v23) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def algebraic_DmergeIdeal_DmergeReferenceIdeal [hDmergeIdeal : Cert.DmergeIdeal.Facts] [hDmergeReferenceIdeal : Cert.DmergeReferenceIdeal.Facts] : Prop :=
  ∀ (m : (ℓ : Loc Cert.DmergeIdeal.nD Cert.DmergeIdeal.τ Cert.DmergeIdeal.sig) → Buf (Elt Ideal) ℓ) (g : Dev Cert.DmergeIdeal.nD → PrngReg)
    (m' : (ℓ : Loc Cert.DmergeReferenceIdeal.nD Cert.DmergeReferenceIdeal.τ Cert.DmergeReferenceIdeal.sig) → Buf (Elt Ideal) ℓ) (g' : Dev Cert.DmergeReferenceIdeal.nD → PrngReg), Pre_DmergeIdeal m →
    (∀ c : Dev Cert.DmergeIdeal.nD,
      m' ((c.tc : Thread Cert.DmergeReferenceIdeal.nD Cert.DmergeReferenceIdeal.τ).loc Cert.DmergeReferenceIdeal.main_arg0) = m ((c.tc : Thread Cert.DmergeIdeal.nD Cert.DmergeIdeal.τ).loc Cert.DmergeIdeal.main_arg0)
      ∧ m' ((c.tc : Thread Cert.DmergeReferenceIdeal.nD Cert.DmergeReferenceIdeal.τ).loc Cert.DmergeReferenceIdeal.main_arg1) = m ((c.tc : Thread Cert.DmergeIdeal.nD Cert.DmergeIdeal.τ).loc Cert.DmergeIdeal.main_arg1)
      ∧ m' ((c.tc : Thread Cert.DmergeReferenceIdeal.nD Cert.DmergeReferenceIdeal.τ).loc Cert.DmergeReferenceIdeal.main_arg2) = m ((c.tc : Thread Cert.DmergeIdeal.nD Cert.DmergeIdeal.τ).loc Cert.DmergeIdeal.main_arg2)
      ∧ m' ((c.tc : Thread Cert.DmergeReferenceIdeal.nD Cert.DmergeReferenceIdeal.τ).loc Cert.DmergeReferenceIdeal.main_arg3) = m ((c.tc : Thread Cert.DmergeIdeal.nD Cert.DmergeIdeal.τ).loc Cert.DmergeIdeal.main_arg3)
      ∧ m' ((c.tc : Thread Cert.DmergeReferenceIdeal.nD Cert.DmergeReferenceIdeal.τ).loc Cert.DmergeReferenceIdeal.main_arg4) = m ((c.tc : Thread Cert.DmergeIdeal.nD Cert.DmergeIdeal.τ).loc Cert.DmergeIdeal.main_arg4)) →
    ∃ (v0 : (c : Dev Cert.DmergeIdeal.nD) → Buf (Elt Ideal) ((c.tc : Thread Cert.DmergeIdeal.nD Cert.DmergeIdeal.τ).loc Cert.DmergeIdeal.main_v2_0)) (v1 : (c : Dev Cert.DmergeIdeal.nD) → Buf (Elt Ideal) ((c.tc : Thread Cert.DmergeIdeal.nD Cert.DmergeIdeal.τ).loc Cert.DmergeIdeal.main_v2_1)) (v2 : (c : Dev Cert.DmergeIdeal.nD) → Buf (Elt Ideal) ((c.tc : Thread Cert.DmergeIdeal.nD Cert.DmergeIdeal.τ).loc Cert.DmergeIdeal.main_v2_2)) (v3 : (c : Dev Cert.DmergeIdeal.nD) → Buf (Elt Ideal) ((c.tc : Thread Cert.DmergeIdeal.nD Cert.DmergeIdeal.τ).loc Cert.DmergeIdeal.main_v2_3)),
      θ_run (Cert.DmergeIdeal.defs (F := Ideal)) (onTc (τ := Cert.DmergeIdeal.τ) (Cert.DmergeIdeal.main (F := Ideal))) ⟨m, fun _ => 0, g⟩ (fun r => ∀ c : Dev Cert.DmergeIdeal.nD,
          r.2.mem ((c.tc : Thread Cert.DmergeIdeal.nD Cert.DmergeIdeal.τ).loc Cert.DmergeIdeal.main_v2_0) = v0 c
          ∧ r.2.mem ((c.tc : Thread Cert.DmergeIdeal.nD Cert.DmergeIdeal.τ).loc Cert.DmergeIdeal.main_v2_1) = v1 c
          ∧ r.2.mem ((c.tc : Thread Cert.DmergeIdeal.nD Cert.DmergeIdeal.τ).loc Cert.DmergeIdeal.main_v2_2) = v2 c
          ∧ r.2.mem ((c.tc : Thread Cert.DmergeIdeal.nD Cert.DmergeIdeal.τ).loc Cert.DmergeIdeal.main_v2_3) = v3 c
          ∧ r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
          ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
          ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
          ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
          ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4))
      ∧ θ_run (Cert.DmergeReferenceIdeal.defs (F := Ideal)) (onTc (τ := Cert.DmergeReferenceIdeal.τ) (Cert.DmergeReferenceIdeal.main (F := Ideal))) ⟨m', fun _ => 0, g'⟩ (fun r => ∀ c : Dev Cert.DmergeReferenceIdeal.nD,
          r.2.mem ((c.tc : Thread Cert.DmergeReferenceIdeal.nD Cert.DmergeReferenceIdeal.τ).loc Cert.DmergeReferenceIdeal.main_v33) = v0 c
          ∧ r.2.mem ((c.tc : Thread Cert.DmergeReferenceIdeal.nD Cert.DmergeReferenceIdeal.τ).loc Cert.DmergeReferenceIdeal.main_v34) = v1 c
          ∧ r.2.mem ((c.tc : Thread Cert.DmergeReferenceIdeal.nD Cert.DmergeReferenceIdeal.τ).loc Cert.DmergeReferenceIdeal.main_v35) = v2 c
          ∧ r.2.mem ((c.tc : Thread Cert.DmergeReferenceIdeal.nD Cert.DmergeReferenceIdeal.τ).loc Cert.DmergeReferenceIdeal.main_v36) = v3 c
          ∧ r.2.mem ((c.tc : Thread Cert.DmergeReferenceIdeal.nD Cert.DmergeReferenceIdeal.τ).loc Cert.DmergeReferenceIdeal.main_arg0) = m' ((c.tc : Thread Cert.DmergeReferenceIdeal.nD Cert.DmergeReferenceIdeal.τ).loc Cert.DmergeReferenceIdeal.main_arg0)
          ∧ r.2.mem ((c.tc : Thread Cert.DmergeReferenceIdeal.nD Cert.DmergeReferenceIdeal.τ).loc Cert.DmergeReferenceIdeal.main_arg1) = m' ((c.tc : Thread Cert.DmergeReferenceIdeal.nD Cert.DmergeReferenceIdeal.τ).loc Cert.DmergeReferenceIdeal.main_arg1)
          ∧ r.2.mem ((c.tc : Thread Cert.DmergeReferenceIdeal.nD Cert.DmergeReferenceIdeal.τ).loc Cert.DmergeReferenceIdeal.main_arg2) = m' ((c.tc : Thread Cert.DmergeReferenceIdeal.nD Cert.DmergeReferenceIdeal.τ).loc Cert.DmergeReferenceIdeal.main_arg2)
          ∧ r.2.mem ((c.tc : Thread Cert.DmergeReferenceIdeal.nD Cert.DmergeReferenceIdeal.τ).loc Cert.DmergeReferenceIdeal.main_arg3) = m' ((c.tc : Thread Cert.DmergeReferenceIdeal.nD Cert.DmergeReferenceIdeal.τ).loc Cert.DmergeReferenceIdeal.main_arg3)
          ∧ r.2.mem ((c.tc : Thread Cert.DmergeReferenceIdeal.nD Cert.DmergeReferenceIdeal.τ).loc Cert.DmergeReferenceIdeal.main_arg4) = m' ((c.tc : Thread Cert.DmergeReferenceIdeal.nD Cert.DmergeReferenceIdeal.τ).loc Cert.DmergeReferenceIdeal.main_arg4))

def algebraic_DwoutIdeal_DwoutReferenceIdeal [hDwoutIdeal : Cert.DwoutIdeal.Facts] [hDwoutReferenceIdeal : Cert.DwoutReferenceIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutReferenceIdeal.nD Cert.DwoutReferenceIdeal.τ Cert.DwoutReferenceIdeal.sig) → Buf (Elt Ideal) ℓ) (g' : Dev Cert.DwoutReferenceIdeal.nD → PrngReg), Pre_DwoutIdeal m →
    (∀ c : Dev Cert.DwoutIdeal.nD,
      m' ((c.tc : Thread Cert.DwoutReferenceIdeal.nD Cert.DwoutReferenceIdeal.τ).loc Cert.DwoutReferenceIdeal.main_arg0) = m ((c.tc : Thread Cert.DwoutIdeal.nD Cert.DwoutIdeal.τ).loc Cert.DwoutIdeal.main_arg0)
      ∧ m' ((c.tc : Thread Cert.DwoutReferenceIdeal.nD Cert.DwoutReferenceIdeal.τ).loc Cert.DwoutReferenceIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v1)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v1) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutReferenceIdeal.defs (F := Ideal)) (onTc (τ := Cert.DwoutReferenceIdeal.τ) (Cert.DwoutReferenceIdeal.main (F := Ideal))) ⟨m', fun _ => 0, g'⟩ (fun r => ∀ c : Dev Cert.DwoutReferenceIdeal.nD,
          r.2.mem ((c.tc : Thread Cert.DwoutReferenceIdeal.nD Cert.DwoutReferenceIdeal.τ).loc Cert.DwoutReferenceIdeal.main_v5) = v0 c
          ∧ r.2.mem ((c.tc : Thread Cert.DwoutReferenceIdeal.nD Cert.DwoutReferenceIdeal.τ).loc Cert.DwoutReferenceIdeal.main_arg0) = m' ((c.tc : Thread Cert.DwoutReferenceIdeal.nD Cert.DwoutReferenceIdeal.τ).loc Cert.DwoutReferenceIdeal.main_arg0)
          ∧ r.2.mem ((c.tc : Thread Cert.DwoutReferenceIdeal.nD Cert.DwoutReferenceIdeal.τ).loc Cert.DwoutReferenceIdeal.main_arg1) = m' ((c.tc : Thread Cert.DwoutReferenceIdeal.nD Cert.DwoutReferenceIdeal.τ).loc Cert.DwoutReferenceIdeal.main_arg1))

def algebraic_DwupIdeal_DwupReferenceIdeal [hDwupIdeal : Cert.DwupIdeal.Facts] [hDwupReferenceIdeal : Cert.DwupReferenceIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupReferenceIdeal.nD Cert.DwupReferenceIdeal.τ Cert.DwupReferenceIdeal.sig) → Buf (Elt Ideal) ℓ) (g' : Dev Cert.DwupReferenceIdeal.nD → PrngReg), Pre_DwupIdeal m →
    (∀ c : Dev Cert.DwupIdeal.nD,
      m' ((c.tc : Thread Cert.DwupReferenceIdeal.nD Cert.DwupReferenceIdeal.τ).loc Cert.DwupReferenceIdeal.main_arg0) = m ((c.tc : Thread Cert.DwupIdeal.nD Cert.DwupIdeal.τ).loc Cert.DwupIdeal.main_arg0)
      ∧ m' ((c.tc : Thread Cert.DwupReferenceIdeal.nD Cert.DwupReferenceIdeal.τ).loc Cert.DwupReferenceIdeal.main_arg1) = m ((c.tc : Thread Cert.DwupIdeal.nD Cert.DwupIdeal.τ).loc Cert.DwupIdeal.main_arg1)
      ∧ m' ((c.tc : Thread Cert.DwupReferenceIdeal.nD Cert.DwupReferenceIdeal.τ).loc Cert.DwupReferenceIdeal.main_arg2) = m ((c.tc : Thread Cert.DwupIdeal.nD Cert.DwupIdeal.τ).loc Cert.DwupIdeal.main_arg2)
      ∧ m' ((c.tc : Thread Cert.DwupReferenceIdeal.nD Cert.DwupReferenceIdeal.τ).loc Cert.DwupReferenceIdeal.main_arg3) = m ((c.tc : Thread Cert.DwupIdeal.nD Cert.DwupIdeal.τ).loc Cert.DwupIdeal.main_arg3)) →
    ∃ (v0 : (c : Dev Cert.DwupIdeal.nD) → Buf (Elt Ideal) ((c.tc : Thread Cert.DwupIdeal.nD Cert.DwupIdeal.τ).loc Cert.DwupIdeal.main_v0_0)) (v1 : (c : Dev Cert.DwupIdeal.nD) → Buf (Elt Ideal) ((c.tc : Thread Cert.DwupIdeal.nD Cert.DwupIdeal.τ).loc Cert.DwupIdeal.main_v0_1)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0_0) = v0 c
          ∧ r.2.mem ((c.tc : Thread Cert.DwupIdeal.nD Cert.DwupIdeal.τ).loc Cert.DwupIdeal.main_v0_1) = v1 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1)
          ∧ r.2.mem ((c.tc : Thread Cert.DwupIdeal.nD Cert.DwupIdeal.τ).loc Cert.DwupIdeal.main_arg2) = m ((c.tc : Thread Cert.DwupIdeal.nD Cert.DwupIdeal.τ).loc Cert.DwupIdeal.main_arg2)
          ∧ r.2.mem ((c.tc : Thread Cert.DwupIdeal.nD Cert.DwupIdeal.τ).loc Cert.DwupIdeal.main_arg3) = m ((c.tc : Thread Cert.DwupIdeal.nD Cert.DwupIdeal.τ).loc Cert.DwupIdeal.main_arg3))
      ∧ θ_run (Cert.DwupReferenceIdeal.defs (F := Ideal)) (onTc (τ := Cert.DwupReferenceIdeal.τ) (Cert.DwupReferenceIdeal.main (F := Ideal))) ⟨m', fun _ => 0, g'⟩ (fun r => ∀ c : Dev Cert.DwupReferenceIdeal.nD,
          r.2.mem ((c.tc : Thread Cert.DwupReferenceIdeal.nD Cert.DwupReferenceIdeal.τ).loc Cert.DwupReferenceIdeal.main_v8) = v0 c
          ∧ r.2.mem ((c.tc : Thread Cert.DwupReferenceIdeal.nD Cert.DwupReferenceIdeal.τ).loc Cert.DwupReferenceIdeal.main_v17) = v1 c
          ∧ r.2.mem ((c.tc : Thread Cert.DwupReferenceIdeal.nD Cert.DwupReferenceIdeal.τ).loc Cert.DwupReferenceIdeal.main_arg0) = m' ((c.tc : Thread Cert.DwupReferenceIdeal.nD Cert.DwupReferenceIdeal.τ).loc Cert.DwupReferenceIdeal.main_arg0)
          ∧ r.2.mem ((c.tc : Thread Cert.DwupReferenceIdeal.nD Cert.DwupReferenceIdeal.τ).loc Cert.DwupReferenceIdeal.main_arg1) = m' ((c.tc : Thread Cert.DwupReferenceIdeal.nD Cert.DwupReferenceIdeal.τ).loc Cert.DwupReferenceIdeal.main_arg1)
          ∧ r.2.mem ((c.tc : Thread Cert.DwupReferenceIdeal.nD Cert.DwupReferenceIdeal.τ).loc Cert.DwupReferenceIdeal.main_arg2) = m' ((c.tc : Thread Cert.DwupReferenceIdeal.nD Cert.DwupReferenceIdeal.τ).loc Cert.DwupReferenceIdeal.main_arg2)
          ∧ r.2.mem ((c.tc : Thread Cert.DwupReferenceIdeal.nD Cert.DwupReferenceIdeal.τ).loc Cert.DwupReferenceIdeal.main_arg3) = m' ((c.tc : Thread Cert.DwupReferenceIdeal.nD Cert.DwupReferenceIdeal.τ).loc Cert.DwupReferenceIdeal.main_arg3))

def algebraic_DmixIdeal_DmixReferenceIdeal [hDmixIdeal : Cert.DmixIdeal.Facts] [hDmixReferenceIdeal : Cert.DmixReferenceIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixIdeal m →
    (∀ c : Dev Cert.DmixIdeal.nD,
      m' ((c.tc : Thread Cert.DmixReferenceIdeal.nD Cert.DmixReferenceIdeal.τ).loc Cert.DmixReferenceIdeal.main_arg0) = m ((c.tc : Thread Cert.DmixIdeal.nD Cert.DmixIdeal.τ).loc Cert.DmixIdeal.main_arg0)
      ∧ m' ((c.tc : Thread Cert.DmixReferenceIdeal.nD Cert.DmixReferenceIdeal.τ).loc Cert.DmixReferenceIdeal.main_arg1) = m ((c.tc : Thread Cert.DmixIdeal.nD Cert.DmixIdeal.τ).loc Cert.DmixIdeal.main_arg1)
      ∧ m' ((c.tc : Thread Cert.DmixReferenceIdeal.nD Cert.DmixReferenceIdeal.τ).loc Cert.DmixReferenceIdeal.main_arg2) = m ((c.tc : Thread Cert.DmixIdeal.nD Cert.DmixIdeal.τ).loc Cert.DmixIdeal.main_arg2)
      ∧ m' ((c.tc : Thread Cert.DmixReferenceIdeal.nD Cert.DmixReferenceIdeal.τ).loc Cert.DmixReferenceIdeal.main_arg3) = m ((c.tc : Thread Cert.DmixIdeal.nD Cert.DmixIdeal.τ).loc Cert.DmixIdeal.main_arg3)) →
    ∃ (v0 : (c : Dev Cert.DmixIdeal.nD) → Buf (Elt Ideal) ((c.tc : Thread Cert.DmixIdeal.nD Cert.DmixIdeal.τ).loc Cert.DmixIdeal.main_v6_0)) (v1 : (c : Dev Cert.DmixIdeal.nD) → Buf (Elt Ideal) ((c.tc : Thread Cert.DmixIdeal.nD Cert.DmixIdeal.τ).loc Cert.DmixIdeal.main_v6_1)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v6_0) = v0 c
          ∧ r.2.mem ((c.tc : Thread Cert.DmixIdeal.nD Cert.DmixIdeal.τ).loc Cert.DmixIdeal.main_v6_1) = v1 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
          ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
          ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v4) = v0 c
          ∧ r.2.mem ((c.tc : Thread Cert.DmixReferenceIdeal.nD Cert.DmixReferenceIdeal.τ).loc Cert.DmixReferenceIdeal.main_v9) = v1 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1)
          ∧ r.2.mem ((c.tc : Thread Cert.DmixReferenceIdeal.nD Cert.DmixReferenceIdeal.τ).loc Cert.DmixReferenceIdeal.main_arg2) = m' ((c.tc : Thread Cert.DmixReferenceIdeal.nD Cert.DmixReferenceIdeal.τ).loc Cert.DmixReferenceIdeal.main_arg2)
          ∧ r.2.mem ((c.tc : Thread Cert.DmixReferenceIdeal.nD Cert.DmixReferenceIdeal.τ).loc Cert.DmixReferenceIdeal.main_arg3) = m' ((c.tc : Thread Cert.DmixReferenceIdeal.nD Cert.DmixReferenceIdeal.τ).loc Cert.DmixReferenceIdeal.main_arg3))

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v7) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def algebraic_DxinIdeal_DxinReferenceIdeal_pre_dxin_finite [hDxinIdeal : Cert.DxinIdeal.Facts] [hDxinReferenceIdeal : Cert.DxinReferenceIdeal.Facts] [hPre_dxin_finite : Cert.Pre_dxin_finite.Facts] : Prop :=
  ∀ (m : (ℓ : Loc Cert.DxinIdeal.nD Cert.DxinIdeal.τ Cert.DxinIdeal.sig) → Buf (Elt Ideal) ℓ) (g : Dev Cert.DxinIdeal.nD → PrngReg)
    (m' : (ℓ : Loc Cert.DxinReferenceIdeal.nD Cert.DxinReferenceIdeal.τ Cert.DxinReferenceIdeal.sig) → Buf (Elt Ideal) ℓ) (g' : Dev Cert.DxinReferenceIdeal.nD → PrngReg), Pre_DxinIdeal_dxin_finite m →
    (∀ c : Dev Cert.DxinIdeal.nD,
      m' ((c.tc : Thread Cert.DxinReferenceIdeal.nD Cert.DxinReferenceIdeal.τ).loc Cert.DxinReferenceIdeal.main_arg0) = m ((c.tc : Thread Cert.DxinIdeal.nD Cert.DxinIdeal.τ).loc Cert.DxinIdeal.main_arg0)
      ∧ m' ((c.tc : Thread Cert.DxinReferenceIdeal.nD Cert.DxinReferenceIdeal.τ).loc Cert.DxinReferenceIdeal.main_arg1) = m ((c.tc : Thread Cert.DxinIdeal.nD Cert.DxinIdeal.τ).loc Cert.DxinIdeal.main_arg1)
      ∧ m' ((c.tc : Thread Cert.DxinReferenceIdeal.nD Cert.DxinReferenceIdeal.τ).loc Cert.DxinReferenceIdeal.main_arg2) = m ((c.tc : Thread Cert.DxinIdeal.nD Cert.DxinIdeal.τ).loc Cert.DxinIdeal.main_arg2)
      ∧ m' ((c.tc : Thread Cert.DxinReferenceIdeal.nD Cert.DxinReferenceIdeal.τ).loc Cert.DxinReferenceIdeal.main_arg3) = m ((c.tc : Thread Cert.DxinIdeal.nD Cert.DxinIdeal.τ).loc Cert.DxinIdeal.main_arg3)
      ∧ m' ((c.tc : Thread Cert.DxinReferenceIdeal.nD Cert.DxinReferenceIdeal.τ).loc Cert.DxinReferenceIdeal.main_arg4) = m ((c.tc : Thread Cert.DxinIdeal.nD Cert.DxinIdeal.τ).loc Cert.DxinIdeal.main_arg4)) →
    ∃ (v0 : (c : Dev Cert.DxinIdeal.nD) → Buf (Elt Ideal) ((c.tc : Thread Cert.DxinIdeal.nD Cert.DxinIdeal.τ).loc Cert.DxinIdeal.main_v4_0)) (v1 : (c : Dev Cert.DxinIdeal.nD) → Buf (Elt Ideal) ((c.tc : Thread Cert.DxinIdeal.nD Cert.DxinIdeal.τ).loc Cert.DxinIdeal.main_v4_1)) (v2 : (c : Dev Cert.DxinIdeal.nD) → Buf (Elt Ideal) ((c.tc : Thread Cert.DxinIdeal.nD Cert.DxinIdeal.τ).loc Cert.DxinIdeal.main_v4_2)),
      θ_run (Cert.DxinIdeal.defs (F := Ideal)) (onTc (τ := Cert.DxinIdeal.τ) (Cert.DxinIdeal.main (F := Ideal))) ⟨m, fun _ => 0, g⟩ (fun r => ∀ c : Dev Cert.DxinIdeal.nD,
          r.2.mem ((c.tc : Thread Cert.DxinIdeal.nD Cert.DxinIdeal.τ).loc Cert.DxinIdeal.main_v4_0) = v0 c
          ∧ r.2.mem ((c.tc : Thread Cert.DxinIdeal.nD Cert.DxinIdeal.τ).loc Cert.DxinIdeal.main_v4_1) = v1 c
          ∧ r.2.mem ((c.tc : Thread Cert.DxinIdeal.nD Cert.DxinIdeal.τ).loc Cert.DxinIdeal.main_v4_2) = v2 c
          ∧ r.2.mem ((c.tc : Thread Cert.DxinIdeal.nD Cert.DxinIdeal.τ).loc Cert.DxinIdeal.main_arg0) = m ((c.tc : Thread Cert.DxinIdeal.nD Cert.DxinIdeal.τ).loc Cert.DxinIdeal.main_arg0)
          ∧ r.2.mem ((c.tc : Thread Cert.DxinIdeal.nD Cert.DxinIdeal.τ).loc Cert.DxinIdeal.main_arg1) = m ((c.tc : Thread Cert.DxinIdeal.nD Cert.DxinIdeal.τ).loc Cert.DxinIdeal.main_arg1)
          ∧ r.2.mem ((c.tc : Thread Cert.DxinIdeal.nD Cert.DxinIdeal.τ).loc Cert.DxinIdeal.main_arg2) = m ((c.tc : Thread Cert.DxinIdeal.nD Cert.DxinIdeal.τ).loc Cert.DxinIdeal.main_arg2)
          ∧ r.2.mem ((c.tc : Thread Cert.DxinIdeal.nD Cert.DxinIdeal.τ).loc Cert.DxinIdeal.main_arg3) = m ((c.tc : Thread Cert.DxinIdeal.nD Cert.DxinIdeal.τ).loc Cert.DxinIdeal.main_arg3)
          ∧ r.2.mem ((c.tc : Thread Cert.DxinIdeal.nD Cert.DxinIdeal.τ).loc Cert.DxinIdeal.main_arg4) = m ((c.tc : Thread Cert.DxinIdeal.nD Cert.DxinIdeal.τ).loc Cert.DxinIdeal.main_arg4))
      ∧ θ_run (Cert.DxinReferenceIdeal.defs (F := Ideal)) (onTc (τ := Cert.DxinReferenceIdeal.τ) (Cert.DxinReferenceIdeal.main (F := Ideal))) ⟨m', fun _ => 0, g'⟩ (fun r => ∀ c : Dev Cert.DxinReferenceIdeal.nD,
          r.2.mem ((c.tc : Thread Cert.DxinReferenceIdeal.nD Cert.DxinReferenceIdeal.τ).loc Cert.DxinReferenceIdeal.main_v40) = v0 c
          ∧ r.2.mem ((c.tc : Thread Cert.DxinReferenceIdeal.nD Cert.DxinReferenceIdeal.τ).loc Cert.DxinReferenceIdeal.main_v42) = v1 c
          ∧ r.2.mem ((c.tc : Thread Cert.DxinReferenceIdeal.nD Cert.DxinReferenceIdeal.τ).loc Cert.DxinReferenceIdeal.main_v41) = v2 c
          ∧ r.2.mem ((c.tc : Thread Cert.DxinReferenceIdeal.nD Cert.DxinReferenceIdeal.τ).loc Cert.DxinReferenceIdeal.main_arg0) = m' ((c.tc : Thread Cert.DxinReferenceIdeal.nD Cert.DxinReferenceIdeal.τ).loc Cert.DxinReferenceIdeal.main_arg0)
          ∧ r.2.mem ((c.tc : Thread Cert.DxinReferenceIdeal.nD Cert.DxinReferenceIdeal.τ).loc Cert.DxinReferenceIdeal.main_arg1) = m' ((c.tc : Thread Cert.DxinReferenceIdeal.nD Cert.DxinReferenceIdeal.τ).loc Cert.DxinReferenceIdeal.main_arg1)
          ∧ r.2.mem ((c.tc : Thread Cert.DxinReferenceIdeal.nD Cert.DxinReferenceIdeal.τ).loc Cert.DxinReferenceIdeal.main_arg2) = m' ((c.tc : Thread Cert.DxinReferenceIdeal.nD Cert.DxinReferenceIdeal.τ).loc Cert.DxinReferenceIdeal.main_arg2)
          ∧ r.2.mem ((c.tc : Thread Cert.DxinReferenceIdeal.nD Cert.DxinReferenceIdeal.τ).loc Cert.DxinReferenceIdeal.main_arg3) = m' ((c.tc : Thread Cert.DxinReferenceIdeal.nD Cert.DxinReferenceIdeal.τ).loc Cert.DxinReferenceIdeal.main_arg3)
          ∧ r.2.mem ((c.tc : Thread Cert.DxinReferenceIdeal.nD Cert.DxinReferenceIdeal.τ).loc Cert.DxinReferenceIdeal.main_arg4) = m' ((c.tc : Thread Cert.DxinReferenceIdeal.nD Cert.DxinReferenceIdeal.τ).loc Cert.DxinReferenceIdeal.main_arg4))

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v10) = v0 c
          ∧ r.2.mem ((c.tc : Thread Cert.PleReferenceIdeal.nD Cert.PleReferenceIdeal.τ).loc Cert.PleReferenceIdeal.main_v11) = v1 c
          ∧ r.2.mem ((c.tc : Thread Cert.PleReferenceIdeal.nD Cert.PleReferenceIdeal.τ).loc Cert.PleReferenceIdeal.main_v12) = v2 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def algebraic_PledgateIdeal_PledgateReferenceIdeal [hPledgateIdeal : Cert.PledgateIdeal.Facts] [hPledgateReferenceIdeal : Cert.PledgateReferenceIdeal.Facts] : Prop :=
  ∀ (m : (ℓ : Loc Cert.PledgateIdeal.nD Cert.PledgateIdeal.τ Cert.PledgateIdeal.sig) → Buf (Elt Ideal) ℓ) (g : Dev Cert.PledgateIdeal.nD → PrngReg)
    (m' : (ℓ : Loc Cert.PledgateReferenceIdeal.nD Cert.PledgateReferenceIdeal.τ Cert.PledgateReferenceIdeal.sig) → Buf (Elt Ideal) ℓ) (g' : Dev Cert.PledgateReferenceIdeal.nD → PrngReg), Pre_PledgateIdeal m →
    (∀ c : Dev Cert.PledgateIdeal.nD,
      m' ((c.tc : Thread Cert.PledgateReferenceIdeal.nD Cert.PledgateReferenceIdeal.τ).loc Cert.PledgateReferenceIdeal.main_arg0) = m ((c.tc : Thread Cert.PledgateIdeal.nD Cert.PledgateIdeal.τ).loc Cert.PledgateIdeal.main_arg0)
      ∧ m' ((c.tc : Thread Cert.PledgateReferenceIdeal.nD Cert.PledgateReferenceIdeal.τ).loc Cert.PledgateReferenceIdeal.main_arg1) = m ((c.tc : Thread Cert.PledgateIdeal.nD Cert.PledgateIdeal.τ).loc Cert.PledgateIdeal.main_arg1)
      ∧ m' ((c.tc : Thread Cert.PledgateReferenceIdeal.nD Cert.PledgateReferenceIdeal.τ).loc Cert.PledgateReferenceIdeal.main_arg2) = m ((c.tc : Thread Cert.PledgateIdeal.nD Cert.PledgateIdeal.τ).loc Cert.PledgateIdeal.main_arg2)) →
    ∃ (v0 : (c : Dev Cert.PledgateIdeal.nD) → Buf (Elt Ideal) ((c.tc : Thread Cert.PledgateIdeal.nD Cert.PledgateIdeal.τ).loc Cert.PledgateIdeal.main_v0_0)) (v1 : (c : Dev Cert.PledgateIdeal.nD) → Buf (Elt Ideal) ((c.tc : Thread Cert.PledgateIdeal.nD Cert.PledgateIdeal.τ).loc Cert.PledgateIdeal.main_v0_1)),
      θ_run (Cert.PledgateIdeal.defs (F := Ideal)) (onTc (τ := Cert.PledgateIdeal.τ) (Cert.PledgateIdeal.main (F := Ideal))) ⟨m, fun _ => 0, g⟩ (fun r => ∀ c : Dev Cert.PledgateIdeal.nD,
          r.2.mem ((c.tc : Thread Cert.PledgateIdeal.nD Cert.PledgateIdeal.τ).loc Cert.PledgateIdeal.main_v0_0) = v0 c
          ∧ r.2.mem ((c.tc : Thread Cert.PledgateIdeal.nD Cert.PledgateIdeal.τ).loc Cert.PledgateIdeal.main_v0_1) = v1 c
          ∧ r.2.mem ((c.tc : Thread Cert.PledgateIdeal.nD Cert.PledgateIdeal.τ).loc Cert.PledgateIdeal.main_arg0) = m ((c.tc : Thread Cert.PledgateIdeal.nD Cert.PledgateIdeal.τ).loc Cert.PledgateIdeal.main_arg0)
          ∧ r.2.mem ((c.tc : Thread Cert.PledgateIdeal.nD Cert.PledgateIdeal.τ).loc Cert.PledgateIdeal.main_arg1) = m ((c.tc : Thread Cert.PledgateIdeal.nD Cert.PledgateIdeal.τ).loc Cert.PledgateIdeal.main_arg1)
          ∧ r.2.mem ((c.tc : Thread Cert.PledgateIdeal.nD Cert.PledgateIdeal.τ).loc Cert.PledgateIdeal.main_arg2) = m ((c.tc : Thread Cert.PledgateIdeal.nD Cert.PledgateIdeal.τ).loc Cert.PledgateIdeal.main_arg2))
      ∧ θ_run (Cert.PledgateReferenceIdeal.defs (F := Ideal)) (onTc (τ := Cert.PledgateReferenceIdeal.τ) (Cert.PledgateReferenceIdeal.main (F := Ideal))) ⟨m', fun _ => 0, g'⟩ (fun r => ∀ c : Dev Cert.PledgateReferenceIdeal.nD,
          r.2.mem ((c.tc : Thread Cert.PledgateReferenceIdeal.nD Cert.PledgateReferenceIdeal.τ).loc Cert.PledgateReferenceIdeal.main_v15) = v0 c
          ∧ r.2.mem ((c.tc : Thread Cert.PledgateReferenceIdeal.nD Cert.PledgateReferenceIdeal.τ).loc Cert.PledgateReferenceIdeal.main_v16) = v1 c
          ∧ r.2.mem ((c.tc : Thread Cert.PledgateReferenceIdeal.nD Cert.PledgateReferenceIdeal.τ).loc Cert.PledgateReferenceIdeal.main_arg0) = m' ((c.tc : Thread Cert.PledgateReferenceIdeal.nD Cert.PledgateReferenceIdeal.τ).loc Cert.PledgateReferenceIdeal.main_arg0)
          ∧ r.2.mem ((c.tc : Thread Cert.PledgateReferenceIdeal.nD Cert.PledgateReferenceIdeal.τ).loc Cert.PledgateReferenceIdeal.main_arg1) = m' ((c.tc : Thread Cert.PledgateReferenceIdeal.nD Cert.PledgateReferenceIdeal.τ).loc Cert.PledgateReferenceIdeal.main_arg1)
          ∧ r.2.mem ((c.tc : Thread Cert.PledgateReferenceIdeal.nD Cert.PledgateReferenceIdeal.τ).loc Cert.PledgateReferenceIdeal.main_arg2) = m' ((c.tc : Thread Cert.PledgateReferenceIdeal.nD Cert.PledgateReferenceIdeal.τ).loc Cert.PledgateReferenceIdeal.main_arg2))

def algebraic_PledwpIdeal_PledwpReferenceIdeal [hPledwpIdeal : Cert.PledwpIdeal.Facts] [hPledwpReferenceIdeal : Cert.PledwpReferenceIdeal.Facts] : Prop :=
  ∀ (m : (ℓ : Loc Cert.PledwpIdeal.nD Cert.PledwpIdeal.τ Cert.PledwpIdeal.sig) → Buf (Elt Ideal) ℓ) (g : Dev Cert.PledwpIdeal.nD → PrngReg)
    (m' : (ℓ : Loc Cert.PledwpReferenceIdeal.nD Cert.PledwpReferenceIdeal.τ Cert.PledwpReferenceIdeal.sig) → Buf (Elt Ideal) ℓ) (g' : Dev Cert.PledwpReferenceIdeal.nD → PrngReg), Pre_PledwpIdeal m →
    (∀ c : Dev Cert.PledwpIdeal.nD,
      m' ((c.tc : Thread Cert.PledwpReferenceIdeal.nD Cert.PledwpReferenceIdeal.τ).loc Cert.PledwpReferenceIdeal.main_arg0) = m ((c.tc : Thread Cert.PledwpIdeal.nD Cert.PledwpIdeal.τ).loc Cert.PledwpIdeal.main_arg0)
      ∧ m' ((c.tc : Thread Cert.PledwpReferenceIdeal.nD Cert.PledwpReferenceIdeal.τ).loc Cert.PledwpReferenceIdeal.main_arg1) = m ((c.tc : Thread Cert.PledwpIdeal.nD Cert.PledwpIdeal.τ).loc Cert.PledwpIdeal.main_arg1)) →
    ∃ (v0 : (c : Dev Cert.PledwpIdeal.nD) → Buf (Elt Ideal) ((c.tc : Thread Cert.PledwpIdeal.nD Cert.PledwpIdeal.τ).loc Cert.PledwpIdeal.main_v1)),
      θ_run (Cert.PledwpIdeal.defs (F := Ideal)) (onTc (τ := Cert.PledwpIdeal.τ) (Cert.PledwpIdeal.main (F := Ideal))) ⟨m, fun _ => 0, g⟩ (fun r => ∀ c : Dev Cert.PledwpIdeal.nD,
          r.2.mem ((c.tc : Thread Cert.PledwpIdeal.nD Cert.PledwpIdeal.τ).loc Cert.PledwpIdeal.main_v1) = v0 c
          ∧ r.2.mem ((c.tc : Thread Cert.PledwpIdeal.nD Cert.PledwpIdeal.τ).loc Cert.PledwpIdeal.main_arg0) = m ((c.tc : Thread Cert.PledwpIdeal.nD Cert.PledwpIdeal.τ).loc Cert.PledwpIdeal.main_arg0)
          ∧ r.2.mem ((c.tc : Thread Cert.PledwpIdeal.nD Cert.PledwpIdeal.τ).loc Cert.PledwpIdeal.main_arg1) = m ((c.tc : Thread Cert.PledwpIdeal.nD Cert.PledwpIdeal.τ).loc Cert.PledwpIdeal.main_arg1))
      ∧ θ_run (Cert.PledwpReferenceIdeal.defs (F := Ideal)) (onTc (τ := Cert.PledwpReferenceIdeal.τ) (Cert.PledwpReferenceIdeal.main (F := Ideal))) ⟨m', fun _ => 0, g'⟩ (fun r => ∀ c : Dev Cert.PledwpReferenceIdeal.nD,
          r.2.mem ((c.tc : Thread Cert.PledwpReferenceIdeal.nD Cert.PledwpReferenceIdeal.τ).loc Cert.PledwpReferenceIdeal.main_v7) = v0 c
          ∧ r.2.mem ((c.tc : Thread Cert.PledwpReferenceIdeal.nD Cert.PledwpReferenceIdeal.τ).loc Cert.PledwpReferenceIdeal.main_arg0) = m' ((c.tc : Thread Cert.PledwpReferenceIdeal.nD Cert.PledwpReferenceIdeal.τ).loc Cert.PledwpReferenceIdeal.main_arg0)
          ∧ r.2.mem ((c.tc : Thread Cert.PledwpReferenceIdeal.nD Cert.PledwpReferenceIdeal.τ).loc Cert.PledwpReferenceIdeal.main_arg1) = m' ((c.tc : Thread Cert.PledwpReferenceIdeal.nD Cert.PledwpReferenceIdeal.τ).loc Cert.PledwpReferenceIdeal.main_arg1))

def algebraic_PledwgIdeal_PledwgReferenceIdeal [hPledwgIdeal : Cert.PledwgIdeal.Facts] [hPledwgReferenceIdeal : Cert.PledwgReferenceIdeal.Facts] : Prop :=
  ∀ (m : (ℓ : Loc Cert.PledwgIdeal.nD Cert.PledwgIdeal.τ Cert.PledwgIdeal.sig) → Buf (Elt Ideal) ℓ) (g : Dev Cert.PledwgIdeal.nD → PrngReg)
    (m' : (ℓ : Loc Cert.PledwgReferenceIdeal.nD Cert.PledwgReferenceIdeal.τ Cert.PledwgReferenceIdeal.sig) → Buf (Elt Ideal) ℓ) (g' : Dev Cert.PledwgReferenceIdeal.nD → PrngReg), Pre_PledwgIdeal m →
    (∀ c : Dev Cert.PledwgIdeal.nD,
      m' ((c.tc : Thread Cert.PledwgReferenceIdeal.nD Cert.PledwgReferenceIdeal.τ).loc Cert.PledwgReferenceIdeal.main_arg0) = m ((c.tc : Thread Cert.PledwgIdeal.nD Cert.PledwgIdeal.τ).loc Cert.PledwgIdeal.main_arg0)
      ∧ m' ((c.tc : Thread Cert.PledwgReferenceIdeal.nD Cert.PledwgReferenceIdeal.τ).loc Cert.PledwgReferenceIdeal.main_arg1) = m ((c.tc : Thread Cert.PledwgIdeal.nD Cert.PledwgIdeal.τ).loc Cert.PledwgIdeal.main_arg1)) →
    ∃ (v0 : (c : Dev Cert.PledwgIdeal.nD) → Buf (Elt Ideal) ((c.tc : Thread Cert.PledwgIdeal.nD Cert.PledwgIdeal.τ).loc Cert.PledwgIdeal.main_v0)),
      θ_run (Cert.PledwgIdeal.defs (F := Ideal)) (onTc (τ := Cert.PledwgIdeal.τ) (Cert.PledwgIdeal.main (F := Ideal))) ⟨m, fun _ => 0, g⟩ (fun r => ∀ c : Dev Cert.PledwgIdeal.nD,
          r.2.mem ((c.tc : Thread Cert.PledwgIdeal.nD Cert.PledwgIdeal.τ).loc Cert.PledwgIdeal.main_v0) = v0 c
          ∧ r.2.mem ((c.tc : Thread Cert.PledwgIdeal.nD Cert.PledwgIdeal.τ).loc Cert.PledwgIdeal.main_arg0) = m ((c.tc : Thread Cert.PledwgIdeal.nD Cert.PledwgIdeal.τ).loc Cert.PledwgIdeal.main_arg0)
          ∧ r.2.mem ((c.tc : Thread Cert.PledwgIdeal.nD Cert.PledwgIdeal.τ).loc Cert.PledwgIdeal.main_arg1) = m ((c.tc : Thread Cert.PledwgIdeal.nD Cert.PledwgIdeal.τ).loc Cert.PledwgIdeal.main_arg1))
      ∧ θ_run (Cert.PledwgReferenceIdeal.defs (F := Ideal)) (onTc (τ := Cert.PledwgReferenceIdeal.τ) (Cert.PledwgReferenceIdeal.main (F := Ideal))) ⟨m', fun _ => 0, g'⟩ (fun r => ∀ c : Dev Cert.PledwgReferenceIdeal.nD,
          r.2.mem ((c.tc : Thread Cert.PledwgReferenceIdeal.nD Cert.PledwgReferenceIdeal.τ).loc Cert.PledwgReferenceIdeal.main_v6) = v0 c
          ∧ r.2.mem ((c.tc : Thread Cert.PledwgReferenceIdeal.nD Cert.PledwgReferenceIdeal.τ).loc Cert.PledwgReferenceIdeal.main_arg0) = m' ((c.tc : Thread Cert.PledwgReferenceIdeal.nD Cert.PledwgReferenceIdeal.τ).loc Cert.PledwgReferenceIdeal.main_arg0)
          ∧ r.2.mem ((c.tc : Thread Cert.PledwgReferenceIdeal.nD Cert.PledwgReferenceIdeal.τ).loc Cert.PledwgReferenceIdeal.main_arg1) = m' ((c.tc : Thread Cert.PledwgReferenceIdeal.nD Cert.PledwgReferenceIdeal.τ).loc Cert.PledwgReferenceIdeal.main_arg1))

def algebraic_PledxIdeal_PledxReferenceIdeal_pre_pledx_finite [hPledxIdeal : Cert.PledxIdeal.Facts] [hPledxReferenceIdeal : Cert.PledxReferenceIdeal.Facts] [hPre_pledx_finite : Cert.Pre_pledx_finite.Facts] : Prop :=
  ∀ (m : (ℓ : Loc Cert.PledxIdeal.nD Cert.PledxIdeal.τ Cert.PledxIdeal.sig) → Buf (Elt Ideal) ℓ) (g : Dev Cert.PledxIdeal.nD → PrngReg)
    (m' : (ℓ : Loc Cert.PledxReferenceIdeal.nD Cert.PledxReferenceIdeal.τ Cert.PledxReferenceIdeal.sig) → Buf (Elt Ideal) ℓ) (g' : Dev Cert.PledxReferenceIdeal.nD → PrngReg), Pre_PledxIdeal_pledx_finite m →
    (∀ c : Dev Cert.PledxIdeal.nD,
      m' ((c.tc : Thread Cert.PledxReferenceIdeal.nD Cert.PledxReferenceIdeal.τ).loc Cert.PledxReferenceIdeal.main_arg0) = m ((c.tc : Thread Cert.PledxIdeal.nD Cert.PledxIdeal.τ).loc Cert.PledxIdeal.main_arg0)
      ∧ m' ((c.tc : Thread Cert.PledxReferenceIdeal.nD Cert.PledxReferenceIdeal.τ).loc Cert.PledxReferenceIdeal.main_arg1) = m ((c.tc : Thread Cert.PledxIdeal.nD Cert.PledxIdeal.τ).loc Cert.PledxIdeal.main_arg1)
      ∧ m' ((c.tc : Thread Cert.PledxReferenceIdeal.nD Cert.PledxReferenceIdeal.τ).loc Cert.PledxReferenceIdeal.main_arg2) = m ((c.tc : Thread Cert.PledxIdeal.nD Cert.PledxIdeal.τ).loc Cert.PledxIdeal.main_arg2)
      ∧ m' ((c.tc : Thread Cert.PledxReferenceIdeal.nD Cert.PledxReferenceIdeal.τ).loc Cert.PledxReferenceIdeal.main_arg3) = m ((c.tc : Thread Cert.PledxIdeal.nD Cert.PledxIdeal.τ).loc Cert.PledxIdeal.main_arg3)
      ∧ m' ((c.tc : Thread Cert.PledxReferenceIdeal.nD Cert.PledxReferenceIdeal.τ).loc Cert.PledxReferenceIdeal.main_arg4) = m ((c.tc : Thread Cert.PledxIdeal.nD Cert.PledxIdeal.τ).loc Cert.PledxIdeal.main_arg4)) →
    ∃ (v0 : (c : Dev Cert.PledxIdeal.nD) → Buf (Elt Ideal) ((c.tc : Thread Cert.PledxIdeal.nD Cert.PledxIdeal.τ).loc Cert.PledxIdeal.main_v1_0)) (v1 : (c : Dev Cert.PledxIdeal.nD) → Buf (Elt Ideal) ((c.tc : Thread Cert.PledxIdeal.nD Cert.PledxIdeal.τ).loc Cert.PledxIdeal.main_v1_1)) (v2 : (c : Dev Cert.PledxIdeal.nD) → Buf (Elt Ideal) ((c.tc : Thread Cert.PledxIdeal.nD Cert.PledxIdeal.τ).loc Cert.PledxIdeal.main_v1_2)),
      θ_run (Cert.PledxIdeal.defs (F := Ideal)) (onTc (τ := Cert.PledxIdeal.τ) (Cert.PledxIdeal.main (F := Ideal))) ⟨m, fun _ => 0, g⟩ (fun r => ∀ c : Dev Cert.PledxIdeal.nD,
          r.2.mem ((c.tc : Thread Cert.PledxIdeal.nD Cert.PledxIdeal.τ).loc Cert.PledxIdeal.main_v1_0) = v0 c
          ∧ r.2.mem ((c.tc : Thread Cert.PledxIdeal.nD Cert.PledxIdeal.τ).loc Cert.PledxIdeal.main_v1_1) = v1 c
          ∧ r.2.mem ((c.tc : Thread Cert.PledxIdeal.nD Cert.PledxIdeal.τ).loc Cert.PledxIdeal.main_v1_2) = v2 c
          ∧ r.2.mem ((c.tc : Thread Cert.PledxIdeal.nD Cert.PledxIdeal.τ).loc Cert.PledxIdeal.main_arg0) = m ((c.tc : Thread Cert.PledxIdeal.nD Cert.PledxIdeal.τ).loc Cert.PledxIdeal.main_arg0)
          ∧ r.2.mem ((c.tc : Thread Cert.PledxIdeal.nD Cert.PledxIdeal.τ).loc Cert.PledxIdeal.main_arg1) = m ((c.tc : Thread Cert.PledxIdeal.nD Cert.PledxIdeal.τ).loc Cert.PledxIdeal.main_arg1)
          ∧ r.2.mem ((c.tc : Thread Cert.PledxIdeal.nD Cert.PledxIdeal.τ).loc Cert.PledxIdeal.main_arg2) = m ((c.tc : Thread Cert.PledxIdeal.nD Cert.PledxIdeal.τ).loc Cert.PledxIdeal.main_arg2)
          ∧ r.2.mem ((c.tc : Thread Cert.PledxIdeal.nD Cert.PledxIdeal.τ).loc Cert.PledxIdeal.main_arg3) = m ((c.tc : Thread Cert.PledxIdeal.nD Cert.PledxIdeal.τ).loc Cert.PledxIdeal.main_arg3)
          ∧ r.2.mem ((c.tc : Thread Cert.PledxIdeal.nD Cert.PledxIdeal.τ).loc Cert.PledxIdeal.main_arg4) = m ((c.tc : Thread Cert.PledxIdeal.nD Cert.PledxIdeal.τ).loc Cert.PledxIdeal.main_arg4))
      ∧ θ_run (Cert.PledxReferenceIdeal.defs (F := Ideal)) (onTc (τ := Cert.PledxReferenceIdeal.τ) (Cert.PledxReferenceIdeal.main (F := Ideal))) ⟨m', fun _ => 0, g'⟩ (fun r => ∀ c : Dev Cert.PledxReferenceIdeal.nD,
          r.2.mem ((c.tc : Thread Cert.PledxReferenceIdeal.nD Cert.PledxReferenceIdeal.τ).loc Cert.PledxReferenceIdeal.main_v40) = v0 c
          ∧ r.2.mem ((c.tc : Thread Cert.PledxReferenceIdeal.nD Cert.PledxReferenceIdeal.τ).loc Cert.PledxReferenceIdeal.main_v42) = v1 c
          ∧ r.2.mem ((c.tc : Thread Cert.PledxReferenceIdeal.nD Cert.PledxReferenceIdeal.τ).loc Cert.PledxReferenceIdeal.main_v41) = v2 c
          ∧ r.2.mem ((c.tc : Thread Cert.PledxReferenceIdeal.nD Cert.PledxReferenceIdeal.τ).loc Cert.PledxReferenceIdeal.main_arg0) = m' ((c.tc : Thread Cert.PledxReferenceIdeal.nD Cert.PledxReferenceIdeal.τ).loc Cert.PledxReferenceIdeal.main_arg0)
          ∧ r.2.mem ((c.tc : Thread Cert.PledxReferenceIdeal.nD Cert.PledxReferenceIdeal.τ).loc Cert.PledxReferenceIdeal.main_arg1) = m' ((c.tc : Thread Cert.PledxReferenceIdeal.nD Cert.PledxReferenceIdeal.τ).loc Cert.PledxReferenceIdeal.main_arg1)
          ∧ r.2.mem ((c.tc : Thread Cert.PledxReferenceIdeal.nD Cert.PledxReferenceIdeal.τ).loc Cert.PledxReferenceIdeal.main_arg2) = m' ((c.tc : Thread Cert.PledxReferenceIdeal.nD Cert.PledxReferenceIdeal.τ).loc Cert.PledxReferenceIdeal.main_arg2)
          ∧ r.2.mem ((c.tc : Thread Cert.PledxReferenceIdeal.nD Cert.PledxReferenceIdeal.τ).loc Cert.PledxReferenceIdeal.main_arg3) = m' ((c.tc : Thread Cert.PledxReferenceIdeal.nD Cert.PledxReferenceIdeal.τ).loc Cert.PledxReferenceIdeal.main_arg3)
          ∧ r.2.mem ((c.tc : Thread Cert.PledxReferenceIdeal.nD Cert.PledxReferenceIdeal.τ).loc Cert.PledxReferenceIdeal.main_arg4) = m' ((c.tc : Thread Cert.PledxReferenceIdeal.nD Cert.PledxReferenceIdeal.τ).loc Cert.PledxReferenceIdeal.main_arg4))

def Claim : Prop :=
  ∃ (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDact : Cert.Dact.Facts) (hDactIdeal : Cert.DactIdeal.Facts) (hDactReferenceIdeal : Cert.DactReferenceIdeal.Facts) (hDwd : Cert.Dwd.Facts) (hDwdIdeal : Cert.DwdIdeal.Facts) (hDwdReferenceIdeal : Cert.DwdReferenceIdeal.Facts) (hDwg : Cert.Dwg.Facts) (hDwgIdeal : Cert.DwgIdeal.Facts) (hDwgReferenceIdeal : Cert.DwgReferenceIdeal.Facts) (hDxa : Cert.Dxa.Facts) (hDxaIdeal : Cert.DxaIdeal.Facts) (hDxaReferenceIdeal : Cert.DxaReferenceIdeal.Facts) (hDxb : Cert.Dxb.Facts) (hDxbIdeal : Cert.DxbIdeal.Facts) (hDxbReferenceIdeal : Cert.DxbReferenceIdeal.Facts) (hRms : Cert.Rms.Facts) (hRmsIdeal : Cert.RmsIdeal.Facts) (hRmsReferenceIdeal : Cert.RmsReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hDmerge : Cert.Dmerge.Facts) (hDmergeIdeal : Cert.DmergeIdeal.Facts) (hDmergeReferenceIdeal : Cert.DmergeReferenceIdeal.Facts) (hDwout : Cert.Dwout.Facts) (hDwoutIdeal : Cert.DwoutIdeal.Facts) (hDwoutReferenceIdeal : Cert.DwoutReferenceIdeal.Facts) (hDwup : Cert.Dwup.Facts) (hDwupIdeal : Cert.DwupIdeal.Facts) (hDwupReferenceIdeal : Cert.DwupReferenceIdeal.Facts) (hDmix : Cert.Dmix.Facts) (hDmixIdeal : Cert.DmixIdeal.Facts) (hDmixReferenceIdeal : Cert.DmixReferenceIdeal.Facts) (hDwin : Cert.Dwin.Facts) (hDwinIdeal : Cert.DwinIdeal.Facts) (hDwinReferenceIdeal : Cert.DwinReferenceIdeal.Facts) (hDxin : Cert.Dxin.Facts) (hDxinIdeal : Cert.DxinIdeal.Facts) (hDxinReferenceIdeal : Cert.DxinReferenceIdeal.Facts) (hPle : Cert.Ple.Facts) (hPleIdeal : Cert.PleIdeal.Facts) (hPleReferenceIdeal : Cert.PleReferenceIdeal.Facts) (hPledgate : Cert.Pledgate.Facts) (hPledgateIdeal : Cert.PledgateIdeal.Facts) (hPledgateReferenceIdeal : Cert.PledgateReferenceIdeal.Facts) (hPledwp : Cert.Pledwp.Facts) (hPledwpIdeal : Cert.PledwpIdeal.Facts) (hPledwpReferenceIdeal : Cert.PledwpReferenceIdeal.Facts) (hPledwg : Cert.Pledwg.Facts) (hPledwgIdeal : Cert.PledwgIdeal.Facts) (hPledwgReferenceIdeal : Cert.PledwgReferenceIdeal.Facts) (hPledx : Cert.Pledx.Facts) (hPledxIdeal : Cert.PledxIdeal.Facts) (hPledxReferenceIdeal : Cert.PledxReferenceIdeal.Facts) (hPre_dact_finite : Cert.Pre_dact_finite.Facts) (hPre_dxa_finite : Cert.Pre_dxa_finite.Facts) (hPre_dxb_finite : Cert.Pre_dxb_finite.Facts) (hPre_dxin_finite : Cert.Pre_dxin_finite.Facts) (hPre_pledx_finite : Cert.Pre_pledx_finite.Facts) (hOn_first_half : Cert.On_first_half.Facts),
    quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactReferenceIdeal (hDactReferenceIdeal := hDactReferenceIdeal)
    ∧ quiescent_DactReferenceIdeal_pre_dact_finite (hDactReferenceIdeal := hDactReferenceIdeal) (hPre_dact_finite := hPre_dact_finite)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Dwg (hDwg := hDwg)
    ∧ quiescent_DwgIdeal (hDwgIdeal := hDwgIdeal)
    ∧ quiescent_DwgReferenceIdeal (hDwgReferenceIdeal := hDwgReferenceIdeal)
    ∧ quiescent_Dxa (hDxa := hDxa)
    ∧ quiescent_DxaIdeal (hDxaIdeal := hDxaIdeal)
    ∧ quiescent_DxaIdeal_pre_dxa_finite (hDxaIdeal := hDxaIdeal) (hPre_dxa_finite := hPre_dxa_finite)
    ∧ quiescent_DxaReferenceIdeal (hDxaReferenceIdeal := hDxaReferenceIdeal)
    ∧ quiescent_DxaReferenceIdeal_pre_dxa_finite (hDxaReferenceIdeal := hDxaReferenceIdeal) (hPre_dxa_finite := hPre_dxa_finite)
    ∧ quiescent_Dxb (hDxb := hDxb)
    ∧ quiescent_DxbIdeal (hDxbIdeal := hDxbIdeal)
    ∧ quiescent_DxbIdeal_pre_dxb_finite (hDxbIdeal := hDxbIdeal) (hPre_dxb_finite := hPre_dxb_finite)
    ∧ quiescent_DxbReferenceIdeal (hDxbReferenceIdeal := hDxbReferenceIdeal)
    ∧ quiescent_DxbReferenceIdeal_pre_dxb_finite (hDxbReferenceIdeal := hDxbReferenceIdeal) (hPre_dxb_finite := hPre_dxb_finite)
    ∧ quiescent_Rms (hRms := hRms)
    ∧ quiescent_RmsIdeal (hRmsIdeal := hRmsIdeal)
    ∧ quiescent_RmsReferenceIdeal (hRmsReferenceIdeal := hRmsReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Dmerge (hDmerge := hDmerge)
    ∧ quiescent_DmergeIdeal (hDmergeIdeal := hDmergeIdeal)
    ∧ quiescent_DmergeReferenceIdeal (hDmergeReferenceIdeal := hDmergeReferenceIdeal)
    ∧ quiescent_Dwout (hDwout := hDwout)
    ∧ quiescent_DwoutIdeal (hDwoutIdeal := hDwoutIdeal)
    ∧ quiescent_DwoutReferenceIdeal (hDwoutReferenceIdeal := hDwoutReferenceIdeal)
    ∧ quiescent_Dwup (hDwup := hDwup)
    ∧ quiescent_DwupIdeal (hDwupIdeal := hDwupIdeal)
    ∧ quiescent_DwupReferenceIdeal (hDwupReferenceIdeal := hDwupReferenceIdeal)
    ∧ quiescent_Dmix (hDmix := hDmix)
    ∧ quiescent_DmixIdeal (hDmixIdeal := hDmixIdeal)
    ∧ quiescent_DmixReferenceIdeal (hDmixReferenceIdeal := hDmixReferenceIdeal)
    ∧ quiescent_Dwin (hDwin := hDwin)
    ∧ quiescent_DwinIdeal (hDwinIdeal := hDwinIdeal)
    ∧ quiescent_DwinReferenceIdeal (hDwinReferenceIdeal := hDwinReferenceIdeal)
    ∧ quiescent_Dxin (hDxin := hDxin)
    ∧ quiescent_DxinIdeal (hDxinIdeal := hDxinIdeal)
    ∧ quiescent_DxinIdeal_pre_dxin_finite (hDxinIdeal := hDxinIdeal) (hPre_dxin_finite := hPre_dxin_finite)
    ∧ quiescent_DxinReferenceIdeal (hDxinReferenceIdeal := hDxinReferenceIdeal)
    ∧ quiescent_DxinReferenceIdeal_pre_dxin_finite (hDxinReferenceIdeal := hDxinReferenceIdeal) (hPre_dxin_finite := hPre_dxin_finite)
    ∧ quiescent_Ple (hPle := hPle)
    ∧ quiescent_PleIdeal (hPleIdeal := hPleIdeal)
    ∧ quiescent_PleReferenceIdeal (hPleReferenceIdeal := hPleReferenceIdeal)
    ∧ quiescent_Pledgate (hPledgate := hPledgate)
    ∧ quiescent_PledgateIdeal (hPledgateIdeal := hPledgateIdeal)
    ∧ quiescent_PledgateReferenceIdeal (hPledgateReferenceIdeal := hPledgateReferenceIdeal)
    ∧ quiescent_Pledwp (hPledwp := hPledwp)
    ∧ quiescent_PledwpIdeal (hPledwpIdeal := hPledwpIdeal)
    ∧ quiescent_PledwpReferenceIdeal (hPledwpReferenceIdeal := hPledwpReferenceIdeal)
    ∧ quiescent_Pledwg (hPledwg := hPledwg)
    ∧ quiescent_PledwgIdeal (hPledwgIdeal := hPledwgIdeal)
    ∧ quiescent_PledwgReferenceIdeal (hPledwgReferenceIdeal := hPledwgReferenceIdeal)
    ∧ quiescent_Pledx (hPledx := hPledx)
    ∧ quiescent_PledxIdeal (hPledxIdeal := hPledxIdeal)
    ∧ quiescent_PledxIdeal_pre_pledx_finite (hPledxIdeal := hPledxIdeal) (hPre_pledx_finite := hPre_pledx_finite)
    ∧ quiescent_PledxReferenceIdeal (hPledxReferenceIdeal := hPledxReferenceIdeal)
    ∧ quiescent_PledxReferenceIdeal_pre_pledx_finite (hPledxReferenceIdeal := hPledxReferenceIdeal) (hPre_pledx_finite := hPre_pledx_finite)
    ∧ preserves_Up_UpIdeal
    ∧ preserves_Down_DownIdeal
    ∧ preserves_Dact_DactIdeal
    ∧ preserves_Dwd_DwdIdeal
    ∧ preserves_Dwg_DwgIdeal
    ∧ preserves_Dxa_DxaIdeal
    ∧ preserves_Dxb_DxbIdeal
    ∧ preserves_Rms_RmsIdeal
    ∧ preserves_Proj_ProjIdeal
    ∧ preserves_Merge_MergeIdeal
    ∧ preserves_Out_OutIdeal
    ∧ preserves_Dmerge_DmergeIdeal
    ∧ preserves_Dwout_DwoutIdeal
    ∧ preserves_Dwup_DwupIdeal
    ∧ preserves_Dmix_DmixIdeal
    ∧ preserves_Dwin_DwinIdeal
    ∧ preserves_Dxin_DxinIdeal
    ∧ preserves_Ple_PleIdeal
    ∧ preserves_Pledgate_PledgateIdeal
    ∧ preserves_Pledwp_PledwpIdeal
    ∧ preserves_Pledwg_PledwgIdeal
    ∧ preserves_Pledx_PledxIdeal
    ∧ algebraic_UpIdeal_UpReferenceIdeal (hUpIdeal := hUpIdeal) (hUpReferenceIdeal := hUpReferenceIdeal)
    ∧ algebraic_DownIdeal_DownReferenceIdeal (hDownIdeal := hDownIdeal) (hDownReferenceIdeal := hDownReferenceIdeal)
    ∧ algebraic_DactIdeal_DactReferenceIdeal_pre_dact_finite (hDactIdeal := hDactIdeal) (hDactReferenceIdeal := hDactReferenceIdeal) (hPre_dact_finite := hPre_dact_finite)
    ∧ algebraic_DwdIdeal_DwdReferenceIdeal (hDwdIdeal := hDwdIdeal) (hDwdReferenceIdeal := hDwdReferenceIdeal)
    ∧ algebraic_DwgIdeal_DwgReferenceIdeal (hDwgIdeal := hDwgIdeal) (hDwgReferenceIdeal := hDwgReferenceIdeal)
    ∧ algebraic_DxaIdeal_DxaReferenceIdeal_on_first_half_pre_dxa_finite (hDxaIdeal := hDxaIdeal) (hDxaReferenceIdeal := hDxaReferenceIdeal) (hPre_dxa_finite := hPre_dxa_finite) (hOn_first_half := hOn_first_half)
    ∧ algebraic_DxbIdeal_DxbReferenceIdeal_pre_dxb_finite (hDxbIdeal := hDxbIdeal) (hDxbReferenceIdeal := hDxbReferenceIdeal) (hPre_dxb_finite := hPre_dxb_finite)
    ∧ algebraic_RmsIdeal_RmsReferenceIdeal (hRmsIdeal := hRmsIdeal) (hRmsReferenceIdeal := hRmsReferenceIdeal)
    ∧ algebraic_ProjIdeal_ProjReferenceIdeal (hProjIdeal := hProjIdeal) (hProjReferenceIdeal := hProjReferenceIdeal)
    ∧ algebraic_MergeIdeal_MergeReferenceIdeal (hMergeIdeal := hMergeIdeal) (hMergeReferenceIdeal := hMergeReferenceIdeal)
    ∧ algebraic_OutIdeal_OutReferenceIdeal (hOutIdeal := hOutIdeal) (hOutReferenceIdeal := hOutReferenceIdeal)
    ∧ algebraic_DmergeIdeal_DmergeReferenceIdeal (hDmergeIdeal := hDmergeIdeal) (hDmergeReferenceIdeal := hDmergeReferenceIdeal)
    ∧ algebraic_DwoutIdeal_DwoutReferenceIdeal (hDwoutIdeal := hDwoutIdeal) (hDwoutReferenceIdeal := hDwoutReferenceIdeal)
    ∧ algebraic_DwupIdeal_DwupReferenceIdeal (hDwupIdeal := hDwupIdeal) (hDwupReferenceIdeal := hDwupReferenceIdeal)
    ∧ algebraic_DmixIdeal_DmixReferenceIdeal (hDmixIdeal := hDmixIdeal) (hDmixReferenceIdeal := hDmixReferenceIdeal)
    ∧ algebraic_DwinIdeal_DwinReferenceIdeal (hDwinIdeal := hDwinIdeal) (hDwinReferenceIdeal := hDwinReferenceIdeal)
    ∧ algebraic_DxinIdeal_DxinReferenceIdeal_pre_dxin_finite (hDxinIdeal := hDxinIdeal) (hDxinReferenceIdeal := hDxinReferenceIdeal) (hPre_dxin_finite := hPre_dxin_finite)
    ∧ algebraic_PleIdeal_PleReferenceIdeal (hPleIdeal := hPleIdeal) (hPleReferenceIdeal := hPleReferenceIdeal)
    ∧ algebraic_PledgateIdeal_PledgateReferenceIdeal (hPledgateIdeal := hPledgateIdeal) (hPledgateReferenceIdeal := hPledgateReferenceIdeal)
    ∧ algebraic_PledwpIdeal_PledwpReferenceIdeal (hPledwpIdeal := hPledwpIdeal) (hPledwpReferenceIdeal := hPledwpReferenceIdeal)
    ∧ algebraic_PledwgIdeal_PledwgReferenceIdeal (hPledwgIdeal := hPledwgIdeal) (hPledwgReferenceIdeal := hPledwgReferenceIdeal)
    ∧ algebraic_PledxIdeal_PledxReferenceIdeal_pre_pledx_finite (hPledxIdeal := hPledxIdeal) (hPledxReferenceIdeal := hPledxReferenceIdeal) (hPre_pledx_finite := hPre_pledx_finite)
-- ==== On_first_half.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S4096 : Shape := ⟨1, ![4096]⟩
abbrev S4096x1 : Shape := ⟨2, ![4096, 1]⟩
abbrev S_ : Shape := ⟨0, ![]⟩

class Facts : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S1x2048 : S_.BroadcastsInDim S1x2048 (![] : Fin 0 → Fin S1x2048.rank)

variable [Facts]

def fn {F : FTy → Type} [FloatOps F] (main_arg0 : FVec F S4096x5632 .bf16) (main_arg1 : FVec F S4096x5632 .bf16) (main_arg2 : FVec F S2048x5632 .f32) (main_arg3 : FVec F S2048x5632 .f32) (main_arg4 : FVec F S4096x2048 .f32) (main_arg5 : FVec F S1x2048 .f32) (main_arg6 : FVec F S4096x2048 .f32) : IVec S4096x2048 1 × IVec S4096x2048 1 × IVec S1x2048 1 :=
  let main_v0 : IVec S4096 32 := iotaInDim S4096 32 0
  let main_v1 : IVec S4096x1 32 := broadcastInDim S4096x1 ![0] bcast_S4096_S4096x1_0 main_v0
  let main_c : IVec S_ 32 := constantI S_ 32 2048#32
  let main_v2 : IVec S4096x1 32 := broadcastInDim S4096x1 ![] bcast_S_S4096x1 main_c
  let main_v3 : IVec S4096x1 1 := cmpi .slt main_v1 main_v2
  let main_v4 : IVec S4096x2048 1 := broadcastInDim S4096x2048 ![0, 1] bcast_S4096x1_S4096x2048_0_1 main_v3
  let main_c_0 : IVec S_ 1 := constantI S_ 1 1#1
  let main_v5 : IVec S1x2048 1 := broadcastInDim S1x2048 ![] bcast_S_S1x2048 main_c_0
  (main_v4, main_v4, main_v5)
-- ==== Pre_dact_finite.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x5632 .bf16) (main_arg1 : FVec F S4096x5632 .bf16) (main_arg2 : FVec F S5632x2048 .f32) (main_arg3 : FVec F S4096x2048 .f32) : IVec S_ 1 :=
  let main_v0 : FVec F S4096x5632 .f32 := (extf .f32 · bitsLt_bf16_f32) main_arg1
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S5632x2048 .f32 := Host.absf main_arg2
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v4 main_v8
  let main_v14 : IVec S_ 1 := andi main_v13 main_v12
  main_v14
-- ==== Pre_dxa_finite.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S4096x2048 .f32) (main_arg5 : FVec F S1x2048 .f32) (main_v4 : IVec S_ 1) (main_v9 : IVec S_ 1) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : FVec F S4096x2048 .f32 := Host.absf main_arg4
  let main_cst_6 : FVec F S_ .f32 := constant S_ .f32 0x7F800000#32
  let main_v19 : FVec F S4096x2048 .f32 := broadcastInDim S4096x2048 ![] bcast_S_S4096x2048 main_cst_6
  let main_v20 : IVec S4096x2048 1 := cmpf .olt main_v18 main_v19
  let main_c_7 : IVec S_ 1 := constantI S_ 1 1#1
  let main_v21 : IVec S_ 1 := (fun x v => Host.reduce IntOp.andi x v reducesTo_S4096x2048_S_d0_1 h_S_) main_v20 main_c_7
  let main_v22 : FVec F S1x2048 .f32 := Host.absf main_arg5
  let main_cst_8 : FVec F S_ .f32 := constant S_ .f32 0x7F800000#32
  let main_v23 : FVec F S1x2048 .f32 := broadcastInDim S1x2048 ![] bcast_S_S1x2048 main_cst_8
  let main_v24 : IVec S1x2048 1 := cmpf .olt main_v22 main_v23
  let main_c_9 : IVec S_ 1 := constantI S_ 1 1#1
  let main_v25 : IVec S_ 1 := (fun x v => Host.reduce IntOp.andi x v reducesTo_S1x2048_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x5632 .bf16) (main_arg1 : FVec F S4096x5632 .bf16) (main_arg2 : FVec F S2048x5632 .f32) (main_arg3 : FVec F S2048x5632 .f32) (main_arg4 : FVec F S4096x2048 .f32) (main_arg5 : FVec F S1x2048 .f32) (main_arg6 : FVec F S4096x2048 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : FVec F S2048x5632 .f32 := Host.absf main_arg2
  let main_cst_2 : FVec F S_ .f32 := constant S_ .f32 0x7F800000#32
  let main_v11 : FVec F S2048x5632 .f32 := broadcastInDim S2048x5632 ![] bcast_S_S2048x5632 main_cst_2
  let main_v12 : IVec S2048x5632 1 := cmpf .olt main_v10 main_v11
  let main_c_3 : IVec S_ 1 := constantI S_ 1 1#1
  let main_v13 : IVec S_ 1 := (fun x v => Host.reduce IntOp.andi x v reducesTo_S2048x5632_S_d0_1 h_S_) main_v12 main_c_3
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_v4 main_v9 main_v13 main_v16
-- ==== Pre_dxb_finite.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S4096x2048 .f32) (main_arg5 : FVec F S1x2048 .f32) (main_v4 : IVec S_ 1) (main_v9 : IVec S_ 1) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : FVec F S4096x2048 .f32 := Host.absf main_arg4
  let main_cst_6 : FVec F S_ .f32 := constant S_ .f32 0x7F800000#32
  let main_v19 : FVec F S4096x2048 .f32 := broadcastInDim S4096x2048 ![] bcast_S_S4096x2048 main_cst_6
  let main_v20 : IVec S4096x2048 1 := cmpf .olt main_v18 main_v19
  let main_c_7 : IVec S_ 1 := constantI S_ 1 1#1
  let main_v21 : IVec S_ 1 := (fun x v => Host.reduce IntOp.andi x v reducesTo_S4096x2048_S_d0_1 h_S_) main_v20 main_c_7
  let main_v22 : FVec F S1x2048 .f32 := Host.absf main_arg5
  let main_cst_8 : FVec F S_ .f32 := constant S_ .f32 0x7F800000#32
  let main_v23 : FVec F S1x2048 .f32 := broadcastInDim S1x2048 ![] bcast_S_S1x2048 main_cst_8
  let main_v24 : IVec S1x2048 1 := cmpf .olt main_v22 main_v23
  let main_c_9 : IVec S_ 1 := constantI S_ 1 1#1
  let main_v25 : IVec S_ 1 := (fun x v => Host.reduce IntOp.andi x v reducesTo_S1x2048_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x5632 .bf16) (main_arg1 : FVec F S4096x5632 .bf16) (main_arg2 : FVec F S2048x5632 .f32) (main_arg3 : FVec F S2048x5632 .f32) (main_arg4 : FVec F S4096x2048 .f32) (main_arg5 : FVec F S1x2048 .f32) (main_arg6 : FVec F S4096x2048 .f32) (main_arg7 : FVec F S4096x2048 .f32) (main_arg8 : FVec F S4096x2048 .bf16) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : FVec F S2048x5632 .f32 := Host.absf main_arg2
  let main_cst_2 : FVec F S_ .f32 := constant S_ .f32 0x7F800000#32
  let main_v11 : FVec F S2048x5632 .f32 := broadcastInDim S2048x5632 ![] bcast_S_S2048x5632 main_cst_2
  let main_v12 : IVec S2048x5632 1 := cmpf .olt main_v10 main_v11
  let main_c_3 : IVec S_ 1 := constantI S_ 1 1#1
  let main_v13 : IVec S_ 1 := (fun x v => Host.reduce IntOp.andi x v reducesTo_S2048x5632_S_d0_1 h_S_) main_v12 main_c_3
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_v4 main_v9 main_v13 main_v16
-- ==== Pre_dxin_finite.lean ====
abbrev S4096x9728 : Shape := ⟨2, ![4096, 9728]⟩
abbrev S2048x9728 : Shape := ⟨2, ![2048, 9728]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x9728 : S_.BroadcastsInDim S4096x9728 (![] : Fin 0 → Fin S4096x9728.rank)
  reducesTo_S4096x9728_S_d0_1 : S4096x9728.ReducesTo [0, 1] S_
  h_S_ : 0 < S_.numel
  bcast_S_S2048x9728 : S_.BroadcastsInDim S2048x9728 (![] : Fin 0 → Fin S2048x9728.rank)
  reducesTo_S2048x9728_S_d0_1 : S2048x9728.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v4 : IVec S_ 1) (main_v8 : IVec S_ 1) (main_v12 : IVec S_ 1) (main_v15 : IVec S1x2048 1) (main_c_5 : IVec S_ 1) : IVec S_ 1 :=
  let main_v16 : IVec S_ 1 := (fun x v => Host.reduce IntOp.andi x v reducesTo_S1x2048_S_d0_1 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S4096x9728 .bf16) (main_arg1 : FVec F S2048x9728 .f32) (main_arg2 : FVec F S4096x2048 .f32) (main_arg3 : FVec F S1x2048 .f32) (main_arg4 : FVec F S4096x2048 .f32) : IVec S_ 1 :=
  let main_v0 : FVec F S4096x9728 .f32 := (extf .f32 · bitsLt_bf16_f32) main_arg0
  let main_v1 : FVec F S4096x9728 .f32 := Host.absf main_v0
  let main_cst : FVec F S_ .f32 := constant S_ .f32 0x7F800000#32
  let main_v2 : FVec F S4096x9728 .f32 := broadcastInDim S4096x9728 ![] bcast_S_S4096x9728 main_cst
  let main_v3 : IVec S4096x9728 1 := cmpf .olt main_v1 main_v2
  let main_c : IVec S_ 1 := constantI S_ 1 1#1
  let main_v4 : IVec S_ 1 := (fun x v => Host.reduce IntOp.andi x v reducesTo_S4096x9728_S_d0_1 h_S_) main_v3 main_c
  let main_v5 : FVec F S2048x9728 .f32 := Host.absf main_arg1
  let main_cst_0 : FVec F S_ .f32 := constant S_ .f32 0x7F800000#32
  let main_v6 : FVec F S2048x9728 .f32 := broadcastInDim S2048x9728 ![] bcast_S_S2048x9728 main_cst_0
  let main_v7 : IVec S2048x9728 1 := cmpf .olt main_v5 main_v6
  let main_c_1 : IVec S_ 1 := constantI S_ 1 1#1
  let main_v8 : IVec S_ 1 := (fun x v => Host.reduce IntOp.andi x v reducesTo_S2048x9728_S_d0_1 h_S_) main_v7 main_c_1
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : FVec F S1x2048 .f32 := Host.absf main_arg3
  let main_cst_4 : FVec F S_ .f32 := constant S_ .f32 0x7F800000#32
  let main_v14 : FVec F S1x2048 .f32 := broadcastInDim S1x2048 ![] bcast_S_S1x2048 main_cst_4
  let main_v15 : IVec S1x2048 1 := cmpf .olt main_v13 main_v14
  let main_c_5 : IVec S_ 1 := constantI S_ 1 1#1
  fn_part1 (F := F) main_v4 main_v8 main_v12 main_v15 main_c_5
-- ==== Pre_pledx_finite.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v4 : IVec S_ 1) (main_v8 : IVec S_ 1) (main_v12 : IVec S_ 1) (main_v15 : IVec S1x2048 1) (main_c_5 : IVec S_ 1) : IVec S_ 1 :=
  let main_v16 : IVec S_ 1 := (fun x v => Host.reduce IntOp.andi x v reducesTo_S1x2048_S_d0_1 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S4096x2048 .bf16) (main_arg1 : FVec F S2048x2048 .f32) (main_arg2 : FVec F S4096x2048 .f32) (main_arg3 : FVec F S1x2048 .f32) (main_arg4 : FVec F S4096x2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : FVec F S1x2048 .f32 := Host.absf main_arg3
  let main_cst_4 : FVec F S_ .f32 := constant S_ .f32 0x7F800000#32
  let main_v14 : FVec F S1x2048 .f32 := broadcastInDim S1x2048 ![] bcast_S_S1x2048 main_cst_4
  let main_v15 : IVec S1x2048 1 := cmpf .olt main_v13 main_v14
  let main_c_5 : IVec S_ 1 := constantI S_ 1 1#1
  fn_part1 (F := F) main_v4 main_v8 main_v12 main_v15 main_c_5
-- ==== Up.lean ====
abbrev S4096x2048 : Shape := ⟨2, ![4096, 2048]⟩
abbrev S2048x5632 : Shape := ⟨2, ![2048, 5632]⟩
abbrev S5632x2048 : Shape := ⟨2, ![5632, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 12
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S8x704x2048, .bf16⟩
  | .hbm, ⟨6, _⟩ => ⟨S5632x2048, .f32⟩
  | .hbm, ⟨7, _⟩ => ⟨S5632x2048, .bf16⟩
  | .hbm, ⟨8, _⟩ => ⟨S8x704x2048, .bf16⟩
  | .hbm, ⟨9, _⟩ => ⟨S8x4096x704, .bf16⟩
  | .hbm, ⟨10, _⟩ => ⟨S8x4096x704, .bf16⟩
  | .hbm, ⟨11, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== UpReferenceIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S2048x5632, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x8x704, .f32⟩
  | .hbm, ⟨17, _⟩ => ⟨S8x4096x704, .f32⟩
  | .hbm, ⟨18, _⟩ => ⟨S8x4096x704, .bf16⟩
  | .hbm, ⟨19, _⟩ => ⟨S4096x8x704, .f32⟩
  | .hbm, ⟨20, _⟩ => ⟨S8x4096x704, .f32⟩
  | .hbm, ⟨21, _⟩ => ⟨S8x4096x704, .bf16⟩
  | .hbm, ⟨22, _⟩ => ⟨S4096x8x704, .f32⟩
  | .hbm, ⟨23, _⟩ => ⟨S8x4096x704, .f32⟩
  | .hbm, ⟨24, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Down.lean ====
abbrev S4096x2048 : Shape := ⟨2, ![4096, 2048]⟩
abbrev S4096x5632 : Shape := ⟨2, ![4096, 5632]⟩
abbrev S5632x2048 : Shape := ⟨2, ![5632, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x8x704, .bf16⟩
  | .hbm, ⟨4, _⟩ => ⟨S8x4096x704, .bf16⟩
  | .hbm, ⟨5, _⟩ => ⟨S5632x2048, .bf16⟩
  | .hbm, ⟨6, _⟩ => ⟨S8x704x2048, .bf16⟩
  | .hbm, ⟨7, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .bf16⟩
  | .hbm, ⟨2, _⟩ => ⟨S5632x2048, .f32⟩
  | .hbm, ⟨3, _⟩ => ⟨S4096x5632, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Dact.lean ====
abbrev S4096x5632 : Shape := ⟨2, ![4096, 5632]⟩
abbrev S5632x2048 : Shape := ⟨2, ![5632, 2048]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S256x704 : Shape := ⟨2, ![256, 704]⟩
abbrev S1x256x704 : Shape := ⟨3, ![1, 256, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .f32⟩
  | .hbm, ⟨4, _⟩ => ⟨S4096x2048, .bf16⟩
  | .hbm, ⟨5, _⟩ => ⟨S4096x8x704, .bf16⟩
  | .hbm, ⟨6, _⟩ => ⟨S8x4096x704, .bf16⟩
  | .hbm, ⟨7, _⟩ => ⟨S4096x8x704, .bf16⟩
  | .hbm, ⟨8, _⟩ => ⟨S8x4096x704, .bf16⟩
  | .hbm, ⟨9, _⟩ => ⟨S5632x2048, .bf16⟩
  | .hbm, ⟨10, _⟩ => ⟨S8x704x2048, .bf16⟩
  | .hbm, ⟨11, _⟩ => ⟨S8x4096x704, .bf16⟩
  | .hbm, ⟨12, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DactReferenceIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x8x704, .f32⟩
  | .hbm, ⟨35, _⟩ => ⟨S8x4096x704, .f32⟩
  | .hbm, ⟨36, _⟩ => ⟨S8x4096x704, .bf16⟩
  | .hbm, ⟨37, _⟩ => ⟨S4096x8x704, .f32⟩
  | .hbm, ⟨38, _⟩ => ⟨S8x4096x704, .f32⟩
  | .hbm, ⟨39, _⟩ => ⟨S8x4096x704, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Dwd.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩
abbrev S176x2048 : Shape := ⟨2, ![176, 2048]⟩
abbrev S1x176x2048 : Shape := ⟨3, ![1, 176, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S4096x8x704, .bf16⟩
  | .hbm, ⟨3, _⟩ => ⟨S8x4096x704, .bf16⟩
  | .hbm, ⟨4, _⟩ => ⟨S4096x2048, .bf16⟩
  | .hbm, ⟨5, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwdReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x5632, .f32⟩
  | .hbm, ⟨13, _⟩ => ⟨S5632x2048, .f32⟩
  | .hbm, ⟨14, _⟩ => ⟨S8x704x2048, .f32⟩
  | .hbm, ⟨15, _⟩ => ⟨S8x704x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Dwg.lean ====
abbrev S4096x5632 : Shape := ⟨2, ![4096, 5632]⟩
abbrev S4096x2048 : Shape := ⟨2, ![4096, 2048]⟩
abbrev S4096x8x704 : Shape := ⟨3, ![4096, 8, 704]⟩
abbrev S8x4096x704 : Shape := ⟨3, ![8, 4096, 704]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩
abbrev S176x2048 : Shape := ⟨2, ![176, 2048]⟩
abbrev S1x176x2048 : Shape := ⟨3, ![1, 176, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x8x704, .bf16⟩
  | .hbm, ⟨3, _⟩ => ⟨S8x4096x704, .bf16⟩
  | .hbm, ⟨4, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwgReferenceIdeal.lean ====
abbrev S4096x5632 : Shape := ⟨2, ![4096, 5632]⟩
abbrev S4096x2048 : Shape := ⟨2, ![4096, 2048]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S8x704x2048, .f32⟩
  | .hbm, ⟨11, _⟩ => ⟨S8x704x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dxa.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S5632x2048 : Shape := ⟨2, ![5632, 2048]⟩
abbrev S8x704x2048 : Shape := ⟨3, ![8, 704, 2048]⟩
abbrev S4096x8x704 : Shape := ⟨3, ![4096, 8, 704]⟩
abbrev S8x4096x704 : Shape := ⟨3, ![8, 4096, 704]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 20
  | .vmem => 19
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S5632x2048, .f32⟩
  | .hbm, ⟨8, _⟩ => ⟨S5632x2048, .bf16⟩
  | .hbm, ⟨9, _⟩ => ⟨S8x704x2048, .bf16⟩
  | .hbm, ⟨10, _⟩ => ⟨S5632x2048, .f32⟩
  | .hbm, ⟨11, _⟩ => ⟨S5632x2048, .bf16⟩
  | .hbm, ⟨12, _⟩ => ⟨S8x704x2048, .bf16⟩
  | .hbm, ⟨13, _⟩ => ⟨S4096x8x704, .bf16⟩
  | .hbm, ⟨14, _⟩ => ⟨S8x4096x704, .bf16⟩
  | .hbm, ⟨15, _⟩ => ⟨S4096x8x704, .bf16⟩
  | .hbm, ⟨16, _⟩ => ⟨S8x4096x704, .bf16⟩
  | .hbm, ⟨17, _⟩ => ⟨S4096x2048, .f32⟩
  | .hbm, ⟨18, _⟩ => ⟨S4096x2048, .bf16⟩
  | .hbm, ⟨19, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_23 : BitVec 32 := 0#32
  let v28 : BitVec 1 := Scalar.cmpi .ne v27 c0_i32_23
  v28

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v176 : BitVec 32 := Scalar.extui v2
  let c0_i32_93 : BitVec 32 := 0#32
  let v177 : BitVec 1 := Scalar.cmpi .ne v176 c0_i32_93
  v177

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v178 : BitVec 1 := Scalar.xori v2 v_true
  let v179 : BitVec 32 := Scalar.extui v178
  let c0_i32_94 : BitVec 32 := 0#32
  let v180 : BitVec 1 := Scalar.cmpi .ne v179 c0_i32_94
  v180

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg2.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg2.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== DxaReferenceIdeal.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S2048x5632, .bf16⟩
  | .hbm, ⟨8, _⟩ => ⟨S2048x5632, .bf16⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S1x2048, .f32⟩
  | .hbm, ⟨66, _⟩ => ⟨S_, .f32⟩
  | .hbm, ⟨67, _⟩ => ⟨S2048x2048, .f32⟩
  | .hbm, ⟨68, _⟩ => ⟨S4096x2048, .f32⟩
  | .hbm, ⟨69, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Dxb.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S5632x2048 : Shape := ⟨2, ![5632, 2048]⟩
abbrev S8x704x2048 : Shape := ⟨3, ![8, 704, 2048]⟩
abbrev S4096x8x704 : Shape := ⟨3, ![4096, 8, 704]⟩
abbrev S8x4096x704 : Shape := ⟨3, ![8, 4096, 704]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 22
  | .vmem => 19
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S5632x2048, .f32⟩
  | .hbm, ⟨13, _⟩ => ⟨S5632x2048, .bf16⟩
  | .hbm, ⟨14, _⟩ => ⟨S8x704x2048, .bf16⟩
  | .hbm, ⟨15, _⟩ => ⟨S4096x8x704, .bf16⟩
  | .hbm, ⟨16, _⟩ => ⟨S8x4096x704, .bf16⟩
  | .hbm, ⟨17, _⟩ => ⟨S4096x8x704, .bf16⟩
  | .hbm, ⟨18, _⟩ => ⟨S8x4096x704, .bf16⟩
  | .hbm, ⟨19, _⟩ => ⟨S4096x2048, .f32⟩
  | .hbm, ⟨20, _⟩ => ⟨S4096x2048, .bf16⟩
  | .hbm, ⟨21, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_23 : BitVec 32 := 0#32
  let v28 : BitVec 1 := Scalar.cmpi .ne v27 c0_i32_23
  v28

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v176 : BitVec 32 := Scalar.extui v2
  let c0_i32_93 : BitVec 32 := 0#32
  let v177 : BitVec 1 := Scalar.cmpi .ne v176 c0_i32_93
  v177

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v178 : BitVec 1 := Scalar.xori v2 v_true
  let v179 : BitVec 32 := Scalar.extui v178
  let c0_i32_94 : BitVec 32 := 0#32
  let v180 : BitVec 1 := Scalar.cmpi .ne v179 c0_i32_94
  v180

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg2.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![arg2.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== DxbReferenceIdeal.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .f32⟩
  | .hbm, ⟨3, _⟩ => ⟨S2048x5632, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S2048x5632, .bf16⟩
  | .hbm, ⟨10, _⟩ => ⟨S2048x5632, .bf16⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S1x2048, .f32⟩
  | .hbm, ⟨68, _⟩ => ⟨S2048x2048, .f32⟩
  | .hbm, ⟨69, _⟩ => ⟨S4096x2048, .f32⟩
  | .hbm, ⟨70, _⟩ => ⟨S2048x2048, .bf16⟩
  | .hbm, ⟨71, _⟩ => ⟨S2048x2048, .bf16⟩
  | .hbm, ⟨72, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Rms.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proj.lean ====
abbrev S4096x2048 : Shape := ⟨2, ![4096, 2048]⟩
abbrev S2048x9728 : Shape := ⟨2, ![2048, 9728]⟩
abbrev S9728x2048 : Shape := ⟨2, ![9728, 2048]⟩
abbrev S9728x1024 : Shape := ⟨2, ![9728, 1024]⟩
abbrev S4096x9728 : Shape := ⟨2, ![4096, 9728]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .f32⟩
  | .hbm, ⟨2, _⟩ => ⟨S9728x2048, .f32⟩
  | .hbm, ⟨3, _⟩ => ⟨S9728x2048, .bf16⟩
  | .hbm, ⟨4, _⟩ => ⟨S9728x1024, .bf16⟩
  | .hbm, ⟨5, _⟩ => ⟨S9728x1024, .bf16⟩
  | .hbm, ⟨6, _⟩ => ⟨S4096x9728, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjReferenceIdeal.lean ====
abbrev S4096x2048 : Shape := ⟨2, ![4096, 2048]⟩
abbrev S2048x9728 : Shape := ⟨2, ![2048, 9728]⟩
abbrev S4096x9728 : Shape := ⟨2, ![4096, 9728]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .f32⟩
  | .hbm, ⟨2, _⟩ => ⟨S4096x2048, .f32⟩
  | .hbm, ⟨3, _⟩ => ⟨S4096x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S4096x1024 : Shape := ⟨2, ![4096, 1024]⟩
abbrev S4096x9728 : Shape := ⟨2, ![4096, 9728]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x9728, .f32⟩
  | .hbm, ⟨3, _⟩ => ⟨S1024x2048, .f32⟩
  | .hbm, ⟨4, _⟩ => ⟨S1024x2048, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1024x2048, .bf16⟩
  | .hbm, ⟨9, _⟩ => ⟨S1024x8x256, .bf16⟩
  | .hbm, ⟨10, _⟩ => ⟨S8x1024x256, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.addi c30_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MergeReferenceIdeal.lean ====
abbrev S4096x1024 : Shape := ⟨2, ![4096, 1024]⟩
abbrev S4096x9728 : Shape := ⟨2, ![4096, 9728]⟩
abbrev S1024x2048 : Shape := ⟨2, ![1024, 2048]⟩
abbrev S4096x2048 : Shape := ⟨2, ![4096, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x9728, .f32⟩
  | .hbm, ⟨3, _⟩ => ⟨S1024x2048, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S4096x2048, .bf16⟩
  | .hbm, ⟨32, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .f32⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dmerge.lean ====
abbrev S4096x9728 : Shape := ⟨2, ![4096, 9728]⟩
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x9728, .f32⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DmergeReferenceIdeal.lean ====
abbrev S4096x9728 : Shape := ⟨2, ![4096, 9728]⟩
abbrev S4096x2048 : Shape := ⟨2, ![4096, 2048]⟩
abbrev S2048x2048 : Shape := ⟨2, ![2048, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x9728, .f32⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | .hbm, ⟨45, _⟩ => ⟨S4096x2048, .bf16⟩
  | .hbm, ⟨46, _⟩ => ⟨S4096x2048, .bf16⟩
  | .hbm, ⟨47, _⟩ => ⟨S4096x2048, .bf16⟩
  | _, _ => ⟨S4096x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Dwout.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩
abbrev S128x2048 : Shape := ⟨2, ![128, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .bf16⟩
  | .hbm, ⟨3, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwoutReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwup.lean ====
abbrev S4096x1024 : Shape := ⟨2, ![4096, 1024]⟩
abbrev S4096x2048 : Shape := ⟨2, ![4096, 2048]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .bf16⟩
  | .hbm, ⟨4, _⟩ => ⟨S8x1024x256, .bf16⟩
  | .hbm, ⟨5, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x256, .bf16⟩
  | .local _ .vmem, ⟨7, _⟩ => ⟨S2048x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1024x256, .f32⟩
  | .local _ .vmem, ⟨13, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]
-- ==== DwupReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .bf16⟩
  | .hbm, ⟨4, _⟩ => ⟨S_, .f32⟩
  | .hbm, ⟨5, _⟩ => ⟨S1024x2048, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S8x1024x256, .bf16⟩
  | .hbm, ⟨14, _⟩ => ⟨S_, .f32⟩
  | .hbm, ⟨15, _⟩ => ⟨S1024x2048, .f32⟩
  | .hbm, ⟨16, _⟩ => ⟨S4096x1024, .f32⟩
  | .hbm, ⟨17, _⟩ => ⟨S4096x2048, .f32⟩
  | .hbm, ⟨18, _⟩ => ⟨S4096x2048, .f32⟩
  | .hbm, ⟨19, _⟩ => ⟨S2048x1024, .f32⟩
  | .hbm, ⟨20, _⟩ => ⟨S1024x2048, .f32⟩
  | .hbm, ⟨21, _⟩ => ⟨S1024x8x256, .f32⟩
  | .hbm, ⟨22, _⟩ => ⟨S8x1024x256, .f32⟩
  | .hbm, ⟨23, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Dmix.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S1024x256 : Shape := ⟨2, ![1024, 256]⟩
abbrev S1x1024x256 : Shape := ⟨3, ![1, 1024, 256]⟩
abbrev S1024x1024 : Shape := ⟨2, ![1024, 1024]⟩
abbrev S256x1024 : Shape := ⟨2, ![256, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1024x2048, .f32⟩
  | .hbm, ⟨3, _⟩ => ⟨S1024x2048, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S1024x2048, .bf16⟩
  | .hbm, ⟨8, _⟩ => ⟨S1024x8x256, .bf16⟩
  | .hbm, ⟨9, _⟩ => ⟨S8x1024x256, .bf16⟩
  | .hbm, ⟨10, _⟩ => ⟨S4096x1024, .bf16⟩
  | .hbm, ⟨11, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== DmixReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .bf16⟩
  | .hbm, ⟨10, _⟩ => ⟨S_, .f32⟩
  | .hbm, ⟨11, _⟩ => ⟨S4096x1024, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Dwin.lean ====
abbrev S4096x9728 : Shape := ⟨2, ![4096, 9728]⟩
abbrev S4096x2048 : Shape := ⟨2, ![4096, 2048]⟩
abbrev S9728x2048 : Shape := ⟨2, ![9728, 2048]⟩
abbrev S512x2432 : Shape := ⟨2, ![512, 2432]⟩
abbrev S512x1024 : Shape := ⟨2, ![512, 1024]⟩
abbrev S2432x1024 : Shape := ⟨2, ![2432, 1024]⟩
abbrev S304x1024 : Shape := ⟨2, ![304, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x9728, .bf16⟩
  | .hbm, ⟨1, _⟩ => ⟨S4096x2048, .bf16⟩
  | .hbm, ⟨2, _⟩ => ⟨S9728x2048, .bf16⟩
  | .local _ .vmem, ⟨0, _⟩ => ⟨S512x2432, .bf16⟩
  | .local _ .vmem, ⟨1, _⟩ => ⟨S512x2432, .bf16⟩
  | .local _ .vmem, ⟨2, _⟩ => ⟨S512x1024, .bf16⟩
  | .local _ .vmem, ⟨3, _⟩ => ⟨S512x1024, .bf16⟩
  | .local _ .vmem, ⟨4, _⟩ => ⟨S2432x1024, .bf16⟩
  | .local _ .vmem, ⟨5, _⟩ => ⟨S2432x1024, .bf16⟩
  | .local _ .vmem, ⟨6, _⟩ => ⟨S2432x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinReferenceIdeal.lean ====
abbrev S4096x9728 : Shape := ⟨2, ![4096, 9728]⟩
abbrev S4096x2048 : Shape := ⟨2, ![4096, 2048]⟩
abbrev S_ : Shape := ⟨0, ![]⟩
abbrev S2048x9728 : Shape := ⟨2, ![2048, 9728]⟩
abbrev S9728x2048 : Shape := ⟨2, ![9728, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S4096x2048, .bf16⟩
  | .hbm, ⟨2, _⟩ => ⟨S_, .f32⟩
  | .hbm, ⟨3, _⟩ => ⟨S2048x9728, .f32⟩
  | .hbm, ⟨4, _⟩ => ⟨S4096x2048, .f32⟩
  | .hbm, ⟨5, _⟩ => ⟨S4096x9728, .f32⟩
  | .hbm, ⟨6, _⟩ => ⟨S4096x9728, .f32⟩
  | .hbm, ⟨7, _⟩ => ⟨S9728x2048, .f32⟩
  | .hbm, ⟨8, _⟩ => ⟨S2048x9728, .f32⟩
  | .hbm, ⟨9, _⟩ => ⟨S9728x2048, .f32⟩
  | .hbm, ⟨10, _⟩ => ⟨S9728x2048, .bf16⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dxin.lean ====
abbrev S4096x9728 : Shape := ⟨2, ![4096, 9728]⟩
abbrev S2048x9728 : Shape := ⟨2, ![2048, 9728]⟩
abbrev S4096x2048 : Shape := ⟨2, ![4096, 2048]⟩
abbrev S1x2048 : Shape := ⟨2, ![1, 2048]⟩
abbrev S9728x2048 : Shape := ⟨2, ![9728, 2048]⟩
abbrev S9728x1024 : Shape := ⟨2, ![9728, 1024]⟩
abbrev S512x512 : Shape := ⟨2, ![512, 512]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 18
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S9728x2048, .f32⟩
  | .hbm, ⟨6, _⟩ => ⟨S9728x2048, .bf16⟩
  | .hbm, ⟨7, _⟩ => ⟨S9728x1024, .bf16⟩
  | .hbm, ⟨8, _⟩ => ⟨S9728x1024, .bf16⟩
  | .hbm, ⟨9, _⟩ => ⟨S4096x2048, .f32⟩
  | .hbm, ⟨10, _⟩ => ⟨S4096x2048, .bf16⟩
  | .hbm, ⟨11, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x1024, .f32⟩
  | .local _ .vmem, ⟨17, _⟩ => ⟨S512x1024, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![8, 1, 19], ![false, false, false]⟩

def k0_cond2 (i : grid0.Coords) : BitVec 1 :=
  let arg2 : BitVec 32 := BitVec.ofNat 32 (i 2).val
  let c18_i32 : BitVec 32 := 18#32
  let v24 : BitVec 1 := Scalar.cmpi .eq arg2 c18_i32
  let v25 : BitVec 32 := Scalar.extui v24
  let c0_i32_19 : BitVec 32 := 0#32
  let v26 : BitVec 1 := Scalar.cmpi .ne v25 c0_i32_19
  v26

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v104 : BitVec 32 := Scalar.extui v2
  let c0_i32_59 : BitVec 32 := 0#32
  let v105 : BitVec 1 := Scalar.cmpi .ne v104 c0_i32_59
  v105

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v106 : BitVec 1 := Scalar.xori v2 v_true
  let v107 : BitVec 32 := Scalar.extui v106
  let c0_i32_60 : BitVec 32 := 0#32
  let v108 : BitVec 1 := Scalar.cmpi .ne v107 c0_i32_60
  v108

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DxinReferenceIdeal.lean ====
abbrev S4096x9728 : Shape := ⟨2, ![4096, 9728]⟩
abbrev S2048x9728 : Shape := ⟨2, ![2048, 9728]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x9728, .f32⟩
  | .hbm, ⟨27, _⟩ => ⟨S4096x9728, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .bf16⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Ple.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S256x8x256 : Shape := ⟨3, ![256, 8, 256]⟩
abbrev S8x256x256 : Shape := ⟨3, ![8, 256, 256]⟩
abbrev S1024x2048 : Shape := ⟨2, ![1024, 2048]⟩
abbrev S2048x256 : Shape := ⟨2, ![2048, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x256, .f32⟩
  | .hbm, ⟨3, _⟩ => ⟨S2048x2048, .f32⟩
  | .hbm, ⟨4, _⟩ => ⟨S256x2048, .f32⟩
  | .hbm, ⟨5, _⟩ => ⟨S4096x256, .bf16⟩
  | .hbm, ⟨6, _⟩ => ⟨S2048x2048, .bf16⟩
  | .hbm, ⟨7, _⟩ => ⟨S256x2048, .bf16⟩
  | .hbm, ⟨8, _⟩ => ⟨S256x8x256, .bf16⟩
  | .hbm, ⟨9, _⟩ => ⟨S8x256x256, .bf16⟩
  | .hbm, ⟨10, _⟩ => ⟨S4096x2048, .f32⟩
  | .hbm, ⟨11, _⟩ => ⟨S4096x2048, .bf16⟩
  | .hbm, ⟨12, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== PleReferenceIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x256, .f32⟩
  | .hbm, ⟨3, _⟩ => ⟨S2048x2048, .f32⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Pledgate.lean ====
abbrev S4096x2048 : Shape := ⟨2, ![4096, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PledgateReferenceIdeal.lean ====
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Pledwp.lean ====
abbrev S4096x256 : Shape := ⟨2, ![4096, 256]⟩
abbrev S4096x2048 : Shape := ⟨2, ![4096, 2048]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S4096x256, .bf16⟩
  | .hbm, ⟨3, _⟩ => ⟨S8x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== PledwpReferenceIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x8x256, .f32⟩
  | .hbm, ⟨9, _⟩ => ⟨S8x256x256, .f32⟩
  | .hbm, ⟨10, _⟩ => ⟨S8x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Pledwg.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩
abbrev S128x2048 : Shape := ⟨2, ![128, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PledwgReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pledx.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .bf16⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v80 : BitVec 32 := Scalar.extui v2
  let c0_i32_35 : BitVec 32 := 0#32
  let v81 : BitVec 1 := Scalar.cmpi .ne v80 c0_i32_35
  v81

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v82 : BitVec 1 := Scalar.xori v2 v_true
  let v83 : BitVec 32 := Scalar.extui v82
  let c0_i32_36 : BitVec 32 := 0#32
  let v84 : BitVec 1 := Scalar.cmpi .ne v83 c0_i32_36
  v84

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== PledxReferenceIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.References.lean ====
/-
  The references run: each is a straight list of host operations, so it terminates, leaves its arguments, and has no
  semaphore to leave raised.
-/
module

public import proofs.«01_k».proof.Defs
public import Idealize.ShloMosaic.Lib.Quiescent
public import proofs.«01_k».proof.Proof.Gen.UpReferenceIdeal.Run
public import proofs.«01_k».proof.Proof.Gen.DownReferenceIdeal.Run
public import proofs.«01_k».proof.Proof.Gen.DactReferenceIdeal.Run
public import proofs.«01_k».proof.Proof.Gen.DwdReferenceIdeal.Run
public import proofs.«01_k».proof.Proof.Gen.DwgReferenceIdeal.Run
public import proofs.«01_k».proof.Proof.Gen.DxaReferenceIdeal.Run
public import proofs.«01_k».proof.Proof.Gen.DxbReferenceIdeal.Run
public import proofs.«01_k».proof.Proof.Gen.RmsReferenceIdeal.Run
public import proofs.«01_k».proof.Proof.Gen.ProjReferenceIdeal.Run
public import proofs.«01_k».proof.Proof.Gen.MergeReferenceIdeal.Run
public import proofs.«01_k».proof.Proof.Gen.OutReferenceIdeal.Run
public import proofs.«01_k».proof.Proof.Gen.DmergeReferenceIdeal.Run
public import proofs.«01_k».proof.Proof.Gen.DwoutReferenceIdeal.Run
public import proofs.«01_k».proof.Proof.Gen.DwupReferenceIdeal.Run
public import proofs.«01_k».proof.Proof.Gen.DmixReferenceIdeal.Run
public import proofs.«01_k».proof.Proof.Gen.DwinReferenceIdeal.Run
public import proofs.«01_k».proof.Proof.Gen.DxinReferenceIdeal.Run
public import proofs.«01_k».proof.Proof.Gen.PleReferenceIdeal.Run
public import proofs.«01_k».proof.Proof.Gen.PledgateReferenceIdeal.Run
public import proofs.«01_k».proof.Proof.Gen.PledwpReferenceIdeal.Run
public import proofs.«01_k».proof.Proof.Gen.PledwgReferenceIdeal.Run
public import proofs.«01_k».proof.Proof.Gen.PledxReferenceIdeal.Run

@[expose] public section

namespace Cert.References

open Idealize.ShloMosaic Idealize.ShloMosaic.TcCoe Idealize.SL.Sem

/-- `UpReference` runs and leaves its arguments as they were. -/
theorem frame_Up : Cert.quiescent_UpReferenceIdeal := fun m ρ _ =>
  (θ_run Cert.UpReferenceIdeal.defs _ _).mono (fun r h => ⟨fun c => (h c).2.2.2,
      Idealize.ShloMosaic.sem_eq_zero_of_no_sems (by decide) r.2⟩)
    (Cert.UpReferenceIdeal.Value.run (F := Ideal) m ρ)

/-- `DownReference` runs and leaves its arguments as they were. -/
theorem frame_Down : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- `DactReference` runs and leaves its arguments as they were. -/
theorem frame_Dact : Cert.quiescent_DactReferenceIdeal := fun m ρ _ =>
  (θ_run Cert.DactReferenceIdeal.defs _ _).mono (fun r h => ⟨fun c => (h c).2.2,
      Idealize.ShloMosaic.sem_eq_zero_of_no_sems (by decide) r.2⟩)
    (Cert.DactReferenceIdeal.Value.run (F := Ideal) m ρ)

/-- `DwdReference` runs and leaves its arguments as they were. -/
theorem frame_Dwd : Cert.quiescent_DwdReferenceIdeal := fun m ρ _ =>
  (θ_run Cert.DwdReferenceIdeal.defs _ _).mono (fun r h => ⟨fun c => (h c).2,
      Idealize.ShloMosaic.sem_eq_zero_of_no_sems (by decide) r.2⟩)
    (Cert.DwdReferenceIdeal.Value.run (F := Ideal) m ρ)

/-- `DwgReference` runs and leaves its arguments as they were. -/
theorem frame_Dwg : Cert.quiescent_DwgReferenceIdeal := fun m ρ _ =>
  (θ_run Cert.DwgReferenceIdeal.defs _ _).mono (fun r h => ⟨fun c => (h c).2,
      Idealize.ShloMosaic.sem_eq_zero_of_no_sems (by decide) r.2⟩)
    (Cert.DwgReferenceIdeal.Value.run (F := Ideal) m ρ)

/-- `DxaReference` runs and leaves its arguments as they were. -/
theorem frame_Dxa : Cert.quiescent_DxaReferenceIdeal := fun m ρ _ =>
  (θ_run Cert.DxaReferenceIdeal.defs _ _).mono (fun r h => ⟨fun c => (h c).2.2.2,
      Idealize.ShloMosaic.sem_eq_zero_of_no_sems (by decide) r.2⟩)
    (Cert.DxaReferenceIdeal.Value.run (F := Ideal) m ρ)

/-- `DxbReference` runs and leaves its arguments as they were. -/
theorem frame_Dxb : Cert.quiescent_DxbReferenceIdeal := fun m ρ _ =>
  (θ_run Cert.DxbReferenceIdeal.defs _ _).mono (fun r h => ⟨fun c => (h c).2.2.2,
      Idealize.ShloMosaic.sem_eq_zero_of_no_sems (by decide) r.2⟩)
    (Cert.DxbReferenceIdeal.Value.run (F := Ideal) m ρ)

/-- `RmsReference` runs and leaves its arguments as they were. -/
theorem frame_Rms : Cert.quiescent_RmsReferenceIdeal := fun m ρ _ =>
  (θ_run Cert.RmsReferenceIdeal.defs _ _).mono (fun r h => ⟨fun c => (h c).2,
      Idealize.ShloMosaic.sem_eq_zero_of_no_sems (by decide) r.2⟩)
    (Cert.RmsReferenceIdeal.Value.run (F := Ideal) m ρ)

/-- `ProjReference` runs and leaves its arguments as they were. -/
theorem frame_Proj : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

/-- `MergeReference` runs and leaves its arguments as they were. -/
theorem frame_Merge : Cert.quiescent_MergeReferenceIdeal := fun m ρ _ =>
  (θ_run Cert.MergeReferenceIdeal.defs _ _).mono (fun r h => ⟨fun c => (h c).2.2.2,
      Idealize.ShloMosaic.sem_eq_zero_of_no_sems (by decide) r.2⟩)
    (Cert.MergeReferenceIdeal.Value.run (F := Ideal) m ρ)

/-- `OutReference` runs and leaves its arguments as they were. -/
theorem frame_Out : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- `DmergeReference` runs and leaves its arguments as they were. -/
theorem frame_Dmerge : Cert.quiescent_DmergeReferenceIdeal := fun m ρ _ =>
  (θ_run Cert.DmergeReferenceIdeal.defs _ _).mono (fun r h => ⟨fun c => (h c).2.2.2.2,
      Idealize.ShloMosaic.sem_eq_zero_of_no_sems (by decide) r.2⟩)
    (Cert.DmergeReferenceIdeal.Value.run (F := Ideal) m ρ)

/-- `DwoutReference` runs and leaves its arguments as they were. -/
theorem frame_Dwout : Cert.quiescent_DwoutReferenceIdeal := fun m ρ _ =>
  (θ_run Cert.DwoutReferenceIdeal.defs _ _).mono (fun r h => ⟨fun c => (h c).2,
      Idealize.ShloMosaic.sem_eq_zero_of_no_sems (by decide) r.2⟩)
    (Cert.DwoutReferenceIdeal.Value.run (F := Ideal) m ρ)

/-- `DwupReference` runs and leaves its arguments as they were. -/
theorem frame_Dwup : Cert.quiescent_DwupReferenceIdeal := fun m ρ _ =>
  (θ_run Cert.DwupReferenceIdeal.defs _ _).mono (fun r h => ⟨fun c => (h c).2.2,
      Idealize.ShloMosaic.sem_eq_zero_of_no_sems (by decide) r.2⟩)
    (Cert.DwupReferenceIdeal.Value.run (F := Ideal) m ρ)

/-- `DmixReference` runs and leaves its arguments as they were. -/
theorem frame_Dmix : Cert.quiescent_DmixReferenceIdeal := fun m ρ _ =>
  (θ_run Cert.DmixReferenceIdeal.defs _ _).mono (fun r h => ⟨fun c => (h c).2.2,
      Idealize.ShloMosaic.sem_eq_zero_of_no_sems (by decide) r.2⟩)
    (Cert.DmixReferenceIdeal.Value.run (F := Ideal) m ρ)

/-- `DwinReference` runs and leaves its arguments as they were. -/
theorem frame_Dwin : Cert.quiescent_DwinReferenceIdeal := fun m ρ _ =>
  (θ_run Cert.DwinReferenceIdeal.defs _ _).mono (fun r h => ⟨fun c => (h c).2,
      Idealize.ShloMosaic.sem_eq_zero_of_no_sems (by decide) r.2⟩)
    (Cert.DwinReferenceIdeal.Value.run (F := Ideal) m ρ)

/-- `DxinReference` runs and leaves its arguments as they were. -/
theorem frame_Dxin : Cert.quiescent_DxinReferenceIdeal := fun m ρ _ =>
  (θ_run Cert.DxinReferenceIdeal.defs _ _).mono (fun r h => ⟨fun c => (h c).2.2.2,
      Idealize.ShloMosaic.sem_eq_zero_of_no_sems (by decide) r.2⟩)
    (Cert.DxinReferenceIdeal.Value.run (F := Ideal) m ρ)

/-- `PleReference` runs and leaves its arguments as they were. -/
theorem frame_Ple : Cert.quiescent_PleReferenceIdeal := fun m ρ _ =>
  (θ_run Cert.PleReferenceIdeal.defs _ _).mono (fun r h => ⟨fun c => (h c).2.2.2,
      Idealize.ShloMosaic.sem_eq_zero_of_no_sems (by decide) r.2⟩)
    (Cert.PleReferenceIdeal.Value.run (F := Ideal) m ρ)

/-- `PledgateReference` runs and leaves its arguments as they were. -/
theorem frame_Pledgate : Cert.quiescent_PledgateReferenceIdeal := fun m ρ _ =>
  (θ_run Cert.PledgateReferenceIdeal.defs _ _).mono (fun r h => ⟨fun c => (h c).2.2,
      Idealize.ShloMosaic.sem_eq_zero_of_no_sems (by decide) r.2⟩)
    (Cert.PledgateReferenceIdeal.Value.run (F := Ideal) m ρ)

/-- `PledwpReference` runs and leaves its arguments as they were. -/
theorem frame_Pledwp : Cert.quiescent_PledwpReferenceIdeal := fun m ρ _ =>
  (θ_run Cert.PledwpReferenceIdeal.defs _ _).mono (fun r h => ⟨fun c => (h c).2,
      Idealize.ShloMosaic.sem_eq_zero_of_no_sems (by decide) r.2⟩)
    (Cert.PledwpReferenceIdeal.Value.run (F := Ideal) m ρ)

/-- `PledwgReference` runs and leaves its arguments as they were. -/
theorem frame_Pledwg : Cert.quiescent_PledwgReferenceIdeal := fun m ρ _ =>
  (θ_run Cert.PledwgReferenceIdeal.defs _ _).mono (fun r h => ⟨fun c => (h c).2,
      Idealize.ShloMosaic.sem_eq_zero_of_no_sems (by decide) r.2⟩)
    (Cert.PledwgReferenceIdeal.Value.run (F := Ideal) m ρ)

/-- `PledxReference` runs and leaves its arguments as they were. -/
theorem frame_Pledx : Cert.quiescent_PledxReferenceIdeal := fun m ρ _ =>
  (θ_run Cert.PledxReferenceIdeal.defs _ _).mono (fun r h => ⟨fun c => (h c).2.2.2,
      Idealize.ShloMosaic.sem_eq_zero_of_no_sems (by decide) r.2⟩)
    (Cert.PledxReferenceIdeal.Value.run (F := Ideal) m ρ)

end Cert.References

end
-- ==== Proof.Sums.lean ====
/-
  Facts about sums of extended reals, used by every product: a nonnegative real scale passes through a finite sum, and a
  sum over `n * b` positions is the sum over `n` blocks of `b`.
-/
module

public import Idealize.ShloMosaic.Lib.Pipeline.ValueKit.Tiles
public import Idealize.ShloMosaic.PureOps.Ideal.Laws

@[expose] public section

noncomputable section

namespace Cert.Sums

open Idealize.ShloMosaic

/-- A nonnegative real factor passes through a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- The half that scales both feed-forward layers, as a real. -/
theorem half_eq : Ideal.ofBits .f32 0x3F000000#32 = ((1 / 2 : ℝ) : EReal) := by
  simp [Ideal.ofBits, Ideal.ieee, -EReal.coe_mul]; norm_num

/-- The one of the sigmoid, as a real. -/
theorem one_eq : Ideal.ofBits .f32 0x3F800000#32 = 1 := by
  simp [Ideal.ofBits, Ideal.ieee, -EReal.coe_mul]; norm_num

/-- Half of a sum is the sum of the halves. -/
theorem half_mul_sum {ι : Type*} (s : Finset ι) (f : ι → EReal) :
    Ideal.ofBits .f32 0x3F000000#32 * ∑ k ∈ s, f k = ∑ k ∈ s, Ideal.ofBits .f32 0x3F000000#32 * f k := by
  rw [half_eq]
  exact coe_mul_sum s _ (by norm_num) f

end Cert.Sums

end
-- ==== Proof.UpValue.lean ====
/-
  The gate and up projections of the feed-forward layer, with the activation: what one grid point leaves in its blocks.
-/
module

public import proofs.«01_k».proof.Proof.Sums
public import proofs.«01_k».proof.Proof.Gen.UpIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.UpIdeal.Sum

open Idealize.ShloMosaic Idealize.ShloMosaic.TcCoe Idealize.SL.Sem
open Cert.UpIdeal Cert.UpIdeal.Gen

/-- Row `a` of a block of tokens against row `b` of a shard of a transposed weight. -/
def part (x : Vec Ideal S1024x2048 .bf16) (w : Vec Ideal S1x704x2048 .bf16) (a : Fin 1024) (b : Fin 704) : EReal :=
  ∑ k : Fin 2048, x (ix2 a k) * w (ix3 0 b k)

/-- The gated activation of a gate value and an up value. -/
def gated (g u : EReal) : EReal := g * Ideal.div 1 (1 + Ideal.exp (0 - g)) * u

/-- The block of gate values. -/
theorem out3_apply (x0 : Vec Ideal S1024x2048 .bf16) (x1 x2 : Vec Ideal S1x704x2048 .bf16) (a : Fin 1024) (b : Fin 704) :
    out0_3 (F := Ideal) x0 x1 x2 (ix3 0 a b) = part x0 x1 a b := by
  unfold_out out0_3
  frame_out
  canon_tiles x h
  all_goals
    open_payloads
    pointwise
    unfold part
    refine Finset.sum_congr rfl fun k _ => ?_
    refine congrArg₂ (fun p q => x0 (ix2 p k) * x1 (ix3 0 q k)) (Fin.ext ?_) (Fin.ext ?_) <;> simp at h1 h2 ⊢ <;> omega

/-- The block of up values. -/
theorem out4_apply (x0 : Vec Ideal S1024x2048 .bf16) (x1 x2 : Vec Ideal S1x704x2048 .bf16) (a : Fin 1024) (b : Fin 704) :
    out0_4 (F := Ideal) x0 x1 x2 (ix3 0 a b) = part x0 x2 a b := by
  unfold_out out0_4
  frame_out
  canon_tiles x h
  all_goals
    open_payloads
    pointwise
    unfold part
    refine Finset.sum_congr rfl fun k _ => ?_
    refine congrArg₂ (fun p q => x0 (ix2 p k) * x2 (ix3 0 q k)) (Fin.ext ?_) (Fin.ext ?_) <;> simp at h1 h2 ⊢ <;> omega

/-- The block of activations. -/
theorem out5_apply (x0 : Vec Ideal S1024x2048 .bf16) (x1 x2 : Vec Ideal S1x704x2048 .bf16) (a : Fin 1024) (b : Fin 704) :
    out0_5 (F := Ideal) x0 x1 x2 (ix3 0 a b) = gated (part x0 x1 a b) (part x0 x2 a b) := by
  unfold_out out0_5
  frame_out
  canon_tiles x h
  all_goals
    open_payloads
    pointwise
    unfold part
    refine congrArg₂ gated (Finset.sum_congr rfl fun k _ => ?_) (Finset.sum_congr rfl fun k _ => ?_)
    · refine congrArg₂ (fun p q => x0 (ix2 p k) * x1 (ix3 0 q k)) (Fin.ext ?_) (Fin.ext ?_) <;> simp at h1 h2 ⊢ <;> omega
    · refine congrArg₂ (fun p q => x0 (ix2 p k) * x2 (ix3 0 q k)) (Fin.ext ?_) (Fin.ext ?_) <;> simp at h1 h2 ⊢ <;> omega

end Cert.UpIdeal.Sum

end
-- ==== Proof.UpResult.lean ====
/-
  The gate and up projections with the activation: the three result arrays in closed form, the reference's, and that they agree.
-/
module

public import proofs.«01_k».proof.Proof.UpValue
public import proofs.«01_k».proof.Proof.Gen.UpReferenceIdeal.Read

@[expose] public section

noncomputable section

namespace Cert.UpIdeal.Sum

open Idealize.ShloMosaic Idealize.ShloMosaic.TcCoe Idealize.SL.Sem
open Cert.UpIdeal Cert.UpIdeal.Gen Cert.UpReferenceIdeal.Read

variable (m : (ℓ : Loc nD τ sig) → Buf (Elt Ideal) ℓ)

/-- A token's row against column `b` of shard `q` of a weight. -/
def proj (h : Vec Ideal S4096x2048 .bf16) (w : Vec Ideal S2048x5632 .f32) (q : Fin 8) (i : Fin 4096) (b : Fin 704) : EReal :=
  ∑ k : Fin 2048, h (ix2 i k) * w (ix2 k ⟨q.val * 704 + b.val, by omega⟩)

/-- The grid's block indices, decided: token block `t / 8`, shard `t % 8`. -/
theorem idx : ∀ t : Fin cfg0.N, win0_0.index t = ![t.val / 8, 0] ∧ win0_1.index t = ![t.val % 8, 0, 0]
    ∧ win0_2.index t = ![t.val % 8, 0, 0] :=
  (by decide +kernel : ∀ t : Fin grid0.N, _)

theorem idx_out : ∀ t : Fin cfg0.N, win0_3.index t = ![t.val % 8, t.val / 8, 0] ∧ win0_4.index t = ![t.val % 8, t.val / 8, 0]
    ∧ win0_5.index t = ![t.val % 8, t.val / 8, 0] :=
  (by decide +kernel : ∀ t : Fin grid0.N, _)

theorem gate_eq (c : Dev nD) (t : Fin cfg0.N) (a : Fin 1024) (b : Fin 704) (q : Fin 8) (i : Fin 4096) (hq : t.val % 8 = q.val)
    (hi : t.val / 8 * 1024 + a.val = i.val) :
    part (iblk m c 0 t) (iblk m c 1 t) a b = proj (m ((c : Thread nD τ).loc main_arg0)) (m ((c : Thread nD τ).loc main_arg1)) q i b := by
  obtain ⟨i, _⟩ := i
  subst hi
  unfold part proj
  refine Finset.sum_congr rfl fun k _ => ?_
  blk_point [iblk, V, idx t]

theorem up_eq (c : Dev nD) (t : Fin cfg0.N) (a : Fin 1024) (b : Fin 704) (q : Fin 8) (i : Fin 4096) (hq : t.val % 8 = q.val)
    (hi : t.val / 8 * 1024 + a.val = i.val) :
    part (iblk m c 0 t) (iblk m c 2 t) a b = proj (m ((c : Thread nD τ).loc main_arg0)) (m ((c : Thread nD τ).loc main_arg2)) q i b := by
  obtain ⟨i, _⟩ := i
  subst hi
  unfold part proj
  refine Finset.sum_congr rfl fun k _ => ?_
  blk_point [iblk, V, idx t]

/-- Where a point's block lies in a result array: shard `t % 8`, the rows of token block `t / 8`. -/
theorem emb3 (t : Fin cfg0.N) (p : Fin 1) (a : Fin 1024) (b : Fin 704) : (win0_3.blk t).view.emb (ix3 p a b)
    = (ix3 ⟨t.val % 8, by omega⟩ ⟨t.val / 8 * 1024 + a.val, by have h := lt_of_lt_of_eq t.isLt N_0; omega⟩ b : S8x4096x704.Idx) := by
  have e := (idx_out t).1
  refine @funext (Fin 3) (fun d => Fin (S8x4096x704.size d)) _ _ fun d => Fin.ext ?_
  match d with
  | ⟨0, _⟩ => blk_simp [e]
  | ⟨1, _⟩ => blk_simp [e]
  | ⟨2, _⟩ => blk_simp [e]

theorem emb4 (t : Fin cfg0.N) (p : Fin 1) (a : Fin 1024) (b : Fin 704) : (win0_4.blk t).view.emb (ix3 p a b)
    = (ix3 ⟨t.val % 8, by omega⟩ ⟨t.val / 8 * 1024 + a.val, by have h := lt_of_lt_of_eq t.isLt N_0; omega⟩ b : S8x4096x704.Idx) := by
  have e := (idx_out t).2.1
  refine @funext (Fin 3) (fun d => Fin (S8x4096x704.size d)) _ _ fun d => Fin.ext ?_
  match d with
  | ⟨0, _⟩ => blk_simp [e]
  | ⟨1, _⟩ => blk_simp [e]
  | ⟨2, _⟩ => blk_simp [e]

theorem emb5 (t : Fin cfg0.N) (p : Fin 1) (a : Fin 1024) (b : Fin 704) : (win0_5.blk t).view.emb (ix3 p a b)
    = (ix3 ⟨t.val % 8, by omega⟩ ⟨t.val / 8 * 1024 + a.val, by have h := lt_of_lt_of_eq t.isLt N_0; omega⟩ b : S8x4096x704.Idx) := by
  have e := (idx_out t).2.2
  refine @funext (Fin 3) (fun d => Fin (S8x4096x704.size d)) _ _ fun d => Fin.ext ?_
  match d with
  | ⟨0, _⟩ => blk_simp [e]
  | ⟨1, _⟩ => blk_simp [e]
  | ⟨2, _⟩ => blk_simp [e]

/-- The reference's array of gate values. -/
theorem reference7 (x0 : Vec Ideal S4096x2048 .bf16) (x1 : Vec Ideal S2048x5632 .f32) (q : Fin 8) (i : Fin 4096) (b : Fin 704) :
    val_main_v7 (F := Ideal) x0 x1 (ix3 q i b) = proj x0 x1 q i b := by
  rw [val_main_v7_apply]
  show val_main_v6 (F := Ideal) x0 x1 (ix3 q i b) = _
  rw [val_main_v6_apply, val_main_v5_apply, val_main_v1_apply]
  unfold proj
  refine Finset.sum_congr rfl fun k _ => ?_
  rw [val_main_v0_apply]
  show x0 _ * x1 _ = _
  refine congrArg₂ (fun p r => x0 p * x1 r) (funext fun d => Fin.ext ?_) (funext fun d => Fin.ext ?_)
  · match d with
    | ⟨0, _⟩ => show ((i.val * 8 + q.val) * 704 + b.val) / 5632 = i.val; omega
    | ⟨1, _⟩ => rfl
  · match d with
    | ⟨0, _⟩ => rfl
    | ⟨1, _⟩ => show ((i.val * 8 + q.val) * 704 + b.val) % 5632 = q.val * 704 + b.val; omega

/-- The reference's array of up values. -/
theorem reference10 (x0 : Vec Ideal S4096x2048 .bf16) (x2 : Vec Ideal S2048x5632 .f32) (q : Fin 8) (i : Fin 4096) (b : Fin 704) :
    val_main_v10 (F := Ideal) x0 x2 (ix3 q i b) = proj x0 x2 q i b := by
  rw [val_main_v10_apply]
  show val_main_v9 (F := Ideal) x0 x2 (ix3 q i b) = _
  rw [val_main_v9_apply, val_main_v8_apply, val_main_v2_apply]
  unfold proj
  refine Finset.sum_congr rfl fun k _ => ?_
  rw [val_main_v0_apply]
  show x0 _ * x2 _ = _
  refine congrArg₂ (fun p r => x0 p * x2 r) (funext fun d => Fin.ext ?_) (funext fun d => Fin.ext ?_)
  · match d with
    | ⟨0, _⟩ => show ((i.val * 8 + q.val) * 704 + b.val) / 5632 = i.val; omega
    | ⟨1, _⟩ => rfl
  · match d with
    | ⟨0, _⟩ => rfl
    | ⟨1, _⟩ => show ((i.val * 8 + q.val) * 704 + b.val) % 5632 = q.val * 704 + b.val; omega

/-- The reference's array of activations. -/
theorem reference13 (x0 : Vec Ideal S4096x2048 .bf16) (x1 x2 : Vec Ideal S2048x5632 .f32) (q : Fin 8) (i : Fin 4096) (b : Fin 704) :
    val_main_v13 (F := Ideal) x0 x1 x2 (ix3 q i b) = gated (proj x0 x1 q i b) (proj x0 x2 q i b) := by
  have hg : val_main_v1 (F := Ideal) x0 x1 (idx_main_v5 (idx_main_v6 (ix3 q i b))) = proj x0 x1 q i b := by
    rw [← val_main_v5_apply, ← val_main_v6_apply, ← reference7 x0 x1 q i b, val_main_v7_apply]
    rfl
  have hu : val_main_v2 (F := Ideal) x0 x2 (idx_main_v8 (idx_main_v9 (ix3 q i b))) = proj x0 x2 q i b := by
    rw [← val_main_v8_apply, ← val_main_v9_apply, ← reference10 x0 x2 q i b, val_main_v10_apply]
    rfl
  have eg : idx_main_v11 (idx_main_v12 (ix3 q i b)) = idx_main_v5 (idx_main_v6 (ix3 q i b)) := rfl
  have eu : idx_main_v11 (idx_main_v12 (ix3 q i b)) = idx_main_v8 (idx_main_v9 (ix3 q i b)) := rfl
  rw [val_main_v13_apply]
  show val_main_v12 (F := Ideal) x0 x1 x2 (ix3 q i b) = _
  rw [val_main_v12_apply, val_main_v11_apply, val_main_v4_apply, eu, hu, ← eu, eg, val_main_v3_apply, hg, val_main_call0_v5_apply,
    val_main_call0_v4_apply, val_main_call0_v3_apply, val_main_call0_v2_apply, val_main_call0_v1_apply,
    val_main_call0_v0_apply, val_main_call0_cst_apply, val_main_call0_cst_0_apply, hg]
  generalize proj x0 x1 q i b = g
  generalize proj x0 x2 q i b = u
  unfold gated
  rw [zero_sub, ← Cert.Sums.one_eq]
  rfl

/-- The array of gate values. -/
theorem result3 (c : Dev nD) : (dats m 0 c).arrAt 3 cfg0.N = val_main_v7 (F := Ideal)
    (m ((c : Thread nD τ).loc main_arg0)) (m ((c : Thread nD τ).loc main_arg1)) := by
  refine (dats m 0 c).arrAt_eq_of_covers 3 _ (by decide +kernel) fun t hf y => ?_
  blk_simp
  rw [after0_3]
  obtain ⟨p, a, b, rfl⟩ : ∃ (p : Fin 1) (a : Fin 1024) (b : Fin 704), y = ix3 p a b := ⟨y 0, y 1, y 2, ValueIdx.eq_ix3 y⟩
  rw [emb3, reference7, Subsingleton.elim p 0]
  exact (out3_apply _ _ _ a b).trans (gate_eq m c t a b _ _ rfl rfl)

/-- The array of up values. -/
theorem result4 (c : Dev nD) : (dats m 0 c).arrAt 4 cfg0.N = val_main_v10 (F := Ideal)
    (m ((c : Thread nD τ).loc main_arg0)) (m ((c : Thread nD τ).loc main_arg2)) := by
  refine (dats m 0 c).arrAt_eq_of_covers 4 _ (by decide +kernel) fun t hf y => ?_
  blk_simp
  rw [after0_4]
  obtain ⟨p, a, b, rfl⟩ : ∃ (p : Fin 1) (a : Fin 1024) (b : Fin 704), y = ix3 p a b := ⟨y 0, y 1, y 2, ValueIdx.eq_ix3 y⟩
  rw [emb4, reference10, Subsingleton.elim p 0]
  exact (out4_apply _ _ _ a b).trans (up_eq m c t a b _ _ rfl rfl)

/-- The array of activations. -/
theorem result5 (c : Dev nD) : (dats m 0 c).arrAt 5 cfg0.N = val_main_v13 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨p, a, b, rfl⟩ : ∃ (p : Fin 1) (a : Fin 1024) (b : Fin 704), y = ix3 p a b := ⟨y 0, y 1, y 2, ValueIdx.eq_ix3 y⟩
  rw [emb5, reference13, Subsingleton.elim p 0]
  exact (out5_apply _ _ _ a b).trans (congrArg₂ gated (gate_eq m c t a b _ _ rfl rfl) (up_eq m c t a b _ _ rfl rfl))

end Cert.UpIdeal.Sum

end
-- ==== Proof.Finite.lean ====
/-
  Finite operands: what a precondition of the form "every absolute value is below infinity" says of an array's entries, and
  the sums of products of such entries.
-/
module

public import proofs.«01_k».proof.Proof.Sums
public import Idealize.ShloMosaic.Lib.ReduceAll
public import Idealize.ShloMosaic.Lib.StableHlo

@[expose] public section

noncomputable section

namespace Cert.Finite

open Idealize.ShloMosaic

/-- Every entry of an array is a real number. -/
def Real {s : Shape} {e : FTy} (x : FVec Ideal s e) : Prop := ∀ i, ∃ r : ℝ, x i = (r : EReal)

theorem inf_eq : Ideal.ofBits .f32 0x7F800000#32 = ⊤ := by
  simp [Ideal.ofBits, Ideal.ieee]

/-- An extended real whose absolute value is below infinity is a real. -/
theorem of_abs_lt (x : EReal) (h : Ideal.cmp .olt (max x (-x)) (Ideal.ofBits .f32 0x7F800000#32) = 1#1) :
    ∃ r : ℝ, x = (r : EReal) := by
  rw [inf_eq] at h
  have h' : max x (-x) < ⊤ := by
    by_contra hn
    simp [Ideal.cmp, hn] at h
  induction x using EReal.rec with
  | bot => simp at h'
  | coe r => exact ⟨r, rfl⟩
  | top => simp at h'

/-- The precondition of one array, read back. -/
theorem of_all {s t u : Shape} {axes : List (Fin s.rank)} [Subsingleton t.Idx] (x : FVec Ideal s .f32)
    (hb : (⟨0, ![]⟩ : Shape).BroadcastsInDim s (![] : Fin 0 → Fin s.rank)) (init : u.Idx → BitVec 1) (h : s.ReducesTo axes t)
    (hu : 0 < u.numel) (j : t.Idx)
    (e : Host.reduce IntOp.andi (cmpf .olt (Host.absf x) (broadcastInDim s ![] hb (constant ⟨0, ![]⟩ .f32 0x7F800000#32)))
      init h hu j = 1#1) : Real x := fun i =>
  of_abs_lt _ (Host.reduce_andi_all _ init h hu j e i)

/-- A finite sum of reals is a real. -/
theorem sum {ι : Type*} (s : Finset ι) (f : ι → EReal) (h : ∀ k, ∃ r : ℝ, f k = (r : EReal)) :
    ∃ r : ℝ, ∑ k ∈ s, f k = (r : EReal) := by
  choose g hg using h
  refine ⟨∑ k ∈ s, g k, ?_⟩
  rw [Finset.sum_congr rfl fun k _ => hg k]
  exact (map_sum (⟨⟨fun r : ℝ => (r : EReal), rfl⟩, fun x y => EReal.coe_add x y⟩ : ℝ →+ EReal) g s).symm

theorem mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

end Cert.Finite

end
-- ==== Proof.Norm.lean ====
/-
  The root-mean-square normalisation of a row, and the gradient it sends back: the two ways of writing it agree wherever the
  row, its incoming gradient and the scale are finite.
-/
module

public import proofs.«01_k».proof.Proof.Sums
public import proofs.«01_k».proof.Proof.Finite
public import Idealize.ShloMosaic.Lib.Pipeline.ValueKit.Point
public import Idealize.ShloMosaic.Lib.Pipeline.Value

@[expose] public section

noncomputable section

namespace Cert.Norm

open Idealize.ShloMosaic

/-- The mean square of a row, with the small constant that keeps it above zero. -/
def square (x : Fin 2048 → EReal) : EReal :=
  Ideal.div (∑ j, x j * x j) (Ideal.ofBits .f32 0x45000000#32) + Ideal.ofBits .f32 0x358637BD#32

/-- The reciprocal root mean square of a row. -/
def recip (x : Fin 2048 → EReal) : EReal := Ideal.rsqrt (square x)

/-- The gradient the normalisation sends back along a row, added to what has already arrived. -/
def back (dh x w : Fin 2048 → EReal) (res : EReal) (b : Fin 2048) : EReal :=
  res + recip x * (dh b * w b - x b * (recip x * recip x) * Ideal.div (∑ j, dh j * w j * x j) (Ideal.ofBits .f32 0x45000000#32))

/-- The gradient of a row is the same if what it is read from is. -/
theorem back_congr {d d' x x' w w' : Fin 2048 → EReal} {r r' : EReal} {b b' : Fin 2048} (hd : ∀ j, d j = d' j) (hx : ∀ j, x j = x' j)
    (hw : ∀ j, w j = w' j) (hr : r = r') (hb : b = b') : back d x w r b = back d' x' w' r' b' := by
  obtain rfl : d = d' := funext hd
  obtain rfl : x = x' := funext hx
  obtain rfl : w = w' := funext hw
  subst hr hb
  rfl

/-- Four groups of 128 rows are the block's 512. -/
theorem sum_groups (f : Fin 512 → EReal) (g : Fin 4 → Fin 128 → EReal) (h : ∀ (s : Fin 4) (k : Fin 128), g s k = f ⟨s.val * 128 + k.val, by omega⟩) :
    (∑ k, g 0 k) + (∑ k, g 1 k) + (∑ k, g 2 k) + (∑ k, g 3 k) = ∑ a, f a := by
  rw [← Fin.sum_univ_four (fun s => ∑ k, g s k)]
  exact Fin.sum_mul_add_congr fun s k hl => h s k

/-- Four blocks of 512 rows are the half's 2048. -/
theorem sum_blocks (f : Fin 2048 → EReal) (g : Fin 4 → Fin 512 → EReal) (h : ∀ (s : Fin 4) (k : Fin 512), g s k = f ⟨s.val * 512 + k.val, by omega⟩) :
    (∑ k, g 0 k) + (∑ k, g 1 k) + (∑ k, g 2 k) + (∑ k, g 3 k) = ∑ a, f a := by
  rw [← Fin.sum_univ_four (fun s => ∑ k, g s k)]
  exact Fin.sum_mul_add_congr fun s k hl => h s k

/-- A token's gradient before the normalisation: its gate and up gradients against the two weights. -/
def before (d u : FVec Ideal ⟨2, ![4096, 5632]⟩ .bf16) (wg wu : FVec Ideal ⟨2, ![2048, 5632]⟩ .f32) (i : Fin 4096) (b : Fin 2048) : EReal :=
  ∑ k : Fin 5632, d (ix2 i k) * wg (ix2 b k) + ∑ k : Fin 5632, u (ix2 i k) * wu (ix2 b k)

/-- An index of a matrix is its row and its column. -/
theorem at2 {n k : Nat} (j : (⟨2, ![n, k]⟩ : Shape).Idx) (i : Fin n) (b : Fin k) (h0 : (j 0).val = i.val) (h1 : (j 1).val = b.val) :
    j = ix2 i b :=
  (ValueIdx.eq_ix2 j).trans (congrArg₂ ix2 (Fin.ext h0) (Fin.ext h1))

abbrev Whole : Shape := ⟨2, ![4096, 2048]⟩
abbrev Half : Shape := ⟨2, ![2048, 2048]⟩

/-- The upper of two stacked halves. -/
theorem stack_first {α : Type} (x y : Half.Idx → α) (h : Shape.Concatenates [Half, Half] Whole 0) (r : Fin 4096) (b : Fin 2048)
    (hr : r.val < 2048) : concatenate Whole 0 [⟨Half, x⟩, ⟨Half, y⟩] h (ix2 r b) = x (ix2 ⟨r.val, hr⟩ b) :=
  concatenate_pair_apply_left (t := Whole) (s₁ := Half) (s₂ := Half) 0 x y h (ix2 r b) rfl (ix2 ⟨r.val, hr⟩ b) fun d =>
    match d with
    | ⟨0, _⟩ => rfl
    | ⟨1, _⟩ => rfl

/-- The lower of two stacked halves. -/
theorem stack_second {α : Type} (x y : Half.Idx → α) (h : Shape.Concatenates [Half, Half] Whole 0) (r : Fin 4096) (b i : Fin 2048)
    (hr : i.val + 2048 = r.val) : concatenate Whole 0 [⟨Half, x⟩, ⟨Half, y⟩] h (ix2 r b) = y (ix2 i b) :=
  concatenate_pair_apply_right (t := Whole) (s₁ := Half) (s₂ := Half) 0 x y h (ix2 r b) rfl rfl (ix2 i b)
    (fun d => match d with
      | ⟨0, _⟩ => fun hd => absurd rfl hd
      | ⟨1, _⟩ => fun _ => rfl) hr

theorem length_eq : Ideal.ofBits .f32 0x45000000#32 = ((2048 : ℝ) : EReal) := by
  simp [Ideal.ofBits, Ideal.ieee, -EReal.coe_mul]; norm_num

theorem zero_eq : Ideal.ofBits .f32 0x00000000#32 = 0 := by
  simp [Ideal.ofBits, Ideal.ieee]

theorem eps_eq : ∃ e : ℝ, 0 < e ∧ Ideal.ofBits .f32 0x358637BD#32 = (e : EReal) := by
  refine ⟨_, ?_, by simp [Ideal.ofBits, Ideal.ieee, -EReal.coe_mul]; rfl⟩
  positivity

theorem minus_half_eq : Ideal.ofBits .f32 0xBF000000#32 = ((-(1 / 2) : ℝ) : EReal) := by
  simp [Ideal.ofBits, Ideal.ieee, -EReal.coe_mul]; norm_num

/-- A sum of reals, taken among the extended reals. -/
theorem coe_sum (f : Fin 2048 → ℝ) : ∑ k, (f k : EReal) = ((∑ k, f k : ℝ) : EReal) :=
  (map_sum (⟨⟨fun r : ℝ => (r : EReal), rfl⟩, fun x y => EReal.coe_add x y⟩ : ℝ →+ EReal) f Finset.univ).symm

/-- The mean square of a row of reals is a positive real. -/
theorem square_coe (x : Fin 2048 → ℝ) : ∃ s : ℝ, 0 < s ∧ square (fun j => (x j : EReal)) = (s : EReal) := by
  obtain ⟨e, he, h⟩ := eps_eq
  refine ⟨(∑ j, x j * x j) * (1 / 2048) + e, ?_, ?_⟩
  · have : 0 ≤ ∑ j, x j * x j := Finset.sum_nonneg fun j _ => mul_self_nonneg (x j)
    positivity
  · unfold square
    simp only [← EReal.coe_mul]
    rw [coe_sum, h, length_eq, Ideal.div_coe (by norm_num), ← EReal.coe_mul, ← EReal.coe_add]

/-- The reciprocal root of a positive real. -/
theorem recip_coe (x : Fin 2048 → EReal) {s : ℝ} (hs : 0 < s) (h : square x = (s : EReal)) : recip x = ((Real.sqrt s)⁻¹ : ℝ) := by
  unfold recip
  rw [h, Ideal.rsqrt_coe, if_neg (not_lt.2 hs.le), if_neg hs.ne']

/-- Half of what the mean square sends back to every entry of the row. -/
def slope (dh x w : Fin 2048 → EReal) : EReal :=
  Ideal.div ((∑ j, x j * (dh j * w j)) * (Ideal.ofBits .f32 0xBF000000#32 * Ideal.div (recip x) (square x)))
    (Ideal.ofBits .f32 0x45000000#32)

/-- The gradient as the chain rule spells it: the direct part, and twice the part through the mean square. -/
theorem back_eq (dh x w : Fin 2048 → EReal) (res : EReal) (b : Fin 2048) (hd : ∀ j, ∃ r : ℝ, dh j = (r : EReal))
    (hx : ∀ j, ∃ r : ℝ, x j = (r : EReal)) (hw : ∀ j, ∃ r : ℝ, w j = (r : EReal)) :
    back dh x w res b = ((res + dh b * w b * recip x) + x b * slope dh x w) + slope dh x w * x b := by
  choose d hd using hd
  choose y hy using hx
  choose v hv using hw
  obtain rfl : dh = fun j => (d j : EReal) := funext hd
  obtain rfl : x = fun j => (y j : EReal) := funext hy
  obtain rfl : w = fun j => (v j : EReal) := funext hv
  obtain ⟨s, hs, e⟩ := square_coe y
  unfold back slope
  rw [recip_coe _ hs e, e, length_eq, minus_half_eq]
  simp only [← EReal.coe_mul]
  rw [coe_sum, coe_sum, Ideal.div_coe (by norm_num), Ideal.div_coe hs.ne', ← EReal.coe_mul, ← EReal.coe_mul, ← EReal.coe_mul,
    Ideal.div_coe (by norm_num)]
  simp only [← EReal.coe_mul, ← EReal.coe_sub]
  rw [add_assoc, add_assoc, ← EReal.coe_add, ← EReal.coe_add]
  congr 2
  have h2 : (Real.sqrt s)⁻¹ * (Real.sqrt s)⁻¹ = 1 / s := by
    rw [← mul_inv, Real.mul_self_sqrt hs.le, one_div]
  have h3 : ∑ j, d j * v j * y j = ∑ j, y j * (d j * v j) := Finset.sum_congr rfl fun j _ => mul_comm _ _
  rw [h2, h3]
  ring

end Cert.Norm

end
-- ==== Proof.DxbValue.lean ====
/-
  The input gradient of the gate and up projections, second half of the positions: what one grid point leaves in its blocks.
-/
module

public import proofs.«01_k».proof.Proof.Norm
public import proofs.«01_k».proof.Proof.Gen.DxbIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DxbIdeal.Sum

open Idealize.ShloMosaic Idealize.ShloMosaic.TcCoe Idealize.SL.Sem
open Cert.DxbIdeal Cert.DxbIdeal.Gen Cert.DxbIdeal.Value Cert.Norm

variable (m : (ℓ : Loc nD τ sig) → Buf (Elt Ideal) ℓ)

/-- What one shard of 704 hidden units adds at row `a` and column `b` of a block. -/
def part (x0 : Vec Ideal S1x512x704 .bf16) (x1 : Vec Ideal S1x704x2048 .bf16) (a : Fin 512) (b : Fin 2048) : EReal :=
  ∑ k : Fin 704, x0 (ix3 0 a k) * x1 (ix3 0 k b)

/-- The first accumulating payload adds a shard's part. -/
theorem pay19_apply (acc : Vec Ideal S512x2048 .f32) (x0 : Vec Ideal S1x512x704 .bf16) (x1 : Vec Ideal S1x704x2048 .bf16)
    (a : Fin 512) (b : Fin 2048) : k0_pay19 (F := Ideal) acc x0 x1 (ix2 a b) = acc (ix2 a b) + part x0 x1 a b := by
  unfold k0_pay19 part
  pointwise

/-- The second accumulating payload adds a shard's part. -/
theorem pay20_apply (acc : Vec Ideal S512x2048 .f32) (x0 : Vec Ideal S1x512x704 .bf16) (x1 : Vec Ideal S1x704x2048 .bf16)
    (a : Fin 512) (b : Fin 2048) : k0_pay20 (F := Ideal) acc x0 x1 (ix2 a b) = acc (ix2 a b) + part x0 x1 a b := by
  unfold k0_pay20 part
  pointwise

/-- The accumulator starts at zero. -/
theorem pay18_apply (a : Fin 512) (b : Fin 2048) : k0_pay18 (F := Ideal) (ix2 a b) = 0 := by
  unfold k0_pay18
  pointwise

/-- The grid's block indices, decided: row block `t / 8 + 4`, shard `t % 8`. -/
theorem idx : ∀ t : Fin cfg0.N, win0_0.index t = ![t.val % 8, t.val / 8 + 4, 0] ∧ win0_1.index t = ![t.val % 8, 0, 0]
    ∧ win0_2.index t = ![t.val % 8, t.val / 8 + 4, 0] ∧ win0_3.index t = ![t.val % 8, 0, 0]
    ∧ win0_4.index t = ![t.val / 8 + 4, 0] ∧ win0_5.index t = ![0, 0] ∧ win0_6.index t = ![t.val / 8 + 4, 0] :=
  (by decide +kernel : ∀ t : Fin grid0.N, _)

/-- The scratch read whole is what it holds. -/
theorem scratch_read (x : Vec Ideal S512x2048 .f32) :
    View.read (Elt Ideal) (View.whole cc0_scratch0) ((Memref.isWhole_whole cc0_scratch0).unread x) = x :=
  (Memref.isWhole_whole cc0_scratch0).read_unread x

/-- What a grid point adds: a shard's part of either product. -/
def both (c : Dev nD) (t : Fin cfg0.N) (a : Fin 512) (b : Fin 2048) : EReal :=
  part (iblk m c 0 t) (iblk m c 1 t) a b + part (iblk m c 2 t) (iblk m c 3 t) a b

/-- After the last shard of a block the scratch holds the eight shards' parts of the two products. -/
theorem scratch_eq (c : Dev nD) (t : Fin cfg0.N) (hf : t.val % 8 = 7) (a : Fin 512) (b : Fin 2048) :
    (outsAt0 m c t.val t.isLt).2.2.2 (ix2 a b) = 0 + ∑ s : Fin 8,
      both m c ⟨8 * (t.val / 8) + s.val, Pipeline.run_point_lt_of_flush t hf s⟩ a b := by
  refine Pipeline.eq_sum_fin_of_reset_step_apply_of_flush
    (fun n h (p : Fin 512 × Fin 2048) => (outsAt0 m c n h).2.2.2 (ix2 p.1 p.2)) 8 (fun _ => (0 : EReal))
    (fun t p => both m c t p.1 p.2) ?_ ?_ t hf (a, b)
  · intro t h p
    have h1 : ¬t.val % 8 = 7 := by omega
    rw [outsAt0_A m c t h h1]
    frame_out [scratch_read]
    rw [pay20_apply, pay19_apply, pay18_apply, add_assoc]
    rfl
  · intro t h p
    by_cases h1 : t.val % 8 = 7
    · by_cases h2 : t.val < 8
      · rw [outsAt0_C m c t h h1 h2 (by omega)]
        frame_out [scratch_read]
        rw [pay20_apply, pay19_apply, add_assoc]
        rfl
      · rw [outsAt0_D m c t h h1 h2 (by omega)]
        frame_out [scratch_read]
        rw [pay20_apply, pay19_apply, add_assoc]
        rfl
    · rw [outsAt0_B m c t h h1]
      frame_out [scratch_read]
      rw [pay20_apply, pay19_apply, add_assoc]
      rfl

/-- The payloads of the four groups of 128 rows are one. -/
theorem pay6_eq : k0_pay6 (F := Ideal) = k0_pay2 := rfl
theorem pay10_eq : k0_pay10 (F := Ideal) = k0_pay2 := rfl
theorem pay14_eq : k0_pay14 (F := Ideal) = k0_pay2 := rfl
theorem pay4_eq : k0_pay4 (F := Ideal) = k0_pay2 := rfl
theorem pay7_eq : k0_pay7 (F := Ideal) = k0_pay2 := rfl
theorem pay11_eq : k0_pay11 (F := Ideal) = k0_pay2 := rfl
theorem pay15_eq : k0_pay15 (F := Ideal) = k0_pay2 := rfl

/-- The reciprocal root mean square of a row of a group. -/
theorem pay1_apply (x : Vec Ideal S128x2048 .f32) (a : Fin 128) (q : Fin 1) : k0_pay1 (F := Ideal) x (ix2 a q) = recip fun j => x (ix2 a j) := by
  unfold k0_pay1 recip square
  pointwise

/-- The gradient of a row of a group. -/
theorem pay2_apply (d x : Vec Ideal S128x2048 .f32) (w : Vec Ideal S1x2048 .f32) (r : Vec Ideal S128x2048 .f32) (a : Fin 128) (b : Fin 2048) :
    k0_pay2 (F := Ideal) d x w r (ix2 a b)
      = back (fun j => d (ix2 a j)) (fun j => x (ix2 a j)) (fun j => w (ix2 0 j)) (r (ix2 a b)) b := by
  unfold k0_pay2 back
  pointwise
  rw [pay1_apply]

/-- A group's share of the scale's gradient. -/
theorem pay3_apply (d x : Vec Ideal S128x2048 .f32) (q : Fin 1) (b : Fin 2048) :
    k0_pay3 (F := Ideal) d x (ix2 q b) = ∑ a : Fin 128, d (ix2 a b) * x (ix2 a b) * recip (fun j => x (ix2 a j)) := by
  unfold k0_pay3
  pointwise
  simp only [pay1_apply]

/-- A block's last point leaves the gradient of its rows. -/
theorem out7_eq (c : Dev nD) (t : Fin cfg0.N) (hf : t.val % 8 = 7) (a : Fin 512) (b : Fin 2048) :
    (outsAt0 m c t.val t.isLt).1 (ix2 a b) = back (fun j => (outsAt0 m c t.val t.isLt).2.2.2 (ix2 a j)) (fun j => iblk m c 4 t (ix2 a j))
      (fun j => iblk m c 5 t (ix2 0 j)) (iblk m c 6 t (ix2 a b)) b := by
  have h0 : ¬t.val % 8 = 0 := by omega
  by_cases h2 : t.val < 8
  · rw [outsAt0_C m c t h0 hf h2 (by omega)]
    frame_out [scratch_read]
    generalize k0_pay20 (F := Ideal) _ _ _ = z
    canon_tiles x h
    all_goals
      try simp only [pay6_eq, pay10_eq, pay14_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read]
    generalize k0_pay20 (F := Ideal) _ _ _ = z
    canon_tiles x h
    all_goals
      try simp only [pay6_eq, pay10_eq, pay14_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)

/-- … and the same in the narrow format, which is exact here. -/
theorem out8_eq (c : Dev nD) (t : Fin cfg0.N) (hf : t.val % 8 = 7) (a : Fin 512) (b : Fin 2048) :
    (outsAt0 m c t.val t.isLt).2.1 (ix2 a b) = back (fun j => (outsAt0 m c t.val t.isLt).2.2.2 (ix2 a j)) (fun j => iblk m c 4 t (ix2 a j))
      (fun j => iblk m c 5 t (ix2 0 j)) (iblk m c 6 t (ix2 a b)) b := by
  have h0 : ¬t.val % 8 = 0 := by omega
  by_cases h2 : t.val < 8
  · rw [outsAt0_C m c t h0 hf h2 (by omega)]
    frame_out [scratch_read]
    generalize k0_pay20 (F := Ideal) _ _ _ = z
    canon_tiles x h
    all_goals
      try simp only [pay4_eq, pay7_eq, pay11_eq, pay15_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read]
    generalize k0_pay20 (F := Ideal) _ _ _ = z
    canon_tiles x h
    all_goals
      try simp only [pay4_eq, pay7_eq, pay11_eq, pay15_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)

/-- What a row of a block adds to a column of the scale's gradient. -/
def share (d x : Vec Ideal S512x2048 .f32) (b : Fin 2048) (a : Fin 512) : EReal := d (ix2 a b) * x (ix2 a b) * recip (fun j => x (ix2 a j))

/-- A later group adds its share. -/
theorem pay8_apply (v : Vec Ideal S1x2048 .f32) (d x : Vec Ideal S128x2048 .f32) (q : Fin 1) (b : Fin 2048) :
    k0_pay8 (F := Ideal) v d x (ix2 q b) = v (ix2 q b) + k0_pay3 (F := Ideal) d x (ix2 q b) := rfl
theorem pay12_eq : k0_pay12 (F := Ideal) = k0_pay8 := rfl
theorem pay16_eq : k0_pay16 (F := Ideal) = k0_pay8 := rfl

/-- A later block adds its share to what the blocks before it left. -/
theorem pay17_apply (v : Vec Ideal S1x2048 .f32) (d x : Vec Ideal S128x2048 .f32) (z : Vec Ideal S1x2048 .f32) (q : Fin 1) (b : Fin 2048) :
    k0_pay17 (F := Ideal) v d x z (ix2 q b) = z (ix2 q b) + k0_pay8 (F := Ideal) v d x (ix2 q b) := by
  unfold k0_pay17
  rw [pay16_eq]
  pointwise

/-- The first block's last point leaves its share. -/
theorem out9_first (c : Dev nD) (t : Fin cfg0.N) (hf : t.val % 8 = 7) (h2 : t.val < 8) (q : Fin 1) (b : Fin 2048) :
    (outsAt0 m c t.val t.isLt).2.2.1 (ix2 q b) = ∑ a, share (outsAt0 m c t.val t.isLt).2.2.2 (iblk m c 4 t) b a := by
  have h0 : ¬t.val % 8 = 0 := by omega
  rw [outsAt0_C m c t h0 hf h2 (by omega)]
  frame_out [scratch_read]
  generalize k0_pay20 (F := Ideal) _ _ _ = z
  rw [pay16_eq, pay12_eq, pay8_apply, pay8_apply, pay8_apply, pay3_apply, pay3_apply, pay3_apply, pay3_apply]
  have e : ∀ (s : Fin 4) (k : Fin 128) (d x : Vec Ideal S128x2048 .f32) (hd : ∀ j, d (ix2 k j) = z (ix2 ⟨s.val * 128 + k.val, by omega⟩ j))
      (hx : ∀ j, x (ix2 k j) = iblk m c 4 t (ix2 ⟨s.val * 128 + k.val, by omega⟩ j)),
      d (ix2 k b) * x (ix2 k b) * recip (fun j => x (ix2 k j)) = share z (iblk m c 4 t) b ⟨s.val * 128 + k.val, by omega⟩ := by
    intro s k d x hd hx
    unfold share
    rw [hd, hx, funext hx]
  rw [← sum_groups (share z (iblk m c 4 t) b) (fun s k => share z (iblk m c 4 t) b ⟨s.val * 128 + k.val, by omega⟩) (fun s k => rfl)]
  refine congrArg₂ (· + ·) (congrArg₂ (· + ·) (congrArg₂ (· + ·) ?_ ?_) ?_) ?_
  all_goals
    refine Finset.sum_congr rfl fun k _ => e _ k _ _ (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · refine congrArg (iblk m c 4 t) (funext fun d => Fin.ext ?_)
      match d with
      | ⟨0, _⟩ => simp
      | ⟨1, _⟩ => simp

/-- A later block's last point adds its share to what was there. -/
theorem out9_next (c : Dev nD) (t : Fin cfg0.N) (hf : t.val % 8 = 7) (h2 : ¬t.val < 8) (q : Fin 1) (b : Fin 2048) :
    (outsAt0 m c t.val t.isLt).2.2.1 (ix2 q b) = (outsAt0 m c (t.val - 1) (Nat.lt_of_le_of_lt (Nat.sub_le _ _) t.isLt)).2.2.1 (ix2 q b)
      + ∑ a, share (outsAt0 m c t.val t.isLt).2.2.2 (iblk m c 4 t) b a := by
  have h0 : ¬t.val % 8 = 0 := by omega
  rw [outsAt0_D m c t h0 hf h2 (by omega)]
  frame_out [scratch_read]
  generalize k0_pay20 (F := Ideal) _ _ _ = z
  rw [pay17_apply, pay12_eq, pay8_apply, pay8_apply, pay8_apply, pay3_apply, pay3_apply, pay3_apply, pay3_apply]
  refine congrArg (fun v => (outsAt0 m c (t.val - 1) (Nat.lt_of_le_of_lt (Nat.sub_le _ _) t.isLt)).2.2.1 (ix2 q b) + v) ?_
  have e : ∀ (s : Fin 4) (k : Fin 128) (d x : Vec Ideal S128x2048 .f32) (hd : ∀ j, d (ix2 k j) = z (ix2 ⟨s.val * 128 + k.val, by omega⟩ j))
      (hx : ∀ j, x (ix2 k j) = iblk m c 4 t (ix2 ⟨s.val * 128 + k.val, by omega⟩ j)),
      d (ix2 k b) * x (ix2 k b) * recip (fun j => x (ix2 k j)) = share z (iblk m c 4 t) b ⟨s.val * 128 + k.val, by omega⟩ := by
    intro s k d x hd hx
    unfold share
    rw [hd, hx, funext hx]
  rw [← sum_groups (share z (iblk m c 4 t) b) (fun s k => share z (iblk m c 4 t) b ⟨s.val * 128 + k.val, by omega⟩) (fun s k => rfl)]
  refine congrArg₂ (· + ·) (congrArg₂ (· + ·) (congrArg₂ (· + ·) ?_ ?_) ?_) ?_
  all_goals
    refine Finset.sum_congr rfl fun k _ => e _ k _ _ (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · refine congrArg (iblk m c 4 t) (funext fun d => Fin.ext ?_)
      match d with
      | ⟨0, _⟩ => simp
      | ⟨1, _⟩ => simp

/-- The points between leave it as it was. -/
theorem out9_kept (c : Dev nD) (t : Fin cfg0.N) (hf : ¬t.val % 8 = 7) (h2 : t.val ≠ 0) :
    (outsAt0 m c t.val t.isLt).2.2.1 = (outsAt0 m c (t.val - 1) (Nat.lt_of_le_of_lt (Nat.sub_le _ _) t.isLt)).2.2.1 := by
  by_cases h0 : t.val % 8 = 0
  · rw [outsAt0_A m c t h0 hf]
    rfl
  · rw [outsAt0_B m c t h0 hf]
    rfl

end Cert.DxbIdeal.Sum

end
-- ==== Proof.DxbResult.lean ====
/-
  The input gradient of the gate and up projections, second half of the positions: the result arrays in closed form, the
  reference's, and that they agree where the gradients, the weights, the input and the scale are finite.
-/
module

public import proofs.«01_k».proof.Proof.DxbValue
public import proofs.«01_k».proof.Defs
public import Idealize.ShloMosaic.Lib.Pipeline.ValueKit.Partial
public import proofs.«01_k».proof.Proof.Gen.Pre_dxb_finite
public import proofs.«01_k».proof.Proof.Gen.DxbReferenceIdeal.Read

@[expose] public section

noncomputable section

namespace Cert.DxbIdeal.Sum

open Idealize.ShloMosaic Idealize.ShloMosaic.TcCoe Idealize.SL.Sem
open Cert.DxbIdeal Cert.DxbIdeal.Gen Cert.DxbReferenceIdeal.Read Cert.Norm

variable (m : (ℓ : Loc nD τ sig) → Buf (Elt Ideal) ℓ)

/-! ## What the kernel leaves -/

/-- A row of the half, among all positions. -/
def place (i : Fin 2048) : Fin 4096 := ⟨i.val + 2048, by omega⟩

/-- A token's hidden gradients in shard `q` against row `b` of a weight. -/
def piece (x : Vec Ideal S4096x5632 .bf16) (w : Vec Ideal S2048x5632 .f32) (q : Fin 8) (i : Fin 4096) (b : Fin 2048) : EReal :=
  ∑ k : Fin 704, x (ix2 i ⟨q.val * 704 + k.val, by omega⟩) * w (ix2 b ⟨q.val * 704 + k.val, by omega⟩)

/-- A shard's part of the gate product. -/
theorem gate_eq (c : Dev nD) (t : Fin cfg0.N) (a : Fin 512) (b : Fin 2048) (q : Fin 8) (i : Fin 4096) (hq : t.val % 8 = q.val)
    (hi : (t.val / 8 + 4) * 512 + a.val = i.val) : part (iblk m c 0 t) (iblk m c 1 t) a b
      = piece (m ((c : Thread nD τ).loc main_arg0)) (m ((c : Thread nD τ).loc main_arg2)) q i b := by
  obtain ⟨i, _⟩ := i
  subst hi
  unfold part piece
  refine Finset.sum_congr rfl fun k _ => ?_
  blk_point [iblk, V, idx t]

/-- A shard's part of the up product. -/
theorem up_eq (c : Dev nD) (t : Fin cfg0.N) (a : Fin 512) (b : Fin 2048) (q : Fin 8) (i : Fin 4096) (hq : t.val % 8 = q.val)
    (hi : (t.val / 8 + 4) * 512 + a.val = i.val) : part (iblk m c 2 t) (iblk m c 3 t) a b
      = piece (m ((c : Thread nD τ).loc main_arg1)) (m ((c : Thread nD τ).loc main_arg3)) q i b := by
  obtain ⟨i, _⟩ := i
  subst hi
  unfold part piece
  refine Finset.sum_congr rfl fun k _ => ?_
  blk_point [iblk, V, idx t]

theorem input_eq (c : Dev nD) (t : Fin cfg0.N) (a : Fin 512) (b : Fin 2048) (i : Fin 4096) (hi : (t.val / 8 + 4) * 512 + a.val = i.val) :
    iblk m c 4 t (ix2 a b) = m ((c : Thread nD τ).loc main_arg4) (ix2 i b) := by
  obtain ⟨i, _⟩ := i
  subst hi
  blk_point [iblk, V, idx t]

theorem scale_eq (c : Dev nD) (t : Fin cfg0.N) (q : Fin 1) (b : Fin 2048) :
    iblk m c 5 t (ix2 q b) = m ((c : Thread nD τ).loc main_arg5) (ix2 q b) := by
  blk_point [iblk, V, idx t]

theorem arrived_eq (c : Dev nD) (t : Fin cfg0.N) (a : Fin 512) (b : Fin 2048) (i : Fin 4096) (hi : (t.val / 8 + 4) * 512 + a.val = i.val) :
    iblk m c 6 t (ix2 a b) = m ((c : Thread nD τ).loc main_arg6) (ix2 i b) := by
  obtain ⟨i, _⟩ := i
  subst hi
  blk_point [iblk, V, idx t]

/-- A token's gradient before the normalisation, of this call's arguments. -/
def grad (c : Dev nD) (i : Fin 4096) (b : Fin 2048) : EReal :=
  before (m ((c : Thread nD τ).loc main_arg0)) (m ((c : Thread nD τ).loc main_arg1)) (m ((c : Thread nD τ).loc main_arg2))
    (m ((c : Thread nD τ).loc main_arg3)) i b

/-- A token's row of the input, and the scale. -/
def row (c : Dev nD) (i : Fin 4096) (b : Fin 2048) : EReal := m ((c : Thread nD τ).loc main_arg4) (ix2 i b)
def scale (c : Dev nD) (b : Fin 2048) : EReal := m ((c : Thread nD τ).loc main_arg5) (ix2 0 b)

/-- After a block's last shard the scratch holds the gradients before the normalisation. -/
theorem scratch_row (c : Dev nD) (t : Fin cfg0.N) (hf : t.val % 8 = 7) (a : Fin 512) (b : Fin 2048) (i : Fin 4096)
    (hi : (t.val / 8 + 4) * 512 + a.val = i.val) : (outsAt0 m c t.val t.isLt).2.2.2 (ix2 a b) = grad m c i b := by
  rw [scratch_eq m c t hf, zero_add]
  unfold both grad before
  rw [Finset.sum_add_distrib]
  have hg : ∀ s : Fin 8, part (iblk m c 0 ⟨8 * (t.val / 8) + s.val, Pipeline.run_point_lt_of_flush t hf s⟩)
      (iblk m c 1 ⟨8 * (t.val / 8) + s.val, Pipeline.run_point_lt_of_flush t hf s⟩) a b
      = piece (m ((c : Thread nD τ).loc main_arg0)) (m ((c : Thread nD τ).loc main_arg2)) s i b := fun s =>
    gate_eq m c ⟨8 * (t.val / 8) + s.val, Pipeline.run_point_lt_of_flush t hf s⟩ a b s i
      (by show (8 * (t.val / 8) + s.val) % 8 = s.val; omega) (by show ((8 * (t.val / 8) + s.val) / 8 + 4) * 512 + a.val = i.val; omega)
  have hu : ∀ s : Fin 8, part (iblk m c 2 ⟨8 * (t.val / 8) + s.val, Pipeline.run_point_lt_of_flush t hf s⟩)
      (iblk m c 3 ⟨8 * (t.val / 8) + s.val, Pipeline.run_point_lt_of_flush t hf s⟩) a b
      = piece (m ((c : Thread nD τ).loc main_arg1)) (m ((c : Thread nD τ).loc main_arg3)) s i b := fun s =>
    up_eq m c ⟨8 * (t.val / 8) + s.val, Pipeline.run_point_lt_of_flush t hf s⟩ a b s i
      (by show (8 * (t.val / 8) + s.val) % 8 = s.val; omega) (by show ((8 * (t.val / 8) + s.val) / 8 + 4) * 512 + a.val = i.val; omega)
  simp only [hg, hu]
  unfold piece
  exact congrArg₂ (· + ·) (Fin.sum_mul_add_congr fun s k hl => rfl) (Fin.sum_mul_add_congr fun s k hl => rfl)

/-- The array of gradients, where this call writes it. -/
def closed (c : Dev nD) (j : S4096x2048.Idx) : EReal :=
  back (grad m c (j 0)) (row m c (j 0)) (scale m c) (m ((c : Thread nD τ).loc main_arg6) j) (j 1)

/-- Where a point's block lies in the array of gradients. -/
theorem idx_out : ∀ t : Fin cfg0.N, win0_7.index t = ![t.val / 8 + 4, 0] ∧ win0_8.index t = ![t.val / 8 + 4, 0] ∧ win0_9.index t = ![0, 0] :=
  (by decide +kernel : ∀ t : Fin grid0.N, _)

theorem emb7 (t : Fin cfg0.N) (a : Fin 512) (b : Fin 2048) : (win0_7.blk t).view.emb (ix2 a b)
    = (ix2 ⟨(t.val / 8 + 4) * 512 + a.val, by have h := lt_of_lt_of_eq t.isLt N_0; omega⟩ b : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb8 (t : Fin cfg0.N) (a : Fin 512) (b : Fin 2048) : (win0_8.blk t).view.emb (ix2 a b)
    = (ix2 ⟨(t.val / 8 + 4) * 512 + a.val, by have h := lt_of_lt_of_eq t.isLt N_0; omega⟩ b : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb9 (t : Fin cfg0.N) (q : Fin 1) (b : Fin 2048) : (win0_9.blk t).view.emb (ix2 q b) = (ix2 q b : S1x2048.Idx) := by
  have e := (idx_out t).2.2
  refine @funext (Fin 2) (fun d => Fin (S1x2048.size d)) _ _ fun d => Fin.ext ?_
  match d with
  | ⟨0, _⟩ => blk_simp [e]
  | ⟨1, _⟩ => blk_simp [e]

/-- A written block's row. -/
theorem block_row (c : Dev nD) (t : Fin cfg0.N) (hf : t.val % 8 = 7) (a : Fin 512) (b : Fin 2048) (i : Fin 4096)
    (hi : (t.val / 8 + 4) * 512 + a.val = i.val) :
    back (fun j => (outsAt0 m c t.val t.isLt).2.2.2 (ix2 a j)) (fun j => iblk m c 4 t (ix2 a j)) (fun j => iblk m c 5 t (ix2 0 j))
      (iblk m c 6 t (ix2 a b)) b = closed m c (ix2 i b) :=
  back_congr (fun j => scratch_row m c t hf a j i hi) (fun j => input_eq m c t a j i hi) (fun j => scale_eq m c t 0 j)
    (arrived_eq m c t a b i hi) rfl

/-- The array of gradients after the call. -/
theorem result7 (c : Dev nD) : (dats m 0 c).arrAt 7 cfg0.N = fun j => if 4 ≤ (j 0 : Nat) / 512 then closed m c j else V m c (Pipeline.arrRef spec0 7) j := by
  refine ((dats m 0 c).arrAt_eq_of_coversWhere 7 (closed m c) (P := fun j : S4096x2048.Idx => 4 ≤ (j 0 : Nat) / 512) (fun β => 4 ≤ β 0) (by decide +kernel) (fun t hf y => ?_) (fun j => Iff.rfl)).trans ?_
  · have hf' : t.val % 8 = 7 := (by decide +kernel : ∀ t : Fin grid0.N, win0_7.flush t = true → t.val % 8 = 7) t hf
    blk_simp
    rw [after0_7]
    obtain ⟨a, b, rfl⟩ : ∃ (a : Fin 512) (b : Fin 2048), y = ix2 a b := ⟨y 0, y 1, ValueIdx.eq_ix2 y⟩
    rw [emb7]
    exact (out7_eq m c t hf' a b).trans (block_row m c t hf' a b _ rfl)
  · rw [A_eq]
    rfl

/-- The same array in the narrow format. -/
theorem result8 (c : Dev nD) : (dats m 0 c).arrAt 8 cfg0.N = fun j => if 4 ≤ (j 0 : Nat) / 512 then closed m c j else V m c (Pipeline.arrRef spec0 8) j := by
  refine ((dats m 0 c).arrAt_eq_of_coversWhere 8 (closed m c) (P := fun j : S4096x2048.Idx => 4 ≤ (j 0 : Nat) / 512) (fun β => 4 ≤ β 0) (by decide +kernel) (fun t hf y => ?_) (fun j => Iff.rfl)).trans ?_
  · have hf' : t.val % 8 = 7 := (by decide +kernel : ∀ t : Fin grid0.N, win0_8.flush t = true → t.val % 8 = 7) t hf
    blk_simp
    rw [after0_8]
    obtain ⟨a, b, rfl⟩ : ∃ (a : Fin 512) (b : Fin 2048), y = ix2 a b := ⟨y 0, y 1, ValueIdx.eq_ix2 y⟩
    rw [emb8]
    exact (out8_eq m c t hf' a b).trans (block_row m c t hf' a b _ rfl)
  · rw [A_eq]
    rfl

/-- What a token adds to the scale's gradient. -/
def token (c : Dev nD) (b : Fin 2048) (i : Fin 4096) : EReal := grad m c i b * row m c i b * recip (row m c i)

theorem share_eq (c : Dev nD) (t : Fin cfg0.N) (hf : t.val % 8 = 7) (a : Fin 512) (b : Fin 2048) (i : Fin 4096)
    (hi : (t.val / 8 + 4) * 512 + a.val = i.val) :
    share (outsAt0 m c t.val t.isLt).2.2.2 (iblk m c 4 t) b a = token m c b i := by
  unfold share token
  rw [scratch_row m c t hf a b i hi, input_eq m c t a b i hi, funext fun j => input_eq m c t a j i hi]
  rfl

/-- Between two blocks' last points the scale's gradient stays. -/
theorem kept_run (c : Dev nD) (n : Nat) (hn : n % 8 = 7) : ∀ (k : Nat) (h : n + 1 + k < cfg0.N) (h' : n < cfg0.N), k < 7 →
    (outsAt0 m c (n + 1 + k) h).2.2.1 = (outsAt0 m c n h').2.2.1 := by
  intro k
  induction k with
  | zero =>
    intro h h' _
    exact out9_kept m c ⟨n + 1 + 0, h⟩ (by show ¬(n + 1 + 0) % 8 = 7; omega) (by show n + 1 + 0 ≠ 0; omega)
  | succ k ih =>
    intro h h' hk
    refine (out9_kept m c ⟨n + 1 + (k + 1), h⟩ (by show ¬(n + 1 + (k + 1)) % 8 = 7; omega) (by show n + 1 + (k + 1) ≠ 0; omega)).trans ?_
    exact ih (by omega) h' (by omega)

/-- A later block's last point adds its share to what the block before it left. -/
theorem next_block (c : Dev nD) (n n' : Nat) (hn : n % 8 = 7) (e : n' = n + 8) (h : n' < cfg0.N) (h' : n < cfg0.N) (b : Fin 2048) :
    (outsAt0 m c n' h).2.2.1 (ix2 0 b) = (outsAt0 m c n h').2.2.1 (ix2 0 b)
      + ∑ a, share (outsAt0 m c n' h).2.2.2 (iblk m c 4 ⟨n', h⟩) b a := by
  subst e
  refine (out9_next m c ⟨n + 8, h⟩ (by show (n + 8) % 8 = 7; omega) (by show ¬n + 8 < 8; omega) 0 b).trans ?_
  exact congrArg (· + _) (congrFun (kept_run m c n hn 6 (by omega) h' (by omega)) _)

/-- The scale's gradient after the last block. -/
theorem last_block (c : Dev nD) (h : 31 < cfg0.N) (b : Fin 2048) :
    (outsAt0 m c 31 h).2.2.1 (ix2 0 b) = ∑ i : Fin 2048, token m c b (place i) := by
  have key : ∀ (n : Nat) (h : n < cfg0.N) (s : Fin 4), n = 8 * s.val + 7 →
      ∑ a, share (outsAt0 m c n h).2.2.2 (iblk m c 4 ⟨n, h⟩) b a = ∑ a : Fin 512, token m c b (place ⟨s.val * 512 + a.val, by omega⟩) :=
    fun n h s e => Finset.sum_congr rfl fun a _ => share_eq m c ⟨n, h⟩ (by show n % 8 = 7; omega) a b _
      (by show (n / 8 + 4) * 512 + a.val = s.val * 512 + a.val + 2048; omega)
  have h0 := (out9_first m c ⟨7, by omega⟩ rfl (by show 7 < 8; omega) 0 b).trans (key 7 (by omega) 0 rfl)
  have h1 := (next_block m c 7 15 rfl rfl (by omega) (by omega) b).trans (congrArg₂ (· + ·) h0 (key 15 (by omega) 1 rfl))
  have h2 := (next_block m c 15 23 rfl rfl (by omega) (by omega) b).trans (congrArg₂ (· + ·) h1 (key 23 (by omega) 2 rfl))
  have h3 := (next_block m c 23 31 rfl rfl h (by omega) b).trans (congrArg₂ (· + ·) h2 (key 31 h 3 rfl))
  exact h3.trans (sum_blocks (fun i => token m c b (place i)) (fun s a => token m c b (place ⟨s.val * 512 + a.val, by omega⟩)) (fun s a => rfl))

theorem last_point (c : Dev nD) (n : Nat) (e : n = 31) (h : n < cfg0.N) (b : Fin 2048) :
    (outsAt0 m c n h).2.2.1 (ix2 0 b) = ∑ i : Fin 2048, token m c b (place i) := by
  subst e
  exact last_block m c h b

/-- The scale's gradient after the call. -/
theorem result9 (c : Dev nD) : (dats m 0 c).arrAt 9 cfg0.N = fun j : S1x2048.Idx => ∑ i : Fin 2048, token m c (j 1) (place i) := by
  refine (dats m 0 c).arrAt_eq_of_covers 9 _ (by decide +kernel) fun t hf y => ?_
  have hf' : t.val = 31 := (by decide +kernel : ∀ t : Fin grid0.N, win0_9.flush t = true → t.val = 31) t hf
  blk_simp
  rw [after0_9]
  obtain ⟨q, b, rfl⟩ : ∃ (q : Fin 1) (b : Fin 2048), y = ix2 q b := ⟨y 0, y 1, ValueIdx.eq_ix2 y⟩
  rw [emb9, Subsingleton.elim q 0]
  exact last_point m c t.val hf' t.isLt b

/-! ## What the reference leaves -/

section Reference

variable (x0 x1 : Vec Ideal S4096x5632 .bf16) (x2 x3 : Vec Ideal S2048x5632 .f32) (x4 : Vec Ideal S4096x2048 .f32) (x5 : Vec Ideal S1x2048 .f32)
  (x6 : Vec Ideal S4096x2048 .f32)

theorem ref_input (i b : Fin 2048) : val_main_v2 (F := Ideal) x4 (ix2 i b) = x4 (ix2 (place i) b) := by
  rw [val_main_v2_apply]
  exact congrArg x4 (at2 _ (place i) b (Nat.add_comm _ _) rfl)

theorem ref_arrived (i b : Fin 2048) : val_main_v3 (F := Ideal) x6 (ix2 i b) = x6 (ix2 (place i) b) := by
  rw [val_main_v3_apply]
  exact congrArg x6 (at2 _ (place i) b (Nat.add_comm _ _) rfl)

theorem ref_square (i : Fin 2048) (q : Fin 1) : val_main_v11 (F := Ideal) x4 (ix2 i q) = square fun j => x4 (ix2 (place i) j) := by
  rw [val_main_v11_apply, val_main_v9_apply, val_main_v7_apply, val_main_v6_apply, val_main_v8_apply, val_main_v10_apply,
    val_main_cst_apply, val_main_cst_0_apply, val_main_cst_1_apply]
  unfold square
  have e : ∀ k : Fin 2048, val_main_v5 (F := Ideal) x4 (idx_main_v6 (idx_main_v7 (ix2 i q)) k) = x4 (ix2 (place i) k) * x4 (ix2 (place i) k) := by
    intro k
    rw [at2 (idx_main_v6 (idx_main_v7 (ix2 i q)) k) i k rfl rfl, val_main_v5_apply, ref_input]
    rfl
  rw [Finset.sum_congr rfl fun k _ => e k]
  show Ideal.div (Ideal.ofBits .f32 0x00000000#32 + _) _ + _ = _
  rw [zero_eq, zero_add]
  rfl

theorem ref_recip (i : Fin 2048) (q : Fin 1) : val_main_v12 (F := Ideal) x4 (ix2 i q) = recip fun j => x4 (ix2 (place i) j) := by
  rw [val_main_v12_apply, ref_square]
  rfl

theorem ref_scale (i b : Fin 2048) : val_main_v31 (F := Ideal) x5 (ix2 i b) = x5 (ix2 0 b) := by
  rw [val_main_v31_apply, val_main_v18_apply, val_main_v4_apply]
  exact congrArg x5 (at2 _ 0 b rfl (by first | rfl | (show b.val % 2048 = b.val; omega)))

theorem ref_before (i b : Fin 2048) : val_main_v27 (F := Ideal) x0 x1 x2 x3 (ix2 i b) = before x0 x1 x2 x3 (place i) b := by
  rw [val_main_v27_apply, val_main_v25_apply, val_main_v26_apply]
  unfold before
  refine (add_comm _ _).trans (congrArg₂ (· + ·) ?_ ?_)
  · refine Finset.sum_congr rfl fun k _ => ?_
    rw [val_main_v23_apply, val_main_v0_apply]
    exact congrArg₂ (fun p r => x0 p * x2 r) (at2 _ (place i) k (Nat.add_comm _ _) rfl) (at2 _ b k rfl rfl)
  · refine Finset.sum_congr rfl fun k _ => ?_
    rw [val_main_v24_apply, val_main_v1_apply]
    exact congrArg₂ (fun p r => x1 p * x3 r) (at2 _ (place i) k (Nat.add_comm _ _) rfl) (at2 _ b k rfl rfl)

/-- The gradient of the normalised row. -/
theorem ref_scaled (i b : Fin 2048) : val_main_v32 (F := Ideal) x0 x1 x2 x3 x5 (ix2 i b) = before x0 x1 x2 x3 (place i) b * x5 (ix2 0 b) := by
  rw [val_main_v32_apply, ref_before, ref_scale]
  rfl

/-- What the mean square sends back. -/
theorem ref_slope (i b : Fin 2048) : val_main_v44 (F := Ideal) x0 x1 x2 x3 x4 x5 (ix2 i b)
    = slope (before x0 x1 x2 x3 (place i)) (fun j => x4 (ix2 (place i) j)) (fun j => x5 (ix2 0 j)) := by
  have e : ∀ k : Fin 2048, val_main_v34 (F := Ideal) x0 x1 x2 x3 x4 x5 (ix2 i k)
      = x4 (ix2 (place i) k) * (before x0 x1 x2 x3 (place i) k * x5 (ix2 0 k)) := by
    intro k
    rw [val_main_v34_apply, ref_input, ref_scaled]
    rfl
  have e35 : ∀ j : S2048.Idx, (j 0).val = i.val → val_main_v35 (F := Ideal) x0 x1 x2 x3 x4 x5 j
      = ∑ k : Fin 2048, x4 (ix2 (place i) k) * (before x0 x1 x2 x3 (place i) k * x5 (ix2 0 k)) := by
    intro j hj
    rw [val_main_v35_apply, val_main_cst_5_apply]
    show Ideal.ofBits .f32 0x00000000#32 + _ = _
    rw [zero_eq, zero_add]
    refine Finset.sum_congr rfl fun k _ => ?_
    rw [at2 (idx_main_v35 j k) i k hj rfl, e]
  have e42 : ∀ j : Cert.DxbReferenceIdeal.S2048x1.Idx, (j 0).val = i.val → val_main_v42 (F := Ideal) x0 x1 x2 x3 x4 x5 j
      = slope (before x0 x1 x2 x3 (place i)) (fun j => x4 (ix2 (place i) j)) (fun j => x5 (ix2 0 j)) := by
    intro j hj
    have e0 : j = ix2 i 0 := at2 j i 0 hj (by have h := (j 1).isLt; show (j 1).val = 0; exact Nat.lt_one_iff.1 h)
    have h36 : (j 0).val * 1 + (j 1).val = i.val := by
      have h : (j 1).val = 0 := Nat.lt_one_iff.1 (j 1).isLt
      omega
    rw [val_main_v42_apply, val_main_v40_apply, val_main_v36_apply, e35 _ h36, val_main_v15_apply, val_main_v14_apply, val_main_cst_2_apply,
      val_main_v13_apply, val_main_v41_apply, val_main_cst_6_apply, e0, ref_recip, ref_square]
    rfl
  rw [val_main_v44_apply, val_main_v43_apply, val_main_cst_7_apply]
  show Ideal.ofBits .f32 0x00000000#32 + _ = _
  rw [zero_eq, zero_add, Fin.sum_univ_one]
  exact e42 _ rfl

/-- A row of the reference's gradient, where everything it is made of but what has arrived is finite. -/
theorem ref_row (i b : Fin 2048) (hd : ∀ j, ∃ r : ℝ, before x0 x1 x2 x3 (place i) j = (r : EReal))
    (hx : Cert.Finite.Real (e := .f32) x4) (hw : Cert.Finite.Real (e := .f32) x5) : val_main_v48 (F := Ideal) x0 x1 x2 x3 x4 x5 x6 (ix2 i b)
      = back (before x0 x1 x2 x3 (place i)) (fun j => x4 (ix2 (place i) j)) (fun j => x5 (ix2 0 j)) (x6 (ix2 (place i) b)) b := by
  rw [back_eq _ _ _ _ _ hd (fun j => hx _) (fun j => hw _), val_main_v48_apply, val_main_v46_apply, val_main_v39_apply, val_main_v38_apply,
    val_main_v37_apply, val_main_v45_apply, val_main_v47_apply, ref_arrived, ref_scaled, ref_input, ref_slope,
    at2 (idx_main_v37 (ix2 i b)) i 0 rfl rfl, ref_recip]
  rfl

/-- The reference's gradient of the scale. -/
theorem ref_scale_grad (q : Fin 1) (b : Fin 2048) : val_main_v49 (F := Ideal) x0 x1 x2 x3 x4 (ix2 q b)
    = ∑ i : Fin 2048, before x0 x1 x2 x3 (place i) b * x4 (ix2 (place i) b) * recip (fun j => x4 (ix2 (place i) j)) := by
  have e : ∀ j : S2048.Idx, (j 0).val = b.val → val_main_v29 (F := Ideal) x0 x1 x2 x3 x4 j
      = ∑ i : Fin 2048, before x0 x1 x2 x3 (place i) b * x4 (ix2 (place i) b) * recip (fun j => x4 (ix2 (place i) j)) := by
    intro j hj
    rw [val_main_v29_apply, val_main_cst_3_apply]
    show Ideal.ofBits .f32 0x00000000#32 + _ = _
    rw [zero_eq, zero_add]
    refine Finset.sum_congr rfl fun i _ => ?_
    rw [at2 (idx_main_v29 j i) i b rfl hj, val_main_v28_apply, val_main_v17_apply, val_main_v16_apply, ref_input, ref_before,
      at2 (idx_main_v16 (ix2 i b)) i 0 rfl rfl, ref_recip]
    show x4 _ * _ * _ = _
    rw [mul_comm, mul_assoc]
  rw [val_main_v49_apply, val_main_v33_apply, val_main_cst_4_apply]
  show Ideal.ofBits .f32 0x00000000#32 + _ = _
  rw [zero_eq, zero_add, Fin.sum_univ_one, val_main_v30_apply]
  exact e _ (by first | rfl | simp)

end Reference

instance : Subsingleton (Cert.Pre_dxb_finite.S_).Idx := ⟨fun a b => funext fun d => d.elim0⟩

/-- The precondition, read back. -/
theorem finite_args {c : Dev nD} (h : Cert.Pre_DxbIdeal_dxb_finite m) :
    Cert.Finite.Real (e := .bf16) (m ((c : Thread nD τ).loc main_arg0)) ∧ Cert.Finite.Real (e := .bf16) (m ((c : Thread nD τ).loc main_arg1))
    ∧ Cert.Finite.Real (e := .f32) (m ((c : Thread nD τ).loc main_arg2)) ∧ Cert.Finite.Real (e := .f32) (m ((c : Thread nD τ).loc main_arg3))
    ∧ Cert.Finite.Real (e := .f32) (m ((c : Thread nD τ).loc main_arg4)) ∧ Cert.Finite.Real (e := .f32) (m ((c : Thread nD τ).loc main_arg5)) := by
  have e := congrFun (h c) (fun d => d.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨?_, ?_, ?_, ?_, ?_, ?_⟩
  · exact Cert.Finite.of_all (s := S4096x5632) (m ((c : Thread nD τ).loc main_arg0)) _ _ _ _ _ e0
  · exact Cert.Finite.of_all (s := S4096x5632) (m ((c : Thread nD τ).loc main_arg1)) _ _ _ _ _ e1
  · exact Cert.Finite.of_all _ _ _ _ _ _ e2
  · exact Cert.Finite.of_all _ _ _ _ _ _ e3
  · exact Cert.Finite.of_all _ _ _ _ _ _ e4
  · exact Cert.Finite.of_all _ _ _ _ _ _ e5

/-- What finite arguments give before the normalisation is finite. -/
theorem before_real (x0 x1 : Vec Ideal S4096x5632 .bf16) (x2 x3 : Vec Ideal S2048x5632 .f32) (h0 : Cert.Finite.Real (e := .bf16) x0)
    (h1 : Cert.Finite.Real (e := .bf16) x1) (h2 : Cert.Finite.Real (e := .f32) x2) (h3 : Cert.Finite.Real (e := .f32) x3)
    (i : Fin 4096) (b : Fin 2048) : ∃ r : ℝ, before x0 x1 x2 x3 i b = (r : EReal) :=
  Cert.Finite.add (Cert.Finite.sum _ _ fun k => Cert.Finite.mul (h0 _) (h2 _)) (Cert.Finite.sum _ _ fun k => Cert.Finite.mul (h1 _) (h3 _))

/-- A row the call writes is the reference's. -/
theorem closed_row (c : Dev nD) (h : Cert.Pre_DxbIdeal_dxb_finite m) (i b : Fin 2048) :
    closed m c (ix2 (place i) b) = val_main_v48 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 i b) := by
  obtain ⟨h0, h1, h2, h3, h4, h5⟩ := finite_args m h (c := c)
  exact (ref_row _ _ _ _ _ _ _ i b (before_real _ _ _ _ h0 h1 h2 h3 (place i)) h4 h5).symm

/-- The scale's gradient is the reference's. -/
theorem agree9 (c : Dev nD) : (dats m 0 c).arrAt 9 cfg0.N = val_main_v49 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  rw [result9]
  refine @funext S1x2048.Idx (fun _ => EReal) _ _ fun j => ?_
  obtain ⟨q, b, rfl⟩ : ∃ (q : Fin 1) (b : Fin 2048), j = ix2 q b := ⟨j 0, j 1, ValueIdx.eq_ix2 j⟩
  exact (ref_scale_grad _ _ _ _ _ q b).symm

section Joined

variable (x0 x1 : Vec Ideal S4096x5632 .bf16) (x2 x3 : Vec Ideal S2048x5632 .f32) (x4 : Vec Ideal S4096x2048 .f32) (x5 : Vec Ideal S1x2048 .f32)
  (x6 x7 : Vec Ideal S4096x2048 .f32) (x8 : Vec Ideal S4096x2048 .bf16)

/-- The second half of the reference's array of gradients is computed, the first is what was there. -/
theorem joined_second (i b : Fin 2048) : val_main_v51 (F := Ideal) x0 x1 x2 x3 x4 x5 x6 x7 (ix2 (place i) b)
    = val_main_v48 (F := Ideal) x0 x1 x2 x3 x4 x5 x6 (ix2 i b) := by
  unfold val_main_v51
  exact stack_second _ _ _ (place i) b i rfl

theorem joined_first (r : Fin 4096) (b : Fin 2048) (h : r.val < 2048) :
    val_main_v51 (F := Ideal) x0 x1 x2 x3 x4 x5 x6 x7 (ix2 r b) = x7 (ix2 r b) := by
  unfold val_main_v51
  refine (stack_first _ _ _ r b h).trans ?_
  rw [val_main_v50_apply]
  exact congrArg x7 (at2 _ r b rfl rfl)

theorem narrow_second (i b : Fin 2048) : val_main_v54 (F := Ideal) x0 x1 x2 x3 x4 x5 x6 x8 (ix2 (place i) b)
    = val_main_v48 (F := Ideal) x0 x1 x2 x3 x4 x5 x6 (ix2 i b) := by
  unfold val_main_v54
  refine (stack_second _ _ _ (place i) b i rfl).trans ?_
  rw [val_main_v53_apply]
  rfl

theorem narrow_first (r : Fin 4096) (b : Fin 2048) (h : r.val < 2048) :
    val_main_v54 (F := Ideal) x0 x1 x2 x3 x4 x5 x6 x8 (ix2 r b) = x8 (ix2 r b) := by
  unfold val_main_v54
  refine (stack_first _ _ _ r b h).trans ?_
  rw [val_main_v52_apply]
  exact congrArg x8 (at2 _ r b rfl rfl)

end Joined

/-- A row of the second half, found among all positions. -/
theorem second_row (r : Fin 4096) (h : 4 ≤ r.val / 512) : ∃ i : Fin 2048, r = place i :=
  ⟨⟨r.val - 2048, by omega⟩, Fin.ext (by show r.val = r.val - 2048 + 2048; omega)⟩

/-- The array of gradients is the reference's. -/
theorem agree7 (c : Dev nD) (h : Cert.Pre_DxbIdeal_dxb_finite m) : (dats m 0 c).arrAt 7 cfg0.N
    = val_main_v51 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [result7]
  refine @funext S4096x2048.Idx (fun _ => EReal) _ _ fun j => ?_
  obtain ⟨r, b, rfl⟩ : ∃ (r : Fin 4096) (b : Fin 2048), j = ix2 r b := ⟨j 0, j 1, ValueIdx.eq_ix2 j⟩
  by_cases hr : 4 ≤ r.val / 512
  · obtain ⟨i, rfl⟩ := second_row r hr
    exact (if_pos hr).trans ((closed_row m c h i b).trans (joined_second _ _ _ _ _ _ _ _ i b).symm)
  · refine (if_neg hr).trans (Eq.trans ?_ (joined_first _ _ _ _ _ _ _ _ r b (by omega)).symm)
    rfl

/-- The same array in the narrow format. -/
theorem agree8 (c : Dev nD) (h : Cert.Pre_DxbIdeal_dxb_finite m) : (dats m 0 c).arrAt 8 cfg0.N
    = val_main_v54 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg8)) := by
  rw [result8]
  refine @funext S4096x2048.Idx (fun _ => EReal) _ _ fun j => ?_
  obtain ⟨r, b, rfl⟩ : ∃ (r : Fin 4096) (b : Fin 2048), j = ix2 r b := ⟨j 0, j 1, ValueIdx.eq_ix2 j⟩
  by_cases hr : 4 ≤ r.val / 512
  · obtain ⟨i, rfl⟩ := second_row r hr
    exact (if_pos hr).trans ((closed_row m c h i b).trans (narrow_second _ _ _ _ _ _ _ _ i b).symm)
  · refine (if_neg hr).trans (Eq.trans ?_ (narrow_first _ _ _ _ _ _ _ _ r b (by omega)).symm)
    rfl

end Cert.DxbIdeal.Sum

end
-- ==== Proof.DxaValue.lean ====
/-
  The input gradient of the gate and up projections, first half of the positions: what one grid point leaves in its blocks.
-/
module

public import proofs.«01_k».proof.Proof.Norm
public import proofs.«01_k».proof.Proof.Gen.DxaIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DxaIdeal.Sum

open Idealize.ShloMosaic Idealize.ShloMosaic.TcCoe Idealize.SL.Sem
open Cert.DxaIdeal Cert.DxaIdeal.Gen Cert.DxaIdeal.Value Cert.Norm

variable (m : (ℓ : Loc nD τ sig) → Buf (Elt Ideal) ℓ)

/-- What one shard of 704 hidden units adds at row `a` and column `b` of a block. -/
def part (x0 : Vec Ideal S1x512x704 .bf16) (x1 : Vec Ideal S1x704x2048 .bf16) (a : Fin 512) (b : Fin 2048) : EReal :=
  ∑ k : Fin 704, x0 (ix3 0 a k) * x1 (ix3 0 k b)

/-- The first accumulating payload adds a shard's part. -/
theorem pay19_apply (acc : Vec Ideal S512x2048 .f32) (x0 : Vec Ideal S1x512x704 .bf16) (x1 : Vec Ideal S1x704x2048 .bf16)
    (a : Fin 512) (b : Fin 2048) : k0_pay19 (F := Ideal) acc x0 x1 (ix2 a b) = acc (ix2 a b) + part x0 x1 a b := by
  unfold k0_pay19 part
  pointwise

/-- The second accumulating payload adds a shard's part. -/
theorem pay20_apply (acc : Vec Ideal S512x2048 .f32) (x0 : Vec Ideal S1x512x704 .bf16) (x1 : Vec Ideal S1x704x2048 .bf16)
    (a : Fin 512) (b : Fin 2048) : k0_pay20 (F := Ideal) acc x0 x1 (ix2 a b) = acc (ix2 a b) + part x0 x1 a b := by
  unfold k0_pay20 part
  pointwise

/-- The accumulator starts at zero. -/
theorem pay18_apply (a : Fin 512) (b : Fin 2048) : k0_pay18 (F := Ideal) (ix2 a b) = 0 := by
  unfold k0_pay18
  pointwise

/-- The grid's block indices, decided: row block `t / 8`, shard `t % 8`. -/
theorem idx : ∀ t : Fin cfg0.N, win0_0.index t = ![t.val % 8, t.val / 8, 0] ∧ win0_1.index t = ![t.val % 8, 0, 0]
    ∧ win0_2.index t = ![t.val % 8, t.val / 8, 0] ∧ win0_3.index t = ![t.val % 8, 0, 0]
    ∧ win0_4.index t = ![t.val / 8, 0] ∧ win0_5.index t = ![0, 0] ∧ win0_6.index t = ![t.val / 8, 0] :=
  (by decide +kernel : ∀ t : Fin grid0.N, _)

/-- The scratch read whole is what it holds. -/
theorem scratch_read (x : Vec Ideal S512x2048 .f32) :
    View.read (Elt Ideal) (View.whole cc0_scratch0) ((Memref.isWhole_whole cc0_scratch0).unread x) = x :=
  (Memref.isWhole_whole cc0_scratch0).read_unread x

/-- What a grid point adds: a shard's part of either product. -/
def both (c : Dev nD) (t : Fin cfg0.N) (a : Fin 512) (b : Fin 2048) : EReal :=
  part (iblk m c 0 t) (iblk m c 1 t) a b + part (iblk m c 2 t) (iblk m c 3 t) a b

/-- After the last shard of a block the scratch holds the eight shards' parts of the two products. -/
theorem scratch_eq (c : Dev nD) (t : Fin cfg0.N) (hf : t.val % 8 = 7) (a : Fin 512) (b : Fin 2048) :
    (outsAt0 m c t.val t.isLt).2.2.2 (ix2 a b) = 0 + ∑ s : Fin 8,
      both m c ⟨8 * (t.val / 8) + s.val, Pipeline.run_point_lt_of_flush t hf s⟩ a b := by
  refine Pipeline.eq_sum_fin_of_reset_step_apply_of_flush
    (fun n h (p : Fin 512 × Fin 2048) => (outsAt0 m c n h).2.2.2 (ix2 p.1 p.2)) 8 (fun _ => (0 : EReal))
    (fun t p => both m c t p.1 p.2) ?_ ?_ t hf (a, b)
  · intro t h p
    have h1 : ¬t.val % 8 = 7 := by omega
    rw [outsAt0_A m c t h h1]
    frame_out [scratch_read]
    rw [pay20_apply, pay19_apply, pay18_apply, add_assoc]
    rfl
  · intro t h p
    by_cases h1 : t.val % 8 = 7
    · by_cases h2 : t.val < 8
      · rw [outsAt0_C m c t h h1 h2 (by omega)]
        frame_out [scratch_read]
        rw [pay20_apply, pay19_apply, add_assoc]
        rfl
      · rw [outsAt0_D m c t h h1 h2 (by omega)]
        frame_out [scratch_read]
        rw [pay20_apply, pay19_apply, add_assoc]
        rfl
    · rw [outsAt0_B m c t h h1]
      frame_out [scratch_read]
      rw [pay20_apply, pay19_apply, add_assoc]
      rfl

/-- The payloads of the four groups of 128 rows are one. -/
theorem pay6_eq : k0_pay6 (F := Ideal) = k0_pay2 := rfl
theorem pay10_eq : k0_pay10 (F := Ideal) = k0_pay2 := rfl
theorem pay14_eq : k0_pay14 (F := Ideal) = k0_pay2 := rfl
theorem pay4_eq : k0_pay4 (F := Ideal) = k0_pay2 := rfl
theorem pay7_eq : k0_pay7 (F := Ideal) = k0_pay2 := rfl
theorem pay11_eq : k0_pay11 (F := Ideal) = k0_pay2 := rfl
theorem pay15_eq : k0_pay15 (F := Ideal) = k0_pay2 := rfl

/-- The reciprocal root mean square of a row of a group. -/
theorem pay1_apply (x : Vec Ideal S128x2048 .f32) (a : Fin 128) (q : Fin 1) : k0_pay1 (F := Ideal) x (ix2 a q) = recip fun j => x (ix2 a j) := by
  unfold k0_pay1 recip square
  pointwise

/-- The gradient of a row of a group. -/
theorem pay2_apply (d x : Vec Ideal S128x2048 .f32) (w : Vec Ideal S1x2048 .f32) (r : Vec Ideal S128x2048 .f32) (a : Fin 128) (b : Fin 2048) :
    k0_pay2 (F := Ideal) d x w r (ix2 a b)
      = back (fun j => d (ix2 a j)) (fun j => x (ix2 a j)) (fun j => w (ix2 0 j)) (r (ix2 a b)) b := by
  unfold k0_pay2 back
  pointwise
  rw [pay1_apply]

/-- A group's share of the scale's gradient. -/
theorem pay3_apply (d x : Vec Ideal S128x2048 .f32) (q : Fin 1) (b : Fin 2048) :
    k0_pay3 (F := Ideal) d x (ix2 q b) = ∑ a : Fin 128, d (ix2 a b) * x (ix2 a b) * recip (fun j => x (ix2 a j)) := by
  unfold k0_pay3
  pointwise
  simp only [pay1_apply]

/-- A block's last point leaves the gradient of its rows. -/
theorem out7_eq (c : Dev nD) (t : Fin cfg0.N) (hf : t.val % 8 = 7) (a : Fin 512) (b : Fin 2048) :
    (outsAt0 m c t.val t.isLt).1 (ix2 a b) = back (fun j => (outsAt0 m c t.val t.isLt).2.2.2 (ix2 a j)) (fun j => iblk m c 4 t (ix2 a j))
      (fun j => iblk m c 5 t (ix2 0 j)) (iblk m c 6 t (ix2 a b)) b := by
  have h0 : ¬t.val % 8 = 0 := by omega
  by_cases h2 : t.val < 8
  · rw [outsAt0_C m c t h0 hf h2 (by omega)]
    frame_out [scratch_read]
    generalize k0_pay20 (F := Ideal) _ _ _ = z
    canon_tiles x h
    all_goals
      try simp only [pay6_eq, pay10_eq, pay14_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read]
    generalize k0_pay20 (F := Ideal) _ _ _ = z
    canon_tiles x h
    all_goals
      try simp only [pay6_eq, pay10_eq, pay14_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)

/-- … and the same in the narrow format, which is exact here. -/
theorem out8_eq (c : Dev nD) (t : Fin cfg0.N) (hf : t.val % 8 = 7) (a : Fin 512) (b : Fin 2048) :
    (outsAt0 m c t.val t.isLt).2.1 (ix2 a b) = back (fun j => (outsAt0 m c t.val t.isLt).2.2.2 (ix2 a j)) (fun j => iblk m c 4 t (ix2 a j))
      (fun j => iblk m c 5 t (ix2 0 j)) (iblk m c 6 t (ix2 a b)) b := by
  have h0 : ¬t.val % 8 = 0 := by omega
  by_cases h2 : t.val < 8
  · rw [outsAt0_C m c t h0 hf h2 (by omega)]
    frame_out [scratch_read]
    generalize k0_pay20 (F := Ideal) _ _ _ = z
    canon_tiles x h
    all_goals
      try simp only [pay4_eq, pay7_eq, pay11_eq, pay15_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read]
    generalize k0_pay20 (F := Ideal) _ _ _ = z
    canon_tiles x h
    all_goals
      try simp only [pay4_eq, pay7_eq, pay11_eq, pay15_eq]
      obtain ⟨p, q, rfl⟩ : ∃ (p : Fin 128) (q : Fin 2048), x = ix2 p q := ⟨x 0, x 1, ValueIdx.eq_ix2 x⟩
      rw [pay2_apply]
      refine back_congr (fun j => ?_) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp
      · refine congrArg (iblk m c 6 t) (funext fun d => Fin.ext ?_)
        match d with
        | ⟨0, _⟩ => simp at h0 ⊢; omega
        | ⟨1, _⟩ => simp at h1 ⊢; omega
      · exact Fin.ext (by simp at h1; omega)

/-- What a row of a block adds to a column of the scale's gradient. -/
def share (d x : Vec Ideal S512x2048 .f32) (b : Fin 2048) (a : Fin 512) : EReal := d (ix2 a b) * x (ix2 a b) * recip (fun j => x (ix2 a j))

/-- A later group adds its share. -/
theorem pay8_apply (v : Vec Ideal S1x2048 .f32) (d x : Vec Ideal S128x2048 .f32) (q : Fin 1) (b : Fin 2048) :
    k0_pay8 (F := Ideal) v d x (ix2 q b) = v (ix2 q b) + k0_pay3 (F := Ideal) d x (ix2 q b) := rfl
theorem pay12_eq : k0_pay12 (F := Ideal) = k0_pay8 := rfl
theorem pay16_eq : k0_pay16 (F := Ideal) = k0_pay8 := rfl

/-- A later block adds its share to what the blocks before it left. -/
theorem pay17_apply (v : Vec Ideal S1x2048 .f32) (d x : Vec Ideal S128x2048 .f32) (z : Vec Ideal S1x2048 .f32) (q : Fin 1) (b : Fin 2048) :
    k0_pay17 (F := Ideal) v d x z (ix2 q b) = z (ix2 q b) + k0_pay8 (F := Ideal) v d x (ix2 q b) := by
  unfold k0_pay17
  rw [pay16_eq]
  pointwise

/-- The first block's last point leaves its share. -/
theorem out9_first (c : Dev nD) (t : Fin cfg0.N) (hf : t.val % 8 = 7) (h2 : t.val < 8) (q : Fin 1) (b : Fin 2048) :
    (outsAt0 m c t.val t.isLt).2.2.1 (ix2 q b) = ∑ a, share (outsAt0 m c t.val t.isLt).2.2.2 (iblk m c 4 t) b a := by
  have h0 : ¬t.val % 8 = 0 := by omega
  rw [outsAt0_C m c t h0 hf h2 (by omega)]
  frame_out [scratch_read]
  generalize k0_pay20 (F := Ideal) _ _ _ = z
  rw [pay16_eq, pay12_eq, pay8_apply, pay8_apply, pay8_apply, pay3_apply, pay3_apply, pay3_apply, pay3_apply]
  have e : ∀ (s : Fin 4) (k : Fin 128) (d x : Vec Ideal S128x2048 .f32) (hd : ∀ j, d (ix2 k j) = z (ix2 ⟨s.val * 128 + k.val, by omega⟩ j))
      (hx : ∀ j, x (ix2 k j) = iblk m c 4 t (ix2 ⟨s.val * 128 + k.val, by omega⟩ j)),
      d (ix2 k b) * x (ix2 k b) * recip (fun j => x (ix2 k j)) = share z (iblk m c 4 t) b ⟨s.val * 128 + k.val, by omega⟩ := by
    intro s k d x hd hx
    unfold share
    rw [hd, hx, funext hx]
  rw [← sum_groups (share z (iblk m c 4 t) b) (fun s k => share z (iblk m c 4 t) b ⟨s.val * 128 + k.val, by omega⟩) (fun s k => rfl)]
  refine congrArg₂ (· + ·) (congrArg₂ (· + ·) (congrArg₂ (· + ·) ?_ ?_) ?_) ?_
  all_goals
    refine Finset.sum_congr rfl fun k _ => e _ k _ _ (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · refine congrArg (iblk m c 4 t) (funext fun d => Fin.ext ?_)
      match d with
      | ⟨0, _⟩ => simp
      | ⟨1, _⟩ => simp

/-- A later block's last point adds its share to what was there. -/
theorem out9_next (c : Dev nD) (t : Fin cfg0.N) (hf : t.val % 8 = 7) (h2 : ¬t.val < 8) (q : Fin 1) (b : Fin 2048) :
    (outsAt0 m c t.val t.isLt).2.2.1 (ix2 q b) = (outsAt0 m c (t.val - 1) (Nat.lt_of_le_of_lt (Nat.sub_le _ _) t.isLt)).2.2.1 (ix2 q b)
      + ∑ a, share (outsAt0 m c t.val t.isLt).2.2.2 (iblk m c 4 t) b a := by
  have h0 : ¬t.val % 8 = 0 := by omega
  rw [outsAt0_D m c t h0 hf h2 (by omega)]
  frame_out [scratch_read]
  generalize k0_pay20 (F := Ideal) _ _ _ = z
  rw [pay17_apply, pay12_eq, pay8_apply, pay8_apply, pay8_apply, pay3_apply, pay3_apply, pay3_apply, pay3_apply]
  refine congrArg (fun v => (outsAt0 m c (t.val - 1) (Nat.lt_of_le_of_lt (Nat.sub_le _ _) t.isLt)).2.2.1 (ix2 q b) + v) ?_
  have e : ∀ (s : Fin 4) (k : Fin 128) (d x : Vec Ideal S128x2048 .f32) (hd : ∀ j, d (ix2 k j) = z (ix2 ⟨s.val * 128 + k.val, by omega⟩ j))
      (hx : ∀ j, x (ix2 k j) = iblk m c 4 t (ix2 ⟨s.val * 128 + k.val, by omega⟩ j)),
      d (ix2 k b) * x (ix2 k b) * recip (fun j => x (ix2 k j)) = share z (iblk m c 4 t) b ⟨s.val * 128 + k.val, by omega⟩ := by
    intro s k d x hd hx
    unfold share
    rw [hd, hx, funext hx]
  rw [← sum_groups (share z (iblk m c 4 t) b) (fun s k => share z (iblk m c 4 t) b ⟨s.val * 128 + k.val, by omega⟩) (fun s k => rfl)]
  refine congrArg₂ (· + ·) (congrArg₂ (· + ·) (congrArg₂ (· + ·) ?_ ?_) ?_) ?_
  all_goals
    refine Finset.sum_congr rfl fun k _ => e _ k _ _ (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · refine congrArg (iblk m c 4 t) (funext fun d => Fin.ext ?_)
      match d with
      | ⟨0, _⟩ => simp
      | ⟨1, _⟩ => simp

/-- The points between leave it as it was. -/
theorem out9_kept (c : Dev nD) (t : Fin cfg0.N) (hf : ¬t.val % 8 = 7) (h2 : t.val ≠ 0) :
    (outsAt0 m c t.val t.isLt).2.2.1 = (outsAt0 m c (t.val - 1) (Nat.lt_of_le_of_lt (Nat.sub_le _ _) t.isLt)).2.2.1 := by
  by_cases h0 : t.val % 8 = 0
  · rw [outsAt0_A m c t h0 hf]
    rfl
  · rw [outsAt0_B m c t h0 hf]
    rfl

end Cert.DxaIdeal.Sum

end
-- ==== Proof.DxaResult.lean ====
/-
  The input gradient of the gate and up projections, first half of the positions: the result arrays in closed form, the
  reference's, and that they agree where the gradients, the weights, the input and the scale are finite.
-/
module

public import proofs.«01_k».proof.Proof.DxaValue
public import proofs.«01_k».proof.Defs
public import Idealize.ShloMosaic.Lib.Pipeline.ValueKit.Partial
public import proofs.«01_k».proof.Proof.Gen.Pre_dxa_finite
public import proofs.«01_k».proof.Proof.Gen.On_first_half
public import proofs.«01_k».proof.Proof.Gen.DxaReferenceIdeal.Read

@[expose] public section

noncomputable section

namespace Cert.DxaIdeal.Sum

open Idealize.ShloMosaic Idealize.ShloMosaic.TcCoe Idealize.SL.Sem
open Cert.DxaIdeal Cert.DxaIdeal.Gen Cert.DxaReferenceIdeal.Read Cert.Norm

variable (m : (ℓ : Loc nD τ sig) → Buf (Elt Ideal) ℓ)

/-! ## What the kernel leaves -/

/-- A row of the half, among all positions. -/
def place (i : Fin 2048) : Fin 4096 := ⟨i.val, by omega⟩

/-- A token's hidden gradients in shard `q` against row `b` of a weight. -/
def piece (x : Vec Ideal S4096x5632 .bf16) (w : Vec Ideal S2048x5632 .f32) (q : Fin 8) (i : Fin 4096) (b : Fin 2048) : EReal :=
  ∑ k : Fin 704, x (ix2 i ⟨q.val * 704 + k.val, by omega⟩) * w (ix2 b ⟨q.val * 704 + k.val, by omega⟩)

/-- A shard's part of the gate product. -/
theorem gate_eq (c : Dev nD) (t : Fin cfg0.N) (a : Fin 512) (b : Fin 2048) (q : Fin 8) (i : Fin 4096) (hq : t.val % 8 = q.val)
    (hi : (t.val / 8) * 512 + a.val = i.val) : part (iblk m c 0 t) (iblk m c 1 t) a b
      = piece (m ((c : Thread nD τ).loc main_arg0)) (m ((c : Thread nD τ).loc main_arg2)) q i b := by
  obtain ⟨i, _⟩ := i
  subst hi
  unfold part piece
  refine Finset.sum_congr rfl fun k _ => ?_
  blk_point [iblk, V, idx t]

/-- A shard's part of the up product. -/
theorem up_eq (c : Dev nD) (t : Fin cfg0.N) (a : Fin 512) (b : Fin 2048) (q : Fin 8) (i : Fin 4096) (hq : t.val % 8 = q.val)
    (hi : (t.val / 8) * 512 + a.val = i.val) : part (iblk m c 2 t) (iblk m c 3 t) a b
      = piece (m ((c : Thread nD τ).loc main_arg1)) (m ((c : Thread nD τ).loc main_arg3)) q i b := by
  obtain ⟨i, _⟩ := i
  subst hi
  unfold part piece
  refine Finset.sum_congr rfl fun k _ => ?_
  blk_point [iblk, V, idx t]

theorem input_eq (c : Dev nD) (t : Fin cfg0.N) (a : Fin 512) (b : Fin 2048) (i : Fin 4096) (hi : (t.val / 8) * 512 + a.val = i.val) :
    iblk m c 4 t (ix2 a b) = m ((c : Thread nD τ).loc main_arg4) (ix2 i b) := by
  obtain ⟨i, _⟩ := i
  subst hi
  blk_point [iblk, V, idx t]

theorem scale_eq (c : Dev nD) (t : Fin cfg0.N) (q : Fin 1) (b : Fin 2048) :
    iblk m c 5 t (ix2 q b) = m ((c : Thread nD τ).loc main_arg5) (ix2 q b) := by
  blk_point [iblk, V, idx t]

theorem arrived_eq (c : Dev nD) (t : Fin cfg0.N) (a : Fin 512) (b : Fin 2048) (i : Fin 4096) (hi : (t.val / 8) * 512 + a.val = i.val) :
    iblk m c 6 t (ix2 a b) = m ((c : Thread nD τ).loc main_arg6) (ix2 i b) := by
  obtain ⟨i, _⟩ := i
  subst hi
  blk_point [iblk, V, idx t]

/-- A token's gradient before the normalisation, of this call's arguments. -/
def grad (c : Dev nD) (i : Fin 4096) (b : Fin 2048) : EReal :=
  before (m ((c : Thread nD τ).loc main_arg0)) (m ((c : Thread nD τ).loc main_arg1)) (m ((c : Thread nD τ).loc main_arg2))
    (m ((c : Thread nD τ).loc main_arg3)) i b

/-- A token's row of the input, and the scale. -/
def row (c : Dev nD) (i : Fin 4096) (b : Fin 2048) : EReal := m ((c : Thread nD τ).loc main_arg4) (ix2 i b)
def scale (c : Dev nD) (b : Fin 2048) : EReal := m ((c : Thread nD τ).loc main_arg5) (ix2 0 b)

/-- After a block's last shard the scratch holds the gradients before the normalisation. -/
theorem scratch_row (c : Dev nD) (t : Fin cfg0.N) (hf : t.val % 8 = 7) (a : Fin 512) (b : Fin 2048) (i : Fin 4096)
    (hi : (t.val / 8) * 512 + a.val = i.val) : (outsAt0 m c t.val t.isLt).2.2.2 (ix2 a b) = grad m c i b := by
  rw [scratch_eq m c t hf, zero_add]
  unfold both grad before
  rw [Finset.sum_add_distrib]
  have hg : ∀ s : Fin 8, part (iblk m c 0 ⟨8 * (t.val / 8) + s.val, Pipeline.run_point_lt_of_flush t hf s⟩)
      (iblk m c 1 ⟨8 * (t.val / 8) + s.val, Pipeline.run_point_lt_of_flush t hf s⟩) a b
      = piece (m ((c : Thread nD τ).loc main_arg0)) (m ((c : Thread nD τ).loc main_arg2)) s i b := fun s =>
    gate_eq m c ⟨8 * (t.val / 8) + s.val, Pipeline.run_point_lt_of_flush t hf s⟩ a b s i
      (by show (8 * (t.val / 8) + s.val) % 8 = s.val; omega) (by show ((8 * (t.val / 8) + s.val) / 8) * 512 + a.val = i.val; omega)
  have hu : ∀ s : Fin 8, part (iblk m c 2 ⟨8 * (t.val / 8) + s.val, Pipeline.run_point_lt_of_flush t hf s⟩)
      (iblk m c 3 ⟨8 * (t.val / 8) + s.val, Pipeline.run_point_lt_of_flush t hf s⟩) a b
      = piece (m ((c : Thread nD τ).loc main_arg1)) (m ((c : Thread nD τ).loc main_arg3)) s i b := fun s =>
    up_eq m c ⟨8 * (t.val / 8) + s.val, Pipeline.run_point_lt_of_flush t hf s⟩ a b s i
      (by show (8 * (t.val / 8) + s.val) % 8 = s.val; omega) (by show ((8 * (t.val / 8) + s.val) / 8) * 512 + a.val = i.val; omega)
  simp only [hg, hu]
  unfold piece
  exact congrArg₂ (· + ·) (Fin.sum_mul_add_congr fun s k hl => rfl) (Fin.sum_mul_add_congr fun s k hl => rfl)

/-- The array of gradients, where this call writes it. -/
def closed (c : Dev nD) (j : S4096x2048.Idx) : EReal :=
  back (grad m c (j 0)) (row m c (j 0)) (scale m c) (m ((c : Thread nD τ).loc main_arg6) j) (j 1)

/-- Where a point's block lies in the array of gradients. -/
theorem idx_out : ∀ t : Fin cfg0.N, win0_7.index t = ![t.val / 8, 0] ∧ win0_8.index t = ![t.val / 8, 0] ∧ win0_9.index t = ![0, 0] :=
  (by decide +kernel : ∀ t : Fin grid0.N, _)

theorem emb7 (t : Fin cfg0.N) (a : Fin 512) (b : Fin 2048) : (win0_7.blk t).view.emb (ix2 a b)
    = (ix2 ⟨(t.val / 8) * 512 + a.val, by have h := lt_of_lt_of_eq t.isLt N_0; omega⟩ b : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb8 (t : Fin cfg0.N) (a : Fin 512) (b : Fin 2048) : (win0_8.blk t).view.emb (ix2 a b)
    = (ix2 ⟨(t.val / 8) * 512 + a.val, by have h := lt_of_lt_of_eq t.isLt N_0; omega⟩ b : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb9 (t : Fin cfg0.N) (q : Fin 1) (b : Fin 2048) : (win0_9.blk t).view.emb (ix2 q b) = (ix2 q b : S1x2048.Idx) := by
  have e := (idx_out t).2.2
  refine @funext (Fin 2) (fun d => Fin (S1x2048.size d)) _ _ fun d => Fin.ext ?_
  match d with
  | ⟨0, _⟩ => blk_simp [e]
  | ⟨1, _⟩ => blk_simp [e]

/-- A written block's row. -/
theorem block_row (c : Dev nD) (t : Fin cfg0.N) (hf : t.val % 8 = 7) (a : Fin 512) (b : Fin 2048) (i : Fin 4096)
    (hi : (t.val / 8) * 512 + a.val = i.val) :
    back (fun j => (outsAt0 m c t.val t.isLt).2.2.2 (ix2 a j)) (fun j => iblk m c 4 t (ix2 a j)) (fun j => iblk m c 5 t (ix2 0 j))
      (iblk m c 6 t (ix2 a b)) b = closed m c (ix2 i b) :=
  back_congr (fun j => scratch_row m c t hf a j i hi) (fun j => input_eq m c t a j i hi) (fun j => scale_eq m c t 0 j)
    (arrived_eq m c t a b i hi) rfl

/-- The array of gradients after the call. -/
theorem result7 (c : Dev nD) : (dats m 0 c).arrAt 7 cfg0.N = fun j => if (j 0 : Nat) / 512 < 4 then closed m c j else V m c (Pipeline.arrRef spec0 7) j := by
  refine ((dats m 0 c).arrAt_eq_of_coversWhere 7 (closed m c) (P := fun j : S4096x2048.Idx => (j 0 : Nat) / 512 < 4) (fun β => β 0 < 4) (by decide +kernel) (fun t hf y => ?_) (fun j => Iff.rfl)).trans ?_
  · have hf' : t.val % 8 = 7 := (by decide +kernel : ∀ t : Fin grid0.N, win0_7.flush t = true → t.val % 8 = 7) t hf
    blk_simp
    rw [after0_7]
    obtain ⟨a, b, rfl⟩ : ∃ (a : Fin 512) (b : Fin 2048), y = ix2 a b := ⟨y 0, y 1, ValueIdx.eq_ix2 y⟩
    rw [emb7]
    exact (out7_eq m c t hf' a b).trans (block_row m c t hf' a b _ rfl)
  · rw [A_eq]
    rfl

/-- The same array in the narrow format. -/
theorem result8 (c : Dev nD) : (dats m 0 c).arrAt 8 cfg0.N = fun j => if (j 0 : Nat) / 512 < 4 then closed m c j else V m c (Pipeline.arrRef spec0 8) j := by
  refine ((dats m 0 c).arrAt_eq_of_coversWhere 8 (closed m c) (P := fun j : S4096x2048.Idx => (j 0 : Nat) / 512 < 4) (fun β => β 0 < 4) (by decide +kernel) (fun t hf y => ?_) (fun j => Iff.rfl)).trans ?_
  · have hf' : t.val % 8 = 7 := (by decide +kernel : ∀ t : Fin grid0.N, win0_8.flush t = true → t.val % 8 = 7) t hf
    blk_simp
    rw [after0_8]
    obtain ⟨a, b, rfl⟩ : ∃ (a : Fin 512) (b : Fin 2048), y = ix2 a b := ⟨y 0, y 1, ValueIdx.eq_ix2 y⟩
    rw [emb8]
    exact (out8_eq m c t hf' a b).trans (block_row m c t hf' a b _ rfl)
  · rw [A_eq]
    rfl

/-- What a token adds to the scale's gradient. -/
def token (c : Dev nD) (b : Fin 2048) (i : Fin 4096) : EReal := grad m c i b * row m c i b * recip (row m c i)

theorem share_eq (c : Dev nD) (t : Fin cfg0.N) (hf : t.val % 8 = 7) (a : Fin 512) (b : Fin 2048) (i : Fin 4096)
    (hi : (t.val / 8) * 512 + a.val = i.val) :
    share (outsAt0 m c t.val t.isLt).2.2.2 (iblk m c 4 t) b a = token m c b i := by
  unfold share token
  rw [scratch_row m c t hf a b i hi, input_eq m c t a b i hi, funext fun j => input_eq m c t a j i hi]
  rfl

/-- Between two blocks' last points the scale's gradient stays. -/
theorem kept_run (c : Dev nD) (n : Nat) (hn : n % 8 = 7) : ∀ (k : Nat) (h : n + 1 + k < cfg0.N) (h' : n < cfg0.N), k < 7 →
    (outsAt0 m c (n + 1 + k) h).2.2.1 = (outsAt0 m c n h').2.2.1 := by
  intro k
  induction k with
  | zero =>
    intro h h' _
    exact out9_kept m c ⟨n + 1 + 0, h⟩ (by show ¬(n + 1 + 0) % 8 = 7; omega) (by show n + 1 + 0 ≠ 0; omega)
  | succ k ih =>
    intro h h' hk
    refine (out9_kept m c ⟨n + 1 + (k + 1), h⟩ (by show ¬(n + 1 + (k + 1)) % 8 = 7; omega) (by show n + 1 + (k + 1) ≠ 0; omega)).trans ?_
    exact ih (by omega) h' (by omega)

/-- A later block's last point adds its share to what the block before it left. -/
theorem next_block (c : Dev nD) (n n' : Nat) (hn : n % 8 = 7) (e : n' = n + 8) (h : n' < cfg0.N) (h' : n < cfg0.N) (b : Fin 2048) :
    (outsAt0 m c n' h).2.2.1 (ix2 0 b) = (outsAt0 m c n h').2.2.1 (ix2 0 b)
      + ∑ a, share (outsAt0 m c n' h).2.2.2 (iblk m c 4 ⟨n', h⟩) b a := by
  subst e
  refine (out9_next m c ⟨n + 8, h⟩ (by show (n + 8) % 8 = 7; omega) (by show ¬n + 8 < 8; omega) 0 b).trans ?_
  exact congrArg (· + _) (congrFun (kept_run m c n hn 6 (by omega) h' (by omega)) _)

/-- The scale's gradient after the last block. -/
theorem last_block (c : Dev nD) (h : 31 < cfg0.N) (b : Fin 2048) :
    (outsAt0 m c 31 h).2.2.1 (ix2 0 b) = ∑ i : Fin 2048, token m c b (place i) := by
  have key : ∀ (n : Nat) (h : n < cfg0.N) (s : Fin 4), n = 8 * s.val + 7 →
      ∑ a, share (outsAt0 m c n h).2.2.2 (iblk m c 4 ⟨n, h⟩) b a = ∑ a : Fin 512, token m c b (place ⟨s.val * 512 + a.val, by omega⟩) :=
    fun n h s e => Finset.sum_congr rfl fun a _ => share_eq m c ⟨n, h⟩ (by show n % 8 = 7; omega) a b _
      (by show (n / 8) * 512 + a.val = s.val * 512 + a.val; omega)
  have h0 := (out9_first m c ⟨7, by omega⟩ rfl (by show 7 < 8; omega) 0 b).trans (key 7 (by omega) 0 rfl)
  have h1 := (next_block m c 7 15 rfl rfl (by omega) (by omega) b).trans (congrArg₂ (· + ·) h0 (key 15 (by omega) 1 rfl))
  have h2 := (next_block m c 15 23 rfl rfl (by omega) (by omega) b).trans (congrArg₂ (· + ·) h1 (key 23 (by omega) 2 rfl))
  have h3 := (next_block m c 23 31 rfl rfl h (by omega) b).trans (congrArg₂ (· + ·) h2 (key 31 h 3 rfl))
  exact h3.trans (sum_blocks (fun i => token m c b (place i)) (fun s a => token m c b (place ⟨s.val * 512 + a.val, by omega⟩)) (fun s a => rfl))

theorem last_point (c : Dev nD) (n : Nat) (e : n = 31) (h : n < cfg0.N) (b : Fin 2048) :
    (outsAt0 m c n h).2.2.1 (ix2 0 b) = ∑ i : Fin 2048, token m c b (place i) := by
  subst e
  exact last_block m c h b

/-- The scale's gradient after the call. -/
theorem result9 (c : Dev nD) : (dats m 0 c).arrAt 9 cfg0.N = fun j : S1x2048.Idx => ∑ i : Fin 2048, token m c (j 1) (place i) := by
  refine (dats m 0 c).arrAt_eq_of_covers 9 _ (by decide +kernel) fun t hf y => ?_
  have hf' : t.val = 31 := (by decide +kernel : ∀ t : Fin grid0.N, win0_9.flush t = true → t.val = 31) t hf
  blk_simp
  rw [after0_9]
  obtain ⟨q, b, rfl⟩ : ∃ (q : Fin 1) (b : Fin 2048), y = ix2 q b := ⟨y 0, y 1, ValueIdx.eq_ix2 y⟩
  rw [emb9, Subsingleton.elim q 0]
  exact last_point m c t.val hf' t.isLt b

/-! ## What the reference leaves -/

section Reference

variable (x0 x1 : Vec Ideal S4096x5632 .bf16) (x2 x3 : Vec Ideal S2048x5632 .f32) (x4 : Vec Ideal S4096x2048 .f32) (x5 : Vec Ideal S1x2048 .f32)
  (x6 : Vec Ideal S4096x2048 .f32)

theorem ref_input (i b : Fin 2048) : val_main_v2 (F := Ideal) x4 (ix2 i b) = x4 (ix2 (place i) b) := by
  rw [val_main_v2_apply]
  exact congrArg x4 (at2 _ (place i) b rfl rfl)

theorem ref_arrived (i b : Fin 2048) : val_main_v3 (F := Ideal) x6 (ix2 i b) = x6 (ix2 (place i) b) := by
  rw [val_main_v3_apply]
  exact congrArg x6 (at2 _ (place i) b rfl rfl)

theorem ref_square (i : Fin 2048) (q : Fin 1) : val_main_v11 (F := Ideal) x4 (ix2 i q) = square fun j => x4 (ix2 (place i) j) := by
  rw [val_main_v11_apply, val_main_v9_apply, val_main_v7_apply, val_main_v6_apply, val_main_v8_apply, val_main_v10_apply,
    val_main_cst_apply, val_main_cst_0_apply, val_main_cst_1_apply]
  unfold square
  have e : ∀ k : Fin 2048, val_main_v5 (F := Ideal) x4 (idx_main_v6 (idx_main_v7 (ix2 i q)) k) = x4 (ix2 (place i) k) * x4 (ix2 (place i) k) := by
    intro k
    rw [at2 (idx_main_v6 (idx_main_v7 (ix2 i q)) k) i k rfl rfl, val_main_v5_apply, ref_input]
    rfl
  rw [Finset.sum_congr rfl fun k _ => e k]
  show Ideal.div (Ideal.ofBits .f32 0x00000000#32 + _) _ + _ = _
  rw [zero_eq, zero_add]
  rfl

theorem ref_recip (i : Fin 2048) (q : Fin 1) : val_main_v12 (F := Ideal) x4 (ix2 i q) = recip fun j => x4 (ix2 (place i) j) := by
  rw [val_main_v12_apply, ref_square]
  rfl

theorem ref_scale (i b : Fin 2048) : val_main_v31 (F := Ideal) x5 (ix2 i b) = x5 (ix2 0 b) := by
  rw [val_main_v31_apply, val_main_v18_apply, val_main_v4_apply]
  exact congrArg x5 (at2 _ 0 b rfl (by first | rfl | (show b.val % 2048 = b.val; omega)))

theorem ref_before (i b : Fin 2048) : val_main_v27 (F := Ideal) x0 x1 x2 x3 (ix2 i b) = before x0 x1 x2 x3 (place i) b := by
  rw [val_main_v27_apply, val_main_v25_apply, val_main_v26_apply]
  unfold before
  refine (add_comm _ _).trans (congrArg₂ (· + ·) ?_ ?_)
  · refine Finset.sum_congr rfl fun k _ => ?_
    rw [val_main_v23_apply, val_main_v0_apply]
    exact congrArg₂ (fun p r => x0 p * x2 r) (at2 _ (place i) k rfl rfl) (at2 _ b k rfl rfl)
  · refine Finset.sum_congr rfl fun k _ => ?_
    rw [val_main_v24_apply, val_main_v1_apply]
    exact congrArg₂ (fun p r => x1 p * x3 r) (at2 _ (place i) k rfl rfl) (at2 _ b k rfl rfl)

/-- The gradient of the normalised row. -/
theorem ref_scaled (i b : Fin 2048) : val_main_v32 (F := Ideal) x0 x1 x2 x3 x5 (ix2 i b) = before x0 x1 x2 x3 (place i) b * x5 (ix2 0 b) := by
  rw [val_main_v32_apply, ref_before, ref_scale]
  rfl

/-- What the mean square sends back. -/
theorem ref_slope (i b : Fin 2048) : val_main_v44 (F := Ideal) x0 x1 x2 x3 x4 x5 (ix2 i b)
    = slope (before x0 x1 x2 x3 (place i)) (fun j => x4 (ix2 (place i) j)) (fun j => x5 (ix2 0 j)) := by
  have e : ∀ k : Fin 2048, val_main_v34 (F := Ideal) x0 x1 x2 x3 x4 x5 (ix2 i k)
      = x4 (ix2 (place i) k) * (before x0 x1 x2 x3 (place i) k * x5 (ix2 0 k)) := by
    intro k
    rw [val_main_v34_apply, ref_input, ref_scaled]
    rfl
  have e35 : ∀ j : S2048.Idx, (j 0).val = i.val → val_main_v35 (F := Ideal) x0 x1 x2 x3 x4 x5 j
      = ∑ k : Fin 2048, x4 (ix2 (place i) k) * (before x0 x1 x2 x3 (place i) k * x5 (ix2 0 k)) := by
    intro j hj
    rw [val_main_v35_apply, val_main_cst_5_apply]
    show Ideal.ofBits .f32 0x00000000#32 + _ = _
    rw [zero_eq, zero_add]
    refine Finset.sum_congr rfl fun k _ => ?_
    rw [at2 (idx_main_v35 j k) i k hj rfl, e]
  have e42 : ∀ j : Cert.DxaReferenceIdeal.S2048x1.Idx, (j 0).val = i.val → val_main_v42 (F := Ideal) x0 x1 x2 x3 x4 x5 j
      = slope (before x0 x1 x2 x3 (place i)) (fun j => x4 (ix2 (place i) j)) (fun j => x5 (ix2 0 j)) := by
    intro j hj
    have e0 : j = ix2 i 0 := at2 j i 0 hj (by have h := (j 1).isLt; show (j 1).val = 0; exact Nat.lt_one_iff.1 h)
    have h36 : (j 0).val * 1 + (j 1).val = i.val := by
      have h : (j 1).val = 0 := Nat.lt_one_iff.1 (j 1).isLt
      omega
    rw [val_main_v42_apply, val_main_v40_apply, val_main_v36_apply, e35 _ h36, val_main_v15_apply, val_main_v14_apply, val_main_cst_2_apply,
      val_main_v13_apply, val_main_v41_apply, val_main_cst_6_apply, e0, ref_recip, ref_square]
    rfl
  rw [val_main_v44_apply, val_main_v43_apply, val_main_cst_7_apply]
  show Ideal.ofBits .f32 0x00000000#32 + _ = _
  rw [zero_eq, zero_add, Fin.sum_univ_one]
  exact e42 _ rfl

/-- A row of the reference's gradient, where everything it is made of but what has arrived is finite. -/
theorem ref_row (i b : Fin 2048) (hd : ∀ j, ∃ r : ℝ, before x0 x1 x2 x3 (place i) j = (r : EReal))
    (hx : Cert.Finite.Real (e := .f32) x4) (hw : Cert.Finite.Real (e := .f32) x5) : val_main_v48 (F := Ideal) x0 x1 x2 x3 x4 x5 x6 (ix2 i b)
      = back (before x0 x1 x2 x3 (place i)) (fun j => x4 (ix2 (place i) j)) (fun j => x5 (ix2 0 j)) (x6 (ix2 (place i) b)) b := by
  rw [back_eq _ _ _ _ _ hd (fun j => hx _) (fun j => hw _), val_main_v48_apply, val_main_v46_apply, val_main_v39_apply, val_main_v38_apply,
    val_main_v37_apply, val_main_v45_apply, val_main_v47_apply, ref_arrived, ref_scaled, ref_input, ref_slope,
    at2 (idx_main_v37 (ix2 i b)) i 0 rfl rfl, ref_recip]
  rfl

/-- The reference's gradient of the scale. -/
theorem ref_scale_grad (q : Fin 1) (b : Fin 2048) : val_main_v49 (F := Ideal) x0 x1 x2 x3 x4 (ix2 q b)
    = ∑ i : Fin 2048, before x0 x1 x2 x3 (place i) b * x4 (ix2 (place i) b) * recip (fun j => x4 (ix2 (place i) j)) := by
  have e : ∀ j : S2048.Idx, (j 0).val = b.val → val_main_v29 (F := Ideal) x0 x1 x2 x3 x4 j
      = ∑ i : Fin 2048, before x0 x1 x2 x3 (place i) b * x4 (ix2 (place i) b) * recip (fun j => x4 (ix2 (place i) j)) := by
    intro j hj
    rw [val_main_v29_apply, val_main_cst_3_apply]
    show Ideal.ofBits .f32 0x00000000#32 + _ = _
    rw [zero_eq, zero_add]
    refine Finset.sum_congr rfl fun i _ => ?_
    rw [at2 (idx_main_v29 j i) i b rfl hj, val_main_v28_apply, val_main_v17_apply, val_main_v16_apply, ref_input, ref_before,
      at2 (idx_main_v16 (ix2 i b)) i 0 rfl rfl, ref_recip]
    show x4 _ * _ * _ = _
    rw [mul_comm, mul_assoc]
  rw [val_main_v49_apply, val_main_v33_apply, val_main_cst_4_apply]
  show Ideal.ofBits .f32 0x00000000#32 + _ = _
  rw [zero_eq, zero_add, Fin.sum_univ_one, val_main_v30_apply]
  exact e _ (by first | rfl | simp)

end Reference

instance : Subsingleton (Cert.Pre_dxa_finite.S_).Idx := ⟨fun a b => funext fun d => d.elim0⟩

/-- The precondition, read back. -/
theorem finite_args {c : Dev nD} (h : Cert.Pre_DxaIdeal_dxa_finite m) :
    Cert.Finite.Real (e := .bf16) (m ((c : Thread nD τ).loc main_arg0)) ∧ Cert.Finite.Real (e := .bf16) (m ((c : Thread nD τ).loc main_arg1))
    ∧ Cert.Finite.Real (e := .f32) (m ((c : Thread nD τ).loc main_arg2)) ∧ Cert.Finite.Real (e := .f32) (m ((c : Thread nD τ).loc main_arg3))
    ∧ Cert.Finite.Real (e := .f32) (m ((c : Thread nD τ).loc main_arg4)) ∧ Cert.Finite.Real (e := .f32) (m ((c : Thread nD τ).loc main_arg5)) := by
  have e := congrFun (h c) (fun d => d.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨?_, ?_, ?_, ?_, ?_, ?_⟩
  · exact Cert.Finite.of_all (s := S4096x5632) (m ((c : Thread nD τ).loc main_arg0)) _ _ _ _ _ e0
  · exact Cert.Finite.of_all (s := S4096x5632) (m ((c : Thread nD τ).loc main_arg1)) _ _ _ _ _ e1
  · exact Cert.Finite.of_all _ _ _ _ _ _ e2
  · exact Cert.Finite.of_all _ _ _ _ _ _ e3
  · exact Cert.Finite.of_all _ _ _ _ _ _ e4
  · exact Cert.Finite.of_all _ _ _ _ _ _ e5

/-- What finite arguments give before the normalisation is finite. -/
theorem before_real (x0 x1 : Vec Ideal S4096x5632 .bf16) (x2 x3 : Vec Ideal S2048x5632 .f32) (h0 : Cert.Finite.Real (e := .bf16) x0)
    (h1 : Cert.Finite.Real (e := .bf16) x1) (h2 : Cert.Finite.Real (e := .f32) x2) (h3 : Cert.Finite.Real (e := .f32) x3)
    (i : Fin 4096) (b : Fin 2048) : ∃ r : ℝ, before x0 x1 x2 x3 i b = (r : EReal) :=
  Cert.Finite.add (Cert.Finite.sum _ _ fun k => Cert.Finite.mul (h0 _) (h2 _)) (Cert.Finite.sum _ _ fun k => Cert.Finite.mul (h1 _) (h3 _))

/-- A row the call writes is the reference's. -/
theorem closed_row (c : Dev nD) (h : Cert.Pre_DxaIdeal_dxa_finite m) (i b : Fin 2048) :
    closed m c (ix2 (place i) b) = val_main_v48 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (ix2 i b) := by
  obtain ⟨h0, h1, h2, h3, h4, h5⟩ := finite_args m h (c := c)
  exact (ref_row _ _ _ _ _ _ _ i b (before_real _ _ _ _ h0 h1 h2 h3 (place i)) h4 h5).symm

/-- The scale's gradient is the reference's. -/
theorem agree9 (c : Dev nD) : (dats m 0 c).arrAt 9 cfg0.N = val_main_v49 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) := by
  rw [result9]
  refine @funext S1x2048.Idx (fun _ => EReal) _ _ fun j => ?_
  obtain ⟨q, b, rfl⟩ : ∃ (q : Fin 1) (b : Fin 2048), j = ix2 q b := ⟨j 0, j 1, ValueIdx.eq_ix2 j⟩
  exact (ref_scale_grad _ _ _ _ _ q b).symm

/-- The mask is set on the first half of the rows. -/
theorem mask_row (x0 x1 : Vec Ideal S4096x5632 .bf16) (x2 x3 : Vec Ideal S2048x5632 .f32) (x4 : Vec Ideal S4096x2048 .f32)
    (x5 : Vec Ideal S1x2048 .f32) (x6 : Vec Ideal S4096x2048 .f32) (i : S4096x2048.Idx)
    (h : (Cert.On_first_half.fn (F := Ideal) x0 x1 x2 x3 x4 x5 x6).1 i = 1#1) : (i 0 : Nat) < 2048 := by
  have key : ∀ r < 4096, IntOp.cmpi .slt (BitVec.ofNat 32 r) 2048#32 = 1#1 → r < 2048 := by decide +kernel
  exact key _ (i 0).isLt h

/-- A row of the first half is an entry of the reference's array of gradients. -/
theorem ref_joined (x0 x1 : Vec Ideal S4096x5632 .bf16) (x2 x3 : Vec Ideal S2048x5632 .f32) (x4 : Vec Ideal S4096x2048 .f32)
    (x5 : Vec Ideal S1x2048 .f32) (x6 : Vec Ideal S4096x2048 .f32) (i b : Fin 2048) :
    val_main_v51 (F := Ideal) x0 x1 x2 x3 x4 x5 x6 (ix2 (place i) b) = val_main_v48 (F := Ideal) x0 x1 x2 x3 x4 x5 x6 (ix2 i b) := by
  unfold val_main_v51
  exact stack_first _ _ _ (place i) b i.isLt

/-- On the first half the array of gradients is the reference's. -/
theorem agree7 (c : Dev nD) (h : Cert.Pre_DxaIdeal_dxa_finite m) (j : S4096x2048.Idx) (hj : (j 0 : Nat) < 2048) :
    val_main_v51 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) j = closed m c j := by
  obtain ⟨i, b, rfl⟩ : ∃ (i b : Fin 2048), j = ix2 (place i) b := ⟨⟨(j 0).val, hj⟩, j 1, at2 j _ _ rfl rfl⟩
  exact (ref_joined _ _ _ _ _ _ _ _ _).trans (closed_row m c h _ _).symm

/-- There the call has written. -/
theorem first7 (c : Dev nD) (j : S4096x2048.Idx) (hj : (j 0 : Nat) < 2048) : (dats m 0 c).arrAt 7 cfg0.N j = closed m c j := by
  rw [result7]
  exact if_pos (by omega)

theorem first8 (c : Dev nD) (j : S4096x2048.Idx) (hj : (j 0 : Nat) < 2048) : (dats m 0 c).arrAt 8 cfg0.N j = closed m c j := by
  rw [result8]
  exact if_pos (by omega)

end Cert.DxaIdeal.Sum

end
-- ==== Proof.DactValue.lean ====
/-
  The gradient of the activation of the feed-forward layer: what one grid point leaves in its blocks.
-/
module

public import proofs.«01_k».proof.Proof.Sums
public import proofs.«01_k».proof.Proof.Gen.DactIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DactIdeal.Sum

open Idealize.ShloMosaic Idealize.ShloMosaic.TcCoe Idealize.SL.Sem
open Cert.DactIdeal Cert.DactIdeal.Gen

/-- Row `a` of a block of the incoming gradient against row `b` of a shard of the down weight. -/
def part (x : Vec Ideal S1024x2048 .bf16) (w : Vec Ideal S1x704x2048 .bf16) (a : Fin 1024) (b : Fin 704) : EReal :=
  ∑ k : Fin 2048, x (ix2 a k) * w (ix3 0 b k)

/-- The sigmoid of a gate value, as the kernel writes it. -/
def sigm (g : EReal) : EReal := Ideal.div 1 (1 + Ideal.exp (0 - g))

/-- The gradient of a gate value, from the product `p`, the gate and the up value. -/
def gateGrad (p g u : EReal) : EReal := Ideal.ofBits .f32 0x3F000000#32 * p * u * (sigm g * (1 + g * (1 - sigm g)))

/-- The gradient of an up value. -/
def upGrad (p g : EReal) : EReal := Ideal.ofBits .f32 0x3F000000#32 * p * g * sigm g

/-- The block of gate gradients. -/
theorem out4_apply (x0 : Vec Ideal S1024x2048 .bf16) (x1 : Vec Ideal S1x704x2048 .bf16) (x2 x3 : Vec Ideal S1x1024x704 .bf16)
    (a : Fin 1024) (b : Fin 704) : out0_4 (F := Ideal) x0 x1 x2 x3 (ix3 0 a b)
      = gateGrad (part x0 x1 a b) (x2 (ix3 0 a b)) (x3 (ix3 0 a b)) := by
  unfold_out out0_4
  frame_out
  canon_tiles x h
  all_goals
    open_payloads
    pointwise
    obtain ⟨a, ha⟩ := a
    obtain ⟨b, hb⟩ := b
    have e1 : a = _ := h1
    have e2 : b = _ := h2
    subst e1
    subst e2
    rfl

/-- The block of up gradients. -/
theorem out5_apply (x0 : Vec Ideal S1024x2048 .bf16) (x1 : Vec Ideal S1x704x2048 .bf16) (x2 x3 : Vec Ideal S1x1024x704 .bf16)
    (a : Fin 1024) (b : Fin 704) : out0_5 (F := Ideal) x0 x1 x2 x3 (ix3 0 a b)
      = upGrad (part x0 x1 a b) (x2 (ix3 0 a b)) := by
  unfold_out out0_5
  frame_out
  canon_tiles x h
  all_goals
    open_payloads
    pointwise
    obtain ⟨a, ha⟩ := a
    obtain ⟨b, hb⟩ := b
    have e1 : a = _ := h1
    have e2 : b = _ := h2
    subst e1
    subst e2
    rfl

end Cert.DactIdeal.Sum

end
-- ==== Proof.DactResult.lean ====
/-
  The gradient of the activation: the two result arrays in closed form, the reference's, and that they agree where the up
  values, the down weight and the incoming gradient are finite.
-/
module

public import proofs.«01_k».proof.Proof.DactValue
public import proofs.«01_k».proof.Defs
public import proofs.«01_k».proof.Proof.Finite
public import proofs.«01_k».proof.Proof.Gen.Pre_dact_finite
public import proofs.«01_k».proof.Proof.Gen.DactReferenceIdeal.Read

@[expose] public section

noncomputable section

namespace Cert.DactIdeal.Sum

open Idealize.ShloMosaic Idealize.ShloMosaic.TcCoe Idealize.SL.Sem
open Cert.DactIdeal Cert.DactIdeal.Gen Cert.DactReferenceIdeal.Read

variable (m : (ℓ : Loc nD τ sig) → Buf (Elt Ideal) ℓ)

/-- A token's incoming gradient against row `b` of shard `q` of the down weight. -/
def proj (w : Vec Ideal S5632x2048 .f32) (d : Vec Ideal S4096x2048 .f32) (q : Fin 8) (i : Fin 4096) (b : Fin 704) : EReal :=
  ∑ k : Fin 2048, d (ix2 i k) * w (ix2 ⟨q.val * 704 + b.val, by omega⟩ k)

/-- Column `b` of shard `q` of a hidden array. -/
def hid (x : Vec Ideal S4096x5632 .bf16) (q : Fin 8) (i : Fin 4096) (b : Fin 704) : EReal :=
  x (ix2 i ⟨q.val * 704 + b.val, by omega⟩)

/-- The grid's block indices, decided: token block `t / 8`, shard `t % 8`. -/
theorem idx : ∀ t : Fin cfg0.N, win0_0.index t = ![t.val / 8, 0] ∧ win0_1.index t = ![t.val % 8, 0, 0]
    ∧ win0_2.index t = ![t.val % 8, t.val / 8, 0] ∧ win0_3.index t = ![t.val % 8, t.val / 8, 0] :=
  (by decide +kernel : ∀ t : Fin grid0.N, _)

theorem idx_out : ∀ t : Fin cfg0.N, win0_4.index t = ![t.val % 8, t.val / 8, 0] ∧ win0_5.index t = ![t.val % 8, t.val / 8, 0] :=
  (by decide +kernel : ∀ t : Fin grid0.N, _)

theorem part_eq (c : Dev nD) (t : Fin cfg0.N) (a : Fin 1024) (b : Fin 704) (q : Fin 8) (i : Fin 4096) (hq : t.val % 8 = q.val)
    (hi : t.val / 8 * 1024 + a.val = i.val) :
    part (iblk m c 0 t) (iblk m c 1 t) a b = proj (m ((c : Thread nD τ).loc main_arg2)) (m ((c : Thread nD τ).loc main_arg3)) q i b := by
  obtain ⟨i, _⟩ := i
  subst hi
  unfold part proj
  refine Finset.sum_congr rfl fun k _ => ?_
  blk_point [iblk, V, idx t]

theorem gate_eq (c : Dev nD) (t : Fin cfg0.N) (a : Fin 1024) (b : Fin 704) (q : Fin 8) (i : Fin 4096) (hq : t.val % 8 = q.val)
    (hi : t.val / 8 * 1024 + a.val = i.val) :
    iblk m c 2 t (ix3 0 a b) = hid (m ((c : Thread nD τ).loc main_arg0)) q i b := by
  obtain ⟨i, _⟩ := i
  subst hi
  unfold hid
  blk_point [iblk, V, idx t]

theorem up_eq (c : Dev nD) (t : Fin cfg0.N) (a : Fin 1024) (b : Fin 704) (q : Fin 8) (i : Fin 4096) (hq : t.val % 8 = q.val)
    (hi : t.val / 8 * 1024 + a.val = i.val) :
    iblk m c 3 t (ix3 0 a b) = hid (m ((c : Thread nD τ).loc main_arg1)) q i b := by
  obtain ⟨i, _⟩ := i
  subst hi
  unfold hid
  blk_point [iblk, V, idx t]

/-- Where a point's block lies in a result array: shard `t % 8`, the rows of token block `t / 8`. -/
theorem emb4 (t : Fin cfg0.N) (p : Fin 1) (a : Fin 1024) (b : Fin 704) : (win0_4.blk t).view.emb (ix3 p a b)
    = (ix3 ⟨t.val % 8, by omega⟩ ⟨t.val / 8 * 1024 + a.val, by have h := lt_of_lt_of_eq t.isLt N_0; omega⟩ b : S8x4096x704.Idx) := by
  have e := (idx_out t).1
  refine @funext (Fin 3) (fun d => Fin (S8x4096x704.size d)) _ _ fun d => Fin.ext ?_
  match d with
  | ⟨0, _⟩ => blk_simp [e]
  | ⟨1, _⟩ => blk_simp [e]
  | ⟨2, _⟩ => blk_simp [e]

theorem emb5 (t : Fin cfg0.N) (p : Fin 1) (a : Fin 1024) (b : Fin 704) : (win0_5.blk t).view.emb (ix3 p a b)
    = (ix3 ⟨t.val % 8, by omega⟩ ⟨t.val / 8 * 1024 + a.val, by have h := lt_of_lt_of_eq t.isLt N_0; omega⟩ b : S8x4096x704.Idx) := by
  have e := (idx_out t).2
  refine @funext (Fin 3) (fun d => Fin (S8x4096x704.size d)) _ _ fun d => Fin.ext ?_
  match d with
  | ⟨0, _⟩ => blk_simp [e]
  | ⟨1, _⟩ => blk_simp [e]
  | ⟨2, _⟩ => blk_simp [e]

/-- The sigmoid of a real is a real. -/
theorem sigm_coe (g : ℝ) : ∃ s : ℝ, sigm (g : EReal) = (s : EReal) := by
  refine ⟨1 / (1 + Real.exp (0 - g)), ?_⟩
  have h : (1 : EReal) + Ideal.exp (0 - (g : EReal)) = ((1 + Real.exp (0 - g) : ℝ) : EReal) := by
    rw [EReal.coe_add, ← Ideal.exp_coe, EReal.coe_sub]
    rfl
  unfold sigm
  rw [h, Ideal.div_coe (by positivity), one_mul]

theorem sigm_top : sigm ⊤ = 1 := by
  unfold sigm
  simp [Ideal.div]

theorem sigm_bot : sigm ⊥ = 0 := by
  unfold sigm
  have h : (1 : EReal) + ⊤ = ⊤ := EReal.add_top_of_ne_bot (EReal.coe_ne_bot 1)
  simp [Ideal.div, h]

/-- The two ways of multiplying out the gradient of the gate agree for every gate, the factor in front being a real. -/
theorem spread (a : ℝ) (g : EReal) :
    (a : EReal) * (sigm g * (1 + g * (1 - sigm g))) = a * sigm g + g * a * (sigm g * (1 - sigm g)) := by
  induction g using EReal.rec with
  | bot => rw [sigm_bot]; simp
  | top =>
    have h : (1 : EReal) - 1 = 0 := by rw [← EReal.coe_one, ← EReal.coe_sub]; simp
    rw [sigm_top, h]; simp
  | coe g =>
    obtain ⟨s, hs⟩ := sigm_coe g
    rw [hs, ← EReal.coe_one, ← EReal.coe_sub]
    simp only [← EReal.coe_mul, ← EReal.coe_add]
    congr 1
    ring

/-- Where a result's entry lies in the arrays before they are cut into shards. -/
theorem place (q : Fin 8) (i : Fin 4096) (b : Fin 704) :
    idx_main_v13 (idx_main_v14 (ix3 q i b)) = ix2 i ⟨q.val * 704 + b.val, by omega⟩ := by
  refine @funext (Fin 2) (fun d => Fin (S4096x5632.size d)) _ _ fun d => Fin.ext ?_
  match d with
  | ⟨0, _⟩ => show ((i.val * 8 + q.val) * 704 + b.val) / 5632 = i.val; omega
  | ⟨1, _⟩ => show ((i.val * 8 + q.val) * 704 + b.val) % 5632 = q.val * 704 + b.val; omega

/-- The reference's product: half the incoming gradient against the down weight. -/
theorem product (x2 : Vec Ideal S5632x2048 .f32) (x3 : Vec Ideal S4096x2048 .f32) (q : Fin 8) (i : Fin 4096) (b : Fin 704) :
    val_main_v9 (F := Ideal) x2 x3 (ix2 i ⟨q.val * 704 + b.val, by omega⟩) = Ideal.ofBits .f32 0x3F000000#32 * proj x2 x3 q i b := by
  rw [val_main_v9_apply]
  unfold proj
  rw [Cert.Sums.half_mul_sum]
  refine Finset.sum_congr rfl fun k _ => ?_
  rw [val_main_v8_apply, val_main_v7_apply, val_main_cst_0_apply]
  show Ideal.ofBits .f32 0x3F000000#32 * x3 _ * x2 _ = _
  rw [mul_assoc]
  refine congrArg (fun v => Ideal.ofBits .f32 0x3F000000#32 * v) (congrArg₂ (fun p r => x3 p * x2 r) (funext fun d => Fin.ext ?_) (funext fun d => Fin.ext ?_))
  · match d with
    | ⟨0, _⟩ => rfl
    | ⟨1, _⟩ => rfl
  · match d with
    | ⟨0, _⟩ => rfl
    | ⟨1, _⟩ => rfl

/-- The reference's sigmoid. -/
theorem sigmoid (x0 : Vec Ideal S4096x5632 .bf16) (j : S4096x5632.Idx) : val_main_v2_2 (F := Ideal) x0 j = sigm (x0 j) := by
  rw [val_main_v2_2_apply, val_main_call0_v4_apply, val_main_call0_v3_apply, val_main_call0_v2_apply, val_main_call0_v1_apply,
    val_main_call0_v0_apply, val_main_call0_cst_apply, val_main_call0_cst_0_apply, val_main_v0_apply]
  unfold sigm
  rw [zero_sub, ← Cert.Sums.one_eq]
  rfl

/-- The reference's array of gate gradients, the product with the up value being a real. -/
theorem reference15 (x0 x1 : Vec Ideal S4096x5632 .bf16) (x2 : Vec Ideal S5632x2048 .f32) (x3 : Vec Ideal S4096x2048 .f32)
    (q : Fin 8) (i : Fin 4096) (b : Fin 704)
    (h : ∃ r : ℝ, Ideal.ofBits .f32 0x3F000000#32 * proj x2 x3 q i b * hid x1 q i b = (r : EReal)) :
    val_main_v15 (F := Ideal) x0 x1 x2 x3 (ix3 q i b) = gateGrad (proj x2 x3 q i b) (hid x0 q i b) (hid x1 q i b) := by
  obtain ⟨r, hr⟩ := h
  rw [val_main_v15_apply]
  show val_main_v14 (F := Ideal) x0 x1 x2 x3 (ix3 q i b) = _
  rw [val_main_v14_apply, val_main_v13_apply, place, val_main_v12_apply, val_main_call1_v1_apply, val_main_call1_v2_apply,
    val_main_call1_v0_apply, val_main_v11_apply, product, val_main_v2_1_apply, val_main_call0_v7_apply, sigmoid,
    val_main_call0_v6_apply, val_main_call0_cst_1_apply, val_main_v0_apply, val_main_v1_apply]
  unfold gateGrad
  rw [hr, spread, ← hr, ← Cert.Sums.one_eq]
  rfl

/-- The reference's array of up gradients. -/
theorem reference18 (x0 : Vec Ideal S4096x5632 .bf16) (x2 : Vec Ideal S5632x2048 .f32) (x3 : Vec Ideal S4096x2048 .f32)
    (q : Fin 8) (i : Fin 4096) (b : Fin 704) :
    val_main_v18 (F := Ideal) x0 x2 x3 (ix3 q i b) = upGrad (proj x2 x3 q i b) (hid x0 q i b) := by
  have e : idx_main_v16 (idx_main_v17 (ix3 q i b)) = ix2 i ⟨q.val * 704 + b.val, by omega⟩ := place q i b
  rw [val_main_v18_apply]
  show val_main_v17 (F := Ideal) x0 x2 x3 (ix3 q i b) = _
  rw [val_main_v17_apply, val_main_v16_apply, e, val_main_v10_apply, product, val_main_v2_0_apply, sigmoid, val_main_v0_apply]
  unfold upGrad
  show hid x0 q i b * sigm (hid x0 q i b) * (Ideal.ofBits .f32 0x3F000000#32 * proj x2 x3 q i b) = _
  exact (mul_comm _ _).trans (mul_assoc _ _ _).symm

/-- The array of gate gradients. -/
theorem result4 (c : Dev nD) (h1 : Cert.Finite.Real (e := .bf16) (m ((c : Thread nD τ).loc main_arg1)))
    (h2 : Cert.Finite.Real (e := .f32) (m ((c : Thread nD τ).loc main_arg2)))
    (h3 : Cert.Finite.Real (e := .f32) (m ((c : Thread nD τ).loc main_arg3))) :
    (dats m 0 c).arrAt 4 cfg0.N = val_main_v15 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨p, a, b, rfl⟩ : ∃ (p : Fin 1) (a : Fin 1024) (b : Fin 704), y = ix3 p a b := ⟨y 0, y 1, y 2, ValueIdx.eq_ix3 y⟩
  rw [emb4, reference15, Subsingleton.elim p 0]
  · refine (out4_apply _ _ _ _ a b).trans ?_
    rw [part_eq m c t a b ⟨t.val % 8, by omega⟩ ⟨t.val / 8 * 1024 + a.val, by have h := lt_of_lt_of_eq t.isLt N_0; omega⟩ rfl rfl,
      gate_eq m c t a b ⟨t.val % 8, by omega⟩ ⟨t.val / 8 * 1024 + a.val, by have h := lt_of_lt_of_eq t.isLt N_0; omega⟩ rfl rfl,
      up_eq m c t a b ⟨t.val % 8, by omega⟩ ⟨t.val / 8 * 1024 + a.val, by have h := lt_of_lt_of_eq t.isLt N_0; omega⟩ rfl rfl]
  · refine Cert.Finite.mul (Cert.Finite.mul ⟨_, Cert.Sums.half_eq⟩ (Cert.Finite.sum _ _ fun k => Cert.Finite.mul (h3 _) (h2 _))) (h1 _)

/-- The array of up gradients. -/
theorem result5 (c : Dev nD) : (dats m 0 c).arrAt 5 cfg0.N = val_main_v18 (F := Ideal) (m ((c : Thread nD τ).loc main_arg0))
      (m ((c : Thread nD τ).loc main_arg2)) (m ((c : Thread nD τ).loc main_arg3)) := by
  refine (dats m 0 c).arrAt_eq_of_covers 5 _ (by decide +kernel) fun t hf y => ?_
  blk_simp
  rw [after0_5]
  obtain ⟨p, a, b, rfl⟩ : ∃ (p : Fin 1) (a : Fin 1024) (b : Fin 704), y = ix3 p a b := ⟨y 0, y 1, y 2, ValueIdx.eq_ix3 y⟩
  rw [emb5, reference18, Subsingleton.elim p 0]
  refine (out5_apply _ _ _ _ a b).trans ?_
  rw [part_eq m c t a b ⟨t.val % 8, by omega⟩ ⟨t.val / 8 * 1024 + a.val, by have h := lt_of_lt_of_eq t.isLt N_0; omega⟩ rfl rfl,
    gate_eq m c t a b ⟨t.val % 8, by omega⟩ ⟨t.val / 8 * 1024 + a.val, by have h := lt_of_lt_of_eq t.isLt N_0; omega⟩ rfl rfl]

instance : Subsingleton (Cert.Pre_dact_finite.S_).Idx := ⟨fun a b => funext fun d => d.elim0⟩

/-- The precondition, read back. -/
theorem finite_args {c : Dev nD} (h : Cert.Pre_DactIdeal_dact_finite m) : Cert.Finite.Real (e := .bf16) (m ((c : Thread nD τ).loc main_arg1))
    ∧ Cert.Finite.Real (e := .f32) (m ((c : Thread nD τ).loc main_arg2)) ∧ Cert.Finite.Real (e := .f32) (m ((c : Thread nD τ).loc main_arg3)) := by
  have e := congrFun (h c) (fun d => d.elim0)
  obtain ⟨e, e3⟩ := IntOp.andi_eq_one.1 e
  obtain ⟨e1, e2⟩ := IntOp.andi_eq_one.1 e
  refine ⟨?_, ?_, ?_⟩
  · exact Cert.Finite.of_all (s := S4096x5632) (m ((c : Thread nD τ).loc main_arg1)) _ _ _ _ _ e1
  · exact Cert.Finite.of_all _ _ _ _ _ _ e2
  · exact Cert.Finite.of_all _ _ _ _ _ _ e3

end Cert.DactIdeal.Sum

end
-- ==== Proof.DownValue.lean ====
/-
  The down projection: what one grid point adds, and what the result array holds.
-/
module

public import proofs.«01_k».proof.Proof.Sums
public import proofs.«01_k».proof.Proof.Gen.DownIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DownIdeal.Sum

open Idealize.ShloMosaic Idealize.ShloMosaic.TcCoe Idealize.SL.Sem
open Cert.DownIdeal Cert.DownIdeal.Gen Cert.DownIdeal.Value

variable (m : (ℓ : Loc nD τ sig) → Buf (Elt Ideal) ℓ)

/-- What one shard of 704 hidden units adds at row `a` and column `b` of a block. -/
def part (x0 : Vec Ideal S1x1024x704 .bf16) (x1 : Vec Ideal S1x704x1024 .bf16) (a : Fin 1024) (b : Fin 1024) : EReal :=
  ∑ k : Fin 704, x0 (ix3 0 a k) * x1 (ix3 0 k b)

/-- The accumulating payload adds a shard's part. -/
theorem pay2_apply (acc : Vec Ideal S1024x1024 .f32) (x0 : Vec Ideal S1x1024x704 .bf16) (x1 : Vec Ideal S1x704x1024 .bf16)
    (a : Fin 1024) (b : Fin 1024) :
    k0_pay2 (F := Ideal) acc x0 x1 (ix2 a b) = acc (ix2 a b) + part x0 x1 a b := by
  unfold k0_pay2 part
  pointwise

/-- The accumulator starts at zero. -/
theorem pay1_apply (a : Fin 1024) (b : Fin 1024) : k0_pay1 (F := Ideal) (ix2 a b) = 0 := by
  unfold k0_pay1
  pointwise

/-- The grid's block indices, decided: row block `t / 16`, column block `t / 8 % 2`, shard `t % 8`. -/
theorem idx : ∀ t : Fin cfg0.N, win0_0.index t = ![t.val % 8, t.val / 16, 0] ∧ win0_1.index t = ![t.val % 8, 0, t.val / 8 % 2]
    ∧ win0_2.index t = ![t.val / 16, t.val / 8 % 2] ∧ win0_3.index t = ![t.val / 16, t.val / 8 % 2] :=
  (by decide +kernel : ∀ t : Fin grid0.N, _)

/-- The scratch read whole is what it holds. -/
theorem scratch_read (x : Vec Ideal S1024x1024 .f32) :
    View.read (Elt Ideal) (View.whole cc0_scratch0) ((Memref.isWhole_whole cc0_scratch0).unread x) = x :=
  (Memref.isWhole_whole cc0_scratch0).read_unread x

/-- After the last shard of a block the scratch holds the eight shards' parts. -/
theorem scratch_eq (c : Dev nD) (t : Fin cfg0.N) (hf : t.val % 8 = 7) (a : Fin 1024) (b : Fin 1024) :
    (outsAt0 m c t.val t.isLt).2 (ix2 a b) = 0 + ∑ s : Fin 8,
      part (iblk m c 0 ⟨8 * (t.val / 8) + s.val, Pipeline.run_point_lt_of_flush t hf s⟩)
        (iblk m c 1 ⟨8 * (t.val / 8) + s.val, Pipeline.run_point_lt_of_flush t hf s⟩) a b := by
  refine Pipeline.eq_sum_fin_of_reset_step_apply_of_flush
    (fun n h (p : Fin 1024 × Fin 1024) => (outsAt0 m c n h).2 (ix2 p.1 p.2)) 8 (fun _ => (0 : EReal))
    (fun t p => part (iblk m c 0 t) (iblk m c 1 t) p.1 p.2) ?_ ?_ t hf (a, b)
  · intro t h p
    have h1 : ¬t.val % 8 = 7 := by omega
    rw [outsAt0_A m c t h h1]
    frame_out [scratch_read]
    rw [pay2_apply, pay1_apply]
  · intro t h p
    by_cases h1 : t.val % 8 = 7
    · rw [outsAt0_C m c t h h1]
      frame_out [scratch_read]
      rw [pay2_apply]
    · rw [outsAt0_B m c t h h1]
      frame_out [scratch_read]
      rw [pay2_apply]

/-- The residual and half of an accumulated sum, at row `a` and column `b` of a block. -/
def closed (x acc : Vec Ideal S1024x1024 .f32) (a b : Fin 1024) : EReal :=
  x (ix2 a b) + Ideal.ofBits .f32 0x3F000000#32 * acc (ix2 a b)

/-- What a block's last point writes back is the residual and half of what the scratch then holds. -/
theorem out_eq (c : Dev nD) (t : Fin cfg0.N) (hf : t.val % 8 = 7) (a : Fin 1024) (b : Fin 1024) :
    (outsAt0 m c t.val t.isLt).1 (ix2 a b) = closed (iblk m c 2 t) (outsAt0 m c t.val t.isLt).2 a b := by
  have h0 : ¬t.val % 8 = 0 := by omega
  unfold closed
  rw [outsAt0_C m c t h0 hf]
  frame_out [scratch_read]
  canon_tiles x h
  all_goals
    open_payloads
    pointwise
    rw [View.readCov_eq_canon']
    simp (disch := decide) only [View.canon_cons_unit_lit']
    refine congrArg₂ (fun u v => u + _ * v) (congrArg _ ?_) (congrArg _ ?_)
    all_goals
      funext d
      apply Fin.ext
      match d with
      | ⟨0, _⟩ => simp at h0 ⊢; omega
      | ⟨1, _⟩ => simp at h1 ⊢; omega

end Cert.DownIdeal.Sum

end
-- ==== Proof.DownResult.lean ====
/-
  The down projection: the kernel's result array in closed form, the reference's, and that the two agree.
-/
module

public import proofs.«01_k».proof.Proof.DownValue
public import proofs.«01_k».proof.Proof.Gen.DownReferenceIdeal.Read

@[expose] public section

noncomputable section

namespace Cert.DownIdeal.Sum

open Idealize.ShloMosaic Idealize.ShloMosaic.TcCoe Idealize.SL.Sem
open Cert.DownIdeal Cert.DownIdeal.Gen Cert.DownIdeal.Value Cert.DownReferenceIdeal.Read

variable (m : (ℓ : Loc nD τ sig) → Buf (Elt Ideal) ℓ)

/-- What hidden unit `k` adds at token `i` and column `j`. -/
def term (act : Vec Ideal S4096x5632 .bf16) (w : Vec Ideal S5632x2048 .f32) (i : Fin 4096) (j : Fin 2048) (k : Fin 5632) : EReal :=
  act (ix2 i k) * w (ix2 k j)

/-- The layer: the residual and half of the product. -/
def layer (x : Vec Ideal S4096x2048 .f32) (act : Vec Ideal S4096x5632 .bf16) (w : Vec Ideal S5632x2048 .f32) (i : Fin 4096)
    (j : Fin 2048) : EReal :=
  x (ix2 i j) + Ideal.ofBits .f32 0x3F000000#32 * ∑ k : Fin 5632, term act w i j k

/-- A point's part reads the hidden units of its shard. -/
theorem part_eq (c : Dev nD) (t : Fin cfg0.N) (a b : Fin 1024) (p : Fin 4) (q : Fin 2) (s : Fin 8) (hp : t.val / 16 = p.val)
    (hq : t.val / 8 % 2 = q.val) (hs : t.val % 8 = s.val) :
    part (iblk m c 0 t) (iblk m c 1 t) a b = ∑ k : Fin 704, term (m ((c : Thread nD τ).loc main_arg1))
      (m ((c : Thread nD τ).loc main_arg2)) ⟨p.val * 1024 + a.val, by omega⟩ ⟨q.val * 1024 + b.val, by omega⟩
      ⟨s.val * 704 + k.val, by omega⟩ := by
  unfold part term
  refine Finset.sum_congr rfl fun k _ => ?_
  blk_point [iblk, V, idx t]

/-- A point's residual block reads the rows and columns of its block. -/
theorem resid_eq (c : Dev nD) (t : Fin cfg0.N) (a b : Fin 1024) (p : Fin 4) (q : Fin 2) (hp : t.val / 16 = p.val)
    (hq : t.val / 8 % 2 = q.val) :
    iblk m c 2 t (ix2 a b) = m ((c : Thread nD τ).loc main_arg0) (ix2 ⟨p.val * 1024 + a.val, by omega⟩ ⟨q.val * 1024 + b.val, by omega⟩) := by
  blk_point [iblk, V, idx t]

/-- What the result array holds. -/
theorem result (c : Dev nD) (p : Fin 4) (a : Fin 1024) (q : Fin 2) (b : Fin 1024) (i : Fin 4096) (j : Fin 2048)
    (hi : i.val = p.val * 1024 + a.val) (hj : j.val = q.val * 1024 + b.val) :
    G3 m c (ix2 i j) = layer (m ((c : Thread nD τ).loc main_arg0)) (m ((c : Thread nD τ).loc main_arg1))
      (m ((c : Thread nD τ).loc main_arg2)) i j := by
  have hn : pt3Of (ix2 i j) = 8 * (2 * p.val + q.val) + 7 := by
    show 8 * (2 * (i.val / 1024 - 0) + 1 * (j.val / 1024 - 0)) + 7 = _
    omega
  have ht : 8 * (2 * p.val + q.val) + 7 < cfg0.N := lt_of_lt_of_eq (by omega) N_0.symm
  have hl : loc3Of (ix2 i j) = ix2 a b := by
    funext d
    apply Fin.ext
    match d with
    | ⟨0, _⟩ => show i.val % 1024 = a.val; omega
    | ⟨1, _⟩ => show j.val % 1024 = b.val; omega
  have hf : (⟨8 * (2 * p.val + q.val) + 7, ht⟩ : Fin cfg0.N).val % 8 = 7 := by
    show (8 * (2 * p.val + q.val) + 7) % 8 = 7; omega
  obtain ⟨i, _⟩ := i
  obtain ⟨j, _⟩ := j
  obtain rfl : i = p.val * 1024 + a.val := hi
  obtain rfl : j = q.val * 1024 + b.val := hj
  unfold G3
  rw [dif_pos (hn ▸ ht), hl, fold0_congr m c _ _ _ (by omega) hn, ← outsAt0_sweep m c _ ht]
  rw [out_eq m c ⟨8 * (2 * p.val + q.val) + 7, ht⟩ hf]
  unfold closed layer
  rw [scratch_eq m c ⟨8 * (2 * p.val + q.val) + 7, ht⟩ hf, zero_add]
  refine congrArg₂ (fun u v => u + _ * v) ?_ ?_
  · exact resid_eq m c _ a b p q (by show (8 * (2 * p.val + q.val) + 7) / 16 = p.val; omega)
      (by show (8 * (2 * p.val + q.val) + 7) / 8 % 2 = q.val; omega)
  have e : ∀ s : Fin 8, _ := fun s => part_eq m c ⟨8 * ((8 * (2 * p.val + q.val) + 7) / 8) + s.val, lt_of_lt_of_eq (by omega) N_0.symm⟩
    a b p q s (by show (8 * ((8 * (2 * p.val + q.val) + 7) / 8) + s.val) / 16 = p.val; omega)
    (by show (8 * ((8 * (2 * p.val + q.val) + 7) / 8) + s.val) / 8 % 2 = q.val; omega)
    (by show (8 * ((8 * (2 * p.val + q.val) + 7) / 8) + s.val) % 8 = s.val; omega)
  refine (Finset.sum_congr rfl fun s _ => e s).trans ?_
  refine Fin.sum_mul_add_congr fun s k hl => ?_
  rfl

/-- The reference's array holds the same sums. -/
theorem reference_apply (x0 : Vec Ideal S4096x2048 .f32) (x1 : Vec Ideal S4096x5632 .bf16) (x2 : Vec Ideal S5632x2048 .f32)
    (i : Fin 4096) (j : Fin 2048) :
    Cert.DownReferenceIdeal.Read.val_main_v4 (F := Ideal) x0 x1 x2 (ix2 i j) = layer x0 x1 x2 i j := by
  rw [val_main_v4_apply, val_main_v3_apply, val_main_v2_apply, val_main_v1_apply]
  unfold layer term
  show x0 (ix2 i j) + Ideal.ofBits .f32 0x3F000000#32 * _ = _
  refine congrArg (fun v => x0 (ix2 i j) + Ideal.ofBits .f32 0x3F000000#32 * v) ?_
  refine Finset.sum_congr rfl fun k _ => ?_
  rw [val_main_v0_apply]
  have e0 : lidx_main_v1 (ix2 i j) k = ix2 i k := by
    funext d
    match d with
    | ⟨0, _⟩ => rfl
    | ⟨1, _⟩ => rfl
  have e1 : ridx_main_v1 (ix2 i j) k = ix2 k j := by
    funext d
    match d with
    | ⟨0, _⟩ => rfl
    | ⟨1, _⟩ => rfl
  rw [e0, e1]
  rfl

/-- The kernel's array is the reference's. -/
theorem agree (c : Dev nD) : G3 m c = Cert.DownReferenceIdeal.Read.val_main_v4 (F := Ideal)
    (m ((c : Thread nD τ).loc main_arg0)) (m ((c : Thread nD τ).loc main_arg1)) (m ((c : Thread nD τ).loc main_arg2)) := by
  funext i
  rw [ValueIdx.eq_ix2 i]
  have h0 : (i 0).val < 4096 := (i 0).isLt
  have h1 : (i 1).val < 2048 := (i 1).isLt
  exact (result m c ⟨(i 0).val / 1024, by omega⟩ ⟨(i 0).val % 1024, by omega⟩ ⟨(i 1).val / 1024, by omega⟩ ⟨(i 1).val % 1024, by omega⟩
    _ _ (by show (i 0).val = (i 0).val / 1024 * 1024 + (i 0).val % 1024; omega)
    (by show (i 1).val = (i 1).val / 1024 * 1024 + (i 1).val % 1024; omega)).trans (reference_apply _ _ _ _ _).symm

end Cert.DownIdeal.Sum

end
-- ==== Proof.DwdValue.lean ====
/-
  The down projection's weight gradient: what one grid point adds, and what the result array holds.
-/
module

public import proofs.«01_k».proof.Proof.Sums
public import proofs.«01_k».proof.Proof.Gen.DwdIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DwdIdeal.Sum

open Idealize.ShloMosaic Idealize.ShloMosaic.TcCoe Idealize.SL.Sem
open Cert.DwdIdeal Cert.DwdIdeal.Gen Cert.DwdIdeal.Value

variable (m : (ℓ : Loc nD τ sig) → Buf (Elt Ideal) ℓ)

/-- What one block of 1024 tokens adds at row `a` and column `b` of a shard's gradient. -/
def part (x0 : Vec Ideal S1x1024x704 .bf16) (x1 : Vec Ideal S1024x2048 .bf16) (a : Fin 704) (b : Fin 2048) : EReal :=
  ∑ k : Fin 1024, x0 (ix3 0 k a) * x1 (ix2 k b)

/-- The accumulating payload adds a block's part. -/
theorem pay2_apply (acc : Vec Ideal S704x2048 .f32) (x0 : Vec Ideal S1x1024x704 .bf16) (x1 : Vec Ideal S1024x2048 .bf16)
    (a : Fin 704) (b : Fin 2048) :
    k0_pay2 (F := Ideal) acc x0 x1 (ix2 a b) = acc (ix2 a b) + part x0 x1 a b := by
  unfold k0_pay2 part
  pointwise

theorem pay1_apply (a : Fin 704) (b : Fin 2048) : k0_pay1 (F := Ideal) (ix2 a b) = 0 := by
  unfold k0_pay1
  pointwise

/-- The grid's block indices, decided: shard `t / 4`, token block `t % 4`. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

/-- The scratch read whole is what it holds. -/
theorem scratch_read (x : Vec Ideal S704x2048 .f32) :
    View.read (Elt Ideal) (View.whole cc0_scratch0) ((Memref.isWhole_whole cc0_scratch0).unread x) = x :=
  (Memref.isWhole_whole cc0_scratch0).read_unread x

/-- After the last token block of a shard the scratch holds the four blocks' parts. -/
theorem scratch_eq (c : Dev nD) (t : Fin cfg0.N) (hf : t.val % 4 = 3) (a : Fin 704) (b : Fin 2048) :
    (outsAt0 m c t.val t.isLt).2 (ix2 a b) = 0 + ∑ s : Fin 4,
      part (iblk m c 0 ⟨4 * (t.val / 4) + s.val, Pipeline.run_point_lt_of_flush t hf s⟩)
        (iblk m c 1 ⟨4 * (t.val / 4) + s.val, Pipeline.run_point_lt_of_flush t hf s⟩) a b := by
  refine Pipeline.eq_sum_fin_of_reset_step_apply_of_flush
    (fun n h (p : Fin 704 × Fin 2048) => (outsAt0 m c n h).2 (ix2 p.1 p.2)) 4 (fun _ => (0 : EReal))
    (fun t p => part (iblk m c 0 t) (iblk m c 1 t) p.1 p.2) ?_ ?_ t hf (a, b)
  · intro t h p
    have h1 : ¬t.val % 4 = 3 := by omega
    rw [outsAt0_A m c t h h1]
    frame_out [scratch_read]
    rw [pay2_apply, pay1_apply]
  · intro t h p
    by_cases h1 : t.val % 4 = 3
    · rw [outsAt0_C m c t h h1]
      frame_out [scratch_read]
      rw [pay2_apply]
    · rw [outsAt0_B m c t h h1]
      frame_out [scratch_read]
      rw [pay2_apply]

/-- What a shard's last point writes back is half of what the scratch then holds. -/
theorem out_eq (c : Dev nD) (t : Fin cfg0.N) (hf : t.val % 4 = 3) (a : Fin 704) (b : Fin 2048) :
    (outsAt0 m c t.val t.isLt).1 (ix3 0 a b)
      = Ideal.ofBits .f32 0x3F000000#32 * (outsAt0 m c t.val t.isLt).2 (ix2 a b) := by
  have h0 : ¬t.val % 4 = 0 := by omega
  rw [outsAt0_C m c t h0 hf]
  frame_out [scratch_read]
  canon_tiles x h
  all_goals
    open_payloads
    pointwise
    refine congrArg (_ * ·) ?_
    rw [View.readCov_eq_canon']
    simp (disch := decide) only [View.canon_cons_unit_lit']
    refine congrArg _ ?_
    funext d
    apply Fin.ext
    match d with
    | ⟨0, _⟩ => simp at h1 ⊢; omega
    | ⟨1, _⟩ => simp at h2 ⊢; omega

end Cert.DwdIdeal.Sum

end
-- ==== Proof.DwdResult.lean ====
/-
  The down projection's weight gradient: the kernel's result array in closed form, the reference's, and that the two agree.
-/
module

public import proofs.«01_k».proof.Proof.DwdValue
public import proofs.«01_k».proof.Proof.Gen.DwdReferenceIdeal.Read

@[expose] public section

noncomputable section

namespace Cert.DwdIdeal.Sum

open Idealize.ShloMosaic Idealize.ShloMosaic.TcCoe Idealize.SL.Sem
open Cert.DwdIdeal Cert.DwdIdeal.Gen Cert.DwdIdeal.Value Cert.DwdReferenceIdeal.Read

variable (m : (ℓ : Loc nD τ sig) → Buf (Elt Ideal) ℓ)

/-- What token `k` adds to the gradient of the weights at shard `q`, row `a`, column `b`, before the factor one half. -/
def term (act : Vec Ideal S4096x5632 .bf16) (d : Vec Ideal S4096x2048 .f32) (q : Fin 8) (a : Fin 704) (b : Fin 2048)
    (k : Fin 4096) : EReal :=
  act (ix2 k ⟨q.val * 704 + a.val, by omega⟩) * d (ix2 k b)

/-- The gradient as one sum over all tokens: half of the activation against the cotangent. -/
def grad (act : Vec Ideal S4096x5632 .bf16) (d : Vec Ideal S4096x2048 .f32) (q : Fin 8) (a : Fin 704) (b : Fin 2048) : EReal :=
  Ideal.ofBits .f32 0x3F000000#32 * ∑ k : Fin 4096, term act d q a b k

/-- A block's part reads the tokens of its block. -/
theorem part_eq (c : Dev nD) (t : Fin cfg0.N) (a : Fin 704) (b : Fin 2048) (q : Fin 8) (s : Fin 4) (hq : t.val / 4 = q.val)
    (hs : t.val % 4 = s.val) :
    part (iblk m c 0 t) (iblk m c 1 t) a b = ∑ k : Fin 1024, term (m ((c : Thread nD τ).loc main_arg0))
      (m ((c : Thread nD τ).loc main_arg1)) q a b ⟨s.val * 1024 + k.val, by omega⟩ := by
  unfold part term
  refine Finset.sum_congr rfl fun k _ => ?_
  blk_point [iblk, V, idx t]

/-- What the result array holds. -/
theorem result (c : Dev nD) (q : Fin 8) (a : Fin 704) (b : Fin 2048) :
    G2 m c (ix3 q a b) = grad (m ((c : Thread nD τ).loc main_arg0)) (m ((c : Thread nD τ).loc main_arg1)) q a b := by
  have hp : pt2Of (ix3 q a b) = 4 * q.val + 3 := by
    show 4 * (1 * (q.val / 1 - 0) + 1 * (a.val / 704 - 0) + 1 * (b.val / 2048 - 0)) + 3 = _
    omega
  have ht : 4 * q.val + 3 < cfg0.N := lt_of_lt_of_eq (by omega) N_0.symm
  have hl : loc2Of (ix3 q a b) = ix3 0 a b := by
    funext d
    apply Fin.ext
    match d with
    | ⟨0, _⟩ => show q.val % 1 = 0; omega
    | ⟨1, _⟩ => show a.val % 704 = a.val; omega
    | ⟨2, _⟩ => show b.val % 2048 = b.val; omega
  have hf : (⟨4 * q.val + 3, ht⟩ : Fin cfg0.N).val % 4 = 3 := by show (4 * q.val + 3) % 4 = 3; omega
  unfold G2
  rw [dif_pos (hp ▸ ht), hl, fold0_congr m c _ _ _ (by omega) hp, ← outsAt0_sweep m c _ ht]
  rw [out_eq m c ⟨4 * q.val + 3, ht⟩ hf, scratch_eq m c ⟨4 * q.val + 3, ht⟩ hf, zero_add]
  unfold grad
  refine congrArg (_ * ·) ?_
  have e : ∀ s : Fin 4, _ := fun s => part_eq m c ⟨4 * ((4 * q.val + 3) / 4) + s.val, lt_of_lt_of_eq (by omega) N_0.symm⟩ a b q s
    (by show (4 * ((4 * q.val + 3) / 4) + s.val) / 4 = q.val; omega) (by show (4 * ((4 * q.val + 3) / 4) + s.val) % 4 = s.val; omega)
  refine (Finset.sum_congr rfl fun s _ => e s).trans ?_
  refine Fin.sum_mul_add_congr fun s k hl => ?_
  rfl

/-- The reference's array holds the same sums: it halves the cotangent, which is halving the sum. -/
theorem reference_apply (x0 : Vec Ideal S4096x5632 .bf16) (x1 : Vec Ideal S4096x2048 .f32) (q : Fin 8) (a : Fin 704) (b : Fin 2048) :
    Cert.DwdReferenceIdeal.Read.val_main_v10 (F := Ideal) x0 x1 (ix3 q a b) = grad x0 x1 q a b := by
  rw [val_main_v10_apply]
  show val_main_v9 (F := Ideal) x0 x1 (ix3 q a b) = _
  rw [val_main_v9_apply, val_main_v8_apply, val_main_v7_apply]
  unfold grad
  rw [Cert.Sums.half_mul_sum]
  refine Finset.sum_congr rfl fun k _ => ?_
  rw [val_main_v6_apply, val_main_v5_apply, val_main_v1_apply]
  unfold term
  have e0 : ridx_main_v7 (idx_main_v8 (idx_main_v9 (ix3 q a b))) k = ix2 k ⟨q.val * 704 + a.val, by omega⟩ := by
    funext d
    apply Fin.ext
    match d with
    | ⟨0, _⟩ => rfl
    | ⟨1, _⟩ => show ((q.val * 704 + a.val) * 2048 + b.val) / 2048 = q.val * 704 + a.val; omega
  have e1 : lidx_main_v7 (idx_main_v8 (idx_main_v9 (ix3 q a b))) k = ix2 k b := by
    funext d
    apply Fin.ext
    match d with
    | ⟨0, _⟩ => rfl
    | ⟨1, _⟩ => show ((q.val * 704 + a.val) * 2048 + b.val) % 2048 = b.val; omega
  rw [e0, e1]
  show Ideal.ofBits .f32 0x3F000000#32 * x1 (ix2 k b) * x0 (ix2 k ⟨q.val * 704 + a.val, by omega⟩) = _
  rw [mul_assoc, mul_comm (x1 _)]

/-- The kernel's array is the reference's. -/
theorem agree (c : Dev nD) : G2 m c = Cert.DwdReferenceIdeal.Read.val_main_v10 (F := Ideal)
    (m ((c : Thread nD τ).loc main_arg0)) (m ((c : Thread nD τ).loc main_arg1)) := by
  funext i
  rw [ValueIdx.eq_ix3 i]
  exact (result m c _ _ _).trans (reference_apply _ _ _ _ _).symm

end Cert.DwdIdeal.Sum

end
-- ==== Proof.DwgValue.lean ====
/-
  A weight gradient of the two projections into the hidden layer: what one grid point adds, and what the result array holds.
-/
module

public import proofs.«01_k».proof.Proof.Sums
public import proofs.«01_k».proof.Proof.Gen.DwgIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DwgIdeal.Sum

open Idealize.ShloMosaic Idealize.ShloMosaic.TcCoe Idealize.SL.Sem
open Cert.DwgIdeal Cert.DwgIdeal.Gen Cert.DwgIdeal.Value

variable (m : (ℓ : Loc nD τ sig) → Buf (Elt Ideal) ℓ)

/-- What one block of 1024 tokens adds at row `a` and column `b` of a shard's gradient. -/
def part (x0 : Vec Ideal S1x1024x704 .bf16) (x1 : Vec Ideal S1024x2048 .bf16) (a : Fin 704) (b : Fin 2048) : EReal :=
  ∑ k : Fin 1024, x0 (ix3 0 k a) * x1 (ix2 k b)

/-- The accumulating payload adds a block's part. -/
theorem pay2_apply (acc : Vec Ideal S704x2048 .f32) (x0 : Vec Ideal S1x1024x704 .bf16) (x1 : Vec Ideal S1024x2048 .bf16)
    (a : Fin 704) (b : Fin 2048) :
    k0_pay2 (F := Ideal) acc x0 x1 (ix2 a b) = acc (ix2 a b) + part x0 x1 a b := by
  unfold k0_pay2 part
  pointwise

theorem pay1_apply (a : Fin 704) (b : Fin 2048) : k0_pay1 (F := Ideal) (ix2 a b) = 0 := by
  unfold k0_pay1
  pointwise

/-- The grid's block indices, decided: shard `t / 4`, token block `t % 4`. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

/-- The scratch read whole is what it holds. -/
theorem scratch_read (x : Vec Ideal S704x2048 .f32) :
    View.read (Elt Ideal) (View.whole cc0_scratch0) ((Memref.isWhole_whole cc0_scratch0).unread x) = x :=
  (Memref.isWhole_whole cc0_scratch0).read_unread x

/-- After the last token block of a shard the scratch holds the four blocks' parts. -/
theorem scratch_eq (c : Dev nD) (t : Fin cfg0.N) (hf : t.val % 4 = 3) (a : Fin 704) (b : Fin 2048) :
    (outsAt0 m c t.val t.isLt).2 (ix2 a b) = 0 + ∑ s : Fin 4,
      part (iblk m c 0 ⟨4 * (t.val / 4) + s.val, Pipeline.run_point_lt_of_flush t hf s⟩)
        (iblk m c 1 ⟨4 * (t.val / 4) + s.val, Pipeline.run_point_lt_of_flush t hf s⟩) a b := by
  refine Pipeline.eq_sum_fin_of_reset_step_apply_of_flush
    (fun n h (p : Fin 704 × Fin 2048) => (outsAt0 m c n h).2 (ix2 p.1 p.2)) 4 (fun _ => (0 : EReal))
    (fun t p => part (iblk m c 0 t) (iblk m c 1 t) p.1 p.2) ?_ ?_ t hf (a, b)
  · intro t h p
    have h1 : ¬t.val % 4 = 3 := by omega
    rw [outsAt0_A m c t h h1]
    frame_out [scratch_read]
    rw [pay2_apply, pay1_apply]
  · intro t h p
    by_cases h1 : t.val % 4 = 3
    · rw [outsAt0_C m c t h h1]
      frame_out [scratch_read]
      rw [pay2_apply]
    · rw [outsAt0_B m c t h h1]
      frame_out [scratch_read]
      rw [pay2_apply]

/-- What a shard's last point writes back is what the scratch then holds. -/
theorem out_eq (c : Dev nD) (t : Fin cfg0.N) (hf : t.val % 4 = 3) (a : Fin 704) (b : Fin 2048) :
    (outsAt0 m c t.val t.isLt).1 (ix3 0 a b)
      = (outsAt0 m c t.val t.isLt).2 (ix2 a b) := by
  have h0 : ¬t.val % 4 = 0 := by omega
  rw [outsAt0_C m c t h0 hf]
  frame_out [scratch_read]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h1 ⊢; omega
    | ⟨1, _⟩ => simp at h2 ⊢; omega

end Cert.DwgIdeal.Sum

end
-- ==== Proof.DwgResult.lean ====
/-
  A weight gradient of the two projections into the hidden layer: the kernel's result array in closed form, the reference's, and that the two agree.
-/
module

public import proofs.«01_k».proof.Proof.DwgValue
public import proofs.«01_k».proof.Proof.Gen.DwgReferenceIdeal.Read

@[expose] public section

noncomputable section

namespace Cert.DwgIdeal.Sum

open Idealize.ShloMosaic Idealize.ShloMosaic.TcCoe Idealize.SL.Sem
open Cert.DwgIdeal Cert.DwgIdeal.Gen Cert.DwgIdeal.Value Cert.DwgReferenceIdeal.Read

variable (m : (ℓ : Loc nD τ sig) → Buf (Elt Ideal) ℓ)

/-- What token `k` adds to the gradient of the weights at shard `q`, row `a`, column `b`. -/
def term (g : Vec Ideal S4096x5632 .bf16) (h : Vec Ideal S4096x2048 .bf16) (q : Fin 8) (a : Fin 704) (b : Fin 2048)
    (k : Fin 4096) : EReal :=
  g (ix2 k ⟨q.val * 704 + a.val, by omega⟩) * h (ix2 k b)

/-- The gradient as one sum over all tokens: the cotangent of the hidden layer against its input. -/
def grad (g : Vec Ideal S4096x5632 .bf16) (h : Vec Ideal S4096x2048 .bf16) (q : Fin 8) (a : Fin 704) (b : Fin 2048) : EReal :=
  ∑ k : Fin 4096, term g h q a b k

/-- A block's part reads the tokens of its block. -/
theorem part_eq (c : Dev nD) (t : Fin cfg0.N) (a : Fin 704) (b : Fin 2048) (q : Fin 8) (s : Fin 4) (hq : t.val / 4 = q.val)
    (hs : t.val % 4 = s.val) :
    part (iblk m c 0 t) (iblk m c 1 t) a b = ∑ k : Fin 1024, term (m ((c : Thread nD τ).loc main_arg0))
      (m ((c : Thread nD τ).loc main_arg1)) q a b ⟨s.val * 1024 + k.val, by omega⟩ := by
  unfold part term
  refine Finset.sum_congr rfl fun k _ => ?_
  blk_point [iblk, V, idx t]

/-- What the result array holds. -/
theorem result (c : Dev nD) (q : Fin 8) (a : Fin 704) (b : Fin 2048) :
    G2 m c (ix3 q a b) = grad (m ((c : Thread nD τ).loc main_arg0)) (m ((c : Thread nD τ).loc main_arg1)) q a b := by
  have hp : pt2Of (ix3 q a b) = 4 * q.val + 3 := by
    show 4 * (1 * (q.val / 1 - 0) + 1 * (a.val / 704 - 0) + 1 * (b.val / 2048 - 0)) + 3 = _
    omega
  have ht : 4 * q.val + 3 < cfg0.N := lt_of_lt_of_eq (by omega) N_0.symm
  have hl : loc2Of (ix3 q a b) = ix3 0 a b := by
    funext d
    apply Fin.ext
    match d with
    | ⟨0, _⟩ => show q.val % 1 = 0; omega
    | ⟨1, _⟩ => show a.val % 704 = a.val; omega
    | ⟨2, _⟩ => show b.val % 2048 = b.val; omega
  have hf : (⟨4 * q.val + 3, ht⟩ : Fin cfg0.N).val % 4 = 3 := by show (4 * q.val + 3) % 4 = 3; omega
  unfold G2
  rw [dif_pos (hp ▸ ht), hl, fold0_congr m c _ _ _ (by omega) hp, ← outsAt0_sweep m c _ ht]
  rw [out_eq m c ⟨4 * q.val + 3, ht⟩ hf, scratch_eq m c ⟨4 * q.val + 3, ht⟩ hf, zero_add]
  unfold grad
  have e : ∀ s : Fin 4, _ := fun s => part_eq m c ⟨4 * ((4 * q.val + 3) / 4) + s.val, lt_of_lt_of_eq (by omega) N_0.symm⟩ a b q s
    (by show (4 * ((4 * q.val + 3) / 4) + s.val) / 4 = q.val; omega) (by show (4 * ((4 * q.val + 3) / 4) + s.val) % 4 = s.val; omega)
  refine (Finset.sum_congr rfl fun s _ => e s).trans ?_
  refine Fin.sum_mul_add_congr fun s k hl => ?_
  rfl

/-- The reference's array holds the same sums. -/
theorem reference_apply (x0 : Vec Ideal S4096x5632 .bf16) (x1 : Vec Ideal S4096x2048 .bf16) (q : Fin 8) (a : Fin 704) (b : Fin 2048) :
    Cert.DwgReferenceIdeal.Read.val_main_v8 (F := Ideal) x0 x1 (ix3 q a b) = grad x0 x1 q a b := by
  rw [val_main_v8_apply]
  show val_main_v7 (F := Ideal) x0 x1 (ix3 q a b) = _
  rw [val_main_v7_apply, val_main_v6_apply, val_main_v5_apply, val_main_v4_apply]
  unfold grad term
  refine Finset.sum_congr rfl fun k _ => ?_
  rw [val_main_v3_apply, val_main_v1_apply]
  have e0 : lidx_main_v4 (idx_main_v5 (idx_main_v6 (idx_main_v7 (ix3 q a b)))) k = ix2 k ⟨q.val * 704 + a.val, by omega⟩ := by
    funext d
    apply Fin.ext
    match d with
    | ⟨0, _⟩ => rfl
    | ⟨1, _⟩ => show ((q.val * 704 + a.val) * 2048 + b.val) / 2048 = q.val * 704 + a.val; omega
  have e1 : ridx_main_v4 (idx_main_v5 (idx_main_v6 (idx_main_v7 (ix3 q a b)))) k = ix2 k b := by
    funext d
    apply Fin.ext
    match d with
    | ⟨0, _⟩ => rfl
    | ⟨1, _⟩ => show ((q.val * 704 + a.val) * 2048 + b.val) % 2048 = b.val; omega
  rw [e0, e1]
  rfl

/-- The kernel's array is the reference's. -/
theorem agree (c : Dev nD) : G2 m c = Cert.DwgReferenceIdeal.Read.val_main_v8 (F := Ideal)
    (m ((c : Thread nD τ).loc main_arg0)) (m ((c : Thread nD τ).loc main_arg1)) := by
  funext i
  rw [ValueIdx.eq_ix3 i]
  exact (result m c _ _ _).trans (reference_apply _ _ _ _ _).symm

end Cert.DwgIdeal.Sum

end
-- ==== Proof.Products.lean ====
/-
  The value claims of the feed-forward calls: each kernel's arrays and its reference's are the same arrays.
-/
module

public import proofs.«01_k».proof.Defs
public import proofs.«01_k».proof.Proof.UpResult
public import proofs.«01_k».proof.Proof.DxbResult
public import proofs.«01_k».proof.Proof.DxaResult
public import proofs.«01_k».proof.Proof.DactResult
public import proofs.«01_k».proof.Proof.Gen.Pre_dxa_finite
public import proofs.«01_k».proof.Proof.Gen.Pre_dxb_finite
public import proofs.«01_k».proof.Proof.Gen.On_first_half
public import proofs.«01_k».proof.Proof.DownResult
public import proofs.«01_k».proof.Proof.DwdResult
public import proofs.«01_k».proof.Proof.DwgResult

@[expose] public section

namespace Cert.Products

open Idealize.ShloMosaic Idealize.ShloMosaic.TcCoe Idealize.SL.Sem

/-- The gate and up projections with the activation. -/
theorem up : Cert.algebraic_UpIdeal_UpReferenceIdeal := by
  intro m ρ m' ρ' _ hagree
  refine ⟨fun c => (Cert.UpIdeal.Gen.dats m 0 c).arrAt 3 _, fun c => (Cert.UpIdeal.Gen.dats m 0 c).arrAt 4 _,
    fun c => (Cert.UpIdeal.Gen.dats m 0 c).arrAt 5 _, Cert.UpIdeal.Value.run_blocks m ρ, ?_⟩
  refine (θ_run Cert.UpReferenceIdeal.defs _ _).mono (fun _ h c => ⟨(h c).1.trans ?_, (h c).2.1.trans ?_, (h c).2.2.1.trans ?_, (h c).2.2.2⟩)
    (Cert.UpReferenceIdeal.Value.run (F := Ideal) m' ρ')
  · refine (Cert.UpReferenceIdeal.Read.val_main_v7_eq _ _).trans ?_
    rw [(hagree c).1, (hagree c).2.1]
    exact (Cert.UpIdeal.Sum.result3 m c).symm
  · refine (Cert.UpReferenceIdeal.Read.val_main_v10_eq _ _).trans ?_
    rw [(hagree c).1, (hagree c).2.2]
    exact (Cert.UpIdeal.Sum.result4 m c).symm
  · refine (Cert.UpReferenceIdeal.Read.val_main_v13_eq _ _ _).trans ?_
    rw [(hagree c).1, (hagree c).2.1, (hagree c).2.2]
    exact (Cert.UpIdeal.Sum.result5 m c).symm

/-- The gradients of the gate and up values, the up values, the down weight and the incoming gradient being finite. -/
theorem dact : Cert.algebraic_DactIdeal_DactReferenceIdeal_pre_dact_finite := by
  intro m ρ m' ρ' hpre hagree
  refine ⟨fun c => (Cert.DactIdeal.Gen.dats m 0 c).arrAt 4 _, fun c => (Cert.DactIdeal.Gen.dats m 0 c).arrAt 5 _,
    Cert.DactIdeal.Value.run_blocks m ρ, ?_⟩
  refine (θ_run Cert.DactReferenceIdeal.defs _ _).mono (fun _ h c => ⟨(h c).1.trans ?_, (h c).2.1.trans ?_, (h c).2.2⟩)
    (Cert.DactReferenceIdeal.Value.run (F := Ideal) m' ρ')
  · obtain ⟨h1, h2, h3⟩ := Cert.DactIdeal.Sum.finite_args m hpre (c := c)
    refine (Cert.DactReferenceIdeal.Read.val_main_v15_eq _ _ _ _).trans ?_
    rw [(hagree c).1, (hagree c).2.1, (hagree c).2.2.1, (hagree c).2.2.2]
    exact (Cert.DactIdeal.Sum.result4 m c h1 h2 h3).symm
  · refine (Cert.DactReferenceIdeal.Read.val_main_v18_eq _ _ _).trans ?_
    rw [(hagree c).1, (hagree c).2.2.1, (hagree c).2.2.2]
    exact (Cert.DactIdeal.Sum.result5 m c).symm

/-- The down projection. -/
theorem down : Cert.algebraic_DownIdeal_DownReferenceIdeal := by
  intro m ρ m' ρ' _ hagree
  refine ⟨fun c => Cert.DownIdeal.Value.G3 m c, Cert.DownIdeal.Value.run m ρ, ?_⟩
  refine (θ_run Cert.DownReferenceIdeal.defs _ _).mono (fun _ h c => ⟨(h c).1.trans ?_, (h c).2⟩)
    (Cert.DownReferenceIdeal.Value.run (F := Ideal) m' ρ')
  refine (Cert.DownReferenceIdeal.Read.val_main_v4_eq _ _ _).trans ?_
  rw [(hagree c).1, (hagree c).2.1, (hagree c).2.2]
  exact (Cert.DownIdeal.Sum.agree m c).symm

/-- The down projection's weight gradient. -/
theorem dwd : Cert.algebraic_DwdIdeal_DwdReferenceIdeal := by
  intro m ρ m' ρ' _ hagree
  refine ⟨fun c => Cert.DwdIdeal.Value.G2 m c, Cert.DwdIdeal.Value.run m ρ, ?_⟩
  refine (θ_run Cert.DwdReferenceIdeal.defs _ _).mono (fun _ h c => ⟨(h c).1.trans ?_, (h c).2⟩)
    (Cert.DwdReferenceIdeal.Value.run (F := Ideal) m' ρ')
  refine (Cert.DwdReferenceIdeal.Read.val_main_v10_eq _ _).trans ?_
  rw [(hagree c).1, (hagree c).2]
  exact (Cert.DwdIdeal.Sum.agree m c).symm

/-- The weight gradient of the gate and up projections. -/
theorem dwg : Cert.algebraic_DwgIdeal_DwgReferenceIdeal := by
  intro m ρ m' ρ' _ hagree
  refine ⟨fun c => Cert.DwgIdeal.Value.G2 m c, Cert.DwgIdeal.Value.run m ρ, ?_⟩
  refine (θ_run Cert.DwgReferenceIdeal.defs _ _).mono (fun _ h c => ⟨(h c).1.trans ?_, (h c).2⟩)
    (Cert.DwgReferenceIdeal.Value.run (F := Ideal) m' ρ')
  refine (Cert.DwgReferenceIdeal.Read.val_main_v8_eq _ _).trans ?_
  rw [(hagree c).1, (hagree c).2]
  exact (Cert.DwgIdeal.Sum.agree m c).symm

/-- The input gradient of the gate and up projections on the first half of the positions, with the normalisation before them. -/
theorem dxa : Cert.algebraic_DxaIdeal_DxaReferenceIdeal_on_first_half_pre_dxa_finite := by
  intro m ρ m' ρ' hpre hagree
  refine ⟨fun c => (Cert.DxaIdeal.Gen.dats m 0 c).arrAt 7 Cert.DxaIdeal.cfg0.N, fun c => (Cert.DxaIdeal.Gen.dats m 0 c).arrAt 8 Cert.DxaIdeal.cfg0.N,
    fun c => (Cert.DxaIdeal.Gen.dats m 0 c).arrAt 9 Cert.DxaIdeal.cfg0.N, ?_, ?_⟩
  · exact (θ_run Cert.DxaIdeal.defs _ _).mono (fun _ h c => ⟨fun i _ => congrFun (h c).1 i, fun i _ => congrFun (h c).2.1 i,
      fun i _ => congrFun (h c).2.2.1 i, (h c).2.2.2⟩) (Cert.DxaIdeal.Value.run_blocks m ρ)
  refine (θ_run Cert.DxaReferenceIdeal.defs _ _).mono (fun _ h c => ⟨fun i hi => (congrFun (h c).1 i).trans ?_,
    fun i hi => (congrFun (h c).2.1 i).trans ?_, fun i _ => congrFun ((h c).2.2.1.trans ?_) i, (h c).2.2.2⟩)
    (Cert.DxaReferenceIdeal.Value.run (F := Ideal) m' ρ')
  · have hr := Cert.DxaIdeal.Sum.mask_row (m ((c.tc : Thread Cert.DxaIdeal.nD Cert.DxaIdeal.τ).loc Cert.DxaIdeal.main_arg0))
        (m ((c.tc : Thread Cert.DxaIdeal.nD Cert.DxaIdeal.τ).loc Cert.DxaIdeal.main_arg1))
        (m ((c.tc : Thread Cert.DxaIdeal.nD Cert.DxaIdeal.τ).loc Cert.DxaIdeal.main_arg2))
        (m ((c.tc : Thread Cert.DxaIdeal.nD Cert.DxaIdeal.τ).loc Cert.DxaIdeal.main_arg3))
        (m ((c.tc : Thread Cert.DxaIdeal.nD Cert.DxaIdeal.τ).loc Cert.DxaIdeal.main_arg4))
        (m ((c.tc : Thread Cert.DxaIdeal.nD Cert.DxaIdeal.τ).loc Cert.DxaIdeal.main_arg5))
        (m ((c.tc : Thread Cert.DxaIdeal.nD Cert.DxaIdeal.τ).loc Cert.DxaIdeal.main_arg6)) i hi
    rw [Cert.DxaReferenceIdeal.Read.val_main_v51_eq, (hagree c).1, (hagree c).2.1, (hagree c).2.2.1, (hagree c).2.2.2.1, (hagree c).2.2.2.2.1, (hagree c).2.2.2.2.2.1, (hagree c).2.2.2.2.2.2]
    exact (Cert.DxaIdeal.Sum.agree7 m c hpre i hr).trans (Cert.DxaIdeal.Sum.first7 m c i hr).symm
  · have hr := Cert.DxaIdeal.Sum.mask_row (m ((c.tc : Thread Cert.DxaIdeal.nD Cert.DxaIdeal.τ).loc Cert.DxaIdeal.main_arg0))
        (m ((c.tc : Thread Cert.DxaIdeal.nD Cert.DxaIdeal.τ).loc Cert.DxaIdeal.main_arg1))
        (m ((c.tc : Thread Cert.DxaIdeal.nD Cert.DxaIdeal.τ).loc Cert.DxaIdeal.main_arg2))
        (m ((c.tc : Thread Cert.DxaIdeal.nD Cert.DxaIdeal.τ).loc Cert.DxaIdeal.main_arg3))
        (m ((c.tc : Thread Cert.DxaIdeal.nD Cert.DxaIdeal.τ).loc Cert.DxaIdeal.main_arg4))
        (m ((c.tc : Thread Cert.DxaIdeal.nD Cert.DxaIdeal.τ).loc Cert.DxaIdeal.main_arg5))
        (m ((c.tc : Thread Cert.DxaIdeal.nD Cert.DxaIdeal.τ).loc Cert.DxaIdeal.main_arg6)) i hi
    rw [Cert.DxaReferenceIdeal.Read.val_main_v52_eq, (hagree c).1, (hagree c).2.1, (hagree c).2.2.1, (hagree c).2.2.2.1, (hagree c).2.2.2.2.1, (hagree c).2.2.2.2.2.1, (hagree c).2.2.2.2.2.2]
    exact (Cert.DxaIdeal.Sum.agree7 m c hpre i hr).trans (Cert.DxaIdeal.Sum.first8 m c i hr).symm
  · refine (Cert.DxaReferenceIdeal.Read.val_main_v49_eq _ _ _ _ _).trans ?_
    rw [(hagree c).1, (hagree c).2.1, (hagree c).2.2.1, (hagree c).2.2.2.1, (hagree c).2.2.2.2.1]
    exact (Cert.DxaIdeal.Sum.agree9 m c).symm

/-- The same on the second half, the first half's rows passed through. -/
theorem dxb : Cert.algebraic_DxbIdeal_DxbReferenceIdeal_pre_dxb_finite := by
  intro m ρ m' ρ' hpre hagree
  refine ⟨fun c => (Cert.DxbIdeal.Gen.dats m 0 c).arrAt 7 Cert.DxbIdeal.cfg0.N, fun c => (Cert.DxbIdeal.Gen.dats m 0 c).arrAt 8 Cert.DxbIdeal.cfg0.N,
    fun c => (Cert.DxbIdeal.Gen.dats m 0 c).arrAt 9 Cert.DxbIdeal.cfg0.N, Cert.DxbIdeal.Value.run_blocks m ρ, ?_⟩
  refine (θ_run Cert.DxbReferenceIdeal.defs _ _).mono (fun _ h c => ⟨(h c).1.trans ?_, (h c).2.1.trans ?_, (h c).2.2.1.trans ?_, (h c).2.2.2⟩)
    (Cert.DxbReferenceIdeal.Value.run (F := Ideal) m' ρ')
  · rw [Cert.DxbReferenceIdeal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1]
    exact (Cert.DxbIdeal.Sum.agree7 m c hpre).symm
  · rw [Cert.DxbReferenceIdeal.Read.val_main_v54_eq, (hagree c).1, (hagree c).2.1, (hagree c).2.2.1, (hagree c).2.2.2.1, (hagree c).2.2.2.2.1, (hagree c).2.2.2.2.2.1, (hagree c).2.2.2.2.2.2.1, (hagree c).2.2.2.2.2.2.2.2]
    exact (Cert.DxbIdeal.Sum.agree8 m c hpre).symm
  · refine (Cert.DxbReferenceIdeal.Read.val_main_v49_eq _ _ _ _ _).trans ?_
    rw [(hagree c).1, (hagree c).2.1, (hagree c).2.2.1, (hagree c).2.2.2.1, (hagree c).2.2.2.2.1]
    exact (Cert.DxbIdeal.Sum.agree9 m c).symm

end Cert.Products

end
-- ==== Proof.RmsValue.lean ====
/-
  The root-mean-square normalisation: what one grid point leaves in its block.
-/
module

public import proofs.«01_k».proof.Proof.Sums
public import proofs.«01_k».proof.Proof.Gen.RmsIdeal.Value
public import Idealize.ShloMosaic.Lib.Pointwise.Tactic
public import Idealize.ShloMosaic.Lib.Pipeline.ValueKit.Point
public import Idealize.ShloMosaic.Lib.Pipeline.ValueKit.Geometry
public import proofs.«01_k».proof.Proof.Norm

@[expose] public section

noncomputable section

namespace Cert.RmsIdeal.Sum

open Idealize.ShloMosaic Idealize.ShloMosaic.TcCoe Idealize.SL.Sem
open Cert.RmsIdeal Cert.RmsIdeal.Gen Cert.Norm

/-- A row over its root mean square, times the scale. -/
theorem out2_apply (x0 : Vec Ideal S512x2048 .f32) (x1 : Vec Ideal S1x2048 .f32) (a : Fin 512) (b : Fin 2048) :
    out0_2 (F := Ideal) x0 x1 (ix2 a b) = x0 (ix2 a b) * recip (fun j => x0 (ix2 a j)) * x1 (ix2 0 b) := by
  unfold recip square
  unfold out0_2
  frame_out
  try canon_tiles x h
  all_goals
    open_payloads
    pointwise
    try rfl

end Cert.RmsIdeal.Sum

end
-- ==== Proof.RmsResult.lean ====
/-
  The root-mean-square normalisation: the result array in closed form, the reference's, and that they agree.
-/
module

public import proofs.«01_k».proof.Proof.RmsValue
public import proofs.«01_k».proof.Proof.Gen.RmsReferenceIdeal.Read

@[expose] public section

noncomputable section

namespace Cert.RmsIdeal.Sum

open Idealize.ShloMosaic Idealize.ShloMosaic.TcCoe Idealize.SL.Sem
open Cert.RmsIdeal Cert.RmsIdeal.Gen Cert.Norm Cert.RmsReferenceIdeal.Read

variable (m : (ℓ : Loc nD τ sig) → Buf (Elt Ideal) ℓ)

/-- The grid's block indices, decided: row block `t`. -/
theorem idx : ∀ t : Fin cfg0.N, win0_0.index t = ![t.val, 0] ∧ win0_1.index t = ![0, 0] :=
  (by decide +kernel : ∀ t : Fin grid0.N, _)

theorem idx_out : ∀ t : Fin cfg0.N, win0_2.index t = ![t.val, 0] :=
  (by decide +kernel : ∀ t : Fin grid0.N, _)

/-- The blocks a point reads, as parts of the arrays. -/
theorem input_eq (c : Dev nD) (t : Fin cfg0.N) (a : Fin 512) (b : Fin 2048) (i : Fin 4096) (hi : t.val * 512 + a.val = i.val) :
    (iblk m c 0 t : Vec Ideal S512x2048 .f32) (ix2 a b) = m ((c : Thread nD τ).loc main_arg0) (ix2 i b) := by
  obtain ⟨i, _⟩ := i
  subst hi
  blk_point [iblk, V, idx t]

theorem scale_eq (c : Dev nD) (t : Fin cfg0.N) (q : Fin 1) (b : Fin 2048) :
    (iblk m c 1 t : Vec Ideal S1x2048 .f32) (ix2 q b) = m ((c : Thread nD τ).loc main_arg1) (ix2 q b) := by
  blk_point [iblk, V, idx t]

/-- Where a point's block lies in the result array. -/
theorem emb2 (t : Fin cfg0.N) (a : Fin 512) (b : Fin 2048) : (win0_2.blk t).view.emb (ix2 a b)
    = (ix2 ⟨t.val * 512 + a.val, by have h := lt_of_lt_of_eq t.isLt N_0; omega⟩ b : S4096x2048.Idx) := by
  have e := idx_out t
  refine @funext (Fin 2) (fun d => Fin (S4096x2048.size d)) _ _ fun d => Fin.ext ?_
  match d with
  | ⟨0, _⟩ => blk_simp [e]
  | ⟨1, _⟩ => blk_simp [e]

/-- The reference's reciprocal root mean square. -/
theorem reference8 (x0 : Vec Ideal S4096x2048 .f32) (i : Fin 4096) (q : Fin 1) :
    val_main_v8 (F := Ideal) x0 (ix2 i q) = recip fun j => x0 (ix2 i j) := by
  rw [val_main_v8_apply, val_main_v7_apply, val_main_v6_apply, val_main_cst_1_apply, val_main_v5_apply, val_main_v4_apply,
    val_main_cst_0_apply, val_main_v3_apply, val_main_v2_apply, val_main_cst_apply]
  unfold recip square
  have e : ∀ k : Fin 2048, val_main_v1 (F := Ideal) x0 (idx_main_v2 (idx_main_v3 (ix2 i q)) k) = x0 (ix2 i k) * x0 (ix2 i k) := by
    intro k
    rw [at2 (idx_main_v2 (idx_main_v3 (ix2 i q)) k) i k rfl rfl, val_main_v1_apply]
    rfl
  rw [Finset.sum_congr rfl fun k _ => e k]
  show Ideal.rsqrt (Ideal.div (Ideal.ofBits .f32 0x00000000#32 + _) _ + _) = _
  rw [zero_eq, zero_add]
  rfl

theorem reference14 (x0 : Vec Ideal S4096x2048 .f32) (x1 : Vec Ideal S1x2048 .f32) (i : Fin 4096) (j : Fin 2048) :
    val_main_v14 (F := Ideal) x0 x1 (ix2 i j) = x0 (ix2 i j) * recip (fun k => x0 (ix2 i k)) * x1 (ix2 0 j) := by
  rw [val_main_v14_apply, val_main_v13_apply, val_main_v10_apply, val_main_v9_apply, val_main_v12_apply, val_main_v11_apply,
    val_main_v0_apply, at2 (idx_main_v9 (ix2 i j)) i 0 rfl rfl, reference8]
  refine congrArg (fun v => x0 (ix2 i j) * recip (fun k => x0 (ix2 i k)) * x1 v) (at2 _ 0 j rfl ?_)
  first | rfl | (show j.val % 2048 = j.val; omega)

/-- The array of normalised rows. -/
theorem result2 (c : Dev nD) : (dats m 0 c).arrAt 2 cfg0.N = val_main_v14 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 512) (b : Fin 2048), y = ix2 a b := ⟨y 0, y 1, ValueIdx.eq_ix2 y⟩
  rw [emb2, reference14]
  exact (out2_apply _ _ a b).trans (congrArg₂ (fun p q : EReal => p * q) (congrArg₂ (fun p q : EReal => p * q) (input_eq m c t a b _ rfl)
    (congrArg recip (funext fun j => input_eq m c t a j _ rfl))) (scale_eq m c t 0 b))

end Cert.RmsIdeal.Sum

end
-- ==== Proof.ProjValue.lean ====
/-
  The mixer's projection: what one grid point leaves in its block, the two halves of the contraction taken one after the other.
-/
module

public import proofs.«01_k».proof.Proof.Sums
public import proofs.«01_k».proof.Proof.Gen.ProjIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.ProjIdeal.Sum

open Idealize.ShloMosaic Idealize.ShloMosaic.TcCoe Idealize.SL.Sem
open Cert.ProjIdeal Cert.ProjIdeal.Gen

/-- One half of the features: row `a` of a block of tokens against row `b` of a block of the transposed weight. -/
def part (x : Vec Ideal S1024x1024 .bf16) (w : Vec Ideal S512x1024 .bf16) (a : Fin 1024) (b : Fin 512) : EReal :=
  ∑ k : Fin 1024, x (ix2 a k) * w (ix2 b k)

/-- The block of the projection is the two halves added. -/
theorem out4_apply (x0 : Vec Ideal S1024x1024 .bf16) (x1 : Vec Ideal S512x1024 .bf16) (x2 : Vec Ideal S1024x1024 .bf16)
    (x3 : Vec Ideal S512x1024 .bf16) (a : Fin 1024) (b : Fin 512) :
    out0_4 (F := Ideal) x0 x1 x2 x3 (ix2 a b) = part x0 x1 a b + part x2 x3 a b := by
  unfold out0_4
  frame_out
  canon_tiles x h
  all_goals
    open_payloads
    pointwise
    unfold part
    refine congrArg₂ (fun p q : EReal => p + q) (Finset.sum_congr rfl fun k _ => ?_) (Finset.sum_congr rfl fun k _ => ?_)
    · refine congrArg₂ (fun p q => x0 (ix2 p k) * x1 (ix2 q k)) (Fin.ext ?_) (Fin.ext ?_) <;> simp at h0 h1 ⊢ <;> omega
    · refine congrArg₂ (fun p q => x2 (ix2 p k) * x3 (ix2 q k)) (Fin.ext ?_) (Fin.ext ?_) <;> simp at h0 h1 ⊢ <;> omega

end Cert.ProjIdeal.Sum

end
-- ==== Proof.ProjResult.lean ====
/-
  The mixer's projection: the result array in closed form, the reference's, and that they agree.
-/
module

public import proofs.«01_k».proof.Proof.ProjValue
public import proofs.«01_k».proof.Proof.Gen.ProjReferenceIdeal.Read

@[expose] public section

noncomputable section

namespace Cert.ProjIdeal.Sum

open Idealize.ShloMosaic Idealize.ShloMosaic.TcCoe Idealize.SL.Sem
open Cert.ProjIdeal Cert.ProjIdeal.Gen Cert.ProjReferenceIdeal.Read

variable (m : (ℓ : Loc nD τ sig) → Buf (Elt Ideal) ℓ)

/-- What feature `k` adds to the projection of token `i` at column `j`. -/
def term (h : Vec Ideal S4096x2048 .bf16) (w : Vec Ideal S2048x9728 .f32) (i : Fin 4096) (j : Fin 9728) (k : Fin 2048) : EReal :=
  h (ix2 i k) * w (ix2 k j)

/-- A token's row against a column of the weight. -/
def proj (h : Vec Ideal S4096x2048 .bf16) (w : Vec Ideal S2048x9728 .f32) (i : Fin 4096) (j : Fin 9728) : EReal :=
  ∑ k : Fin 2048, term h w i j k

/-- A sum over the features is the sum over each half. -/
theorem halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- The grid's block indices, decided: token block `t / 19`, column block `t % 19`, the halves of the features 0 and 1. -/
theorem idx : ∀ t : Fin cfg0.N, win0_0.index t = ![t.val / 19, 0] ∧ win0_1.index t = ![t.val % 19, 0]
    ∧ win0_2.index t = ![t.val / 19, 1] ∧ win0_3.index t = ![t.val % 19, 0] ∧ win0_4.index t = ![t.val / 19, t.val % 19] :=
  (by decide +kernel : ∀ t : Fin grid0.N, _)

/-- The left half of the features. -/
theorem left_eq (c : Dev nD) (t : Fin cfg0.N) (a : Fin 1024) (b : Fin 512) (i : Fin 4096) (j : Fin 9728)
    (hi : t.val / 19 * 1024 + a.val = i.val) (hj : t.val % 19 * 512 + b.val = j.val) :
    part (iblk m c 0 t) (iblk m c 1 t) a b = ∑ k : Fin 1024, term (m ((c : Thread nD τ).loc main_arg0))
      (m ((c : Thread nD τ).loc main_arg1)) i j ⟨k.val, by omega⟩ := by
  obtain ⟨i, _⟩ := i
  obtain ⟨j, _⟩ := j
  subst hi hj
  unfold part term
  refine Finset.sum_congr rfl fun k _ => ?_
  blk_point [iblk, V, idx t]

/-- The right half of the features. -/
theorem right_eq (c : Dev nD) (t : Fin cfg0.N) (a : Fin 1024) (b : Fin 512) (i : Fin 4096) (j : Fin 9728)
    (hi : t.val / 19 * 1024 + a.val = i.val) (hj : t.val % 19 * 512 + b.val = j.val) :
    part (iblk m c 2 t) (iblk m c 3 t) a b = ∑ k : Fin 1024, term (m ((c : Thread nD τ).loc main_arg0))
      (m ((c : Thread nD τ).loc main_arg1)) i j ⟨1024 + k.val, by omega⟩ := by
  obtain ⟨i, _⟩ := i
  obtain ⟨j, _⟩ := j
  subst hi hj
  unfold part term
  refine Finset.sum_congr rfl fun k _ => ?_
  blk_point [iblk, V, idx t]

/-- Where a point's block lies in the result array. -/
theorem emb4 (t : Fin cfg0.N) (a : Fin 1024) (b : Fin 512) : (win0_4.blk t).view.emb (ix2 a b)
    = (ix2 ⟨t.val / 19 * 1024 + a.val, by have h := lt_of_lt_of_eq t.isLt N_0; omega⟩ ⟨t.val % 19 * 512 + b.val, by omega⟩ : S4096x9728.Idx) := by
  have e := (idx t).2.2.2.2
  refine @funext (Fin 2) (fun d => Fin (S4096x9728.size d)) _ _ fun d => Fin.ext ?_
  match d with
  | ⟨0, _⟩ => blk_simp [e]
  | ⟨1, _⟩ => blk_simp [e]

/-- The reference's array. -/
theorem reference1 (x0 : Vec Ideal S4096x2048 .bf16) (x1 : Vec Ideal S2048x9728 .f32) (i : Fin 4096) (j : Fin 9728) :
    val_main_v1 (F := Ideal) x0 x1 (ix2 i j) = proj x0 x1 i j := by
  rw [val_main_v1_apply]
  unfold proj term
  refine Finset.sum_congr rfl fun k _ => ?_
  rw [val_main_v0_apply]
  show x0 _ * x1 _ = _
  refine congrArg₂ (fun p r => x0 p * x1 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The array of projections. -/
theorem result4 (c : Dev nD) : (dats m 0 c).arrAt 4 cfg0.N = val_main_v1 (F := Ideal)
    (m ((c : Thread nD τ).loc main_arg0)) (m ((c : Thread nD τ).loc main_arg1)) := by
  refine (dats m 0 c).arrAt_eq_of_covers 4 _ (by decide +kernel) fun t hf y => ?_
  blk_simp
  rw [after0_4]
  obtain ⟨a, b, rfl⟩ : ∃ (a : Fin 1024) (b : Fin 512), y = ix2 a b := ⟨y 0, y 1, ValueIdx.eq_ix2 y⟩
  rw [emb4, reference1]
  unfold proj
  rw [halves]
  exact (out4_apply _ _ _ _ a b).trans (congrArg₂ (fun p q : EReal => p + q) (left_eq m c t a b _ _ rfl rfl) (right_eq m c t a b _ _ rfl rfl))

end Cert.ProjIdeal.Sum

end
-- ==== Proof.Gates.lean ====
/-
  The sigmoid as a kernel and as a reference write it, and the gradient that passes through a sigmoid gate.
-/
module

public import proofs.«01_k».proof.Proof.Sums

@[expose] public section

noncomputable section

namespace Cert.Gates

open Idealize.ShloMosaic

/-- The sigmoid as the kernels write it: the argument taken from zero. -/
def sigm (x : EReal) : EReal := Ideal.div 1 (1 + Ideal.exp (0 - x))

/-- The gradient of a gate: the cotangent `d` of the gated value, the value `u`, the gate `g`. -/
def slope (d u g : EReal) : EReal := d * u * sigm g * (1 - sigm g)

/-- The sigmoid as the references write it: the argument negated. -/
theorem sig_eq (x : EReal) :
    Ideal.div (Ideal.ofBits .f32 0x3F800000#32) (Ideal.ofBits .f32 0x3F800000#32 + Ideal.exp (-x)) = sigm x := by
  rw [Cert.Sums.one_eq, ← zero_sub]
  rfl

/-- The gradient of a gate as the references write it, the sigmoid's slope taken first. -/
theorem slope_eq (d u g : EReal) : d * u * (sigm g * (Ideal.ofBits .f32 0x3F800000#32 - sigm g)) = slope d u g := by
  rw [Cert.Sums.one_eq, ← mul_assoc]
  rfl

theorem slope_congr {d d' u u' g g' : EReal} (hd : d = d') (hu : u = u') (hg : g = g') : slope d u g = slope d' u' g' := by
  rw [hd, hu, hg]

/-- Two gated values added. -/
def blend (g p h q : EReal) : EReal := sigm g * p + sigm h * q

theorem blend_congr {g g' p p' h h' q q' : EReal} (hg : g = g') (hp : p = p') (hh : h = h') (hq : q = q') :
    blend g p h q = blend g' p' h' q' := by
  rw [hg, hp, hh, hq]

end Cert.Gates

end
-- ==== Proof.MergeValue.lean ====
/-
  The mixer's gated merge of the two heads: what one grid point leaves in its three blocks.
-/
module

public import proofs.«01_k».proof.Proof.Gates
public import proofs.«01_k».proof.Proof.Gen.MergeIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.MergeIdeal.Sum

open Idealize.ShloMosaic Idealize.ShloMosaic.TcCoe Idealize.SL.Sem
open Cert.MergeIdeal Cert.MergeIdeal.Gen

open Cert.Gates

/-- Row `a` of a block of one head's output against column `b` of a shard of its weight. -/
def part (x : Vec Ideal S1024x1024 .bf16) (w : Vec Ideal S1x1024x256 .bf16) (a : Fin 1024) (b : Fin 256) : EReal :=
  ∑ k : Fin 1024, x (ix2 a k) * w (ix3 0 k b)

/-- The block of merged values. -/
theorem out6_apply (x0 : Vec Ideal S1024x1024 .bf16) (x1 : Vec Ideal S1x1024x256 .bf16) (x2 : Vec Ideal S1024x1024 .bf16)
    (x3 : Vec Ideal S1x1024x256 .bf16) (x4 x5 : Vec Ideal S1024x256 .f32) (a : Fin 1024) (b : Fin 256) :
    out0_6 (F := Ideal) x0 x1 x2 x3 x4 x5 (ix2 a b) = blend (x4 (ix2 a b)) (part x0 x1 a b) (x5 (ix2 a b)) (part x2 x3 a b) := by
  unfold out0_6
  frame_out
  try canon_tiles x h
  all_goals
    open_payloads
    pointwise
    try rfl

/-- The block of the first head's values. -/
theorem out7_apply (x0 : Vec Ideal S1024x1024 .bf16) (x1 : Vec Ideal S1x1024x256 .bf16) (x2 : Vec Ideal S1024x1024 .bf16)
    (x3 : Vec Ideal S1x1024x256 .bf16) (x4 x5 : Vec Ideal S1024x256 .f32) (a : Fin 1024) (b : Fin 256) :
    out0_7 (F := Ideal) x0 x1 x2 x3 x4 x5 (ix2 a b) = part x0 x1 a b := by
  unfold out0_7
  frame_out
  try canon_tiles x h
  all_goals
    open_payloads
    pointwise
    try rfl

/-- The block of the second head's values. -/
theorem out8_apply (x0 : Vec Ideal S1024x1024 .bf16) (x1 : Vec Ideal S1x1024x256 .bf16) (x2 : Vec Ideal S1024x1024 .bf16)
    (x3 : Vec Ideal S1x1024x256 .bf16) (x4 x5 : Vec Ideal S1024x256 .f32) (a : Fin 1024) (b : Fin 256) :
    out0_8 (F := Ideal) x0 x1 x2 x3 x4 x5 (ix2 a b) = part x2 x3 a b := by
  unfold out0_8
  frame_out
  try canon_tiles x h
  all_goals
    open_payloads
    pointwise
    try rfl

end Cert.MergeIdeal.Sum

end
-- ==== Proof.MergeResult.lean ====
/-
  The mixer's gated merge: the three result arrays in closed form, the reference's, and that they agree.
-/
module

public import proofs.«01_k».proof.Proof.MergeValue
public import proofs.«01_k».proof.Proof.Gen.MergeReferenceIdeal.Read

@[expose] public section

noncomputable section

namespace Cert.MergeIdeal.Sum

open Idealize.ShloMosaic Idealize.ShloMosaic.TcCoe Idealize.SL.Sem
open Cert.MergeIdeal Cert.MergeIdeal.Gen Cert.MergeReferenceIdeal.Read

open Cert.Gates

variable (m : (ℓ : Loc nD τ sig) → Buf (Elt Ideal) ℓ)

/-- A token's row of one head's output against a column of its weight. -/
def proj (h : Vec Ideal S4096x1024 .bf16) (w : Vec Ideal S1024x2048 .f32) (i : Fin 4096) (j : Fin 2048) : EReal :=
  ∑ k : Fin 1024, h (ix2 i k) * w (ix2 k j)

/-- The gate of the first head: columns 5632 on of the projection. -/
def gate5632 (x : Vec Ideal S4096x9728 .f32) (i : Fin 4096) (j : Fin 2048) : EReal := x (ix2 i ⟨5632 + j.val, by omega⟩)

/-- The gate of the second head: columns 7680 on of the projection. -/
def gate7680 (x : Vec Ideal S4096x9728 .f32) (i : Fin 4096) (j : Fin 2048) : EReal := x (ix2 i ⟨7680 + j.val, by omega⟩)

/-- The grid's block indices, decided: token block `t / 8`, column block `t % 8`, the gates' columns after those. -/
theorem idx : ∀ t : Fin cfg0.N, win0_0.index t = ![t.val / 8, 0] ∧ win0_1.index t = ![t.val % 8, 0, 0]
    ∧ win0_2.index t = ![t.val / 8, 0] ∧ win0_3.index t = ![t.val % 8, 0, 0]
    ∧ win0_4.index t = ![t.val / 8, 22 + t.val % 8] ∧ win0_5.index t = ![t.val / 8, 30 + t.val % 8] :=
  (by decide +kernel : ∀ t : Fin grid0.N, _)

theorem idx_out : ∀ t : Fin cfg0.N, win0_6.index t = ![t.val / 8, t.val % 8] ∧ win0_7.index t = ![t.val / 8, t.val % 8]
    ∧ win0_8.index t = ![t.val / 8, t.val % 8] :=
  (by decide +kernel : ∀ t : Fin grid0.N, _)

/-- The blocks a point reads, as parts of the arrays. -/
theorem first_eq (c : Dev nD) (t : Fin cfg0.N) (a : Fin 1024) (b : Fin 256) (i : Fin 4096) (j : Fin 2048)
    (hi : t.val / 8 * 1024 + a.val = i.val) (hj : t.val % 8 * 256 + b.val = j.val) :
    part (iblk m c 0 t) (iblk m c 1 t) a b = proj (m ((c : Thread nD τ).loc main_arg0)) (m ((c : Thread nD τ).loc main_arg3)) i j := by
  obtain ⟨i, _⟩ := i
  obtain ⟨j, _⟩ := j
  subst hi hj
  unfold part proj
  refine Finset.sum_congr rfl fun k _ => ?_
  blk_point [iblk, V, idx t]

theorem second_eq (c : Dev nD) (t : Fin cfg0.N) (a : Fin 1024) (b : Fin 256) (i : Fin 4096) (j : Fin 2048)
    (hi : t.val / 8 * 1024 + a.val = i.val) (hj : t.val % 8 * 256 + b.val = j.val) :
    part (iblk m c 2 t) (iblk m c 3 t) a b = proj (m ((c : Thread nD τ).loc main_arg1)) (m ((c : Thread nD τ).loc main_arg4)) i j := by
  obtain ⟨i, _⟩ := i
  obtain ⟨j, _⟩ := j
  subst hi hj
  unfold part proj
  refine Finset.sum_congr rfl fun k _ => ?_
  blk_point [iblk, V, idx t]

theorem gateA_eq (c : Dev nD) (t : Fin cfg0.N) (a : Fin 1024) (b : Fin 256) (i : Fin 4096) (j : Fin 2048)
    (hi : t.val / 8 * 1024 + a.val = i.val) (hj : t.val % 8 * 256 + b.val = j.val) :
    (iblk m c 4 t : Vec Ideal S1024x256 .f32) (ix2 a b) = gate5632 (m ((c : Thread nD τ).loc main_arg2)) i j := by
  obtain ⟨i, _⟩ := i
  obtain ⟨j, _⟩ := j
  subst hi hj
  unfold gate5632
  blk_point [iblk, V, idx t]

theorem gateB_eq (c : Dev nD) (t : Fin cfg0.N) (a : Fin 1024) (b : Fin 256) (i : Fin 4096) (j : Fin 2048)
    (hi : t.val / 8 * 1024 + a.val = i.val) (hj : t.val % 8 * 256 + b.val = j.val) :
    (iblk m c 5 t : Vec Ideal S1024x256 .f32) (ix2 a b) = gate7680 (m ((c : Thread nD τ).loc main_arg2)) i j := by
  obtain ⟨i, _⟩ := i
  obtain ⟨j, _⟩ := j
  subst hi hj
  unfold gate7680
  blk_point [iblk, V, idx t]

/-- Where a point's block lies in a result array. -/
theorem emb6 (t : Fin cfg0.N) (a : Fin 1024) (b : Fin 256) : (win0_6.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb7 (t : Fin cfg0.N) (a : Fin 1024) (b : Fin 256) : (win0_7.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb8 (t : Fin cfg0.N) (a : Fin 1024) (b : Fin 256) : (win0_8.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).2.2
  refine @funext (Fin 2) (fun d => Fin (S4096x2048.size d)) _ _ fun d => Fin.ext ?_
  match d with
  | ⟨0, _⟩ => blk_simp [e]
  | ⟨1, _⟩ => blk_simp [e]

/-- The reference's values of the first head. -/
theorem reference3 (x0 : Vec Ideal S4096x1024 .bf16) (x3 : Vec Ideal S1024x2048 .f32) (i : Fin 4096) (j : Fin 2048) :
    val_main_v3 (F := Ideal) x0 x3 (ix2 i j) = proj x0 x3 i j := by
  rw [val_main_v3_apply]
  unfold proj
  refine Finset.sum_congr rfl fun k _ => ?_
  rw [val_main_v2_apply]
  show x0 _ * x3 _ = _
  refine congrArg₂ (fun p r => x0 p * x3 r) (funext fun d => Fin.ext ?_) (funext fun d => Fin.ext ?_)
  · match d with
    | ⟨0, _⟩ => rfl
    | ⟨1, _⟩ => rfl
  · match d with
    | ⟨0, _⟩ => rfl
    | ⟨1, _⟩ => rfl

theorem reference5 (x1 : Vec Ideal S4096x1024 .bf16) (x4 : Vec Ideal S1024x2048 .f32) (i : Fin 4096) (j : Fin 2048) :
    val_main_v5 (F := Ideal) x1 x4 (ix2 i j) = proj x1 x4 i j := by
  rw [val_main_v5_apply]
  unfold proj
  refine Finset.sum_congr rfl fun k _ => ?_
  rw [val_main_v4_apply]
  show x1 _ * x4 _ = _
  refine congrArg₂ (fun p r => x1 p * x4 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The reference's gates. -/
theorem reference11 (x2 : Vec Ideal S4096x9728 .f32) (i : Fin 4096) (j : Fin 2048) :
    val_main_v11 (F := Ideal) x2 (ix2 i j) = sigm (gate5632 x2 i j) := by
  rw [val_main_v11_apply, val_main_v10_apply, val_main_cst_0_apply, val_main_v9_apply, val_main_v8_apply, val_main_cst_apply, val_main_v7_apply, val_main_v6_apply, val_main_v0_apply]
  refine (sig_eq _).trans (congrArg sigm (congrArg x2 (funext fun d => Fin.ext ?_)))
  match d with
  | ⟨0, _⟩ => rfl
  | ⟨1, _⟩ => rfl

theorem reference18 (x2 : Vec Ideal S4096x9728 .f32) (i : Fin 4096) (j : Fin 2048) :
    val_main_v18 (F := Ideal) x2 (ix2 i j) = sigm (gate7680 x2 i j) := by
  rw [val_main_v18_apply, val_main_v17_apply, val_main_cst_2_apply, val_main_v16_apply, val_main_v15_apply, val_main_cst_1_apply, val_main_v14_apply, val_main_v13_apply, val_main_v1_apply]
  refine (sig_eq _).trans (congrArg sigm (congrArg x2 (funext fun d => Fin.ext ?_)))
  match d with
  | ⟨0, _⟩ => rfl
  | ⟨1, _⟩ => rfl

theorem reference21 (x0 x1 : Vec Ideal S4096x1024 .bf16) (x2 : Vec Ideal S4096x9728 .f32) (x3 x4 : Vec Ideal S1024x2048 .f32)
    (i : Fin 4096) (j : Fin 2048) : val_main_v21 (F := Ideal) x0 x1 x2 x3 x4 (ix2 i j)
      = blend (gate5632 x2 i j) (proj x0 x3 i j) (gate7680 x2 i j) (proj x1 x4 i j) := by
  rw [val_main_v21_apply, val_main_v20_apply, val_main_v12_apply, val_main_v19_apply, reference11, reference18, reference3, reference5]
  rfl

theorem reference22 (x0 : Vec Ideal S4096x1024 .bf16) (x3 : Vec Ideal S1024x2048 .f32) (i : Fin 4096) (j : Fin 2048) :
    val_main_v22 (F := Ideal) x0 x3 (ix2 i j) = proj x0 x3 i j :=
  (val_main_v22_apply x0 x3 _).trans (reference3 x0 x3 i j)

theorem reference23 (x1 : Vec Ideal S4096x1024 .bf16) (x4 : Vec Ideal S1024x2048 .f32) (i : Fin 4096) (j : Fin 2048) :
    val_main_v23 (F := Ideal) x1 x4 (ix2 i j) = proj x1 x4 i j :=
  (val_main_v23_apply x1 x4 _).trans (reference5 x1 x4 i j)

/-- The array of merged values. -/
theorem result6 (c : Dev nD) : (dats m 0 c).arrAt 6 cfg0.N = val_main_v21 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨a, b, rfl⟩ : ∃ (a : Fin 1024) (b : Fin 256), y = ix2 a b := ⟨y 0, y 1, ValueIdx.eq_ix2 y⟩
  rw [emb6, reference21]
  exact (out6_apply _ _ _ _ _ _ a b).trans (blend_congr (gateA_eq m c t a b _ _ rfl rfl) (first_eq m c t a b _ _ rfl rfl)
    (gateB_eq m c t a b _ _ rfl rfl) (second_eq m c t a b _ _ rfl rfl))

/-- The array of the first head's values. -/
theorem result7 (c : Dev nD) : (dats m 0 c).arrAt 7 cfg0.N = val_main_v22 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  obtain ⟨a, b, rfl⟩ : ∃ (a : Fin 1024) (b : Fin 256), y = ix2 a b := ⟨y 0, y 1, ValueIdx.eq_ix2 y⟩
  rw [emb7, reference22]
  exact (out7_apply _ _ _ _ _ _ a b).trans (first_eq m c t a b _ _ rfl rfl)

/-- The array of the second head's values. -/
theorem result8 (c : Dev nD) : (dats m 0 c).arrAt 8 cfg0.N = val_main_v23 (F := Ideal)
    (m ((c : Thread nD τ).loc main_arg1)) (m ((c : Thread nD τ).loc main_arg4)) := by
  refine (dats m 0 c).arrAt_eq_of_covers 8 _ (by decide +kernel) fun t hf y => ?_
  blk_simp
  rw [after0_8]
  obtain ⟨a, b, rfl⟩ : ∃ (a : Fin 1024) (b : Fin 256), y = ix2 a b := ⟨y 0, y 1, ValueIdx.eq_ix2 y⟩
  rw [emb8, reference23]
  exact (out8_apply _ _ _ _ _ _ a b).trans (second_eq m c t a b _ _ rfl rfl)

end Cert.MergeIdeal.Sum

end
-- ==== Proof.OutValue.lean ====
/-
  The mixer's output product, added to the residual: what one grid point leaves in its block.
-/
module

public import proofs.«01_k».proof.Proof.Sums
public import proofs.«01_k».proof.Proof.Gen.OutIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.OutIdeal.Sum

open Idealize.ShloMosaic Idealize.ShloMosaic.TcCoe Idealize.SL.Sem
open Cert.OutIdeal Cert.OutIdeal.Gen

/-- Row `a` of a block of merged values against column `b` of a block of the weight. -/
def part (x : Vec Ideal S1024x2048 .bf16) (w : Vec Ideal S2048x1024 .bf16) (a b : Fin 1024) : EReal :=
  ∑ k : Fin 2048, x (ix2 a k) * w (ix2 k b)

/-- The block of sums. -/
theorem out3_apply (x0 : Vec Ideal S1024x2048 .bf16) (x1 : Vec Ideal S2048x1024 .bf16) (x2 : Vec Ideal S1024x1024 .f32) (a b : Fin 1024) :
    out0_3 (F := Ideal) x0 x1 x2 (ix2 a b) = x2 (ix2 a b) + part x0 x1 a b := by
  unfold out0_3
  frame_out
  canon_tiles x h
  all_goals
    open_payloads
    pointwise
    unfold part
    refine congrArg₂ (fun p q : EReal => p + q) ?_ (Finset.sum_congr rfl fun k _ => ?_)
    · refine congrArg₂ (fun p q => x2 (ix2 p q)) (Fin.ext ?_) (Fin.ext ?_) <;> simp at h0 h1 ⊢ <;> omega
    · refine congrArg₂ (fun p q => x0 (ix2 p k) * x1 (ix2 k q)) (Fin.ext ?_) (Fin.ext ?_) <;> simp at h0 h1 ⊢ <;> omega

end Cert.OutIdeal.Sum

end
-- ==== Proof.OutResult.lean ====
/-
  The mixer's output product: the result array in closed form, the reference's, and that they agree.
-/
module

public import proofs.«01_k».proof.Proof.OutValue
public import proofs.«01_k».proof.Proof.Gen.OutReferenceIdeal.Read

@[expose] public section

noncomputable section

namespace Cert.OutIdeal.Sum

open Idealize.ShloMosaic Idealize.ShloMosaic.TcCoe Idealize.SL.Sem
open Cert.OutIdeal Cert.OutIdeal.Gen Cert.OutReferenceIdeal.Read

variable (m : (ℓ : Loc nD τ sig) → Buf (Elt Ideal) ℓ)

/-- A token's merged row against a column of the weight. -/
def proj (h : Vec Ideal S4096x2048 .bf16) (w : Vec Ideal S2048x2048 .f32) (i : Fin 4096) (j : Fin 2048) : EReal :=
  ∑ k : Fin 2048, h (ix2 i k) * w (ix2 k j)

/-- The grid's block indices, decided: token block `t / 2`, column block `t % 2`. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem part_eq (c : Dev nD) (t : Fin cfg0.N) (a : Fin 1024) (b : Fin 1024) (i : Fin 4096) (j : Fin 2048)
    (hi : t.val / 2 * 1024 + a.val = i.val) (hj : t.val % 2 * 1024 + b.val = j.val) :
    part (iblk m c 0 t) (iblk m c 1 t) a b = proj (m ((c : Thread nD τ).loc main_arg1)) (m ((c : Thread nD τ).loc main_arg2)) i j := by
  obtain ⟨i, _⟩ := i
  obtain ⟨j, _⟩ := j
  subst hi hj
  unfold part proj
  refine Finset.sum_congr rfl fun k _ => ?_
  blk_point [iblk, V, idx t]

theorem residual_eq (c : Dev nD) (t : Fin cfg0.N) (a b : Fin 1024) (i : Fin 4096) (j : Fin 2048)
    (hi : t.val / 2 * 1024 + a.val = i.val) (hj : t.val % 2 * 1024 + b.val = j.val) :
    (iblk m c 2 t : Vec Ideal S1024x1024 .f32) (ix2 a b) = m ((c : Thread nD τ).loc main_arg0) (ix2 i j) := by
  obtain ⟨i, _⟩ := i
  obtain ⟨j, _⟩ := j
  subst hi hj
  blk_point [iblk, V, idx t]

/-- Where a point's block lies in the result array. -/
theorem emb3 (t : Fin cfg0.N) (a : Fin 1024) (b : Fin 1024) : (win0_3.blk t).view.emb (ix2 a b)
    = (ix2 ⟨t.val / 2 * 1024 + a.val, by have h := lt_of_lt_of_eq t.isLt N_0; omega⟩ ⟨t.val % 2 * 1024 + b.val, by have h := lt_of_lt_of_eq t.isLt N_0; omega⟩ : S4096x2048.Idx) := by
  have e := (idx t).2.2.2
  refine @funext (Fin 2) (fun d => Fin (S4096x2048.size d)) _ _ fun d => Fin.ext ?_
  match d with
  | ⟨0, _⟩ => blk_simp [e]
  | ⟨1, _⟩ => blk_simp [e]

/-- The reference's array. -/
theorem reference2 (x0 : Vec Ideal S4096x2048 .f32) (x1 : Vec Ideal S4096x2048 .bf16) (x2 : Vec Ideal S2048x2048 .f32) (i : Fin 4096) (j : Fin 2048) :
    val_main_v2 (F := Ideal) x0 x1 x2 (ix2 i j) = x0 (ix2 i j) + proj x1 x2 i j := by
  rw [val_main_v2_apply, val_main_v1_apply]
  unfold proj
  refine congrArg (fun q : EReal => x0 (ix2 i j) + q) ?_
  refine Finset.sum_congr rfl fun k _ => ?_
  rw [val_main_v0_apply]
  show x1 _ * x2 _ = _
  refine congrArg₂ (fun p r => x1 p * x2 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The array of sums. -/
theorem result3 (c : Dev nD) : (dats m 0 c).arrAt 3 cfg0.N = val_main_v2 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨a, b, rfl⟩ : ∃ (a : Fin 1024) (b : Fin 1024), y = ix2 a b := ⟨y 0, y 1, ValueIdx.eq_ix2 y⟩
  rw [emb3, reference2]
  exact (out3_apply _ _ _ a b).trans (congrArg₂ (fun p q : EReal => p + q) (residual_eq m c t a b _ _ rfl rfl)
    (part_eq m c t a b _ _ rfl rfl))

end Cert.OutIdeal.Sum

end
-- ==== Proof.DmergeValue.lean ====
/-
  The gradient through the mixer's gated merge: what one grid point leaves in its four blocks.
-/
module

public import proofs.«01_k».proof.Proof.Gates
public import proofs.«01_k».proof.Proof.Gen.DmergeIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DmergeIdeal.Sum

open Idealize.ShloMosaic Idealize.ShloMosaic.TcCoe Idealize.SL.Sem
open Cert.DmergeIdeal Cert.DmergeIdeal.Gen

open Cert.Gates

/-- The gradient of the merged values: row `a` of a block of the incoming gradient against row `b` of the output weight. -/
def part (x : Vec Ideal S1024x2048 .bf16) (w : Vec Ideal S512x2048 .bf16) (a : Fin 1024) (b : Fin 512) : EReal :=
  ∑ k : Fin 2048, x (ix2 a k) * w (ix2 b k)

/-- The gradient of the first head's values. -/
theorem out6_apply (x0 : Vec Ideal S1024x2048 .bf16) (x1 : Vec Ideal S512x2048 .bf16) (x2 x3 : Vec Ideal S1024x512 .f32)
    (x4 x5 : Vec Ideal S1024x512 .bf16) (a : Fin 1024) (b : Fin 512) :
    out0_6 (F := Ideal) x0 x1 x2 x3 x4 x5 (ix2 a b) = part x0 x1 a b * sigm (x2 (ix2 a b)) := by
  unfold_out out0_6
  frame_out
  canon_tiles x h
  all_goals
    open_payloads
    pointwise
    unfold part
    exact congrArg₂ (fun p q : EReal => p * sigm q) (Finset.sum_congr rfl fun k _ => congrArg₂ (fun p q => x0 (ix2 p k) * x1 (ix2 q k)) (Fin.ext (by simp at h0 h1 ⊢ <;> omega)) (Fin.ext (by simp at h0 h1 ⊢ <;> omega))) (congrArg₂ (fun p q => x2 (ix2 p q)) (Fin.ext (by simp at h0 h1 ⊢ <;> omega)) (Fin.ext (by simp at h0 h1 ⊢ <;> omega)))

/-- The gradient of the second head's values. -/
theorem out7_apply (x0 : Vec Ideal S1024x2048 .bf16) (x1 : Vec Ideal S512x2048 .bf16) (x2 x3 : Vec Ideal S1024x512 .f32)
    (x4 x5 : Vec Ideal S1024x512 .bf16) (a : Fin 1024) (b : Fin 512) :
    out0_7 (F := Ideal) x0 x1 x2 x3 x4 x5 (ix2 a b) = part x0 x1 a b * sigm (x3 (ix2 a b)) := by
  unfold_out out0_7
  frame_out
  canon_tiles x h
  all_goals
    open_payloads
    pointwise
    unfold part
    exact congrArg₂ (fun p q : EReal => p * sigm q) (Finset.sum_congr rfl fun k _ => congrArg₂ (fun p q => x0 (ix2 p k) * x1 (ix2 q k)) (Fin.ext (by simp at h0 h1 ⊢ <;> omega)) (Fin.ext (by simp at h0 h1 ⊢ <;> omega))) (congrArg₂ (fun p q => x3 (ix2 p q)) (Fin.ext (by simp at h0 h1 ⊢ <;> omega)) (Fin.ext (by simp at h0 h1 ⊢ <;> omega)))

/-- The gradient of the first gate. -/
theorem out8_apply (x0 : Vec Ideal S1024x2048 .bf16) (x1 : Vec Ideal S512x2048 .bf16) (x2 x3 : Vec Ideal S1024x512 .f32)
    (x4 x5 : Vec Ideal S1024x512 .bf16) (a : Fin 1024) (b : Fin 512) :
    out0_8 (F := Ideal) x0 x1 x2 x3 x4 x5 (ix2 a b) = slope (part x0 x1 a b) (x4 (ix2 a b)) (x2 (ix2 a b)) := by
  unfold_out out0_8
  frame_out
  canon_tiles x h
  all_goals
    open_payloads
    pointwise
    unfold part
    exact slope_congr (Finset.sum_congr rfl fun k _ => congrArg₂ (fun p q => x0 (ix2 p k) * x1 (ix2 q k)) (Fin.ext (by simp at h0 h1 ⊢ <;> omega)) (Fin.ext (by simp at h0 h1 ⊢ <;> omega))) (congrArg₂ (fun p q => x4 (ix2 p q)) (Fin.ext (by simp at h0 h1 ⊢ <;> omega)) (Fin.ext (by simp at h0 h1 ⊢ <;> omega))) (congrArg₂ (fun p q => x2 (ix2 p q)) (Fin.ext (by simp at h0 h1 ⊢ <;> omega)) (Fin.ext (by simp at h0 h1 ⊢ <;> omega)))

/-- The gradient of the second gate. -/
theorem out9_apply (x0 : Vec Ideal S1024x2048 .bf16) (x1 : Vec Ideal S512x2048 .bf16) (x2 x3 : Vec Ideal S1024x512 .f32)
    (x4 x5 : Vec Ideal S1024x512 .bf16) (a : Fin 1024) (b : Fin 512) :
    out0_9 (F := Ideal) x0 x1 x2 x3 x4 x5 (ix2 a b) = slope (part x0 x1 a b) (x5 (ix2 a b)) (x3 (ix2 a b)) := by
  unfold_out out0_9
  frame_out
  canon_tiles x h
  all_goals
    open_payloads
    pointwise
    unfold part
    exact slope_congr (Finset.sum_congr rfl fun k _ => congrArg₂ (fun p q => x0 (ix2 p k) * x1 (ix2 q k)) (Fin.ext (by simp at h0 h1 ⊢ <;> omega)) (Fin.ext (by simp at h0 h1 ⊢ <;> omega))) (congrArg₂ (fun p q => x5 (ix2 p q)) (Fin.ext (by simp at h0 h1 ⊢ <;> omega)) (Fin.ext (by simp at h0 h1 ⊢ <;> omega))) (congrArg₂ (fun p q => x3 (ix2 p q)) (Fin.ext (by simp at h0 h1 ⊢ <;> omega)) (Fin.ext (by simp at h0 h1 ⊢ <;> omega)))

end Cert.DmergeIdeal.Sum

end
-- ==== Proof.DmergeResult.lean ====
/-
  The gradient through the mixer's gated merge: the four result arrays in closed form, the reference's, and that they agree.
-/
module

public import proofs.«01_k».proof.Proof.DmergeValue
public import proofs.«01_k».proof.Proof.Gen.DmergeReferenceIdeal.Read

@[expose] public section

noncomputable section

namespace Cert.DmergeIdeal.Sum

open Idealize.ShloMosaic Idealize.ShloMosaic.TcCoe Idealize.SL.Sem
open Cert.DmergeIdeal Cert.DmergeIdeal.Gen Cert.DmergeReferenceIdeal.Read

open Cert.Gates

variable (m : (ℓ : Loc nD τ sig) → Buf (Elt Ideal) ℓ)

/-- The gradient of the merged values: a token's row of the incoming gradient against a row of the output weight. -/
def back (d : Vec Ideal S4096x2048 .f32) (w : Vec Ideal S2048x2048 .f32) (i : Fin 4096) (j : Fin 2048) : EReal :=
  ∑ k : Fin 2048, d (ix2 i k) * w (ix2 j k)

/-- The gate of the first head: columns 5632 on of the projection. -/
def gate5632 (x : Vec Ideal S4096x9728 .f32) (i : Fin 4096) (j : Fin 2048) : EReal := x (ix2 i ⟨5632 + j.val, by omega⟩)

/-- The gate of the second head: columns 7680 on of the projection. -/
def gate7680 (x : Vec Ideal S4096x9728 .f32) (i : Fin 4096) (j : Fin 2048) : EReal := x (ix2 i ⟨7680 + j.val, by omega⟩)

/-- The grid's block indices, decided: token block `t / 4`, column block `t % 4`, the gates' columns after those. -/
theorem idx : ∀ t : Fin cfg0.N, win0_0.index t = ![t.val / 4, 0] ∧ win0_1.index t = ![t.val % 4, 0]
    ∧ win0_2.index t = ![t.val / 4, 11 + t.val % 4] ∧ win0_3.index t = ![t.val / 4, 15 + t.val % 4]
    ∧ win0_4.index t = ![t.val / 4, t.val % 4] ∧ win0_5.index t = ![t.val / 4, t.val % 4] :=
  (by decide +kernel : ∀ t : Fin grid0.N, _)

theorem idx_out : ∀ t : Fin cfg0.N, win0_6.index t = ![t.val / 4, t.val % 4] ∧ win0_7.index t = ![t.val / 4, t.val % 4]
    ∧ win0_8.index t = ![t.val / 4, t.val % 4] ∧ win0_9.index t = ![t.val / 4, t.val % 4] :=
  (by decide +kernel : ∀ t : Fin grid0.N, _)

/-- The blocks a point reads, as parts of the arrays. -/
theorem part_eq (c : Dev nD) (t : Fin cfg0.N) (a : Fin 1024) (b : Fin 512) (i : Fin 4096) (j : Fin 2048)
    (hi : t.val / 4 * 1024 + a.val = i.val) (hj : t.val % 4 * 512 + b.val = j.val) :
    part (iblk m c 0 t) (iblk m c 1 t) a b = back (m ((c : Thread nD τ).loc main_arg4)) (m ((c : Thread nD τ).loc main_arg3)) i j := by
  obtain ⟨i, _⟩ := i
  obtain ⟨j, _⟩ := j
  subst hi hj
  unfold part back
  refine Finset.sum_congr rfl fun k _ => ?_
  blk_point [iblk, V, idx t]

theorem gateA_eq (c : Dev nD) (t : Fin cfg0.N) (a : Fin 1024) (b : Fin 512) (i : Fin 4096) (j : Fin 2048)
    (hi : t.val / 4 * 1024 + a.val = i.val) (hj : t.val % 4 * 512 + b.val = j.val) :
    (iblk m c 2 t : Vec Ideal S1024x512 .f32) (ix2 a b) = gate5632 (m ((c : Thread nD τ).loc main_arg0)) i j := by
  obtain ⟨i, _⟩ := i
  obtain ⟨j, _⟩ := j
  subst hi hj
  unfold gate5632
  blk_point [iblk, V, idx t]

theorem gateB_eq (c : Dev nD) (t : Fin cfg0.N) (a : Fin 1024) (b : Fin 512) (i : Fin 4096) (j : Fin 2048)
    (hi : t.val / 4 * 1024 + a.val = i.val) (hj : t.val % 4 * 512 + b.val = j.val) :
    (iblk m c 3 t : Vec Ideal S1024x512 .f32) (ix2 a b) = gate7680 (m ((c : Thread nD τ).loc main_arg0)) i j := by
  obtain ⟨i, _⟩ := i
  obtain ⟨j, _⟩ := j
  subst hi hj
  unfold gate7680
  blk_point [iblk, V, idx t]

theorem first_eq (c : Dev nD) (t : Fin cfg0.N) (a : Fin 1024) (b : Fin 512) (i : Fin 4096) (j : Fin 2048)
    (hi : t.val / 4 * 1024 + a.val = i.val) (hj : t.val % 4 * 512 + b.val = j.val) :
    (iblk m c 4 t : Vec Ideal S1024x512 .bf16) (ix2 a b) = m ((c : Thread nD τ).loc main_arg1) (ix2 i j) := by
  obtain ⟨i, _⟩ := i
  obtain ⟨j, _⟩ := j
  subst hi hj
  blk_point [iblk, V, idx t]

theorem second_eq (c : Dev nD) (t : Fin cfg0.N) (a : Fin 1024) (b : Fin 512) (i : Fin 4096) (j : Fin 2048)
    (hi : t.val / 4 * 1024 + a.val = i.val) (hj : t.val % 4 * 512 + b.val = j.val) :
    (iblk m c 5 t : Vec Ideal S1024x512 .bf16) (ix2 a b) = m ((c : Thread nD τ).loc main_arg2) (ix2 i j) := by
  obtain ⟨i, _⟩ := i
  obtain ⟨j, _⟩ := j
  subst hi hj
  blk_point [iblk, V, idx t]

/-- Where a point's block lies in a result array. -/
theorem emb6 (t : Fin cfg0.N) (a : Fin 1024) (b : Fin 512) : (win0_6.blk t).view.emb (ix2 a b)
    = (ix2 ⟨t.val / 4 * 1024 + a.val, by have h := lt_of_lt_of_eq t.isLt N_0; omega⟩ ⟨t.val % 4 * 512 + b.val, by have h := lt_of_lt_of_eq t.isLt N_0; omega⟩ : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb7 (t : Fin cfg0.N) (a : Fin 1024) (b : Fin 512) : (win0_7.blk t).view.emb (ix2 a b)
    = (ix2 ⟨t.val / 4 * 1024 + a.val, by have h := lt_of_lt_of_eq t.isLt N_0; omega⟩ ⟨t.val % 4 * 512 + b.val, by have h := lt_of_lt_of_eq t.isLt N_0; omega⟩ : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb8 (t : Fin cfg0.N) (a : Fin 1024) (b : Fin 512) : (win0_8.blk t).view.emb (ix2 a b)
    = (ix2 ⟨t.val / 4 * 1024 + a.val, by have h := lt_of_lt_of_eq t.isLt N_0; omega⟩ ⟨t.val % 4 * 512 + b.val, by have h := lt_of_lt_of_eq t.isLt N_0; omega⟩ : S4096x2048.Idx) := by
  have e := (idx_out t).2.2.1
  refine @funext (Fin 2) (fun d => Fin (S4096x2048.size d)) _ _ fun d => Fin.ext ?_
  match d with
  | ⟨0, _⟩ => blk_simp [e]
  | ⟨1, _⟩ => blk_simp [e]

theorem emb9 (t : Fin cfg0.N) (a : Fin 1024) (b : Fin 512) : (win0_9.blk t).view.emb (ix2 a b)
    = (ix2 ⟨t.val / 4 * 1024 + a.val, by have h := lt_of_lt_of_eq t.isLt N_0; omega⟩ ⟨t.val % 4 * 512 + b.val, by have h := lt_of_lt_of_eq t.isLt N_0; omega⟩ : S4096x2048.Idx) := by
  have e := (idx_out t).2.2.2
  refine @funext (Fin 2) (fun d => Fin (S4096x2048.size d)) _ _ fun d => Fin.ext ?_
  match d with
  | ⟨0, _⟩ => blk_simp [e]
  | ⟨1, _⟩ => blk_simp [e]

/-- The reference's gradient of the merged values. -/
theorem reference26 (x3 : Vec Ideal S2048x2048 .f32) (x4 : Vec Ideal S4096x2048 .f32) (i : Fin 4096) (j : Fin 2048) :
    val_main_v26 (F := Ideal) x3 x4 (ix2 i j) = back x4 x3 i j := by
  rw [val_main_v26_apply]
  unfold back
  refine Finset.sum_congr rfl fun k _ => ?_
  show x4 _ * x3 _ = _
  refine congrArg₂ (fun p r => x4 p * x3 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The reference's gates. -/
theorem reference9 (x0 : Vec Ideal S4096x9728 .f32) (i : Fin 4096) (j : Fin 2048) :
    val_main_v9 (F := Ideal) x0 (ix2 i j) = sigm (gate5632 x0 i j) := by
  rw [val_main_v9_apply, val_main_v8_apply, val_main_cst_0_apply, val_main_v7_apply, val_main_v6_apply, val_main_cst_apply, val_main_v5_apply, val_main_v4_apply, val_main_v0_apply]
  refine (sig_eq _).trans (congrArg sigm (congrArg x0 (funext fun d => Fin.ext ?_)))
  match d with
  | ⟨0, _⟩ => rfl
  | ⟨1, _⟩ => rfl

theorem reference19 (x0 : Vec Ideal S4096x9728 .f32) (i : Fin 4096) (j : Fin 2048) :
    val_main_v19 (F := Ideal) x0 (ix2 i j) = sigm (gate7680 x0 i j) := by
  rw [val_main_v19_apply, val_main_v18_apply, val_main_cst_3_apply, val_main_v17_apply, val_main_v16_apply, val_main_cst_2_apply, val_main_v15_apply, val_main_v14_apply, val_main_v1_apply]
  refine (sig_eq _).trans (congrArg sigm (congrArg x0 (funext fun d => Fin.ext ?_)))
  match d with
  | ⟨0, _⟩ => rfl
  | ⟨1, _⟩ => rfl

theorem reference33 (x0 : Vec Ideal S4096x9728 .f32) (x3 : Vec Ideal S2048x2048 .f32) (x4 : Vec Ideal S4096x2048 .f32) (i : Fin 4096) (j : Fin 2048) :
    val_main_v33 (F := Ideal) x0 x3 x4 (ix2 i j) = back x4 x3 i j * sigm (gate5632 x0 i j) := by
  rw [val_main_v33_apply, val_main_v30_apply, reference9, reference26]
  exact mul_comm _ _

theorem reference34 (x0 : Vec Ideal S4096x9728 .f32) (x3 : Vec Ideal S2048x2048 .f32) (x4 : Vec Ideal S4096x2048 .f32) (i : Fin 4096) (j : Fin 2048) :
    val_main_v34 (F := Ideal) x0 x3 x4 (ix2 i j) = back x4 x3 i j * sigm (gate7680 x0 i j) := by
  rw [val_main_v34_apply, val_main_v27_apply, reference19, reference26]
  exact mul_comm _ _

theorem reference35 (x0 : Vec Ideal S4096x9728 .f32) (x1 : Vec Ideal S4096x2048 .bf16) (x3 : Vec Ideal S2048x2048 .f32) (x4 : Vec Ideal S4096x2048 .f32)
    (i : Fin 4096) (j : Fin 2048) :
    val_main_v35 (F := Ideal) x0 x1 x3 x4 (ix2 i j) = slope (back x4 x3 i j) (x1 (ix2 i j)) (gate5632 x0 i j) := by
  rw [val_main_v35_apply, val_main_v32_apply, val_main_v31_apply, val_main_v12_apply, val_main_v11_apply, val_main_v10_apply, val_main_cst_1_apply,
    val_main_v2_apply, reference9, reference26]
  exact slope_eq _ _ _

theorem reference36 (x0 : Vec Ideal S4096x9728 .f32) (x2 : Vec Ideal S4096x2048 .bf16) (x3 : Vec Ideal S2048x2048 .f32) (x4 : Vec Ideal S4096x2048 .f32)
    (i : Fin 4096) (j : Fin 2048) :
    val_main_v36 (F := Ideal) x0 x2 x3 x4 (ix2 i j) = slope (back x4 x3 i j) (x2 (ix2 i j)) (gate7680 x0 i j) := by
  rw [val_main_v36_apply, val_main_v29_apply, val_main_v28_apply, val_main_v22_apply, val_main_v21_apply, val_main_v20_apply, val_main_cst_4_apply,
    val_main_v3_apply, reference19, reference26]
  exact slope_eq _ _ _

/-- The array of gradients of the first head's values. -/
theorem result6 (c : Dev nD) : (dats m 0 c).arrAt 6 cfg0.N = val_main_v33 (F := Ideal)
    (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨a, b, rfl⟩ : ∃ (a : Fin 1024) (b : Fin 512), y = ix2 a b := ⟨y 0, y 1, ValueIdx.eq_ix2 y⟩
  rw [emb6, reference33]
  exact (out6_apply _ _ _ _ _ _ a b).trans (congrArg₂ (fun p q : EReal => p * sigm q) (part_eq m c t a b _ _ rfl rfl) (gateA_eq m c t a b _ _ rfl rfl))

/-- The array of gradients of the second head's values. -/
theorem result7 (c : Dev nD) : (dats m 0 c).arrAt 7 cfg0.N = val_main_v34 (F := Ideal)
    (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨a, b, rfl⟩ : ∃ (a : Fin 1024) (b : Fin 512), y = ix2 a b := ⟨y 0, y 1, ValueIdx.eq_ix2 y⟩
  rw [emb7, reference34]
  exact (out7_apply _ _ _ _ _ _ a b).trans (congrArg₂ (fun p q : EReal => p * sigm q) (part_eq m c t a b _ _ rfl rfl) (gateB_eq m c t a b _ _ rfl rfl))

/-- The array of gradients of the first gate. -/
theorem result8 (c : Dev nD) : (dats m 0 c).arrAt 8 cfg0.N = val_main_v35 (F := Ideal)
    (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨a, b, rfl⟩ : ∃ (a : Fin 1024) (b : Fin 512), y = ix2 a b := ⟨y 0, y 1, ValueIdx.eq_ix2 y⟩
  rw [emb8, reference35]
  exact (out8_apply _ _ _ _ _ _ a b).trans (slope_congr (part_eq m c t a b _ _ rfl rfl) (first_eq m c t a b _ _ rfl rfl) (gateA_eq m c t a b _ _ rfl rfl))

/-- The array of gradients of the second gate. -/
theorem result9 (c : Dev nD) : (dats m 0 c).arrAt 9 cfg0.N = val_main_v36 (F := Ideal)
    (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨a, b, rfl⟩ : ∃ (a : Fin 1024) (b : Fin 512), y = ix2 a b := ⟨y 0, y 1, ValueIdx.eq_ix2 y⟩
  rw [emb9, reference36]
  exact (out9_apply _ _ _ _ _ _ a b).trans (slope_congr (part_eq m c t a b _ _ rfl rfl) (second_eq m c t a b _ _ rfl rfl) (gateB_eq m c t a b _ _ rfl rfl))

end Cert.DmergeIdeal.Sum

end
-- ==== Proof.DwoutValue.lean ====
/-
  The weight gradient of the mixer's output product: what one grid point adds, and what its last point writes.
-/
module

public import proofs.«01_k».proof.Proof.Sums
public import proofs.«01_k».proof.Proof.Gen.DwoutIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DwoutIdeal.Sum

open Idealize.ShloMosaic Idealize.ShloMosaic.TcCoe Idealize.SL.Sem
open Cert.DwoutIdeal Cert.DwoutIdeal.Gen Cert.DwoutIdeal.Value

variable (m : (ℓ : Loc nD τ sig) → Buf (Elt Ideal) ℓ)

/-- What one block of 1024 tokens adds at row `a` and column `b`. -/
def part (x0 : Vec Ideal S1024x1024 .bf16) (x1 : Vec Ideal S1024x2048 .bf16) (a : Fin 1024) (b : Fin 2048) : EReal :=
  ∑ k : Fin 1024, x0 (ix2 k a) * x1 (ix2 k b)

/-- The accumulating payload adds a block's part. -/
theorem pay2_apply (acc : Vec Ideal S1024x2048 .f32) (x0 : Vec Ideal S1024x1024 .bf16) (x1 : Vec Ideal S1024x2048 .bf16)
    (a : Fin 1024) (b : Fin 2048) :
    k0_pay2 (F := Ideal) acc x0 x1 (ix2 a b) = acc (ix2 a b) + part x0 x1 a b := by
  unfold k0_pay2 part
  pointwise

theorem pay1_apply (a : Fin 1024) (b : Fin 2048) : k0_pay1 (F := Ideal) (ix2 a b) = 0 := by
  unfold k0_pay1
  pointwise

/-- The grid's block indices, decided: block row `t / 4`, token block `t % 4`. -/
theorem idx : ∀ t : Fin cfg0.N, win0_0.index t = ![t.val % 4, t.val / 4] ∧ win0_1.index t = ![t.val % 4, 0] :=
  (by decide +kernel : ∀ t : Fin grid0.N, _)

/-- The scratch read whole is what it holds. -/
theorem scratch_read (x : Vec Ideal S1024x2048 .f32) :
    View.read (Elt Ideal) (View.whole cc0_scratch0) ((Memref.isWhole_whole cc0_scratch0).unread x) = x :=
  (Memref.isWhole_whole cc0_scratch0).read_unread x

/-- After the last token block the scratch holds the blocks' parts. -/
theorem scratch_eq (c : Dev nD) (t : Fin cfg0.N) (hf : t.val % 4 = 3) (a : Fin 1024) (b : Fin 2048) :
    (outsAt0 m c t.val t.isLt).2 (ix2 a b) = 0 + ∑ s : Fin 4,
      part (iblk m c 0 ⟨4 * (t.val / 4) + s.val, Pipeline.run_point_lt_of_flush t hf s⟩)
        (iblk m c 1 ⟨4 * (t.val / 4) + s.val, Pipeline.run_point_lt_of_flush t hf s⟩) a b := by
  refine Pipeline.eq_sum_fin_of_reset_step_apply_of_flush
    (fun n h (p : Fin 1024 × Fin 2048) => (outsAt0 m c n h).2 (ix2 p.1 p.2)) 4 (fun _ => (0 : EReal))
    (fun t p => part (iblk m c 0 t) (iblk m c 1 t) p.1 p.2) ?_ ?_ t hf (a, b)
  · intro t h p
    have h1 : ¬t.val % 4 = 3 := by omega
    rw [outsAt0_A m c t h h1]
    frame_out [scratch_read]
    rw [pay2_apply, pay1_apply]
  · intro t h p
    by_cases h1 : t.val % 4 = 3
    · rw [outsAt0_C m c t h h1]
      frame_out [scratch_read]
      rw [pay2_apply]
    · rw [outsAt0_B m c t h h1]
      frame_out [scratch_read]
      rw [pay2_apply]

/-- What the last point writes back is what the scratch then holds. -/
theorem out_eq (c : Dev nD) (t : Fin cfg0.N) (hf : t.val % 4 = 3) (a : Fin 1024) (b : Fin 2048) :
    (outsAt0 m c t.val t.isLt).1 (ix2 a b) = (outsAt0 m c t.val t.isLt).2 (ix2 a b) := by
  have h0 : ¬t.val % 4 = 0 := by omega
  rw [outsAt0_C m c t h0 hf]
  frame_out [scratch_read]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h0 ⊢; omega
    | ⟨1, _⟩ => simp at h1 ⊢; omega

end Cert.DwoutIdeal.Sum

end
-- ==== Proof.DwoutResult.lean ====
/-
  The weight gradient of the mixer's output product: the result array in closed form, the reference's, and that the two agree.
-/
module

public import proofs.«01_k».proof.Proof.DwoutValue
public import proofs.«01_k».proof.Proof.Gen.DwoutReferenceIdeal.Read

@[expose] public section

noncomputable section

namespace Cert.DwoutIdeal.Sum

open Idealize.ShloMosaic Idealize.ShloMosaic.TcCoe Idealize.SL.Sem
open Cert.DwoutIdeal Cert.DwoutIdeal.Gen Cert.DwoutIdeal.Value Cert.DwoutReferenceIdeal.Read

variable (m : (ℓ : Loc nD τ sig) → Buf (Elt Ideal) ℓ)

/-- What token `k` adds at row `i` and column `j`. -/
def term (x0 : Vec Ideal S4096x2048 .bf16) (x1 : Vec Ideal S4096x2048 .f32) (i : Fin 2048) (j : Fin 2048) (k : Fin 4096) : EReal :=
  x0 (ix2 k i) * x1 (ix2 k j)

/-- The gradient as one sum over all tokens. -/
def grad (x0 : Vec Ideal S4096x2048 .bf16) (x1 : Vec Ideal S4096x2048 .f32) (i : Fin 2048) (j : Fin 2048) : EReal :=
  ∑ k : Fin 4096, term x0 x1 i j k

/-- A block's part reads the tokens of its block. -/
theorem part_eq (c : Dev nD) (t : Fin cfg0.N) (a : Fin 1024) (b : Fin 2048) (i : Fin 2048) (j : Fin 2048) (s : Fin 4)
    (hi : t.val / 4 * 1024 + a.val = i.val) (hj : 0 * 2048 + b.val = j.val) (hs : t.val % 4 = s.val) :
    part (iblk m c 0 t) (iblk m c 1 t) a b = ∑ k : Fin 1024, term (m ((c : Thread nD τ).loc main_arg0))
      (m ((c : Thread nD τ).loc main_arg1)) i j ⟨s.val * 1024 + k.val, by omega⟩ := by
  obtain ⟨i, _⟩ := i
  obtain ⟨j, _⟩ := j
  subst hi hj
  unfold part term
  refine Finset.sum_congr rfl fun k _ => ?_
  blk_point [iblk, V, idx t]

/-- What the result array holds. -/
theorem result (c : Dev nD) (i : Fin 2048) (j : Fin 2048) :
    G2 m c (ix2 i j) = grad (m ((c : Thread nD τ).loc main_arg0)) (m ((c : Thread nD τ).loc main_arg1)) i j := by
  obtain ⟨r, hr⟩ : ∃ r : ℕ, r = i.val / 1024 := ⟨_, rfl⟩
  have hp : pt2Of (ix2 i j) = 4 * r + 3 := by
    show 4 * (1 * (i.val / 1024 - 0) + 1 * (j.val / 2048 - 0)) + 3 = _
    omega
  have ht : 4 * r + 3 < cfg0.N := lt_of_lt_of_eq (by omega) N_0.symm
  have hl : loc2Of (ix2 i j) = ix2 ⟨i.val % 1024, by omega⟩ ⟨j.val % 2048, by omega⟩ := by
    funext d
    apply Fin.ext
    match d with
    | ⟨0, _⟩ => rfl
    | ⟨1, _⟩ => rfl
  have hf : (⟨4 * r + 3, ht⟩ : Fin cfg0.N).val % 4 = 3 := by show (4 * r + 3) % 4 = 3; omega
  unfold G2
  rw [dif_pos (hp ▸ ht), hl, fold0_congr m c _ _ _ (by omega) hp, ← outsAt0_sweep m c _ ht]
  rw [out_eq m c ⟨4 * r + 3, ht⟩ hf, scratch_eq m c ⟨4 * r + 3, ht⟩ hf, zero_add]
  unfold grad
  have e : ∀ s : Fin 4, _ := fun s => part_eq m c ⟨4 * ((4 * r + 3) / 4) + s.val, lt_of_lt_of_eq (by omega) N_0.symm⟩
    ⟨i.val % 1024, by omega⟩ ⟨j.val % 2048, by omega⟩ i j s (by show (4 * ((4 * r + 3) / 4) + s.val) / 4 * 1024 + i.val % 1024 = i.val; omega) (by show 0 * 2048 + j.val % 2048 = j.val; omega)
    (by show (4 * ((4 * r + 3) / 4) + s.val) % 4 = s.val; omega)
  refine (Finset.sum_congr rfl fun s _ => e s).trans ?_
  refine Fin.sum_mul_add_congr fun s k hl => ?_
  rfl

/-- The reference's array holds the same sums. -/
theorem reference_apply (x0 : Vec Ideal S4096x2048 .bf16) (x1 : Vec Ideal S4096x2048 .f32) (i : Fin 2048) (j : Fin 2048) :
    Cert.DwoutReferenceIdeal.Read.val_main_v5 (F := Ideal) x0 x1 (ix2 i j) = grad x0 x1 i j := by
  rw [val_main_v5_apply]
  show val_main_v4 (F := Ideal) x0 x1 (ix2 i j) = _
  rw [val_main_v4_apply, val_main_v3_apply]
  unfold grad term
  refine Finset.sum_congr rfl fun k _ => ?_
  rw [mul_comm, val_main_v1_apply]
  show x0 _ * x1 _ = _
  refine congrArg₂ (fun p r => x0 p * x1 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The kernel's array is the reference's. -/
theorem agree (c : Dev nD) : G2 m c = Cert.DwoutReferenceIdeal.Read.val_main_v5 (F := Ideal)
    (m ((c : Thread nD τ).loc main_arg0)) (m ((c : Thread nD τ).loc main_arg1)) := by
  funext i
  rw [ValueIdx.eq_ix2 i]
  exact (result m c _ _).trans (reference_apply _ _ _ _).symm

end Cert.DwoutIdeal.Sum

end
-- ==== Proof.DwupValue.lean ====
/-
  The weight gradients of the two heads' output products: what one grid point adds, and what a shard's last point writes.
-/
module

public import proofs.«01_k».proof.Proof.Sums
public import proofs.«01_k».proof.Proof.Gen.DwupIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DwupIdeal.Sum

open Idealize.ShloMosaic Idealize.ShloMosaic.TcCoe Idealize.SL.Sem
open Cert.DwupIdeal Cert.DwupIdeal.Gen Cert.DwupIdeal.Value

variable (m : (ℓ : Loc nD τ sig) → Buf (Elt Ideal) ℓ)

/-- What one block of 2048 tokens adds at row `a` and column `b` of a shard's gradient. -/
def part (x : Vec Ideal S2048x1024 .bf16) (w : Vec Ideal S2048x256 .bf16) (a : Fin 1024) (b : Fin 256) : EReal :=
  ∑ k : Fin 2048, x (ix2 k a) * w (ix2 k b)

/-- The accumulating payloads add a block's part. -/
theorem pay3_apply (acc : Vec Ideal S1024x256 .f32) (x : Vec Ideal S2048x1024 .bf16) (w : Vec Ideal S2048x256 .bf16) (a : Fin 1024) (b : Fin 256) :
    k0_pay3 (F := Ideal) acc x w (ix2 a b) = acc (ix2 a b) + part x w a b := by
  unfold k0_pay3 part
  pointwise

theorem pay4_apply (acc : Vec Ideal S1024x256 .f32) (x : Vec Ideal S2048x1024 .bf16) (w : Vec Ideal S2048x256 .bf16) (a : Fin 1024) (b : Fin 256) :
    k0_pay4 (F := Ideal) acc x w (ix2 a b) = acc (ix2 a b) + part x w a b := by
  unfold k0_pay4 part
  pointwise

theorem pay1_apply (a : Fin 1024) (b : Fin 256) : k0_pay1 (F := Ideal) (ix2 a b) = 0 := by
  unfold k0_pay1
  pointwise

theorem pay2_apply (a : Fin 1024) (b : Fin 256) : k0_pay2 (F := Ideal) (ix2 a b) = 0 := by
  unfold k0_pay2
  pointwise

/-- A scratch read whole is what it holds. -/
theorem scratch_read0 (x : Vec Ideal S1024x256 .f32) :
    View.read (Elt Ideal) (View.whole cc0_scratch0) ((Memref.isWhole_whole cc0_scratch0).unread x) = x :=
  (Memref.isWhole_whole cc0_scratch0).read_unread x

theorem scratch_read1 (x : Vec Ideal S1024x256 .f32) :
    View.read (Elt Ideal) (View.whole cc0_scratch1) ((Memref.isWhole_whole cc0_scratch1).unread x) = x :=
  (Memref.isWhole_whole cc0_scratch1).read_unread x

/-- After the last block the first scratch holds the blocks' parts. -/
theorem scratch0_eq (c : Dev nD) (t : Fin cfg0.N) (hf : t.val % 2 = 1) (a : Fin 1024) (b : Fin 256) :
    (outsAt0 m c t.val t.isLt).2.2.1 (ix2 a b) = 0 + ∑ s : Fin 2,
      part (iblk m c 0 ⟨2 * (t.val / 2) + s.val, Pipeline.run_point_lt_of_flush t hf s⟩)
        (iblk m c 1 ⟨2 * (t.val / 2) + s.val, Pipeline.run_point_lt_of_flush t hf s⟩) a b := by
  refine Pipeline.eq_sum_fin_of_reset_step_apply_of_flush
    (fun n h (p : Fin 1024 × Fin 256) => (outsAt0 m c n h).2.2.1 (ix2 p.1 p.2)) 2 (fun _ => (0 : EReal))
    (fun t p => part (iblk m c 0 t) (iblk m c 1 t) p.1 p.2) ?_ ?_ t hf (a, b)
  · intro t h p
    have h1 : ¬t.val % 2 = 1 := by omega
    rw [outsAt0_A m c t h h1]
    frame_out [scratch_read0, scratch_read1]
    rw [pay3_apply, pay1_apply]
  · intro t h p
    have h1 : t.val % 2 = 1 := by omega
    rw [outsAt0_B m c t h h1]
    frame_out [scratch_read0, scratch_read1]
    rw [pay3_apply]

/-- After the last block the second scratch holds the blocks' parts. -/
theorem scratch1_eq (c : Dev nD) (t : Fin cfg0.N) (hf : t.val % 2 = 1) (a : Fin 1024) (b : Fin 256) :
    (outsAt0 m c t.val t.isLt).2.2.2 (ix2 a b) = 0 + ∑ s : Fin 2,
      part (iblk m c 2 ⟨2 * (t.val / 2) + s.val, Pipeline.run_point_lt_of_flush t hf s⟩)
        (iblk m c 3 ⟨2 * (t.val / 2) + s.val, Pipeline.run_point_lt_of_flush t hf s⟩) a b := by
  refine Pipeline.eq_sum_fin_of_reset_step_apply_of_flush
    (fun n h (p : Fin 1024 × Fin 256) => (outsAt0 m c n h).2.2.2 (ix2 p.1 p.2)) 2 (fun _ => (0 : EReal))
    (fun t p => part (iblk m c 2 t) (iblk m c 3 t) p.1 p.2) ?_ ?_ t hf (a, b)
  · intro t h p
    have h1 : ¬t.val % 2 = 1 := by omega
    rw [outsAt0_A m c t h h1]
    frame_out [scratch_read0, scratch_read1]
    rw [pay4_apply, pay2_apply]
  · intro t h p
    have h1 : t.val % 2 = 1 := by omega
    rw [outsAt0_B m c t h h1]
    frame_out [scratch_read0, scratch_read1]
    rw [pay4_apply]

/-- What the last point writes back is what the first scratch then holds. -/
theorem out4_eq (c : Dev nD) (t : Fin cfg0.N) (hf : t.val % 2 = 1) (a : Fin 1024) (b : Fin 256) :
    (outsAt0 m c t.val t.isLt).1 (ix3 0 a b) = (outsAt0 m c t.val t.isLt).2.2.1 (ix2 a b) := by
  have h0 : ¬t.val % 2 = 0 := by omega
  rw [outsAt0_B m c t h0 hf]
  frame_out [scratch_read0, scratch_read1]
  try canon_tiles x h
  all_goals
    open_payloads
    pointwise
    try rfl

/-- What the last point writes back is what the second scratch then holds. -/
theorem out5_eq (c : Dev nD) (t : Fin cfg0.N) (hf : t.val % 2 = 1) (a : Fin 1024) (b : Fin 256) :
    (outsAt0 m c t.val t.isLt).2.1 (ix3 0 a b) = (outsAt0 m c t.val t.isLt).2.2.2 (ix2 a b) := by
  have h0 : ¬t.val % 2 = 0 := by omega
  rw [outsAt0_B m c t h0 hf]
  frame_out [scratch_read0, scratch_read1]
  try canon_tiles x h
  all_goals
    open_payloads
    pointwise
    try rfl

end Cert.DwupIdeal.Sum

end
-- ==== Proof.DwupResult.lean ====
/-
  The weight gradients of the two heads' output products: the result arrays in closed form, the reference's, and that they agree.
-/
module

public import proofs.«01_k».proof.Proof.DwupValue
public import proofs.«01_k».proof.Proof.Gen.DwupReferenceIdeal.Read
public import proofs.«01_k».proof.Proof.Norm

@[expose] public section

noncomputable section

namespace Cert.DwupIdeal.Sum

open Idealize.ShloMosaic Idealize.ShloMosaic.TcCoe Idealize.SL.Sem
open Cert.DwupIdeal Cert.DwupIdeal.Gen Cert.DwupIdeal.Value Cert.DwupReferenceIdeal.Read

variable (m : (ℓ : Loc nD τ sig) → Buf (Elt Ideal) ℓ)

/-- What token `k` adds at shard `q`, row `a`, column `b`. -/
def term (o : Vec Ideal S4096x1024 .bf16) (d : Vec Ideal S4096x2048 .bf16) (q : Fin 8) (a : Fin 1024) (b : Fin 256) (k : Fin 4096) : EReal :=
  o (ix2 k a) * d (ix2 k ⟨q.val * 256 + b.val, by omega⟩)

/-- The gradient as one sum over all tokens. -/
def grad (o : Vec Ideal S4096x1024 .bf16) (d : Vec Ideal S4096x2048 .bf16) (q : Fin 8) (a : Fin 1024) (b : Fin 256) : EReal :=
  ∑ k : Fin 4096, term o d q a b k

/-- The grid's block indices, decided: shard `t / 2`, token block `t % 2`. -/
theorem idx : ∀ t : Fin cfg0.N, win0_0.index t = ![t.val % 2, 0] ∧ win0_1.index t = ![t.val % 2, t.val / 2]
    ∧ win0_2.index t = ![t.val % 2, 0] ∧ win0_3.index t = ![t.val % 2, t.val / 2] :=
  (by decide +kernel : ∀ t : Fin grid0.N, _)

/-- A block's part reads the tokens of its block. -/
theorem first_eq (c : Dev nD) (t : Fin cfg0.N) (a : Fin 1024) (b : Fin 256) (q : Fin 8) (s : Fin 2) (hq : t.val / 2 = q.val)
    (hs : t.val % 2 = s.val) :
    part (iblk m c 0 t) (iblk m c 1 t) a b = ∑ k : Fin 2048, term (m ((c : Thread nD τ).loc main_arg0))
      (m ((c : Thread nD τ).loc main_arg2)) q a b ⟨s.val * 2048 + k.val, by omega⟩ := by
  unfold part term
  refine Finset.sum_congr rfl fun k _ => ?_
  blk_point [iblk, V, idx t]

theorem second_eq (c : Dev nD) (t : Fin cfg0.N) (a : Fin 1024) (b : Fin 256) (q : Fin 8) (s : Fin 2) (hq : t.val / 2 = q.val)
    (hs : t.val % 2 = s.val) :
    part (iblk m c 2 t) (iblk m c 3 t) a b = ∑ k : Fin 2048, term (m ((c : Thread nD τ).loc main_arg1))
      (m ((c : Thread nD τ).loc main_arg3)) q a b ⟨s.val * 2048 + k.val, by omega⟩ := by
  unfold part term
  refine Finset.sum_congr rfl fun k _ => ?_
  blk_point [iblk, V, idx t]

/-- What the first result array holds. -/
theorem result4 (c : Dev nD) (q : Fin 8) (a : Fin 1024) (b : Fin 256) :
    G4 m c (ix3 q a b) = grad (m ((c : Thread nD τ).loc main_arg0)) (m ((c : Thread nD τ).loc main_arg2)) q a b := by
  have hp : pt4Of (ix3 q a b) = 2 * q.val + 1 := by
    show 2 * (1 * (q.val / 1 - 0) + 1 * (a.val / 1024 - 0) + 1 * (b.val / 256 - 0)) + 1 = _
    omega
  have ht : 2 * q.val + 1 < cfg0.N := lt_of_lt_of_eq (by omega) N_0.symm
  have hl : loc4Of (ix3 q a b) = ix3 0 a b := by
    funext d
    apply Fin.ext
    match d with
    | ⟨0, _⟩ => show q.val % 1 = 0; omega
    | ⟨1, _⟩ => show a.val % 1024 = a.val; omega
    | ⟨2, _⟩ => show b.val % 256 = b.val; omega
  have hf : (⟨2 * q.val + 1, ht⟩ : Fin cfg0.N).val % 2 = 1 := by show (2 * q.val + 1) % 2 = 1; omega
  unfold G4
  rw [dif_pos (hp ▸ ht), hl, fold0_congr m c _ _ _ (by omega) hp, ← outsAt0_sweep m c _ ht]
  rw [out4_eq m c ⟨2 * q.val + 1, ht⟩ hf, scratch0_eq m c ⟨2 * q.val + 1, ht⟩ hf, zero_add]
  unfold grad
  have e : ∀ s : Fin 2, _ := fun s => first_eq m c ⟨2 * ((2 * q.val + 1) / 2) + s.val, lt_of_lt_of_eq (by omega) N_0.symm⟩ a b q s
    (by show (2 * ((2 * q.val + 1) / 2) + s.val) / 2 = q.val; omega) (by show (2 * ((2 * q.val + 1) / 2) + s.val) % 2 = s.val; omega)
  refine (Finset.sum_congr rfl fun s _ => e s).trans ?_
  refine Fin.sum_mul_add_congr fun s k hl => ?_
  rfl

/-- What the second result array holds. -/
theorem result5 (c : Dev nD) (q : Fin 8) (a : Fin 1024) (b : Fin 256) :
    G5 m c (ix3 q a b) = grad (m ((c : Thread nD τ).loc main_arg1)) (m ((c : Thread nD τ).loc main_arg3)) q a b := by
  have hp : pt5Of (ix3 q a b) = 2 * q.val + 1 := by
    show 2 * (1 * (q.val / 1 - 0) + 1 * (a.val / 1024 - 0) + 1 * (b.val / 256 - 0)) + 1 = _
    omega
  have ht : 2 * q.val + 1 < cfg0.N := lt_of_lt_of_eq (by omega) N_0.symm
  have hl : loc5Of (ix3 q a b) = ix3 0 a b := by
    funext d
    apply Fin.ext
    match d with
    | ⟨0, _⟩ => show q.val % 1 = 0; omega
    | ⟨1, _⟩ => show a.val % 1024 = a.val; omega
    | ⟨2, _⟩ => show b.val % 256 = b.val; omega
  have hf : (⟨2 * q.val + 1, ht⟩ : Fin cfg0.N).val % 2 = 1 := by show (2 * q.val + 1) % 2 = 1; omega
  unfold G5
  rw [dif_pos (hp ▸ ht), hl, fold0_congr m c _ _ _ (by omega) hp, ← outsAt0_sweep m c _ ht]
  rw [out5_eq m c ⟨2 * q.val + 1, ht⟩ hf, scratch1_eq m c ⟨2 * q.val + 1, ht⟩ hf, zero_add]
  unfold grad
  have e : ∀ s : Fin 2, _ := fun s => second_eq m c ⟨2 * ((2 * q.val + 1) / 2) + s.val, lt_of_lt_of_eq (by omega) N_0.symm⟩ a b q s
    (by show (2 * ((2 * q.val + 1) / 2) + s.val) / 2 = q.val; omega) (by show (2 * ((2 * q.val + 1) / 2) + s.val) % 2 = s.val; omega)
  refine (Finset.sum_congr rfl fun s _ => e s).trans ?_
  refine Fin.sum_mul_add_congr fun s k hl => ?_
  rfl

/-- The reference's arrays hold the same sums. -/
theorem reference8 (x0 : Vec Ideal S4096x1024 .bf16) (x2 : Vec Ideal S4096x2048 .bf16) (q : Fin 8) (a : Fin 1024) (b : Fin 256) :
    val_main_v8 (F := Ideal) x0 x2 (ix3 q a b) = grad x0 x2 q a b := by
  rw [val_main_v8_apply]
  show val_main_v7 (F := Ideal) x0 x2 (ix3 q a b) = _
  rw [val_main_v7_apply, val_main_v6_apply, val_main_v5_apply, val_main_v4_apply]
  unfold grad term
  refine Finset.sum_congr rfl fun k _ => ?_
  rw [mul_comm, val_main_v1_apply, val_main_v3_apply]
  show x0 _ * x2 _ = _
  refine congrArg₂ (fun p r => x0 p * x2 r) (Cert.Norm.at2 _ _ _ rfl ?_) (Cert.Norm.at2 _ _ _ rfl ?_)
  · show ((a.val * 8 + q.val) * 256 + b.val) / 2048 = a.val
    omega
  · show ((a.val * 8 + q.val) * 256 + b.val) % 2048 = q.val * 256 + b.val
    omega

theorem reference17 (x1 : Vec Ideal S4096x1024 .bf16) (x3 : Vec Ideal S4096x2048 .bf16) (q : Fin 8) (a : Fin 1024) (b : Fin 256) :
    val_main_v17 (F := Ideal) x1 x3 (ix3 q a b) = grad x1 x3 q a b := by
  rw [val_main_v17_apply]
  show val_main_v16 (F := Ideal) x1 x3 (ix3 q a b) = _
  rw [val_main_v16_apply, val_main_v15_apply, val_main_v14_apply, val_main_v13_apply]
  unfold grad term
  refine Finset.sum_congr rfl fun k _ => ?_
  rw [mul_comm, val_main_v10_apply, val_main_v12_apply]
  show x1 _ * x3 _ = _
  refine congrArg₂ (fun p r => x1 p * x3 r) (Cert.Norm.at2 _ _ _ rfl ?_) (Cert.Norm.at2 _ _ _ rfl ?_)
  · show ((a.val * 8 + q.val) * 256 + b.val) / 2048 = a.val
    omega
  · show ((a.val * 8 + q.val) * 256 + b.val) % 2048 = q.val * 256 + b.val
    omega

/-- The kernel's arrays are the reference's. -/
theorem agree4 (c : Dev nD) : G4 m c = val_main_v8 (F := Ideal) (m ((c : Thread nD τ).loc main_arg0)) (m ((c : Thread nD τ).loc main_arg2)) := by
  funext i
  rw [ValueIdx.eq_ix3 i]
  exact (result4 m c _ _ _).trans (reference8 _ _ _ _ _).symm

theorem agree5 (c : Dev nD) : G5 m c = val_main_v17 (F := Ideal) (m ((c : Thread nD τ).loc main_arg1)) (m ((c : Thread nD τ).loc main_arg3)) := by
  funext i
  rw [ValueIdx.eq_ix3 i]
  exact (result5 m c _ _ _).trans (reference17 _ _ _ _ _).symm

end Cert.DwupIdeal.Sum

end
-- ==== Proof.DmixValue.lean ====
/-
  The gradients of the two heads' outputs: what one grid point adds, and what a token block's last point writes.
-/
module

public import proofs.«01_k».proof.Proof.Sums
public import proofs.«01_k».proof.Proof.Gen.DmixIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DmixIdeal.Sum

open Idealize.ShloMosaic Idealize.ShloMosaic.TcCoe Idealize.SL.Sem
open Cert.DmixIdeal Cert.DmixIdeal.Gen Cert.DmixIdeal.Value

variable (m : (ℓ : Loc nD τ sig) → Buf (Elt Ideal) ℓ)

/-- What one block of 256 columns adds at row `a` and column `b`: a gradient's row against a row of the weight's shard. -/
def part (x : Vec Ideal S1024x256 .bf16) (w : Vec Ideal S1x1024x256 .bf16) (a b : Fin 1024) : EReal :=
  ∑ k : Fin 256, x (ix2 a k) * w (ix3 0 b k)

/-- The accumulating payloads add a block's part. -/
theorem pay3_apply (acc : Vec Ideal S1024x1024 .f32) (x : Vec Ideal S1024x256 .bf16) (w : Vec Ideal S1x1024x256 .bf16) (a : Fin 1024) (b : Fin 1024) :
    k0_pay3 (F := Ideal) acc x w (ix2 a b) = acc (ix2 a b) + part x w a b := by
  unfold k0_pay3 part
  pointwise

theorem pay4_apply (acc : Vec Ideal S1024x1024 .f32) (x : Vec Ideal S1024x256 .bf16) (w : Vec Ideal S1x1024x256 .bf16) (a : Fin 1024) (b : Fin 1024) :
    k0_pay4 (F := Ideal) acc x w (ix2 a b) = acc (ix2 a b) + part x w a b := by
  unfold k0_pay4 part
  pointwise

theorem pay1_apply (a : Fin 1024) (b : Fin 1024) : k0_pay1 (F := Ideal) (ix2 a b) = 0 := by
  unfold k0_pay1
  pointwise

theorem pay2_apply (a : Fin 1024) (b : Fin 1024) : k0_pay2 (F := Ideal) (ix2 a b) = 0 := by
  unfold k0_pay2
  pointwise

/-- A scratch read whole is what it holds. -/
theorem scratch_read0 (x : Vec Ideal S1024x1024 .f32) :
    View.read (Elt Ideal) (View.whole cc0_scratch0) ((Memref.isWhole_whole cc0_scratch0).unread x) = x :=
  (Memref.isWhole_whole cc0_scratch0).read_unread x

theorem scratch_read1 (x : Vec Ideal S1024x1024 .f32) :
    View.read (Elt Ideal) (View.whole cc0_scratch1) ((Memref.isWhole_whole cc0_scratch1).unread x) = x :=
  (Memref.isWhole_whole cc0_scratch1).read_unread x

/-- After the last block the first scratch holds the blocks' parts. -/
theorem scratch0_eq (c : Dev nD) (t : Fin cfg0.N) (hf : t.val % 8 = 7) (a : Fin 1024) (b : Fin 1024) :
    (outsAt0 m c t.val t.isLt).2.2.1 (ix2 a b) = 0 + ∑ s : Fin 8,
      part (iblk m c 0 ⟨8 * (t.val / 8) + s.val, Pipeline.run_point_lt_of_flush t hf s⟩)
        (iblk m c 1 ⟨8 * (t.val / 8) + s.val, Pipeline.run_point_lt_of_flush t hf s⟩) a b := by
  refine Pipeline.eq_sum_fin_of_reset_step_apply_of_flush
    (fun n h (p : Fin 1024 × Fin 1024) => (outsAt0 m c n h).2.2.1 (ix2 p.1 p.2)) 8 (fun _ => (0 : EReal))
    (fun t p => part (iblk m c 0 t) (iblk m c 1 t) p.1 p.2) ?_ ?_ t hf (a, b)
  · intro t h p
    have h1 : ¬t.val % 8 = 7 := by omega
    rw [outsAt0_A m c t h h1]
    frame_out [scratch_read0, scratch_read1]
    rw [pay3_apply, pay1_apply]
  · intro t h p
    by_cases h1 : t.val % 8 = 7
    · rw [outsAt0_C m c t h h1]
      frame_out [scratch_read0, scratch_read1]
      rw [pay3_apply]
    · rw [outsAt0_B m c t h h1]
      frame_out [scratch_read0, scratch_read1]
      rw [pay3_apply]

/-- After the last block the second scratch holds the blocks' parts. -/
theorem scratch1_eq (c : Dev nD) (t : Fin cfg0.N) (hf : t.val % 8 = 7) (a : Fin 1024) (b : Fin 1024) :
    (outsAt0 m c t.val t.isLt).2.2.2 (ix2 a b) = 0 + ∑ s : Fin 8,
      part (iblk m c 2 ⟨8 * (t.val / 8) + s.val, Pipeline.run_point_lt_of_flush t hf s⟩)
        (iblk m c 3 ⟨8 * (t.val / 8) + s.val, Pipeline.run_point_lt_of_flush t hf s⟩) a b := by
  refine Pipeline.eq_sum_fin_of_reset_step_apply_of_flush
    (fun n h (p : Fin 1024 × Fin 1024) => (outsAt0 m c n h).2.2.2 (ix2 p.1 p.2)) 8 (fun _ => (0 : EReal))
    (fun t p => part (iblk m c 2 t) (iblk m c 3 t) p.1 p.2) ?_ ?_ t hf (a, b)
  · intro t h p
    have h1 : ¬t.val % 8 = 7 := by omega
    rw [outsAt0_A m c t h h1]
    frame_out [scratch_read0, scratch_read1]
    rw [pay4_apply, pay2_apply]
  · intro t h p
    by_cases h1 : t.val % 8 = 7
    · rw [outsAt0_C m c t h h1]
      frame_out [scratch_read0, scratch_read1]
      rw [pay4_apply]
    · rw [outsAt0_B m c t h h1]
      frame_out [scratch_read0, scratch_read1]
      rw [pay4_apply]

/-- What the last point writes back is what the first scratch then holds. -/
theorem out4_eq (c : Dev nD) (t : Fin cfg0.N) (hf : t.val % 8 = 7) (a : Fin 1024) (b : Fin 1024) :
    (outsAt0 m c t.val t.isLt).1 (ix2 a b) = (outsAt0 m c t.val t.isLt).2.2.1 (ix2 a b) := by
  have h0 : ¬t.val % 8 = 0 := by omega
  rw [outsAt0_C m c t h0 hf]
  frame_out [scratch_read0, scratch_read1]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h0 ⊢; omega
    | ⟨1, _⟩ => simp at h1 ⊢; omega

/-- What the last point writes back is what the second scratch then holds. -/
theorem out5_eq (c : Dev nD) (t : Fin cfg0.N) (hf : t.val % 8 = 7) (a : Fin 1024) (b : Fin 1024) :
    (outsAt0 m c t.val t.isLt).2.1 (ix2 a b) = (outsAt0 m c t.val t.isLt).2.2.2 (ix2 a b) := by
  have h0 : ¬t.val % 8 = 0 := by omega
  rw [outsAt0_C m c t h0 hf]
  frame_out [scratch_read0, scratch_read1]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h0 ⊢; omega
    | ⟨1, _⟩ => simp at h1 ⊢; omega

end Cert.DmixIdeal.Sum

end
-- ==== Proof.DmixResult.lean ====
/-
  The gradients of the two heads' outputs: the result arrays in closed form, the reference's, and that they agree.
-/
module

public import proofs.«01_k».proof.Proof.DmixValue
public import proofs.«01_k».proof.Proof.Gen.DmixReferenceIdeal.Read
public import proofs.«01_k».proof.Proof.Norm

@[expose] public section

noncomputable section

namespace Cert.DmixIdeal.Sum

open Idealize.ShloMosaic Idealize.ShloMosaic.TcCoe Idealize.SL.Sem
open Cert.DmixIdeal Cert.DmixIdeal.Gen Cert.DmixIdeal.Value Cert.DmixReferenceIdeal.Read

variable (m : (ℓ : Loc nD τ sig) → Buf (Elt Ideal) ℓ)

/-- What column `k` adds to the gradient of token `i` at position `j`. -/
def term (d : Vec Ideal S4096x2048 .bf16) (w : Vec Ideal S1024x2048 .f32) (i : Fin 4096) (j : Fin 1024) (k : Fin 2048) : EReal :=
  d (ix2 i k) * w (ix2 j k)

/-- The gradient as one sum over all columns. -/
def back (d : Vec Ideal S4096x2048 .bf16) (w : Vec Ideal S1024x2048 .f32) (i : Fin 4096) (j : Fin 1024) : EReal :=
  ∑ k : Fin 2048, term d w i j k

/-- The grid's block indices, decided: token block `t / 8`, shard `t % 8`. -/
theorem idx : ∀ t : Fin cfg0.N, win0_0.index t = ![t.val / 8, t.val % 8] ∧ win0_1.index t = ![t.val % 8, 0, 0]
    ∧ win0_2.index t = ![t.val / 8, t.val % 8] ∧ win0_3.index t = ![t.val % 8, 0, 0] :=
  (by decide +kernel : ∀ t : Fin grid0.N, _)

/-- A block's part reads the columns of its block. -/
theorem first_eq (c : Dev nD) (t : Fin cfg0.N) (a b : Fin 1024) (i : Fin 4096) (s : Fin 8)
    (hi : t.val / 8 * 1024 + a.val = i.val) (hs : t.val % 8 = s.val) :
    part (iblk m c 0 t) (iblk m c 1 t) a b = ∑ k : Fin 256, term (m ((c : Thread nD τ).loc main_arg0))
      (m ((c : Thread nD τ).loc main_arg2)) i b ⟨s.val * 256 + k.val, by omega⟩ := by
  obtain ⟨i, _⟩ := i
  subst hi
  unfold part term
  refine Finset.sum_congr rfl fun k _ => ?_
  blk_point [iblk, V, idx t]

theorem second_eq (c : Dev nD) (t : Fin cfg0.N) (a b : Fin 1024) (i : Fin 4096) (s : Fin 8)
    (hi : t.val / 8 * 1024 + a.val = i.val) (hs : t.val % 8 = s.val) :
    part (iblk m c 2 t) (iblk m c 3 t) a b = ∑ k : Fin 256, term (m ((c : Thread nD τ).loc main_arg1))
      (m ((c : Thread nD τ).loc main_arg3)) i b ⟨s.val * 256 + k.val, by omega⟩ := by
  obtain ⟨i, _⟩ := i
  subst hi
  unfold part term
  refine Finset.sum_congr rfl fun k _ => ?_
  blk_point [iblk, V, idx t]

/-- What the first result array holds. -/
theorem result4 (c : Dev nD) (i : Fin 4096) (j : Fin 1024) :
    G4 m c (ix2 i j) = back (m ((c : Thread nD τ).loc main_arg0)) (m ((c : Thread nD τ).loc main_arg2)) i j := by
  obtain ⟨r, hr⟩ : ∃ r : ℕ, r = i.val / 1024 := ⟨_, rfl⟩
  have hp : pt4Of (ix2 i j) = 8 * r + 7 := by
    show 8 * (1 * (i.val / 1024 - 0) + 1 * (j.val / 1024 - 0)) + 7 = _
    omega
  have ht : 8 * r + 7 < cfg0.N := lt_of_lt_of_eq (by omega) N_0.symm
  have hl : loc4Of (ix2 i j) = ix2 ⟨i.val % 1024, by omega⟩ j := by
    funext d
    apply Fin.ext
    match d with
    | ⟨0, _⟩ => rfl
    | ⟨1, _⟩ => show j.val % 1024 = j.val; omega
  have hf : (⟨8 * r + 7, ht⟩ : Fin cfg0.N).val % 8 = 7 := by show (8 * r + 7) % 8 = 7; omega
  unfold G4
  rw [dif_pos (hp ▸ ht), hl, fold0_congr m c _ _ _ (by omega) hp, ← outsAt0_sweep m c _ ht]
  rw [out4_eq m c ⟨8 * r + 7, ht⟩ hf, scratch0_eq m c ⟨8 * r + 7, ht⟩ hf, zero_add]
  unfold back
  have e : ∀ s : Fin 8, _ := fun s => first_eq m c ⟨8 * ((8 * r + 7) / 8) + s.val, lt_of_lt_of_eq (by omega) N_0.symm⟩
    ⟨i.val % 1024, by omega⟩ j i s (by show (8 * ((8 * r + 7) / 8) + s.val) / 8 * 1024 + i.val % 1024 = i.val; omega)
    (by show (8 * ((8 * r + 7) / 8) + s.val) % 8 = s.val; omega)
  refine (Finset.sum_congr rfl fun s _ => e s).trans ?_
  refine Fin.sum_mul_add_congr fun s k hl => ?_
  rfl

/-- What the second result array holds. -/
theorem result5 (c : Dev nD) (i : Fin 4096) (j : Fin 1024) :
    G5 m c (ix2 i j) = back (m ((c : Thread nD τ).loc main_arg1)) (m ((c : Thread nD τ).loc main_arg3)) i j := by
  obtain ⟨r, hr⟩ : ∃ r : ℕ, r = i.val / 1024 := ⟨_, rfl⟩
  have hp : pt5Of (ix2 i j) = 8 * r + 7 := by
    show 8 * (1 * (i.val / 1024 - 0) + 1 * (j.val / 1024 - 0)) + 7 = _
    omega
  have ht : 8 * r + 7 < cfg0.N := lt_of_lt_of_eq (by omega) N_0.symm
  have hl : loc5Of (ix2 i j) = ix2 ⟨i.val % 1024, by omega⟩ j := by
    funext d
    apply Fin.ext
    match d with
    | ⟨0, _⟩ => rfl
    | ⟨1, _⟩ => show j.val % 1024 = j.val; omega
  have hf : (⟨8 * r + 7, ht⟩ : Fin cfg0.N).val % 8 = 7 := by show (8 * r + 7) % 8 = 7; omega
  unfold G5
  rw [dif_pos (hp ▸ ht), hl, fold0_congr m c _ _ _ (by omega) hp, ← outsAt0_sweep m c _ ht]
  rw [out5_eq m c ⟨8 * r + 7, ht⟩ hf, scratch1_eq m c ⟨8 * r + 7, ht⟩ hf, zero_add]
  unfold back
  have e : ∀ s : Fin 8, _ := fun s => second_eq m c ⟨8 * ((8 * r + 7) / 8) + s.val, lt_of_lt_of_eq (by omega) N_0.symm⟩
    ⟨i.val % 1024, by omega⟩ j i s (by show (8 * ((8 * r + 7) / 8) + s.val) / 8 * 1024 + i.val % 1024 = i.val; omega)
    (by show (8 * ((8 * r + 7) / 8) + s.val) % 8 = s.val; omega)
  refine (Finset.sum_congr rfl fun s _ => e s).trans ?_
  refine Fin.sum_mul_add_congr fun s k hl => ?_
  rfl

/-- The reference's arrays hold the same sums. -/
theorem reference4 (x0 : Vec Ideal S4096x2048 .bf16) (x2 : Vec Ideal S1024x2048 .f32) (i : Fin 4096) (j : Fin 1024) :
    val_main_v4 (F := Ideal) x0 x2 (ix2 i j) = back x0 x2 i j := by
  rw [val_main_v4_apply]
  show val_main_v3 (F := Ideal) x0 x2 (ix2 i j) = _
  rw [val_main_v3_apply]
  unfold back term
  refine Finset.sum_congr rfl fun k _ => ?_
  rw [val_main_v2_apply]
  show x0 _ * x2 _ = _
  exact congrArg₂ (fun p r => x0 p * x2 r) (Cert.Norm.at2 _ _ _ rfl rfl) (Cert.Norm.at2 _ _ _ rfl rfl)

theorem reference9 (x1 : Vec Ideal S4096x2048 .bf16) (x3 : Vec Ideal S1024x2048 .f32) (i : Fin 4096) (j : Fin 1024) :
    val_main_v9 (F := Ideal) x1 x3 (ix2 i j) = back x1 x3 i j := by
  rw [val_main_v9_apply]
  show val_main_v8 (F := Ideal) x1 x3 (ix2 i j) = _
  rw [val_main_v8_apply]
  unfold back term
  refine Finset.sum_congr rfl fun k _ => ?_
  rw [val_main_v7_apply]
  show x1 _ * x3 _ = _
  exact congrArg₂ (fun p r => x1 p * x3 r) (Cert.Norm.at2 _ _ _ rfl rfl) (Cert.Norm.at2 _ _ _ rfl rfl)

/-- The kernel's arrays are the reference's. -/
theorem agree4 (c : Dev nD) : G4 m c = val_main_v4 (F := Ideal) (m ((c : Thread nD τ).loc main_arg0)) (m ((c : Thread nD τ).loc main_arg2)) := by
  funext i
  rw [ValueIdx.eq_ix2 i]
  exact (result4 m c _ _).trans (reference4 _ _ _ _).symm

theorem agree5 (c : Dev nD) : G5 m c = val_main_v9 (F := Ideal) (m ((c : Thread nD τ).loc main_arg1)) (m ((c : Thread nD τ).loc main_arg3)) := by
  funext i
  rw [ValueIdx.eq_ix2 i]
  exact (result5 m c _ _).trans (reference9 _ _ _ _).symm

end Cert.DmixIdeal.Sum

end
-- ==== Proof.DwinValue.lean ====
/-
  The weight gradient of the mixer's projection: what one grid point adds, and what its last point writes.
-/
module

public import proofs.«01_k».proof.Proof.Sums
public import proofs.«01_k».proof.Proof.Gen.DwinIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DwinIdeal.Sum

open Idealize.ShloMosaic Idealize.ShloMosaic.TcCoe Idealize.SL.Sem
open Cert.DwinIdeal Cert.DwinIdeal.Gen Cert.DwinIdeal.Value

variable (m : (ℓ : Loc nD τ sig) → Buf (Elt Ideal) ℓ)

/-- What one block of 512 tokens adds at row `a` and column `b`. -/
def part (x0 : Vec Ideal S512x2432 .bf16) (x1 : Vec Ideal S512x1024 .bf16) (a : Fin 2432) (b : Fin 1024) : EReal :=
  ∑ k : Fin 512, x0 (ix2 k a) * x1 (ix2 k b)

/-- The accumulating payload adds a block's part. -/
theorem pay2_apply (acc : Vec Ideal S2432x1024 .f32) (x0 : Vec Ideal S512x2432 .bf16) (x1 : Vec Ideal S512x1024 .bf16)
    (a : Fin 2432) (b : Fin 1024) :
    k0_pay2 (F := Ideal) acc x0 x1 (ix2 a b) = acc (ix2 a b) + part x0 x1 a b := by
  unfold k0_pay2 part
  pointwise

theorem pay1_apply (a : Fin 2432) (b : Fin 1024) : k0_pay1 (F := Ideal) (ix2 a b) = 0 := by
  unfold k0_pay1
  pointwise

/-- The grid's block indices, decided: block row `t / 16`, block column `t / 8 % 2`, token block `t % 8`. -/
theorem idx : ∀ t : Fin cfg0.N, win0_0.index t = ![t.val % 8, t.val / 16] ∧ win0_1.index t = ![t.val % 8, t.val / 8 % 2] :=
  (by decide +kernel : ∀ t : Fin grid0.N, _)

/-- The scratch read whole is what it holds. -/
theorem scratch_read (x : Vec Ideal S2432x1024 .f32) :
    View.read (Elt Ideal) (View.whole cc0_scratch0) ((Memref.isWhole_whole cc0_scratch0).unread x) = x :=
  (Memref.isWhole_whole cc0_scratch0).read_unread x

/-- After the last token block the scratch holds the blocks' parts. -/
theorem scratch_eq (c : Dev nD) (t : Fin cfg0.N) (hf : t.val % 8 = 7) (a : Fin 2432) (b : Fin 1024) :
    (outsAt0 m c t.val t.isLt).2 (ix2 a b) = 0 + ∑ s : Fin 8,
      part (iblk m c 0 ⟨8 * (t.val / 8) + s.val, Pipeline.run_point_lt_of_flush t hf s⟩)
        (iblk m c 1 ⟨8 * (t.val / 8) + s.val, Pipeline.run_point_lt_of_flush t hf s⟩) a b := by
  refine Pipeline.eq_sum_fin_of_reset_step_apply_of_flush
    (fun n h (p : Fin 2432 × Fin 1024) => (outsAt0 m c n h).2 (ix2 p.1 p.2)) 8 (fun _ => (0 : EReal))
    (fun t p => part (iblk m c 0 t) (iblk m c 1 t) p.1 p.2) ?_ ?_ t hf (a, b)
  · intro t h p
    have h1 : ¬t.val % 8 = 7 := by omega
    rw [outsAt0_A m c t h h1]
    frame_out [scratch_read]
    rw [pay2_apply, pay1_apply]
  · intro t h p
    by_cases h1 : t.val % 8 = 7
    · rw [outsAt0_C m c t h h1]
      frame_out [scratch_read]
      rw [pay2_apply]
    · rw [outsAt0_B m c t h h1]
      frame_out [scratch_read]
      rw [pay2_apply]

/-- What the last point writes back is what the scratch then holds. -/
theorem out_eq (c : Dev nD) (t : Fin cfg0.N) (hf : t.val % 8 = 7) (a : Fin 2432) (b : Fin 1024) :
    (outsAt0 m c t.val t.isLt).1 (ix2 a b) = (outsAt0 m c t.val t.isLt).2 (ix2 a b) := by
  have h0 : ¬t.val % 8 = 0 := by omega
  rw [outsAt0_C m c t h0 hf]
  frame_out [scratch_read]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h0 ⊢; omega
    | ⟨1, _⟩ => simp at h1 ⊢; omega

end Cert.DwinIdeal.Sum

end
-- ==== Proof.DwinResult.lean ====
/-
  The weight gradient of the mixer's projection: the result array in closed form, the reference's, and that the two agree.
-/
module

public import proofs.«01_k».proof.Proof.DwinValue
public import proofs.«01_k».proof.Proof.Gen.DwinReferenceIdeal.Read

@[expose] public section

noncomputable section

namespace Cert.DwinIdeal.Sum

open Idealize.ShloMosaic Idealize.ShloMosaic.TcCoe Idealize.SL.Sem
open Cert.DwinIdeal Cert.DwinIdeal.Gen Cert.DwinIdeal.Value Cert.DwinReferenceIdeal.Read

variable (m : (ℓ : Loc nD τ sig) → Buf (Elt Ideal) ℓ)

/-- What token `k` adds at row `i` and column `j`. -/
def term (x0 : Vec Ideal S4096x9728 .bf16) (x1 : Vec Ideal S4096x2048 .bf16) (i : Fin 9728) (j : Fin 2048) (k : Fin 4096) : EReal :=
  x0 (ix2 k i) * x1 (ix2 k j)

/-- The gradient as one sum over all tokens. -/
def grad (x0 : Vec Ideal S4096x9728 .bf16) (x1 : Vec Ideal S4096x2048 .bf16) (i : Fin 9728) (j : Fin 2048) : EReal :=
  ∑ k : Fin 4096, term x0 x1 i j k

/-- A block's part reads the tokens of its block. -/
theorem part_eq (c : Dev nD) (t : Fin cfg0.N) (a : Fin 2432) (b : Fin 1024) (i : Fin 9728) (j : Fin 2048) (s : Fin 8)
    (hi : t.val / 16 * 2432 + a.val = i.val) (hj : t.val / 8 % 2 * 1024 + b.val = j.val) (hs : t.val % 8 = s.val) :
    part (iblk m c 0 t) (iblk m c 1 t) a b = ∑ k : Fin 512, term (m ((c : Thread nD τ).loc main_arg0))
      (m ((c : Thread nD τ).loc main_arg1)) i j ⟨s.val * 512 + k.val, by omega⟩ := by
  obtain ⟨i, _⟩ := i
  obtain ⟨j, _⟩ := j
  subst hi hj
  unfold part term
  refine Finset.sum_congr rfl fun k _ => ?_
  blk_point [iblk, V, idx t]

/-- What the result array holds. -/
theorem result (c : Dev nD) (i : Fin 9728) (j : Fin 2048) :
    G2 m c (ix2 i j) = grad (m ((c : Thread nD τ).loc main_arg0)) (m ((c : Thread nD τ).loc main_arg1)) i j := by
  obtain ⟨r, hr⟩ : ∃ r : ℕ, r = 2 * (i.val / 2432) + j.val / 1024 := ⟨_, rfl⟩
  have hp : pt2Of (ix2 i j) = 8 * r + 7 := by
    show 8 * (2 * (i.val / 2432 - 0) + 1 * (j.val / 1024 - 0)) + 7 = _
    omega
  have ht : 8 * r + 7 < cfg0.N := lt_of_lt_of_eq (by omega) N_0.symm
  have hl : loc2Of (ix2 i j) = ix2 ⟨i.val % 2432, by omega⟩ ⟨j.val % 1024, by omega⟩ := by
    funext d
    apply Fin.ext
    match d with
    | ⟨0, _⟩ => rfl
    | ⟨1, _⟩ => rfl
  have hf : (⟨8 * r + 7, ht⟩ : Fin cfg0.N).val % 8 = 7 := by show (8 * r + 7) % 8 = 7; omega
  unfold G2
  rw [dif_pos (hp ▸ ht), hl, fold0_congr m c _ _ _ (by omega) hp, ← outsAt0_sweep m c _ ht]
  rw [out_eq m c ⟨8 * r + 7, ht⟩ hf, scratch_eq m c ⟨8 * r + 7, ht⟩ hf, zero_add]
  unfold grad
  have e : ∀ s : Fin 8, _ := fun s => part_eq m c ⟨8 * ((8 * r + 7) / 8) + s.val, lt_of_lt_of_eq (by omega) N_0.symm⟩
    ⟨i.val % 2432, by omega⟩ ⟨j.val % 1024, by omega⟩ i j s (by show (8 * ((8 * r + 7) / 8) + s.val) / 16 * 2432 + i.val % 2432 = i.val; omega) (by show (8 * ((8 * r + 7) / 8) + s.val) / 8 % 2 * 1024 + j.val % 1024 = j.val; omega)
    (by show (8 * ((8 * r + 7) / 8) + s.val) % 8 = s.val; omega)
  refine (Finset.sum_congr rfl fun s _ => e s).trans ?_
  refine Fin.sum_mul_add_congr fun s k hl => ?_
  rfl

/-- The reference's array holds the same sums. -/
theorem reference_apply (x0 : Vec Ideal S4096x9728 .bf16) (x1 : Vec Ideal S4096x2048 .bf16) (i : Fin 9728) (j : Fin 2048) :
    Cert.DwinReferenceIdeal.Read.val_main_v7 (F := Ideal) x0 x1 (ix2 i j) = grad x0 x1 i j := by
  rw [val_main_v7_apply]
  show val_main_v6 (F := Ideal) x0 x1 (ix2 i j) = _
  rw [val_main_v6_apply, val_main_v5_apply, val_main_v4_apply]
  unfold grad term
  refine Finset.sum_congr rfl fun k _ => ?_
  rw [val_main_v3_apply, val_main_v1_apply]
  show x0 _ * x1 _ = _
  refine congrArg₂ (fun p r => x0 p * x1 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The kernel's array is the reference's. -/
theorem agree (c : Dev nD) : G2 m c = Cert.DwinReferenceIdeal.Read.val_main_v7 (F := Ideal)
    (m ((c : Thread nD τ).loc main_arg0)) (m ((c : Thread nD τ).loc main_arg1)) := by
  funext i
  rw [ValueIdx.eq_ix2 i]
  exact (result m c _ _).trans (reference_apply _ _ _ _).symm

end Cert.DwinIdeal.Sum

end
-- ==== Proof.DxinValue.lean ====
/-
  The mixer's input gradient: what one grid point adds to the two column halves, and what a row block's last point writes.
-/
module

public import proofs.«01_k».proof.Proof.Norm
public import proofs.«01_k».proof.Proof.Gen.DxinIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.DxinIdeal.Sum

open Idealize.ShloMosaic Idealize.ShloMosaic.TcCoe Idealize.SL.Sem
open Cert.DxinIdeal Cert.DxinIdeal.Gen Cert.DxinIdeal.Value Cert.Norm

variable (m : (ℓ : Loc nD τ sig) → Buf (Elt Ideal) ℓ)

/-- What one block of 512 hidden units adds at row `a` and column `b` of a column half. -/
def part (x : Vec Ideal S512x512 .bf16) (w : Vec Ideal S512x1024 .bf16) (a : Fin 512) (b : Fin 1024) : EReal :=
  ∑ k : Fin 512, x (ix2 a k) * w (ix2 k b)

/-- The accumulating payloads add a block's part. -/
theorem pay3_apply (acc : Vec Ideal S512x1024 .f32) (x : Vec Ideal S512x512 .bf16) (w : Vec Ideal S512x1024 .bf16) (a : Fin 512) (b : Fin 1024) :
    k0_pay3 (F := Ideal) acc x w (ix2 a b) = acc (ix2 a b) + part x w a b := by
  unfold k0_pay3 part
  pointwise

theorem pay4_apply (acc : Vec Ideal S512x1024 .f32) (x : Vec Ideal S512x512 .bf16) (w : Vec Ideal S512x1024 .bf16) (a : Fin 512) (b : Fin 1024) :
    k0_pay4 (F := Ideal) acc x w (ix2 a b) = acc (ix2 a b) + part x w a b := by
  unfold k0_pay4 part
  pointwise

theorem pay1_apply (a : Fin 512) (b : Fin 1024) : k0_pay1 (F := Ideal) (ix2 a b) = 0 := by
  unfold k0_pay1
  pointwise

theorem pay2_apply (a : Fin 512) (b : Fin 1024) : k0_pay2 (F := Ideal) (ix2 a b) = 0 := by
  unfold k0_pay2
  pointwise

/-- A scratch read whole is what it holds. -/
theorem scratch_read0 (x : Vec Ideal S512x1024 .f32) :
    View.read (Elt Ideal) (View.whole cc0_scratch0) ((Memref.isWhole_whole cc0_scratch0).unread x) = x :=
  (Memref.isWhole_whole cc0_scratch0).read_unread x

theorem scratch_read1 (x : Vec Ideal S512x1024 .f32) :
    View.read (Elt Ideal) (View.whole cc0_scratch1) ((Memref.isWhole_whole cc0_scratch1).unread x) = x :=
  (Memref.isWhole_whole cc0_scratch1).read_unread x

/-- After a row block's last point the first scratch holds the nineteen blocks' parts. -/
theorem scratch0_eq (c : Dev nD) (t : Fin cfg0.N) (hf : t.val % 19 = 18) (a : Fin 512) (b : Fin 1024) :
    (outsAt0 m c t.val t.isLt).2.2.2.1 (ix2 a b) = 0 + ∑ s : Fin 19,
      part (iblk m c 0 ⟨19 * (t.val / 19) + s.val, Pipeline.run_point_lt_of_flush t hf s⟩)
        (iblk m c 1 ⟨19 * (t.val / 19) + s.val, Pipeline.run_point_lt_of_flush t hf s⟩) a b := by
  refine Pipeline.eq_sum_fin_of_reset_step_apply_of_flush
    (fun n h (p : Fin 512 × Fin 1024) => (outsAt0 m c n h).2.2.2.1 (ix2 p.1 p.2)) 19 (fun _ => (0 : EReal))
    (fun t p => part (iblk m c 0 t) (iblk m c 1 t) p.1 p.2) ?_ ?_ t hf (a, b)
  · intro t h p
    have h1 : ¬t.val % 19 = 18 := by omega
    rw [outsAt0_A m c t h h1]
    frame_out [scratch_read0, scratch_read1]
    rw [pay3_apply, pay1_apply]
  · intro t h p
    by_cases h1 : t.val % 19 = 18
    · by_cases h2 : t.val < 19
      · rw [outsAt0_C m c t h h1 h2 (by omega)]
        frame_out [scratch_read0, scratch_read1]
        rw [pay3_apply]
      · rw [outsAt0_D m c t h h1 h2 (by omega)]
        frame_out [scratch_read0, scratch_read1]
        rw [pay3_apply]
    · rw [outsAt0_B m c t h h1]
      frame_out [scratch_read0, scratch_read1]
      rw [pay3_apply]

/-- After a row block's last point the second scratch holds the nineteen blocks' parts. -/
theorem scratch1_eq (c : Dev nD) (t : Fin cfg0.N) (hf : t.val % 19 = 18) (a : Fin 512) (b : Fin 1024) :
    (outsAt0 m c t.val t.isLt).2.2.2.2 (ix2 a b) = 0 + ∑ s : Fin 19,
      part (iblk m c 0 ⟨19 * (t.val / 19) + s.val, Pipeline.run_point_lt_of_flush t hf s⟩)
        (iblk m c 2 ⟨19 * (t.val / 19) + s.val, Pipeline.run_point_lt_of_flush t hf s⟩) a b := by
  refine Pipeline.eq_sum_fin_of_reset_step_apply_of_flush
    (fun n h (p : Fin 512 × Fin 1024) => (outsAt0 m c n h).2.2.2.2 (ix2 p.1 p.2)) 19 (fun _ => (0 : EReal))
    (fun t p => part (iblk m c 0 t) (iblk m c 2 t) p.1 p.2) ?_ ?_ t hf (a, b)
  · intro t h p
    have h1 : ¬t.val % 19 = 18 := by omega
    rw [outsAt0_A m c t h h1]
    frame_out [scratch_read0, scratch_read1]
    rw [pay4_apply, pay2_apply]
  · intro t h p
    by_cases h1 : t.val % 19 = 18
    · by_cases h2 : t.val < 19
      · rw [outsAt0_C m c t h h1 h2 (by omega)]
        frame_out [scratch_read0, scratch_read1]
        rw [pay4_apply]
      · rw [outsAt0_D m c t h h1 h2 (by omega)]
        frame_out [scratch_read0, scratch_read1]
        rw [pay4_apply]
    · rw [outsAt0_B m c t h h1]
      frame_out [scratch_read0, scratch_read1]
      rw [pay4_apply]

/-- Two column halves side by side, at row `a` and column `b`. -/
def side (u v : Vec Ideal S512x1024 .f32) (a : Fin 512) (b : Fin 2048) : EReal :=
  if h : b.val < 1024 then u (ix2 a ⟨b.val, h⟩) else v (ix2 a ⟨b.val - 1024, by omega⟩)

/-- The joining payload lays a group's two halves side by side. -/
theorem pay7_side (p q : Vec Ideal S256x1024 .f32) (u v : Vec Ideal S512x1024 .f32) (k : Fin 256) (a : Fin 512)
    (hu : ∀ j, p (ix2 k j) = u (ix2 a j)) (hv : ∀ j, q (ix2 k j) = v (ix2 a j)) (b : Fin 2048) :
    k0_pay7 (F := Ideal) p q (ix2 k b) = side u v a b := by
  unfold k0_pay7 side
  by_cases h : b.val < 1024
  · rw [dif_pos h, ← hu]
    exact concatenate_pair_apply_left (t := S256x2048) (s₁ := S256x1024) (s₂ := S256x1024) 1 p q _ (ix2 k b) rfl (ix2 k ⟨b.val, h⟩) fun d =>
      match d with
      | ⟨0, _⟩ => rfl
      | ⟨1, _⟩ => rfl
  · rw [dif_neg h, ← hv]
    exact concatenate_pair_apply_right (t := S256x2048) (s₁ := S256x1024) (s₂ := S256x1024) 1 p q _ (ix2 k b) rfl rfl (ix2 k ⟨b.val - 1024, by omega⟩)
      (fun d => match d with
        | ⟨0, _⟩ => fun _ => rfl
        | ⟨1, _⟩ => fun hd => absurd rfl hd) (by show b.val - 1024 + 1024 = b.val; omega)

/-- The payloads of the two groups of 256 rows are one. -/
theorem pay14_eq : k0_pay14 (F := Ideal) = k0_pay9 := rfl
theorem pay11_eq : k0_pay11 (F := Ideal) = k0_pay9 := rfl
theorem pay16_eq : k0_pay16 (F := Ideal) = k0_pay9 := rfl
theorem pay15_eq : k0_pay15 (F := Ideal) = k0_pay10 := rfl

/-- The reciprocal root mean square of a row of a group. -/
theorem pay8_apply (x : Vec Ideal S256x2048 .f32) (a : Fin 256) (q : Fin 1) : k0_pay8 (F := Ideal) x (ix2 a q) = recip fun j => x (ix2 a j) := by
  unfold k0_pay8 recip square
  pointwise

/-- The gradient of a row of a group. -/
theorem pay9_apply (u v : Vec Ideal S256x1024 .f32) (x : Vec Ideal S256x2048 .f32) (w : Vec Ideal S1x2048 .f32) (r : Vec Ideal S256x2048 .f32)
    (a : Fin 256) (b : Fin 2048) : k0_pay9 (F := Ideal) u v x w r (ix2 a b)
      = back (fun j => k0_pay7 u v (ix2 a j)) (fun j => x (ix2 a j)) (fun j => w (ix2 0 j)) (r (ix2 a b)) b := by
  unfold k0_pay9 back
  pointwise
  rw [pay8_apply]

/-- A group's share of the scale's gradient. -/
theorem pay10_apply (u v : Vec Ideal S256x1024 .f32) (x : Vec Ideal S256x2048 .f32) (q : Fin 1) (b : Fin 2048) :
    k0_pay10 (F := Ideal) u v x (ix2 q b) = ∑ a : Fin 256, k0_pay7 u v (ix2 a b) * x (ix2 a b) * recip (fun j => x (ix2 a j)) := by
  unfold k0_pay10
  pointwise
  simp only [pay8_apply]

/-- A row block's gradient before the normalisation, as its last point has it. -/
def sums (c : Dev nD) (t : Fin cfg0.N) (a : Fin 512) (b : Fin 2048) : EReal :=
  side (outsAt0 m c t.val t.isLt).2.2.2.1 (outsAt0 m c t.val t.isLt).2.2.2.2 a b

/-- A row block's last point leaves the gradient of its rows. -/
theorem out6_eq (c : Dev nD) (t : Fin cfg0.N) (hf : t.val % 19 = 18) (a : Fin 512) (b : Fin 2048) :
    (outsAt0 m c t.val t.isLt).1 (ix2 a b) = back (sums m c t a) (fun j => iblk m c 3 t (ix2 a j))
      (fun j => iblk m c 4 t (ix2 0 j)) (iblk m c 5 t (ix2 a b)) b := by
  have h0 : ¬t.val % 19 = 0 := by omega
  unfold sums
  by_cases h2 : t.val < 19
  · rw [outsAt0_C m c t h0 hf h2 (by omega)]
    frame_out [scratch_read0, scratch_read1]
    generalize k0_pay3 (F := Ideal) _ _ _ = z
    generalize k0_pay4 (F := Ideal) _ _ _ = z'
    canon_tiles x h
    all_goals
      try simp only [pay11_eq, pay14_eq, pay16_eq]
      obtain ⟨p, q, rfl⟩ : ∃ (p : Fin 256) (q : Fin 2048), x = ix2 p q := ⟨x 0, x 1, ValueIdx.eq_ix2 x⟩
      rw [pay9_apply]
      refine back_congr (fun j => pay7_side _ _ z z' p a (fun j => ?_) (fun j => ?_) j) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · rw [View.readCov_eq_canon']
        simp (disch := decide) only [View.canon_cons_unit_lit']
        refine congrArg z' (funext fun d => Fin.ext ?_)
        match d with
        | ⟨0, _⟩ => simp at h0 ⊢; omega
        | ⟨1, _⟩ => simp
      · refine congrArg (iblk m c 3 t) (funext fun d => Fin.ext ?_)
        match d with
        | ⟨0, _⟩ => simp at h0 ⊢; omega
        | ⟨1, _⟩ => simp
      · refine congrArg (iblk m c 5 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read0, scratch_read1]
    generalize k0_pay3 (F := Ideal) _ _ _ = z
    generalize k0_pay4 (F := Ideal) _ _ _ = z'
    canon_tiles x h
    all_goals
      try simp only [pay11_eq, pay14_eq, pay16_eq]
      obtain ⟨p, q, rfl⟩ : ∃ (p : Fin 256) (q : Fin 2048), x = ix2 p q := ⟨x 0, x 1, ValueIdx.eq_ix2 x⟩
      rw [pay9_apply]
      refine back_congr (fun j => pay7_side _ _ z z' p a (fun j => ?_) (fun j => ?_) j) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · rw [View.readCov_eq_canon']
        simp (disch := decide) only [View.canon_cons_unit_lit']
        refine congrArg z' (funext fun d => Fin.ext ?_)
        match d with
        | ⟨0, _⟩ => simp at h0 ⊢; omega
        | ⟨1, _⟩ => simp
      · refine congrArg (iblk m c 3 t) (funext fun d => Fin.ext ?_)
        match d with
        | ⟨0, _⟩ => simp at h0 ⊢; omega
        | ⟨1, _⟩ => simp
      · refine congrArg (iblk m c 5 t) (funext fun d => Fin.ext ?_)
        match d with
        | ⟨0, _⟩ => simp at h0 ⊢; omega
        | ⟨1, _⟩ => simp at h1 ⊢; omega
      · exact Fin.ext (by simp at h1; omega)

/-- … and the same in the narrow format, which is exact here. -/
theorem out7_eq (c : Dev nD) (t : Fin cfg0.N) (hf : t.val % 19 = 18) (a : Fin 512) (b : Fin 2048) :
    (outsAt0 m c t.val t.isLt).2.1 (ix2 a b) = back (sums m c t a) (fun j => iblk m c 3 t (ix2 a j))
      (fun j => iblk m c 4 t (ix2 0 j)) (iblk m c 5 t (ix2 a b)) b := by
  have h0 : ¬t.val % 19 = 0 := by omega
  unfold sums
  by_cases h2 : t.val < 19
  · rw [outsAt0_C m c t h0 hf h2 (by omega)]
    frame_out [scratch_read0, scratch_read1]
    generalize k0_pay3 (F := Ideal) _ _ _ = z
    generalize k0_pay4 (F := Ideal) _ _ _ = z'
    canon_tiles x h
    all_goals
      try simp only [pay11_eq, pay14_eq, pay16_eq]
      obtain ⟨p, q, rfl⟩ : ∃ (p : Fin 256) (q : Fin 2048), x = ix2 p q := ⟨x 0, x 1, ValueIdx.eq_ix2 x⟩
      rw [pay9_apply]
      refine back_congr (fun j => pay7_side _ _ z z' p a (fun j => ?_) (fun j => ?_) j) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · rw [View.readCov_eq_canon']
        simp (disch := decide) only [View.canon_cons_unit_lit']
        refine congrArg z' (funext fun d => Fin.ext ?_)
        match d with
        | ⟨0, _⟩ => simp at h0 ⊢; omega
        | ⟨1, _⟩ => simp
      · refine congrArg (iblk m c 3 t) (funext fun d => Fin.ext ?_)
        match d with
        | ⟨0, _⟩ => simp at h0 ⊢; omega
        | ⟨1, _⟩ => simp
      · refine congrArg (iblk m c 5 t) (funext fun d => Fin.ext ?_)
        match d with
        | ⟨0, _⟩ => simp at h0 ⊢; omega
        | ⟨1, _⟩ => simp at h1 ⊢; omega
      · exact Fin.ext (by simp at h1; omega)
  · rw [outsAt0_D m c t h0 hf h2 (by omega)]
    frame_out [scratch_read0, scratch_read1]
    generalize k0_pay3 (F := Ideal) _ _ _ = z
    generalize k0_pay4 (F := Ideal) _ _ _ = z'
    canon_tiles x h
    all_goals
      try simp only [pay11_eq, pay14_eq, pay16_eq]
      obtain ⟨p, q, rfl⟩ : ∃ (p : Fin 256) (q : Fin 2048), x = ix2 p q := ⟨x 0, x 1, ValueIdx.eq_ix2 x⟩
      rw [pay9_apply]
      refine back_congr (fun j => pay7_side _ _ z z' p a (fun j => ?_) (fun j => ?_) j) (fun j => ?_) (fun j => rfl) ?_ ?_
      · rw [View.readCov_eq_canon']
        simp (disch := decide) only [View.canon_cons_unit_lit']
        refine congrArg z (funext fun d => Fin.ext ?_)
        match d with
        | ⟨0, _⟩ => simp at h0 ⊢; omega
        | ⟨1, _⟩ => simp
      · rw [View.readCov_eq_canon']
        simp (disch := decide) only [View.canon_cons_unit_lit']
        refine congrArg z' (funext fun d => Fin.ext ?_)
        match d with
        | ⟨0, _⟩ => simp at h0 ⊢; omega
        | ⟨1, _⟩ => simp
      · refine congrArg (iblk m c 3 t) (funext fun d => Fin.ext ?_)
        match d with
        | ⟨0, _⟩ => simp at h0 ⊢; omega
        | ⟨1, _⟩ => simp
      · refine congrArg (iblk m c 5 t) (funext fun d => Fin.ext ?_)
        match d with
        | ⟨0, _⟩ => simp at h0 ⊢; omega
        | ⟨1, _⟩ => simp at h1 ⊢; omega
      · exact Fin.ext (by simp at h1; omega)

/-- What a row of a block adds to a column of the scale's gradient. -/
def share (d : Fin 512 → Fin 2048 → EReal) (x : Vec Ideal S512x2048 .f32) (b : Fin 2048) (a : Fin 512) : EReal :=
  d a b * x (ix2 a b) * recip (fun j => x (ix2 a j))

/-- Two groups of 256 rows are the block's 512. -/
theorem sum_two (f : Fin 512 → EReal) :
    (∑ k : Fin 256, f ⟨(0 : Fin 2).val * 256 + k.val, by omega⟩) + (∑ k : Fin 256, f ⟨(1 : Fin 2).val * 256 + k.val, by omega⟩) = ∑ a, f a := by
  rw [← Fin.sum_univ_two (fun s : Fin 2 => ∑ k : Fin 256, f ⟨s.val * 256 + k.val, by omega⟩)]
  exact Fin.sum_mul_add_congr fun s k hl => rfl

/-- The first block's shares, and a later block's added to what the blocks before it left. -/
theorem pay5_apply (u v : FVec Ideal S1x2048 .f32) (q : Fin 1) (b : Fin 2048) :
    k0_pay5 (F := Ideal) u v (ix2 q b) = u (ix2 q b) + v (ix2 q b) := by
  unfold k0_pay5
  pointwise

theorem pay6_apply (u v : FVec Ideal S1x2048 .f32) (z : Vec Ideal S1x2048 .f32) (q : Fin 1) (b : Fin 2048) :
    k0_pay6 (F := Ideal) u v z (ix2 q b) = z (ix2 q b) + (u (ix2 q b) + v (ix2 q b)) := by
  unfold k0_pay6
  pointwise
  rw [pay5_apply]

/-- The first block's last point leaves its share. -/
theorem out8_first (c : Dev nD) (t : Fin cfg0.N) (hf : t.val % 19 = 18) (h2 : t.val < 19) (q : Fin 1) (b : Fin 2048) :
    (outsAt0 m c t.val t.isLt).2.2.1 (ix2 q b) = ∑ a, share (sums m c t) (iblk m c 3 t) b a := by
  have h0 : ¬t.val % 19 = 0 := by omega
  show _ = ∑ a, share (side (outsAt0 m c t.val t.isLt).2.2.2.1 (outsAt0 m c t.val t.isLt).2.2.2.2) (iblk m c 3 t) b a
  rw [outsAt0_C m c t h0 hf h2 (by omega)]
  frame_out [scratch_read0, scratch_read1]
  generalize k0_pay3 (F := Ideal) _ _ _ = z
  generalize k0_pay4 (F := Ideal) _ _ _ = z'
  rw [pay5_apply, pay15_eq, pay10_apply, pay10_apply]
  have e : ∀ (s : Fin 2) (k : Fin 256) (u v : Vec Ideal S256x1024 .f32) (x : Vec Ideal S256x2048 .f32)
      (hu : ∀ j, u (ix2 k j) = z (ix2 ⟨s.val * 256 + k.val, by omega⟩ j)) (hv : ∀ j, v (ix2 k j) = z' (ix2 ⟨s.val * 256 + k.val, by omega⟩ j))
      (hx : ∀ j, x (ix2 k j) = iblk m c 3 t (ix2 ⟨s.val * 256 + k.val, by omega⟩ j)),
      k0_pay7 u v (ix2 k b) * x (ix2 k b) * recip (fun j => x (ix2 k j)) = share (side z z') (iblk m c 3 t) b ⟨s.val * 256 + k.val, by omega⟩ := by
    intro s k u v x hu hv hx
    unfold share
    rw [pay7_side u v z z' k _ hu hv, hx, funext hx]
  refine Eq.trans ?_ (sum_two (share (side z z') (iblk m c 3 t) b))
  refine congrArg₂ (· + ·) ?_ ?_
  all_goals
    refine Finset.sum_congr rfl fun k _ => e _ k _ _ _ (fun j => ?_) (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · rw [View.readCov_eq_canon']
      simp (disch := decide) only [View.canon_cons_unit_lit']
      refine congrArg z' (funext fun d => Fin.ext ?_)
      match d with
      | ⟨0, _⟩ => simp
      | ⟨1, _⟩ => simp
    · refine congrArg (iblk m c 3 t) (funext fun d => Fin.ext ?_)
      match d with
      | ⟨0, _⟩ => simp
      | ⟨1, _⟩ => simp

/-- A later block's last point adds its share to what was there. -/
theorem out8_next (c : Dev nD) (t : Fin cfg0.N) (hf : t.val % 19 = 18) (h2 : ¬t.val < 19) (q : Fin 1) (b : Fin 2048) :
    (outsAt0 m c t.val t.isLt).2.2.1 (ix2 q b) = (outsAt0 m c (t.val - 1) (Nat.lt_of_le_of_lt (Nat.sub_le _ _) t.isLt)).2.2.1 (ix2 q b)
      + ∑ a, share (sums m c t) (iblk m c 3 t) b a := by
  have h0 : ¬t.val % 19 = 0 := by omega
  show _ = _ + ∑ a, share (side (outsAt0 m c t.val t.isLt).2.2.2.1 (outsAt0 m c t.val t.isLt).2.2.2.2) (iblk m c 3 t) b a
  rw [outsAt0_D m c t h0 hf h2 (by omega)]
  frame_out [scratch_read0, scratch_read1]
  generalize k0_pay3 (F := Ideal) _ _ _ = z
  generalize k0_pay4 (F := Ideal) _ _ _ = z'
  rw [pay6_apply, pay15_eq, pay10_apply, pay10_apply]
  refine congrArg (fun v => (outsAt0 m c (t.val - 1) (Nat.lt_of_le_of_lt (Nat.sub_le _ _) t.isLt)).2.2.1 (ix2 q b) + v) ?_
  have e : ∀ (s : Fin 2) (k : Fin 256) (u v : Vec Ideal S256x1024 .f32) (x : Vec Ideal S256x2048 .f32)
      (hu : ∀ j, u (ix2 k j) = z (ix2 ⟨s.val * 256 + k.val, by omega⟩ j)) (hv : ∀ j, v (ix2 k j) = z' (ix2 ⟨s.val * 256 + k.val, by omega⟩ j))
      (hx : ∀ j, x (ix2 k j) = iblk m c 3 t (ix2 ⟨s.val * 256 + k.val, by omega⟩ j)),
      k0_pay7 u v (ix2 k b) * x (ix2 k b) * recip (fun j => x (ix2 k j)) = share (side z z') (iblk m c 3 t) b ⟨s.val * 256 + k.val, by omega⟩ := by
    intro s k u v x hu hv hx
    unfold share
    rw [pay7_side u v z z' k _ hu hv, hx, funext hx]
  refine Eq.trans ?_ (sum_two (share (side z z') (iblk m c 3 t) b))
  refine congrArg₂ (· + ·) ?_ ?_
  all_goals
    refine Finset.sum_congr rfl fun k _ => e _ k _ _ _ (fun j => ?_) (fun j => ?_) (fun j => ?_)
    · rw [View.readCov_eq_canon']
      simp (disch := decide) only [View.canon_cons_unit_lit']
      refine congrArg z (funext fun d => Fin.ext ?_)
      match d with
      | ⟨0, _⟩ => simp
      | ⟨1, _⟩ => simp
    · rw [View.readCov_eq_canon']
      simp (disch := decide) only [View.canon_cons_unit_lit']
      refine congrArg z' (funext fun d => Fin.ext ?_)
      match d with
      | ⟨0, _⟩ => simp
      | ⟨1, _⟩ => simp
    · refine congrArg (iblk m c 3 t) (funext fun d => Fin.ext ?_)
      match d with
      | ⟨0, _⟩ => simp
      | ⟨1, _⟩ => simp

/-- The points between leave it as it was. -/
theorem out8_kept (c : Dev nD) (t : Fin cfg0.N) (hf : ¬t.val % 19 = 18) (h2 : t.val ≠ 0) :
    (outsAt0 m c t.val t.isLt).2.2.1 = (outsAt0 m c (t.val - 1) (Nat.lt_of_le_of_lt (Nat.sub_le _ _) t.isLt)).2.2.1 := by
  by_cases h0 : t.val % 19 = 0
  · rw [outsAt0_A m c t h0 hf]
    rfl
  · rw [outsAt0_B m c t h0 hf]
    rfl

end Cert.DxinIdeal.Sum

end
-- ==== Proof.DxinResult.lean ====
/-
  The mixer's input gradient: the result arrays in closed form, the reference's, and that they agree where
  the gradient, the weight, the input and the scale are finite.
-/
module

public import proofs.«01_k».proof.Proof.DxinValue
public import proofs.«01_k».proof.Defs
public import Idealize.ShloMosaic.Lib.Pipeline.ValueKit.Partial
public import proofs.«01_k».proof.Proof.Gen.Pre_dxin_finite
public import proofs.«01_k».proof.Proof.Gen.DxinReferenceIdeal.Read

@[expose] public section

noncomputable section

namespace Cert.DxinIdeal.Sum

open Idealize.ShloMosaic Idealize.ShloMosaic.TcCoe Idealize.SL.Sem
open Cert.DxinIdeal Cert.DxinIdeal.Gen Cert.DxinReferenceIdeal.Read Cert.Norm

variable (m : (ℓ : Loc nD τ sig) → Buf (Elt Ideal) ℓ)

/-! ## What the kernel leaves -/

/-- A token's gradient before the normalisation: its projection's gradient against row `b` of the weight. -/
def before (d : Vec Ideal S4096x9728 .bf16) (w : Vec Ideal S2048x9728 .f32) (i : Fin 4096) (b : Fin 2048) : EReal :=
  ∑ k : Fin 9728, d (ix2 i k) * w (ix2 b k)

/-- The grid's block indices, decided: row block `t / 19`, block of hidden units `t % 19`. -/
theorem idx : ∀ t : Fin cfg0.N, win0_0.index t = ![t.val / 19, t.val % 19] ∧ win0_1.index t = ![t.val % 19, 0]
    ∧ win0_2.index t = ![t.val % 19, 0] ∧ win0_3.index t = ![t.val / 19, 0] ∧ win0_4.index t = ![0, 0] ∧ win0_5.index t = ![t.val / 19, 0] :=
  (by decide +kernel : ∀ t : Fin grid0.N, _)

/-- What block `s` of the hidden units adds to token `i` at row `b` of the weight. -/
def piece (d : Vec Ideal S4096x9728 .bf16) (w : Vec Ideal S2048x9728 .f32) (s : Fin 19) (i : Fin 4096) (b : Fin 2048) : EReal :=
  ∑ k : Fin 512, d (ix2 i ⟨s.val * 512 + k.val, by omega⟩) * w (ix2 b ⟨s.val * 512 + k.val, by omega⟩)

/-- A block's part of the lower columns. -/
theorem lower_eq (c : Dev nD) (t : Fin cfg0.N) (a : Fin 512) (b : Fin 1024) (s : Fin 19) (i : Fin 4096) (hs : t.val % 19 = s.val)
    (hi : t.val / 19 * 512 + a.val = i.val) : part (iblk m c 0 t) (iblk m c 1 t) a b
      = piece (m ((c : Thread nD τ).loc main_arg0)) (m ((c : Thread nD τ).loc main_arg1)) s i ⟨b.val, by omega⟩ := by
  obtain ⟨i, _⟩ := i
  subst hi
  unfold part piece
  refine Finset.sum_congr rfl fun k _ => ?_
  blk_point [iblk, V, idx t]

/-- A block's part of the upper columns. -/
theorem upper_eq (c : Dev nD) (t : Fin cfg0.N) (a : Fin 512) (b : Fin 1024) (s : Fin 19) (i : Fin 4096) (hs : t.val % 19 = s.val)
    (hi : t.val / 19 * 512 + a.val = i.val) : part (iblk m c 0 t) (iblk m c 2 t) a b
      = piece (m ((c : Thread nD τ).loc main_arg0)) (m ((c : Thread nD τ).loc main_arg1)) s i ⟨1024 + b.val, by omega⟩ := by
  obtain ⟨i, _⟩ := i
  subst hi
  unfold part piece
  refine Finset.sum_congr rfl fun k _ => ?_
  blk_point [iblk, V, idx t]

/-- A token's gradient before the normalisation, of this call's arguments. -/
def grad (c : Dev nD) (i : Fin 4096) (b : Fin 2048) : EReal :=
  before (m ((c : Thread nD τ).loc main_arg0)) (m ((c : Thread nD τ).loc main_arg1)) i b

/-- The blocks' parts make the whole product. -/
theorem piece_sum (c : Dev nD) (i : Fin 4096) (b : Fin 2048) :
    ∑ s, piece (m ((c : Thread nD τ).loc main_arg0)) (m ((c : Thread nD τ).loc main_arg1)) s i b = grad m c i b := by
  unfold piece grad before
  exact Fin.sum_mul_add_congr fun s k hl => rfl

/-- After a row block's last point the two scratches hold the gradients before the normalisation. -/
theorem sums_row (c : Dev nD) (t : Fin cfg0.N) (hf : t.val % 19 = 18) (a : Fin 512) (b : Fin 2048) (i : Fin 4096)
    (hi : t.val / 19 * 512 + a.val = i.val) : sums m c t a b = grad m c i b := by
  rw [← piece_sum]
  unfold sums side
  by_cases h : b.val < 1024
  · rw [dif_pos h, scratch0_eq m c t hf, zero_add]
    refine Finset.sum_congr rfl fun s _ => ?_
    exact lower_eq m c ⟨19 * (t.val / 19) + s.val, Pipeline.run_point_lt_of_flush t hf s⟩ a ⟨b.val, h⟩ s i
      (by show (19 * (t.val / 19) + s.val) % 19 = s.val; omega) (by show (19 * (t.val / 19) + s.val) / 19 * 512 + a.val = i.val; omega)
  · rw [dif_neg h, scratch1_eq m c t hf, zero_add]
    refine Finset.sum_congr rfl fun s _ => ?_
    refine (upper_eq m c ⟨19 * (t.val / 19) + s.val, Pipeline.run_point_lt_of_flush t hf s⟩ a ⟨b.val - 1024, by omega⟩ s i
      (by show (19 * (t.val / 19) + s.val) % 19 = s.val; omega) (by show (19 * (t.val / 19) + s.val) / 19 * 512 + a.val = i.val; omega)).trans ?_
    exact congrArg (piece _ _ s i) (Fin.ext (by show 1024 + (b.val - 1024) = b.val; omega))

theorem input_eq (c : Dev nD) (t : Fin cfg0.N) (a : Fin 512) (b : Fin 2048) (i : Fin 4096) (hi : t.val / 19 * 512 + a.val = i.val) :
    iblk m c 3 t (ix2 a b) = m ((c : Thread nD τ).loc main_arg2) (ix2 i b) := by
  obtain ⟨i, _⟩ := i
  subst hi
  blk_point [iblk, V, idx t]

theorem scale_eq (c : Dev nD) (t : Fin cfg0.N) (q : Fin 1) (b : Fin 2048) :
    iblk m c 4 t (ix2 q b) = m ((c : Thread nD τ).loc main_arg3) (ix2 q b) := by
  blk_point [iblk, V, idx t]

theorem arrived_eq (c : Dev nD) (t : Fin cfg0.N) (a : Fin 512) (b : Fin 2048) (i : Fin 4096) (hi : t.val / 19 * 512 + a.val = i.val) :
    iblk m c 5 t (ix2 a b) = m ((c : Thread nD τ).loc main_arg4) (ix2 i b) := by
  obtain ⟨i, _⟩ := i
  subst hi
  blk_point [iblk, V, idx t]

/-- A token's row of the input, and the scale. -/
def row (c : Dev nD) (i : Fin 4096) (b : Fin 2048) : EReal := m ((c : Thread nD τ).loc main_arg2) (ix2 i b)
def scale (c : Dev nD) (b : Fin 2048) : EReal := m ((c : Thread nD τ).loc main_arg3) (ix2 0 b)

/-- The array of gradients. -/
def closed (c : Dev nD) (j : S4096x2048.Idx) : EReal :=
  back (grad m c (j 0)) (row m c (j 0)) (scale m c) (m ((c : Thread nD τ).loc main_arg4) j) (j 1)

/-- Where a point's block lies in the result arrays. -/
theorem idx_out : ∀ t : Fin cfg0.N, win0_6.index t = ![t.val / 19, 0] ∧ win0_7.index t = ![t.val / 19, 0] ∧ win0_8.index t = ![0, 0] :=
  (by decide +kernel : ∀ t : Fin grid0.N, _)

theorem emb6 (t : Fin cfg0.N) (a : Fin 512) (b : Fin 2048) : (win0_6.blk t).view.emb (ix2 a b)
    = (ix2 ⟨t.val / 19 * 512 + a.val, by have h := lt_of_lt_of_eq t.isLt N_0; omega⟩ b : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb7 (t : Fin cfg0.N) (a : Fin 512) (b : Fin 2048) : (win0_7.blk t).view.emb (ix2 a b)
    = (ix2 ⟨t.val / 19 * 512 + a.val, by have h := lt_of_lt_of_eq t.isLt N_0; omega⟩ b : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb8 (t : Fin cfg0.N) (q : Fin 1) (b : Fin 2048) : (win0_8.blk t).view.emb (ix2 q b) = (ix2 q b : S1x2048.Idx) := by
  have e := (idx_out t).2.2
  refine @funext (Fin 2) (fun d => Fin (S1x2048.size d)) _ _ fun d => Fin.ext ?_
  match d with
  | ⟨0, _⟩ => blk_simp [e]
  | ⟨1, _⟩ => blk_simp [e]

/-- A written block's row. -/
theorem block_row (c : Dev nD) (t : Fin cfg0.N) (hf : t.val % 19 = 18) (a : Fin 512) (b : Fin 2048) (i : Fin 4096) (hi : t.val / 19 * 512 + a.val = i.val) :
    back (sums m c t a) (fun j => iblk m c 3 t (ix2 a j)) (fun j => iblk m c 4 t (ix2 0 j))
      (iblk m c 5 t (ix2 a b)) b = closed m c (ix2 i b) :=
  back_congr (fun j => sums_row m c t hf a j i hi) (fun j => input_eq m c t a j i hi) (fun j => scale_eq m c t 0 j)
    (arrived_eq m c t a b i hi) rfl

/-- The array of gradients after the call. -/
theorem result6 (c : Dev nD) : (dats m 0 c).arrAt 6 cfg0.N = closed m c := by
  refine (dats m 0 c).arrAt_eq_of_covers 6 _ (by decide +kernel) fun t hf y => ?_
  have hf' : t.val % 19 = 18 := (by decide +kernel : ∀ t : Fin grid0.N, win0_6.flush t = true → t.val % 19 = 18) t hf
  blk_simp
  rw [after0_6]
  obtain ⟨a, b, rfl⟩ : ∃ (a : Fin 512) (b : Fin 2048), y = ix2 a b := ⟨y 0, y 1, ValueIdx.eq_ix2 y⟩
  rw [emb6]
  exact (out6_eq m c t hf' a b).trans (block_row m c t hf' a b _ rfl)

/-- The same array in the narrow format. -/
theorem result7 (c : Dev nD) : (dats m 0 c).arrAt 7 cfg0.N = closed m c := by
  refine (dats m 0 c).arrAt_eq_of_covers 7 _ (by decide +kernel) fun t hf y => ?_
  have hf' : t.val % 19 = 18 := (by decide +kernel : ∀ t : Fin grid0.N, win0_7.flush t = true → t.val % 19 = 18) t hf
  blk_simp
  rw [after0_7]
  obtain ⟨a, b, rfl⟩ : ∃ (a : Fin 512) (b : Fin 2048), y = ix2 a b := ⟨y 0, y 1, ValueIdx.eq_ix2 y⟩
  rw [emb7]
  exact (out7_eq m c t hf' a b).trans (block_row m c t hf' a b _ rfl)

/-- What a token adds to the scale's gradient. -/
def token (c : Dev nD) (b : Fin 2048) (i : Fin 4096) : EReal := grad m c i b * row m c i b * recip (row m c i)

/-- What the tokens of row block `s` add. -/
def tokens (c : Dev nD) (b : Fin 2048) (s : Nat) : EReal := ∑ a : Fin 512, token m c b ⟨(s * 512 + a.val) % 4096, Nat.mod_lt _ (by omega)⟩

/-- The eight blocks' tokens are all of them. -/
theorem tokens_sum (c : Dev nD) (b : Fin 2048) : ∑ s ∈ Finset.range 8, tokens m c b s = ∑ i, token m c b i := by
  rw [Finset.sum_range]
  exact Fin.sum_mul_add_congr fun s k hl => congrArg (token m c b) (Fin.ext (Nat.mod_eq_of_lt hl))

theorem share_eq (c : Dev nD) (t : Fin cfg0.N) (hf : t.val % 19 = 18) (b : Fin 2048) :
    ∑ a, share (sums m c t) (iblk m c 3 t) b a = tokens m c b (t.val / 19) := by
  refine Finset.sum_congr rfl fun a _ => ?_
  have hi : t.val / 19 * 512 + a.val = (⟨(t.val / 19 * 512 + a.val) % 4096, Nat.mod_lt _ (by omega)⟩ : Fin 4096).val := by
    have h := lt_of_lt_of_eq t.isLt N_0
    exact (Nat.mod_eq_of_lt (by omega)).symm
  unfold share token
  rw [sums_row m c t hf a b _ hi, input_eq m c t a b _ hi, funext fun j => input_eq m c t a j _ hi]
  rfl

/-- Between two blocks' last points the scale's gradient stays. -/
theorem kept_run (c : Dev nD) (n : Nat) (hn : n % 19 = 18) : ∀ (k : Nat) (h : n + 1 + k < cfg0.N) (h' : n < cfg0.N), k < 18 →
    (outsAt0 m c (n + 1 + k) h).2.2.1 = (outsAt0 m c n h').2.2.1 := by
  intro k
  induction k with
  | zero =>
    intro h h' _
    exact out8_kept m c ⟨n + 1 + 0, h⟩ (by show ¬(n + 1 + 0) % 19 = 18; omega) (by show n + 1 + 0 ≠ 0; omega)
  | succ k ih =>
    intro h h' hk
    refine (out8_kept m c ⟨n + 1 + (k + 1), h⟩ (by show ¬(n + 1 + (k + 1)) % 19 = 18; omega) (by show n + 1 + (k + 1) ≠ 0; omega)).trans ?_
    exact ih (by omega) h' (by omega)

/-- After a row block's last point the scale's gradient holds the blocks so far. -/
theorem so_far (c : Dev nD) (b : Fin 2048) : ∀ (s n : Nat) (h : n < cfg0.N), n = 19 * s + 18 →
    (outsAt0 m c n h).2.2.1 (ix2 0 b) = ∑ r ∈ Finset.range (s + 1), tokens m c b r := by
  intro s
  induction s with
  | zero =>
    intro n h e
    refine (out8_first m c ⟨n, h⟩ (by show n % 19 = 18; omega) (by show n < 19; omega) 0 b).trans ?_
    rw [share_eq m c ⟨n, h⟩ (by show n % 19 = 18; omega), Finset.sum_range_one]
    exact congrArg (tokens m c b) (by show n / 19 = 0; omega)
  | succ s ih =>
    intro n h e
    refine (out8_next m c ⟨n, h⟩ (by show n % 19 = 18; omega) (by show ¬n < 19; omega) 0 b).trans ?_
    rw [share_eq m c ⟨n, h⟩ (by show n % 19 = 18; omega), Finset.sum_range_succ]
    refine congrArg₂ (· + ·) ?_ (congrArg (tokens m c b) (by show n / 19 = s + 1; omega))
    subst e
    exact (congrFun (kept_run m c (19 * s + 18) (by omega) 17 (by omega) (by omega) (by omega)) _).trans (ih (19 * s + 18) (by omega) rfl)

/-- The scale's gradient after the call. -/
theorem result8 (c : Dev nD) : (dats m 0 c).arrAt 8 cfg0.N = fun j : S1x2048.Idx => ∑ i, token m c (j 1) i := by
  refine (dats m 0 c).arrAt_eq_of_covers 8 _ (by decide +kernel) fun t hf y => ?_
  have hf' : t.val = 151 := (by decide +kernel : ∀ t : Fin grid0.N, win0_8.flush t = true → t.val = 151) t hf
  blk_simp
  rw [after0_8]
  obtain ⟨q, b, rfl⟩ : ∃ (q : Fin 1) (b : Fin 2048), y = ix2 q b := ⟨y 0, y 1, ValueIdx.eq_ix2 y⟩
  rw [emb8, Subsingleton.elim q 0]
  exact (so_far m c b 7 t.val t.isLt hf').trans (tokens_sum m c b)

/-! ## What the reference leaves -/

section Reference

variable (x0 : Vec Ideal S4096x9728 .bf16) (x1 : Vec Ideal S2048x9728 .f32) (x2 : Vec Ideal S4096x2048 .f32) (x3 : Vec Ideal S1x2048 .f32)
  (x4 : Vec Ideal S4096x2048 .f32)

theorem ref_square (i : Fin 4096) (q : Fin 1) : val_main_v7 (F := Ideal) x2 (ix2 i q) = square fun j => x2 (ix2 i j) := by
  rw [val_main_v7_apply, val_main_v5_apply, val_main_v3_apply, val_main_v2_apply, val_main_v4_apply, val_main_v6_apply,
    val_main_cst_apply, val_main_cst_0_apply, val_main_cst_1_apply]
  unfold square
  have e : ∀ k : Fin 2048, val_main_v1 (F := Ideal) x2 (idx_main_v2 (idx_main_v3 (ix2 i q)) k) = x2 (ix2 i k) * x2 (ix2 i k) := by
    intro k
    rw [at2 (idx_main_v2 (idx_main_v3 (ix2 i q)) k) i k rfl rfl, val_main_v1_apply]
    rfl
  rw [Finset.sum_congr rfl fun k _ => e k]
  show Ideal.div (Ideal.ofBits .f32 0x00000000#32 + _) _ + _ = _
  rw [zero_eq, zero_add]
  rfl

theorem ref_recip (i : Fin 4096) (q : Fin 1) : val_main_v8 (F := Ideal) x2 (ix2 i q) = recip fun j => x2 (ix2 i j) := by
  rw [val_main_v8_apply, ref_square]
  rfl

theorem ref_scale (i : Fin 4096) (b : Fin 2048) : val_main_v23 (F := Ideal) x3 (ix2 i b) = x3 (ix2 0 b) := by
  rw [val_main_v23_apply, val_main_v14_apply, val_main_v0_apply]
  exact congrArg x3 (at2 _ 0 b rfl (by first | rfl | (show b.val % 2048 = b.val; omega)))

theorem ref_before (i : Fin 4096) (b : Fin 2048) : val_main_v19 (F := Ideal) x0 x1 (ix2 i b) = before x0 x1 i b := by
  rw [val_main_v19_apply]
  unfold before
  refine Finset.sum_congr rfl fun k _ => ?_
  rw [val_main_v18_apply]
  exact congrArg₂ (fun p r => x0 p * x1 r) (at2 _ i k rfl rfl) (at2 _ b k rfl rfl)

/-- The gradient of the normalised row. -/
theorem ref_scaled (i : Fin 4096) (b : Fin 2048) : val_main_v24 (F := Ideal) x0 x1 x3 (ix2 i b) = before x0 x1 i b * x3 (ix2 0 b) := by
  rw [val_main_v24_apply, ref_before, ref_scale]
  rfl

/-- What the mean square sends back. -/
theorem ref_slope (i : Fin 4096) (b : Fin 2048) : val_main_v36 (F := Ideal) x0 x1 x2 x3 (ix2 i b)
    = slope (before x0 x1 i) (fun j => x2 (ix2 i j)) (fun j => x3 (ix2 0 j)) := by
  have e : ∀ k : Fin 2048, val_main_v26 (F := Ideal) x0 x1 x2 x3 (ix2 i k) = x2 (ix2 i k) * (before x0 x1 i k * x3 (ix2 0 k)) := by
    intro k
    rw [val_main_v26_apply, ref_scaled]
    rfl
  have e27 : ∀ j : Cert.DxinReferenceIdeal.S4096.Idx, (j 0).val = i.val → val_main_v27 (F := Ideal) x0 x1 x2 x3 j
      = ∑ k : Fin 2048, x2 (ix2 i k) * (before x0 x1 i k * x3 (ix2 0 k)) := by
    intro j hj
    rw [val_main_v27_apply, val_main_cst_5_apply]
    show Ideal.ofBits .f32 0x00000000#32 + _ = _
    rw [zero_eq, zero_add]
    refine Finset.sum_congr rfl fun k _ => ?_
    rw [at2 (idx_main_v27 j k) i k hj rfl, e]
  have e34 : ∀ j : Cert.DxinReferenceIdeal.S4096x1.Idx, (j 0).val = i.val → val_main_v34 (F := Ideal) x0 x1 x2 x3 j
      = slope (before x0 x1 i) (fun j => x2 (ix2 i j)) (fun j => x3 (ix2 0 j)) := by
    intro j hj
    have e0 : j = ix2 i 0 := at2 j i 0 hj (by have h := (j 1).isLt; show (j 1).val = 0; exact Nat.lt_one_iff.1 h)
    have h28 : (j 0).val * 1 + (j 1).val = i.val := by
      have h : (j 1).val = 0 := Nat.lt_one_iff.1 (j 1).isLt
      omega
    rw [val_main_v34_apply, val_main_v32_apply, val_main_v28_apply, e27 _ h28, val_main_v11_apply, val_main_v10_apply, val_main_cst_2_apply,
      val_main_v9_apply, val_main_v33_apply, val_main_cst_6_apply, e0, ref_recip, ref_square]
    rfl
  rw [val_main_v36_apply, val_main_v35_apply, val_main_cst_7_apply]
  show Ideal.ofBits .f32 0x00000000#32 + _ = _
  rw [zero_eq, zero_add, Fin.sum_univ_one]
  exact e34 _ rfl

/-- A row of the reference's gradient, where everything it is made of but what has arrived is finite. -/
theorem ref_row (i : Fin 4096) (b : Fin 2048) (hd : ∀ j, ∃ r : ℝ, before x0 x1 i j = (r : EReal))
    (hx : Cert.Finite.Real (e := .f32) x2) (hw : Cert.Finite.Real (e := .f32) x3) : val_main_v40 (F := Ideal) x0 x1 x2 x3 x4 (ix2 i b)
      = back (before x0 x1 i) (fun j => x2 (ix2 i j)) (fun j => x3 (ix2 0 j)) (x4 (ix2 i b)) b := by
  rw [back_eq _ _ _ _ _ hd (fun j => hx _) (fun j => hw _), val_main_v40_apply, val_main_v38_apply, val_main_v31_apply, val_main_v30_apply,
    val_main_v29_apply, val_main_v37_apply, val_main_v39_apply, ref_scaled, ref_slope, at2 (idx_main_v29 (ix2 i b)) i 0 rfl rfl, ref_recip]
  rfl

/-- The reference's gradient of the scale. -/
theorem ref_scale_grad (q : Fin 1) (b : Fin 2048) : val_main_v41 (F := Ideal) x0 x1 x2 (ix2 q b)
    = ∑ i : Fin 4096, before x0 x1 i b * x2 (ix2 i b) * recip (fun j => x2 (ix2 i j)) := by
  have e : ∀ j : Cert.DxinReferenceIdeal.S2048.Idx, (j 0).val = b.val → val_main_v21 (F := Ideal) x0 x1 x2 j
      = ∑ i : Fin 4096, before x0 x1 i b * x2 (ix2 i b) * recip (fun j => x2 (ix2 i j)) := by
    intro j hj
    rw [val_main_v21_apply, val_main_cst_3_apply]
    show Ideal.ofBits .f32 0x00000000#32 + _ = _
    rw [zero_eq, zero_add]
    refine Finset.sum_congr rfl fun i _ => ?_
    rw [at2 (idx_main_v21 j i) i b rfl hj, val_main_v20_apply, val_main_v13_apply, val_main_v12_apply, ref_before,
      at2 (idx_main_v12 (ix2 i b)) i 0 rfl rfl, ref_recip]
    show x2 _ * _ * _ = _
    rw [mul_comm, mul_assoc]
  rw [val_main_v41_apply, val_main_v25_apply, val_main_cst_4_apply]
  show Ideal.ofBits .f32 0x00000000#32 + _ = _
  rw [zero_eq, zero_add, Fin.sum_univ_one, val_main_v22_apply]
  exact e _ (by first | rfl | simp)

end Reference

instance : Subsingleton (Cert.Pre_dxin_finite.S_).Idx := ⟨fun a b => funext fun d => d.elim0⟩

/-- The precondition, read back. -/
theorem finite_args {c : Dev nD} (h : Cert.Pre_DxinIdeal_dxin_finite m) :
    Cert.Finite.Real (e := .bf16) (m ((c : Thread nD τ).loc main_arg0)) ∧ Cert.Finite.Real (e := .f32) (m ((c : Thread nD τ).loc main_arg1))
    ∧ Cert.Finite.Real (e := .f32) (m ((c : Thread nD τ).loc main_arg2)) ∧ Cert.Finite.Real (e := .f32) (m ((c : Thread nD τ).loc main_arg3)) := by
  have e := congrFun (h c) (fun d => d.elim0)
  obtain ⟨e, e3⟩ := IntOp.andi_eq_one.1 e
  obtain ⟨e, e2⟩ := IntOp.andi_eq_one.1 e
  obtain ⟨e0, e1⟩ := IntOp.andi_eq_one.1 e
  refine ⟨?_, ?_, ?_, ?_⟩
  · exact Cert.Finite.of_all (s := S4096x9728) (m ((c : Thread nD τ).loc main_arg0)) _ _ _ _ _ e0
  · exact Cert.Finite.of_all _ _ _ _ _ _ e1
  · exact Cert.Finite.of_all _ _ _ _ _ _ e2
  · exact Cert.Finite.of_all _ _ _ _ _ _ e3

/-- A row the call writes is the reference's. -/
theorem closed_row (c : Dev nD) (h : Cert.Pre_DxinIdeal_dxin_finite m) (i : Fin 4096) (b : Fin 2048) :
    closed m c (ix2 i b) = val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 i b) := by
  obtain ⟨h0, h1, h2, h3⟩ := finite_args m h (c := c)
  exact (ref_row _ _ _ _ _ i b (fun j => Cert.Finite.sum _ _ fun k => Cert.Finite.mul (h0 _) (h1 _)) h2 h3).symm

/-- The array of gradients is the reference's. -/
theorem agree6 (c : Dev nD) (h : Cert.Pre_DxinIdeal_dxin_finite m) : (dats m 0 c).arrAt 6 cfg0.N
    = val_main_v40 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [result6]
  refine @funext S4096x2048.Idx (fun _ => EReal) _ _ fun j => ?_
  obtain ⟨i, b, rfl⟩ : ∃ (i : Fin 4096) (b : Fin 2048), j = ix2 i b := ⟨j 0, j 1, ValueIdx.eq_ix2 j⟩
  exact closed_row m c h i b

/-- The same array in the narrow format. -/
theorem agree7 (c : Dev nD) (h : Cert.Pre_DxinIdeal_dxin_finite m) : (dats m 0 c).arrAt 7 cfg0.N
    = val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [result7]
  refine @funext S4096x2048.Idx (fun _ => EReal) _ _ fun j => ?_
  obtain ⟨i, b, rfl⟩ : ∃ (i : Fin 4096) (b : Fin 2048), j = ix2 i b := ⟨j 0, j 1, ValueIdx.eq_ix2 j⟩
  exact closed_row m c h i b

/-- The scale's gradient is the reference's. -/
theorem agree8 (c : Dev nD) : (dats m 0 c).arrAt 8 cfg0.N = val_main_v41 (F := Ideal)
    (m ((c : Thread nD τ).loc main_arg0)) (m ((c : Thread nD τ).loc main_arg1)) (m ((c : Thread nD τ).loc main_arg2)) := by
  rw [result8]
  refine @funext S1x2048.Idx (fun _ => EReal) _ _ fun j => ?_
  obtain ⟨q, b, rfl⟩ : ∃ (q : Fin 1) (b : Fin 2048), j = ix2 q b := ⟨j 0, j 1, ValueIdx.eq_ix2 j⟩
  exact (ref_scale_grad _ _ _ q b).symm

end Cert.DxinIdeal.Sum

end
-- ==== Proof.PleValue.lean ====
/-
  The per-layer embedding added through its gate: what one grid point leaves in its three blocks.
-/
module

public import proofs.«01_k».proof.Proof.Gates
public import proofs.«01_k».proof.Proof.Gen.PleIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.PleIdeal.Sum

open Idealize.ShloMosaic Idealize.ShloMosaic.TcCoe Idealize.SL.Sem
open Cert.PleIdeal Cert.PleIdeal.Gen

open Cert.Gates

/-- Row `a` of a block of the normalised input against column `b` of the gate's weight. -/
def gate (x : Vec Ideal S1024x2048 .bf16) (w : Vec Ideal S2048x256 .bf16) (a : Fin 1024) (b : Fin 256) : EReal :=
  ∑ k : Fin 2048, x (ix2 a k) * w (ix2 k b)

/-- Row `a` of a block of embeddings against column `b` of a shard of the projection. -/
def value (p : Vec Ideal S1024x256 .bf16) (w : Vec Ideal S1x256x256 .bf16) (a : Fin 1024) (b : Fin 256) : EReal :=
  ∑ k : Fin 256, p (ix2 a k) * w (ix3 0 k b)

/-- The block of the layer's output. -/
theorem out5_apply (x0 : Vec Ideal S1024x2048 .bf16) (x1 : Vec Ideal S2048x256 .bf16) (x2 : Vec Ideal S1024x256 .bf16)
    (x3 : Vec Ideal S1x256x256 .bf16) (x4 : Vec Ideal S1024x256 .f32) (a : Fin 1024) (b : Fin 256) :
    out0_5 (F := Ideal) x0 x1 x2 x3 x4 (ix2 a b) = x4 (ix2 a b) + sigm (gate x0 x1 a b) * value x2 x3 a b := by
  unfold out0_5
  frame_out
  try canon_tiles x h
  all_goals
    open_payloads
    pointwise
    try rfl

/-- The block of gates. -/
theorem out6_apply (x0 : Vec Ideal S1024x2048 .bf16) (x1 : Vec Ideal S2048x256 .bf16) (x2 : Vec Ideal S1024x256 .bf16)
    (x3 : Vec Ideal S1x256x256 .bf16) (x4 : Vec Ideal S1024x256 .f32) (a : Fin 1024) (b : Fin 256) :
    out0_6 (F := Ideal) x0 x1 x2 x3 x4 (ix2 a b) = gate x0 x1 a b := by
  unfold out0_6
  frame_out
  try canon_tiles x h
  all_goals
    open_payloads
    pointwise
    try rfl

/-- The block of projected embeddings. -/
theorem out7_apply (x0 : Vec Ideal S1024x2048 .bf16) (x1 : Vec Ideal S2048x256 .bf16) (x2 : Vec Ideal S1024x256 .bf16)
    (x3 : Vec Ideal S1x256x256 .bf16) (x4 : Vec Ideal S1024x256 .f32) (a : Fin 1024) (b : Fin 256) :
    out0_7 (F := Ideal) x0 x1 x2 x3 x4 (ix2 a b) = value x2 x3 a b := by
  unfold out0_7
  frame_out
  try canon_tiles x h
  all_goals
    open_payloads
    pointwise
    try rfl

end Cert.PleIdeal.Sum

end
-- ==== Proof.PleResult.lean ====
/-
  The per-layer embedding added through its gate: the three result arrays in closed form, the reference's, and that they agree.
-/
module

public import proofs.«01_k».proof.Proof.PleValue
public import proofs.«01_k».proof.Proof.Gen.PleReferenceIdeal.Read

@[expose] public section

noncomputable section

namespace Cert.PleIdeal.Sum

open Idealize.ShloMosaic Idealize.ShloMosaic.TcCoe Idealize.SL.Sem
open Cert.PleIdeal Cert.PleIdeal.Gen Cert.PleReferenceIdeal.Read

open Cert.Gates

variable (m : (ℓ : Loc nD τ sig) → Buf (Elt Ideal) ℓ)

/-- A token's row of the normalised input against a column of the gate's weight. -/
def gates (h : Vec Ideal S4096x2048 .bf16) (w : Vec Ideal S2048x2048 .f32) (i : Fin 4096) (j : Fin 2048) : EReal :=
  ∑ k : Fin 2048, h (ix2 i k) * w (ix2 k j)

/-- A token's embedding against a column of the projection. -/
def values (p : Vec Ideal S4096x256 .f32) (w : Vec Ideal S256x2048 .f32) (i : Fin 4096) (j : Fin 2048) : EReal :=
  ∑ k : Fin 256, p (ix2 i k) * w (ix2 k j)

/-- The grid's block indices, decided: token block `t / 8`, column block `t % 8`. -/
theorem idx : ∀ t : Fin cfg0.N, win0_0.index t = ![t.val / 8, 0] ∧ win0_1.index t = ![0, t.val % 8]
    ∧ win0_2.index t = ![t.val / 8, 0] ∧ win0_3.index t = ![t.val % 8, 0, 0] ∧ win0_4.index t = ![t.val / 8, t.val % 8] :=
  (by decide +kernel : ∀ t : Fin grid0.N, _)

theorem idx_out : ∀ t : Fin cfg0.N, win0_5.index t = ![t.val / 8, t.val % 8] ∧ win0_6.index t = ![t.val / 8, t.val % 8]
    ∧ win0_7.index t = ![t.val / 8, t.val % 8] :=
  (by decide +kernel : ∀ t : Fin grid0.N, _)

/-- The blocks a point reads, as parts of the arrays. -/
theorem gate_eq (c : Dev nD) (t : Fin cfg0.N) (a : Fin 1024) (b : Fin 256) (i : Fin 4096) (j : Fin 2048)
    (hi : t.val / 8 * 1024 + a.val = i.val) (hj : t.val % 8 * 256 + b.val = j.val) :
    gate (iblk m c 0 t) (iblk m c 1 t) a b = gates (m ((c : Thread nD τ).loc main_arg1)) (m ((c : Thread nD τ).loc main_arg3)) i j := by
  obtain ⟨i, _⟩ := i
  obtain ⟨j, _⟩ := j
  subst hi hj
  unfold gate gates
  refine Finset.sum_congr rfl fun k _ => ?_
  blk_point [iblk, V, idx t]

theorem value_eq (c : Dev nD) (t : Fin cfg0.N) (a : Fin 1024) (b : Fin 256) (i : Fin 4096) (j : Fin 2048)
    (hi : t.val / 8 * 1024 + a.val = i.val) (hj : t.val % 8 * 256 + b.val = j.val) :
    value (iblk m c 2 t) (iblk m c 3 t) a b = values (m ((c : Thread nD τ).loc main_arg2)) (m ((c : Thread nD τ).loc main_arg4)) i j := by
  obtain ⟨i, _⟩ := i
  obtain ⟨j, _⟩ := j
  subst hi hj
  unfold value values
  refine Finset.sum_congr rfl fun k _ => ?_
  blk_point [iblk, V, idx t]

theorem input_eq (c : Dev nD) (t : Fin cfg0.N) (a : Fin 1024) (b : Fin 256) (i : Fin 4096) (j : Fin 2048)
    (hi : t.val / 8 * 1024 + a.val = i.val) (hj : t.val % 8 * 256 + b.val = j.val) :
    (iblk m c 4 t : Vec Ideal S1024x256 .f32) (ix2 a b) = m ((c : Thread nD τ).loc main_arg0) (ix2 i j) := by
  obtain ⟨i, _⟩ := i
  obtain ⟨j, _⟩ := j
  subst hi hj
  blk_point [iblk, V, idx t]

/-- Where a point's block lies in a result array. -/
theorem emb5 (t : Fin cfg0.N) (a : Fin 1024) (b : Fin 256) : (win0_5.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb6 (t : Fin cfg0.N) (a : Fin 1024) (b : Fin 256) : (win0_6.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb7 (t : Fin cfg0.N) (a : Fin 1024) (b : Fin 256) : (win0_7.blk t).view.emb (ix2 a b)
    = (ix2 ⟨t.val / 8 * 1024 + a.val, by have h := lt_of_lt_of_eq t.isLt N_0; omega⟩ ⟨t.val % 8 * 256 + b.val, by have h := lt_of_lt_of_eq t.isLt N_0; omega⟩ : S4096x2048.Idx) := by
  have e := (idx_out t).2.2
  refine @funext (Fin 2) (fun d => Fin (S4096x2048.size d)) _ _ fun d => Fin.ext ?_
  match d with
  | ⟨0, _⟩ => blk_simp [e]
  | ⟨1, _⟩ => blk_simp [e]

/-- The reference's gates. -/
theorem reference1 (x1 : Vec Ideal S4096x2048 .bf16) (x3 : Vec Ideal S2048x2048 .f32) (i : Fin 4096) (j : Fin 2048) :
    val_main_v1 (F := Ideal) x1 x3 (ix2 i j) = gates x1 x3 i j := by
  rw [val_main_v1_apply]
  unfold gates
  refine Finset.sum_congr rfl fun k _ => ?_
  rw [val_main_v0_apply]
  show x1 _ * x3 _ = _
  refine congrArg₂ (fun p r => x1 p * x3 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The reference's projected embeddings. -/
theorem reference2 (x2 : Vec Ideal S4096x256 .f32) (x4 : Vec Ideal S256x2048 .f32) (i : Fin 4096) (j : Fin 2048) :
    val_main_v2 (F := Ideal) x2 x4 (ix2 i j) = values x2 x4 i j := by
  rw [val_main_v2_apply]
  unfold values
  refine Finset.sum_congr rfl fun k _ => ?_
  show x2 _ * x4 _ = _
  refine congrArg₂ (fun p r => x2 p * x4 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The reference's output. -/
theorem reference10 (x0 : Vec Ideal S4096x2048 .f32) (x1 : Vec Ideal S4096x2048 .bf16) (x2 : Vec Ideal S4096x256 .f32)
    (x3 : Vec Ideal S2048x2048 .f32) (x4 : Vec Ideal S256x2048 .f32) (i : Fin 4096) (j : Fin 2048) :
    val_main_v10 (F := Ideal) x0 x1 x2 x3 x4 (ix2 i j) = x0 (ix2 i j) + sigm (gates x1 x3 i j) * values x2 x4 i j := by
  rw [val_main_v10_apply, val_main_v9_apply, val_main_v8_apply, val_main_v7_apply, val_main_cst_0_apply, val_main_v6_apply,
    val_main_v5_apply, val_main_cst_apply, val_main_v4_apply, val_main_v3_apply, reference1, reference2]
  exact congrArg (fun v : EReal => x0 (ix2 i j) + v * values x2 x4 i j) (sig_eq (gates x1 x3 i j))

theorem reference11 (x1 : Vec Ideal S4096x2048 .bf16) (x3 : Vec Ideal S2048x2048 .f32) (i : Fin 4096) (j : Fin 2048) :
    val_main_v11 (F := Ideal) x1 x3 (ix2 i j) = gates x1 x3 i j :=
  (val_main_v11_apply x1 x3 _).trans (reference1 x1 x3 i j)

theorem reference12 (x2 : Vec Ideal S4096x256 .f32) (x4 : Vec Ideal S256x2048 .f32) (i : Fin 4096) (j : Fin 2048) :
    val_main_v12 (F := Ideal) x2 x4 (ix2 i j) = values x2 x4 i j :=
  (val_main_v12_apply x2 x4 _).trans (reference2 x2 x4 i j)

/-- The array of the layer's output. -/
theorem result5 (c : Dev nD) : (dats m 0 c).arrAt 5 cfg0.N = val_main_v10 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨a, b, rfl⟩ : ∃ (a : Fin 1024) (b : Fin 256), y = ix2 a b := ⟨y 0, y 1, ValueIdx.eq_ix2 y⟩
  rw [emb5, reference10]
  exact (out5_apply _ _ _ _ _ a b).trans (congrArg₂ (fun p q : EReal => p + q) (input_eq m c t a b _ _ rfl rfl)
    (congrArg₂ (fun p q : EReal => sigm p * q) (gate_eq m c t a b _ _ rfl rfl) (value_eq m c t a b _ _ rfl rfl)))

/-- The array of gates. -/
theorem result6 (c : Dev nD) : (dats m 0 c).arrAt 6 cfg0.N = val_main_v11 (F := Ideal)
    (m ((c : Thread nD τ).loc main_arg1)) (m ((c : Thread nD τ).loc main_arg3)) := by
  refine (dats m 0 c).arrAt_eq_of_covers 6 _ (by decide +kernel) fun t hf y => ?_
  blk_simp
  rw [after0_6]
  obtain ⟨a, b, rfl⟩ : ∃ (a : Fin 1024) (b : Fin 256), y = ix2 a b := ⟨y 0, y 1, ValueIdx.eq_ix2 y⟩
  rw [emb6, reference11]
  exact (out6_apply _ _ _ _ _ a b).trans (gate_eq m c t a b _ _ rfl rfl)

/-- The array of projected embeddings. -/
theorem result7 (c : Dev nD) : (dats m 0 c).arrAt 7 cfg0.N = val_main_v12 (F := Ideal)
    (m ((c : Thread nD τ).loc main_arg2)) (m ((c : Thread nD τ).loc main_arg4)) := by
  refine (dats m 0 c).arrAt_eq_of_covers 7 _ (by decide +kernel) fun t hf y => ?_
  blk_simp
  rw [after0_7]
  obtain ⟨a, b, rfl⟩ : ∃ (a : Fin 1024) (b : Fin 256), y = ix2 a b := ⟨y 0, y 1, ValueIdx.eq_ix2 y⟩
  rw [emb7, reference12]
  exact (out7_apply _ _ _ _ _ a b).trans (value_eq m c t a b _ _ rfl rfl)

end Cert.PleIdeal.Sum

end
-- ==== Proof.PledgateValue.lean ====
/-
  The gradient through the gate of the per-layer embedding: what one grid point leaves in its two blocks.
-/
module

public import proofs.«01_k».proof.Proof.Gates
public import proofs.«01_k».proof.Proof.Gen.PledgateIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.PledgateIdeal.Sum

open Idealize.ShloMosaic Idealize.ShloMosaic.TcCoe Idealize.SL.Sem
open Cert.PledgateIdeal Cert.PledgateIdeal.Gen

open Cert.Gates

/-- The block of the gate's gradient. -/
theorem out3_apply (x0 : Vec Ideal S512x2048 .f32) (x1 x2 : Vec Ideal S512x2048 .bf16) (a : Fin 512) (b : Fin 2048) :
    out0_3 (F := Ideal) x0 x1 x2 (ix2 a b) = slope (x0 (ix2 a b)) (x2 (ix2 a b)) (x1 (ix2 a b)) := by
  unfold out0_3
  frame_out
  try canon_tiles x h
  all_goals
    open_payloads
    pointwise
    try rfl

/-- The block of the projected embedding's gradient. -/
theorem out4_apply (x0 : Vec Ideal S512x2048 .f32) (x1 x2 : Vec Ideal S512x2048 .bf16) (a : Fin 512) (b : Fin 2048) :
    out0_4 (F := Ideal) x0 x1 x2 (ix2 a b) = x0 (ix2 a b) * sigm (x1 (ix2 a b)) := by
  unfold out0_4
  frame_out
  try canon_tiles x h
  all_goals
    open_payloads
    pointwise
    try rfl

end Cert.PledgateIdeal.Sum

end
-- ==== Proof.PledgateResult.lean ====
/-
  The gradient through the gate of the per-layer embedding: the two result arrays in closed form, the reference's, and that they
  agree.
-/
module

public import proofs.«01_k».proof.Proof.PledgateValue
public import proofs.«01_k».proof.Proof.Gen.PledgateReferenceIdeal.Read

@[expose] public section

noncomputable section

namespace Cert.PledgateIdeal.Sum

open Idealize.ShloMosaic Idealize.ShloMosaic.TcCoe Idealize.SL.Sem
open Cert.PledgateIdeal Cert.PledgateIdeal.Gen Cert.PledgateReferenceIdeal.Read

open Cert.Gates

variable (m : (ℓ : Loc nD τ sig) → Buf (Elt Ideal) ℓ)

/-- The grid's block indices, decided: row block `t`. -/
theorem idx : ∀ t : Fin cfg0.N, win0_0.index t = ![t.val, 0] ∧ win0_1.index t = ![t.val, 0] ∧ win0_2.index t = ![t.val, 0] :=
  (by decide +kernel : ∀ t : Fin grid0.N, _)

theorem idx_out : ∀ t : Fin cfg0.N, win0_3.index t = ![t.val, 0] ∧ win0_4.index t = ![t.val, 0] :=
  (by decide +kernel : ∀ t : Fin grid0.N, _)

/-- The blocks a point reads, as parts of the arrays. -/
theorem arrived_eq (c : Dev nD) (t : Fin cfg0.N) (a : Fin 512) (b : Fin 2048) (i : Fin 4096) (hi : t.val * 512 + a.val = i.val) :
    (iblk m c 0 t : Vec Ideal S512x2048 .f32) (ix2 a b) = m ((c : Thread nD τ).loc main_arg2) (ix2 i b) := by
  obtain ⟨i, _⟩ := i
  subst hi
  blk_point [iblk, V, idx t]

theorem gate_eq (c : Dev nD) (t : Fin cfg0.N) (a : Fin 512) (b : Fin 2048) (i : Fin 4096) (hi : t.val * 512 + a.val = i.val) :
    (iblk m c 1 t : Vec Ideal S512x2048 .bf16) (ix2 a b) = m ((c : Thread nD τ).loc main_arg0) (ix2 i b) := by
  obtain ⟨i, _⟩ := i
  subst hi
  blk_point [iblk, V, idx t]

theorem value_eq (c : Dev nD) (t : Fin cfg0.N) (a : Fin 512) (b : Fin 2048) (i : Fin 4096) (hi : t.val * 512 + a.val = i.val) :
    (iblk m c 2 t : Vec Ideal S512x2048 .bf16) (ix2 a b) = m ((c : Thread nD τ).loc main_arg1) (ix2 i b) := by
  obtain ⟨i, _⟩ := i
  subst hi
  blk_point [iblk, V, idx t]

/-- Where a point's block lies in a result array. -/
theorem emb3 (t : Fin cfg0.N) (a : Fin 512) (b : Fin 2048) : (win0_3.blk t).view.emb (ix2 a b)
    = (ix2 ⟨t.val * 512 + a.val, by have h := lt_of_lt_of_eq t.isLt N_0; omega⟩ b : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb4 (t : Fin cfg0.N) (a : Fin 512) (b : Fin 2048) : (win0_4.blk t).view.emb (ix2 a b)
    = (ix2 ⟨t.val * 512 + a.val, by have h := lt_of_lt_of_eq t.isLt N_0; omega⟩ b : S4096x2048.Idx) := by
  have e := (idx_out t).2
  refine @funext (Fin 2) (fun d => Fin (S4096x2048.size d)) _ _ fun d => Fin.ext ?_
  match d with
  | ⟨0, _⟩ => blk_simp [e]
  | ⟨1, _⟩ => blk_simp [e]

/-- The reference's sigmoid. -/
theorem reference7 (x0 : Vec Ideal S4096x2048 .bf16) (i : S4096x2048.Idx) : val_main_v7 (F := Ideal) x0 i = sigm (x0 i) := by
  rw [val_main_v7_apply, val_main_v6_apply, val_main_cst_0_apply, val_main_v5_apply, val_main_v4_apply, val_main_cst_apply,
    val_main_v3_apply, val_main_v2_apply, val_main_v0_apply]
  exact sig_eq (x0 i)

theorem reference15 (x0 x1 : Vec Ideal S4096x2048 .bf16) (x2 : Vec Ideal S4096x2048 .f32) (i : S4096x2048.Idx) :
    val_main_v15 (F := Ideal) x0 x1 x2 i = slope (x2 i) (x1 i) (x0 i) := by
  rw [val_main_v15_apply, val_main_v14_apply, val_main_v13_apply, val_main_v10_apply, val_main_v9_apply, val_main_v8_apply,
    val_main_cst_1_apply, val_main_v1_apply, reference7]
  exact slope_eq (x2 i) (x1 i) (x0 i)

theorem reference16 (x0 : Vec Ideal S4096x2048 .bf16) (x2 : Vec Ideal S4096x2048 .f32) (i : S4096x2048.Idx) :
    val_main_v16 (F := Ideal) x0 x2 i = x2 i * sigm (x0 i) := by
  rw [val_main_v16_apply, val_main_v12_apply, reference7]
  exact mul_comm (sigm (x0 i)) (x2 i)

/-- The array of the gate's gradient. -/
theorem result3 (c : Dev nD) : (dats m 0 c).arrAt 3 cfg0.N = val_main_v15 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨a, b, rfl⟩ : ∃ (a : Fin 512) (b : Fin 2048), y = ix2 a b := ⟨y 0, y 1, ValueIdx.eq_ix2 y⟩
  rw [emb3, reference15]
  exact (out3_apply _ _ _ a b).trans (slope_congr (arrived_eq m c t a b _ rfl) (value_eq m c t a b _ rfl) (gate_eq m c t a b _ rfl))

/-- The array of the projected embedding's gradient. -/
theorem result4 (c : Dev nD) : (dats m 0 c).arrAt 4 cfg0.N = val_main_v16 (F := Ideal)
    (m ((c : Thread nD τ).loc main_arg0)) (m ((c : Thread nD τ).loc main_arg2)) := by
  refine (dats m 0 c).arrAt_eq_of_covers 4 _ (by decide +kernel) fun t hf y => ?_
  blk_simp
  rw [after0_4]
  obtain ⟨a, b, rfl⟩ : ∃ (a : Fin 512) (b : Fin 2048), y = ix2 a b := ⟨y 0, y 1, ValueIdx.eq_ix2 y⟩
  rw [emb4, reference16]
  exact (out4_apply _ _ _ a b).trans (congrArg₂ (fun p q : EReal => p * sigm q) (arrived_eq m c t a b _ rfl) (gate_eq m c t a b _ rfl))

end Cert.PledgateIdeal.Sum

end
-- ==== Proof.PledwpValue.lean ====
/-
  The weight gradient of the embedding's projection: what one grid point leaves in its block.
-/
module

public import proofs.«01_k».proof.Proof.Sums
public import proofs.«01_k».proof.Proof.Gen.PledwpIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.PledwpIdeal.Sum

open Idealize.ShloMosaic Idealize.ShloMosaic.TcCoe Idealize.SL.Sem
open Cert.PledwpIdeal Cert.PledwpIdeal.Gen

/-- Column `a` of the embeddings against column `b` of a block of the incoming gradient. -/
def part (p : Vec Ideal S4096x256 .bf16) (d : Vec Ideal S4096x256 .bf16) (a b : Fin 256) : EReal :=
  ∑ k : Fin 4096, p (ix2 k a) * d (ix2 k b)

theorem out2_apply (x0 x1 : Vec Ideal S4096x256 .bf16) (q : Fin 1) (a b : Fin 256) :
    out0_2 (F := Ideal) x0 x1 (ix3 q a b) = part x0 x1 a b := by
  unfold part
  unfold out0_2
  frame_out
  try canon_tiles x h
  all_goals
    open_payloads
    pointwise
    try rfl

end Cert.PledwpIdeal.Sum

end
-- ==== Proof.PledwpResult.lean ====
/-
  The weight gradient of the embedding's projection: the result array in closed form, the reference's, and that they agree.
-/
module

public import proofs.«01_k».proof.Proof.PledwpValue
public import proofs.«01_k».proof.Proof.Gen.PledwpReferenceIdeal.Read
public import proofs.«01_k».proof.Proof.Norm

@[expose] public section

noncomputable section

namespace Cert.PledwpIdeal.Sum

open Idealize.ShloMosaic Idealize.ShloMosaic.TcCoe Idealize.SL.Sem
open Cert.PledwpIdeal Cert.PledwpIdeal.Gen Cert.PledwpReferenceIdeal.Read

variable (m : (ℓ : Loc nD τ sig) → Buf (Elt Ideal) ℓ)

/-- The gradient at row `a` and column `b` of shard `q`. -/
def grad (p : Vec Ideal S4096x256 .f32) (d : Vec Ideal S4096x2048 .bf16) (q : Fin 8) (a b : Fin 256) : EReal :=
  ∑ k : Fin 4096, p (ix2 k a) * d (ix2 k ⟨q.val * 256 + b.val, by omega⟩)

/-- The grid's block indices, decided: shard `t`. -/
theorem idx : ∀ t : Fin cfg0.N, win0_0.index t = ![0, 0] ∧ win0_1.index t = ![0, t.val] :=
  (by decide +kernel : ∀ t : Fin grid0.N, _)

theorem idx_out : ∀ t : Fin cfg0.N, win0_2.index t = ![t.val, 0, 0] :=
  (by decide +kernel : ∀ t : Fin grid0.N, _)

/-- The blocks a point reads, as parts of the arrays. -/
theorem part_eq (c : Dev nD) (t : Fin cfg0.N) (a b : Fin 256) (q : Fin 8) (hq : t.val = q.val) :
    part (iblk m c 0 t) (iblk m c 1 t) a b = grad (m ((c : Thread nD τ).loc main_arg0)) (m ((c : Thread nD τ).loc main_arg1)) q a b := by
  unfold part grad
  refine Finset.sum_congr rfl fun k _ => ?_
  blk_point [iblk, V, idx t]

/-- Where a point's block lies in the result array. -/
theorem emb2 (t : Fin cfg0.N) (q : Fin 1) (a b : Fin 256) : (win0_2.blk t).view.emb (ix3 q a b)
    = (ix3 ⟨t.val, lt_of_lt_of_eq t.isLt N_0⟩ a b : S8x256x256.Idx) := by
  have e := idx_out t
  refine @funext (Fin 3) (fun d => Fin (S8x256x256.size d)) _ _ fun d => Fin.ext ?_
  match d with
  | ⟨0, _⟩ => blk_simp [e]
  | ⟨1, _⟩ => blk_simp [e]
  | ⟨2, _⟩ => blk_simp [e]

/-- The reference's array holds the same sums. -/
theorem reference7 (x0 : Vec Ideal S4096x256 .f32) (x1 : Vec Ideal S4096x2048 .bf16) (q : Fin 8) (a b : Fin 256) :
    val_main_v7 (F := Ideal) x0 x1 (ix3 q a b) = grad x0 x1 q a b := by
  rw [val_main_v7_apply]
  show val_main_v6 (F := Ideal) x0 x1 (ix3 q a b) = _
  rw [val_main_v6_apply, val_main_v5_apply, val_main_v4_apply, val_main_v3_apply]
  unfold grad
  refine Finset.sum_congr rfl fun k _ => ?_
  rw [mul_comm, val_main_v2_apply]
  show x0 _ * x1 _ = _
  refine congrArg₂ (fun p r => x0 p * x1 r) (Cert.Norm.at2 _ _ _ rfl ?_) (Cert.Norm.at2 _ _ _ rfl ?_)
  · show ((a.val * 8 + q.val) * 256 + b.val) / 2048 = a.val
    omega
  · show ((a.val * 8 + q.val) * 256 + b.val) % 2048 = q.val * 256 + b.val
    omega

/-- The kernel's array is the reference's. -/
theorem result2 (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨q, a, b, rfl⟩ : ∃ (q : Fin 1) (a b : Fin 256), y = ix3 q a b := ⟨y 0, y 1, y 2, ValueIdx.eq_ix3 y⟩
  rw [emb2, reference7]
  exact (out2_apply _ _ q a b).trans (part_eq m c t a b _ rfl)

end Cert.PledwpIdeal.Sum

end
-- ==== Proof.PledwgValue.lean ====
/-
  The weight gradient of the per-layer gate: what one grid point adds, and what its last point writes.
-/
module

public import proofs.«01_k».proof.Proof.Sums
public import proofs.«01_k».proof.Proof.Gen.PledwgIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.PledwgIdeal.Sum

open Idealize.ShloMosaic Idealize.ShloMosaic.TcCoe Idealize.SL.Sem
open Cert.PledwgIdeal Cert.PledwgIdeal.Gen Cert.PledwgIdeal.Value

variable (m : (ℓ : Loc nD τ sig) → Buf (Elt Ideal) ℓ)

/-- What one block of 1024 tokens adds at row `a` and column `b`. -/
def part (x0 : Vec Ideal S1024x1024 .bf16) (x1 : Vec Ideal S1024x2048 .bf16) (a : Fin 1024) (b : Fin 2048) : EReal :=
  ∑ k : Fin 1024, x0 (ix2 k a) * x1 (ix2 k b)

/-- The accumulating payload adds a block's part. -/
theorem pay2_apply (acc : Vec Ideal S1024x2048 .f32) (x0 : Vec Ideal S1024x1024 .bf16) (x1 : Vec Ideal S1024x2048 .bf16)
    (a : Fin 1024) (b : Fin 2048) :
    k0_pay2 (F := Ideal) acc x0 x1 (ix2 a b) = acc (ix2 a b) + part x0 x1 a b := by
  unfold k0_pay2 part
  pointwise

theorem pay1_apply (a : Fin 1024) (b : Fin 2048) : k0_pay1 (F := Ideal) (ix2 a b) = 0 := by
  unfold k0_pay1
  pointwise

/-- The grid's block indices, decided: block row `t / 4`, token block `t % 4`. -/
theorem idx : ∀ t : Fin cfg0.N, win0_0.index t = ![t.val % 4, t.val / 4] ∧ win0_1.index t = ![t.val % 4, 0] :=
  (by decide +kernel : ∀ t : Fin grid0.N, _)

/-- The scratch read whole is what it holds. -/
theorem scratch_read (x : Vec Ideal S1024x2048 .f32) :
    View.read (Elt Ideal) (View.whole cc0_scratch0) ((Memref.isWhole_whole cc0_scratch0).unread x) = x :=
  (Memref.isWhole_whole cc0_scratch0).read_unread x

/-- After the last token block the scratch holds the blocks' parts. -/
theorem scratch_eq (c : Dev nD) (t : Fin cfg0.N) (hf : t.val % 4 = 3) (a : Fin 1024) (b : Fin 2048) :
    (outsAt0 m c t.val t.isLt).2 (ix2 a b) = 0 + ∑ s : Fin 4,
      part (iblk m c 0 ⟨4 * (t.val / 4) + s.val, Pipeline.run_point_lt_of_flush t hf s⟩)
        (iblk m c 1 ⟨4 * (t.val / 4) + s.val, Pipeline.run_point_lt_of_flush t hf s⟩) a b := by
  refine Pipeline.eq_sum_fin_of_reset_step_apply_of_flush
    (fun n h (p : Fin 1024 × Fin 2048) => (outsAt0 m c n h).2 (ix2 p.1 p.2)) 4 (fun _ => (0 : EReal))
    (fun t p => part (iblk m c 0 t) (iblk m c 1 t) p.1 p.2) ?_ ?_ t hf (a, b)
  · intro t h p
    have h1 : ¬t.val % 4 = 3 := by omega
    rw [outsAt0_A m c t h h1]
    frame_out [scratch_read]
    rw [pay2_apply, pay1_apply]
  · intro t h p
    by_cases h1 : t.val % 4 = 3
    · rw [outsAt0_C m c t h h1]
      frame_out [scratch_read]
      rw [pay2_apply]
    · rw [outsAt0_B m c t h h1]
      frame_out [scratch_read]
      rw [pay2_apply]

/-- What the last point writes back is what the scratch then holds. -/
theorem out_eq (c : Dev nD) (t : Fin cfg0.N) (hf : t.val % 4 = 3) (a : Fin 1024) (b : Fin 2048) :
    (outsAt0 m c t.val t.isLt).1 (ix2 a b) = (outsAt0 m c t.val t.isLt).2 (ix2 a b) := by
  have h0 : ¬t.val % 4 = 0 := by omega
  rw [outsAt0_C m c t h0 hf]
  frame_out [scratch_read]
  canon_tiles x h
  all_goals
    open_payloads
    pointwise
    rw [View.readCov_eq_canon']
    simp (disch := decide) only [View.canon_cons_unit_lit']
    refine congrArg _ ?_
    funext d
    apply Fin.ext
    match d with
    | ⟨0, _⟩ => simp at h0 ⊢; omega
    | ⟨1, _⟩ => simp at h1 ⊢; omega

end Cert.PledwgIdeal.Sum

end
-- ==== Proof.PledwgResult.lean ====
/-
  The weight gradient of the per-layer gate: the result array in closed form, the reference's, and that the two agree.
-/
module

public import proofs.«01_k».proof.Proof.PledwgValue
public import proofs.«01_k».proof.Proof.Gen.PledwgReferenceIdeal.Read

@[expose] public section

noncomputable section

namespace Cert.PledwgIdeal.Sum

open Idealize.ShloMosaic Idealize.ShloMosaic.TcCoe Idealize.SL.Sem
open Cert.PledwgIdeal Cert.PledwgIdeal.Gen Cert.PledwgIdeal.Value Cert.PledwgReferenceIdeal.Read

variable (m : (ℓ : Loc nD τ sig) → Buf (Elt Ideal) ℓ)

/-- What token `k` adds at row `i` and column `j`. -/
def term (x0 : Vec Ideal S4096x2048 .bf16) (x1 : Vec Ideal S4096x2048 .bf16) (i : Fin 2048) (j : Fin 2048) (k : Fin 4096) : EReal :=
  x1 (ix2 k i) * x0 (ix2 k j)

/-- The gradient as one sum over all tokens. -/
def grad (x0 : Vec Ideal S4096x2048 .bf16) (x1 : Vec Ideal S4096x2048 .bf16) (i : Fin 2048) (j : Fin 2048) : EReal :=
  ∑ k : Fin 4096, term x0 x1 i j k

/-- A block's part reads the tokens of its block. -/
theorem part_eq (c : Dev nD) (t : Fin cfg0.N) (a : Fin 1024) (b : Fin 2048) (i : Fin 2048) (j : Fin 2048) (s : Fin 4)
    (hi : t.val / 4 * 1024 + a.val = i.val) (hj : 0 * 2048 + b.val = j.val) (hs : t.val % 4 = s.val) :
    part (iblk m c 0 t) (iblk m c 1 t) a b = ∑ k : Fin 1024, term (m ((c : Thread nD τ).loc main_arg0))
      (m ((c : Thread nD τ).loc main_arg1)) i j ⟨s.val * 1024 + k.val, by omega⟩ := by
  obtain ⟨i, _⟩ := i
  obtain ⟨j, _⟩ := j
  subst hi hj
  unfold part term
  refine Finset.sum_congr rfl fun k _ => ?_
  blk_point [iblk, V, idx t]

/-- What the result array holds. -/
theorem result (c : Dev nD) (i : Fin 2048) (j : Fin 2048) :
    G2 m c (ix2 i j) = grad (m ((c : Thread nD τ).loc main_arg0)) (m ((c : Thread nD τ).loc main_arg1)) i j := by
  obtain ⟨r, hr⟩ : ∃ r : ℕ, r = i.val / 1024 := ⟨_, rfl⟩
  have hp : pt2Of (ix2 i j) = 4 * r + 3 := by
    show 4 * (1 * (i.val / 1024 - 0) + 1 * (j.val / 2048 - 0)) + 3 = _
    omega
  have ht : 4 * r + 3 < cfg0.N := lt_of_lt_of_eq (by omega) N_0.symm
  have hl : loc2Of (ix2 i j) = ix2 ⟨i.val % 1024, by omega⟩ ⟨j.val % 2048, by omega⟩ := by
    funext d
    apply Fin.ext
    match d with
    | ⟨0, _⟩ => rfl
    | ⟨1, _⟩ => rfl
  have hf : (⟨4 * r + 3, ht⟩ : Fin cfg0.N).val % 4 = 3 := by show (4 * r + 3) % 4 = 3; omega
  unfold G2
  rw [dif_pos (hp ▸ ht), hl, fold0_congr m c _ _ _ (by omega) hp, ← outsAt0_sweep m c _ ht]
  rw [out_eq m c ⟨4 * r + 3, ht⟩ hf, scratch_eq m c ⟨4 * r + 3, ht⟩ hf, zero_add]
  unfold grad
  have e : ∀ s : Fin 4, _ := fun s => part_eq m c ⟨4 * ((4 * r + 3) / 4) + s.val, lt_of_lt_of_eq (by omega) N_0.symm⟩
    ⟨i.val % 1024, by omega⟩ ⟨j.val % 2048, by omega⟩ i j s (by show (4 * ((4 * r + 3) / 4) + s.val) / 4 * 1024 + i.val % 1024 = i.val; omega) (by show 0 * 2048 + j.val % 2048 = j.val; omega)
    (by show (4 * ((4 * r + 3) / 4) + s.val) % 4 = s.val; omega)
  refine (Finset.sum_congr rfl fun s _ => e s).trans ?_
  refine Fin.sum_mul_add_congr fun s k hl => ?_
  rfl

/-- The reference's array holds the same sums. -/
theorem reference_apply (x0 : Vec Ideal S4096x2048 .bf16) (x1 : Vec Ideal S4096x2048 .bf16) (i : Fin 2048) (j : Fin 2048) :
    Cert.PledwgReferenceIdeal.Read.val_main_v6 (F := Ideal) x0 x1 (ix2 i j) = grad x0 x1 i j := by
  rw [val_main_v6_apply]
  show val_main_v5 (F := Ideal) x0 x1 (ix2 i j) = _
  rw [val_main_v5_apply, val_main_v4_apply]
  unfold grad term
  refine Finset.sum_congr rfl fun k _ => ?_
  rw [mul_comm, val_main_v3_apply, val_main_v1_apply]
  show x1 _ * x0 _ = _
  refine congrArg₂ (fun p r => x1 p * x0 r) (funext fun d => Fin.ext ?_) (funext fun d => Fin.ext ?_)
  · match d with
    | ⟨0, _⟩ => rfl
    | ⟨1, _⟩ => rfl
  · match d with
    | ⟨0, _⟩ => rfl
    | ⟨1, _⟩ => rfl

/-- The kernel's array is the reference's. -/
theorem agree (c : Dev nD) : G2 m c = Cert.PledwgReferenceIdeal.Read.val_main_v6 (F := Ideal)
    (m ((c : Thread nD τ).loc main_arg0)) (m ((c : Thread nD τ).loc main_arg1)) := by
  funext i
  rw [ValueIdx.eq_ix2 i]
  exact (result m c _ _).trans (reference_apply _ _ _ _).symm

end Cert.PledwgIdeal.Sum

end
-- ==== Proof.PledxValue.lean ====
/-
  The input gradient of the per-layer embedding's gate: what one grid point leaves in its blocks.
-/
module

public import proofs.«01_k».proof.Proof.Norm
public import proofs.«01_k».proof.Proof.Gen.PledxIdeal.Value
public import Idealize.ShloMosaic.Lib.Pointwise.Tactic
public import Idealize.ShloMosaic.Lib.Pipeline.ValueKit.Point
public import Idealize.ShloMosaic.Lib.Pipeline.ValueKit.Geometry

@[expose] public section

noncomputable section

namespace Cert.PledxIdeal.Sum

open Idealize.ShloMosaic Idealize.ShloMosaic.TcCoe Idealize.SL.Sem
open Cert.PledxIdeal Cert.PledxIdeal.Gen Cert.PledxIdeal.Value Cert.Norm

variable (m : (ℓ : Loc nD τ sig) → Buf (Elt Ideal) ℓ)

/-- A row of the gate's gradient against row `b` of the weight. -/
def part (x : Vec Ideal S256x2048 .bf16) (w : Vec Ideal S2048x2048 .bf16) (a : Fin 256) (b : Fin 2048) : EReal :=
  ∑ k : Fin 2048, x (ix2 a k) * w (ix2 b k)

theorem pay4_apply (x : Vec Ideal S256x2048 .bf16) (w : Vec Ideal S2048x2048 .bf16) (a : Fin 256) (b : Fin 2048) :
    k0_pay4 (F := Ideal) x w (ix2 a b) = part x w a b := by
  unfold k0_pay4 part
  pointwise

/-- The two groups of 128 rows. -/
theorem pay5_slice (x : Vec Ideal S256x2048 .bf16) (w : Vec Ideal S2048x2048 .bf16) (k : Fin 128) (b : Fin 2048) :
    k0_pay5 (F := Ideal) x w (ix2 k b) = k0_pay4 x w (ix2 ⟨k.val, by omega⟩ b) := by
  unfold k0_pay5
  refine congrArg (k0_pay4 x w) (funext fun d => Fin.ext ?_)
  match d with
  | ⟨0, _⟩ => show 0 + k.val = k.val; omega
  | ⟨1, _⟩ => show 0 + b.val = b.val; omega

theorem pay11_slice (v : FVec Ideal S256x2048 .f32) (k : Fin 128) (b : Fin 2048) :
    k0_pay11 (F := Ideal) v (ix2 k b) = v (ix2 ⟨128 + k.val, by omega⟩ b) := by
  unfold k0_pay11
  refine congrArg v (funext fun d => Fin.ext ?_)
  match d with
  | ⟨0, _⟩ => rfl
  | ⟨1, _⟩ => show 0 + b.val = b.val; omega

/-- The narrow format is exact here. -/
theorem pay1_eq (v : FVec Ideal S128x2048 .f32) : k0_pay1 (F := Ideal) v = v := rfl
theorem pay10_eq (v : FVec Ideal S128x2048 .f32) : k0_pay10 (F := Ideal) v = v := rfl

/-- The reciprocal root mean square of a row of a group. -/
theorem pay6_apply (x : Vec Ideal S128x2048 .f32) (a : Fin 128) (q : Fin 1) : k0_pay6 (F := Ideal) x (ix2 a q) = recip fun j => x (ix2 a j) := by
  unfold k0_pay6 recip square
  pointwise

theorem pay12_eq : k0_pay12 (F := Ideal) = k0_pay6 := rfl

/-- The gradient of a row of either group. -/
theorem pay7_apply (d : Vec Ideal S256x2048 .bf16) (v : Vec Ideal S2048x2048 .bf16) (x : Vec Ideal S128x2048 .f32) (w : Vec Ideal S1x2048 .f32)
    (r : Vec Ideal S128x2048 .f32) (a : Fin 128) (b : Fin 2048) : k0_pay7 (F := Ideal) d v x w r (ix2 a b)
      = back (fun j => k0_pay4 d v (ix2 ⟨a.val, by omega⟩ j)) (fun j => x (ix2 a j)) (fun j => w (ix2 0 j)) (r (ix2 a b)) b := by
  simp only [← pay5_slice]
  unfold k0_pay7 back
  pointwise
  rw [pay6_apply]

theorem pay13_apply (d : FVec Ideal S256x2048 .f32) (x : Vec Ideal S128x2048 .f32) (w : Vec Ideal S1x2048 .f32)
    (r : Vec Ideal S128x2048 .f32) (a : Fin 128) (b : Fin 2048) : k0_pay13 (F := Ideal) d x w r (ix2 a b)
      = back (fun j => d (ix2 ⟨128 + a.val, by omega⟩ j)) (fun j => x (ix2 a j)) (fun j => w (ix2 0 j)) (r (ix2 a b)) b := by
  simp only [← pay11_slice]
  unfold k0_pay13 back
  pointwise
  rw [pay12_eq, pay6_apply]

/-- The groups' shares of the scale's gradient. -/
theorem pay9_apply (d : Vec Ideal S256x2048 .bf16) (v : Vec Ideal S2048x2048 .bf16) (x : Vec Ideal S128x2048 .f32) (q : Fin 1) (b : Fin 2048) :
    k0_pay9 (F := Ideal) (k0_pay8 d v x) (ix2 q b) = ∑ a : Fin 128, k0_pay5 d v (ix2 a b) * x (ix2 a b) * recip (fun j => x (ix2 a j)) := by
  unfold k0_pay9 k0_pay8
  pointwise
  simp only [pay6_apply]

theorem pay14_apply (d : FVec Ideal S256x2048 .f32) (x : Vec Ideal S128x2048 .f32) (q : Fin 1) (b : Fin 2048) :
    k0_pay14 (F := Ideal) d x (ix2 q b) = ∑ a : Fin 128, k0_pay11 d (ix2 a b) * x (ix2 a b) * recip (fun j => x (ix2 a j)) := by
  unfold k0_pay14
  pointwise
  simp only [pay12_eq, pay6_apply]

theorem pay2_apply (u v : FVec Ideal S1x2048 .f32) (q : Fin 1) (b : Fin 2048) :
    k0_pay2 (F := Ideal) u v (ix2 q b) = u (ix2 q b) + v (ix2 q b) := by
  unfold k0_pay2
  pointwise

theorem pay3_apply (u v : FVec Ideal S1x2048 .f32) (z : Vec Ideal S1x2048 .f32) (q : Fin 1) (b : Fin 2048) :
    k0_pay3 (F := Ideal) u v z (ix2 q b) = z (ix2 q b) + (u (ix2 q b) + v (ix2 q b)) := by
  unfold k0_pay3
  pointwise
  rw [pay2_apply]

/-- A point other than the first is past the start of the grid. -/
theorem later (t : Fin cfg0.N) (h : t.val ≠ 0) : ¬t.val % 16 = 0 := by
  have h' := lt_of_lt_of_eq t.isLt N_0
  omega

/-- A grid point leaves the gradient of its rows. -/
theorem out5_eq (c : Dev nD) (t : Fin cfg0.N) (a : Fin 256) (b : Fin 2048) :
    (outsAt0 m c t.val t.isLt).1 (ix2 a b) = back (part (iblk m c 0 t) (iblk m c 1 t) a) (fun j => iblk m c 2 t (ix2 a j))
      (fun j => iblk m c 3 t (ix2 0 j)) (iblk m c 4 t (ix2 a b)) b := by
  by_cases h2 : t.val = 0
  · rw [outsAt0_A m c t (by omega) (by omega)]
    frame_out []
    canon_tiles x h
    all_goals
      try simp only [pay1_eq, pay10_eq]
      obtain ⟨p, q, rfl⟩ : ∃ (p : Fin 128) (q : Fin 2048), x = ix2 p q := ⟨x 0, x 1, ValueIdx.eq_ix2 x⟩
      first | rw [pay13_apply] | rw [pay7_apply]
      refine back_congr (fun j => ?_) (fun j => ?_) (fun j => rfl) ?_ ?_
      · rw [← pay4_apply]
        refine congrArg (k0_pay4 _ _) (congrArg₂ ix2 (Fin.ext ?_) rfl)
        simp at h0 ⊢; omega
      · refine congrArg (iblk m c 2 t) (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp at h1 ⊢; omega
      · exact Fin.ext (by simp at h1; omega)
  · rw [outsAt0_B m c t (later t h2) (by omega)]
    frame_out []
    canon_tiles x h
    all_goals
      try simp only [pay1_eq, pay10_eq]
      obtain ⟨p, q, rfl⟩ : ∃ (p : Fin 128) (q : Fin 2048), x = ix2 p q := ⟨x 0, x 1, ValueIdx.eq_ix2 x⟩
      first | rw [pay13_apply] | rw [pay7_apply]
      refine back_congr (fun j => ?_) (fun j => ?_) (fun j => rfl) ?_ ?_
      · rw [← pay4_apply]
        refine congrArg (k0_pay4 _ _) (congrArg₂ ix2 (Fin.ext ?_) rfl)
        simp at h0 ⊢; omega
      · refine congrArg (iblk m c 2 t) (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp at h1 ⊢; omega
      · exact Fin.ext (by simp at h1; omega)

/-- … and the same in the narrow format. -/
theorem out6_eq (c : Dev nD) (t : Fin cfg0.N) (a : Fin 256) (b : Fin 2048) :
    (outsAt0 m c t.val t.isLt).2.1 (ix2 a b) = back (part (iblk m c 0 t) (iblk m c 1 t) a) (fun j => iblk m c 2 t (ix2 a j))
      (fun j => iblk m c 3 t (ix2 0 j)) (iblk m c 4 t (ix2 a b)) b := by
  by_cases h2 : t.val = 0
  · rw [outsAt0_A m c t (by omega) (by omega)]
    frame_out []
    canon_tiles x h
    all_goals
      try simp only [pay1_eq, pay10_eq]
      obtain ⟨p, q, rfl⟩ : ∃ (p : Fin 128) (q : Fin 2048), x = ix2 p q := ⟨x 0, x 1, ValueIdx.eq_ix2 x⟩
      first | rw [pay13_apply] | rw [pay7_apply]
      refine back_congr (fun j => ?_) (fun j => ?_) (fun j => rfl) ?_ ?_
      · rw [← pay4_apply]
        refine congrArg (k0_pay4 _ _) (congrArg₂ ix2 (Fin.ext ?_) rfl)
        simp at h0 ⊢; omega
      · refine congrArg (iblk m c 2 t) (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp at h1 ⊢; omega
      · exact Fin.ext (by simp at h1; omega)
  · rw [outsAt0_B m c t (later t h2) (by omega)]
    frame_out []
    canon_tiles x h
    all_goals
      try simp only [pay1_eq, pay10_eq]
      obtain ⟨p, q, rfl⟩ : ∃ (p : Fin 128) (q : Fin 2048), x = ix2 p q := ⟨x 0, x 1, ValueIdx.eq_ix2 x⟩
      first | rw [pay13_apply] | rw [pay7_apply]
      refine back_congr (fun j => ?_) (fun j => ?_) (fun j => rfl) ?_ ?_
      · rw [← pay4_apply]
        refine congrArg (k0_pay4 _ _) (congrArg₂ ix2 (Fin.ext ?_) rfl)
        simp at h0 ⊢; omega
      · refine congrArg (iblk m c 2 t) (funext fun d => Fin.ext ?_)
        match d with
        | ⟨0, _⟩ => simp at h0 ⊢; omega
        | ⟨1, _⟩ => simp
      · refine congrArg (iblk m c 4 t) (funext fun d => Fin.ext ?_)
        match d with
        | ⟨0, _⟩ => simp at h0 ⊢; omega
        | ⟨1, _⟩ => simp at h1 ⊢; omega
      · exact Fin.ext (by simp at h1; omega)

/-- What a row of a block adds to a column of the scale's gradient. -/
def share (d : Vec Ideal S256x2048 .bf16) (w : Vec Ideal S2048x2048 .bf16) (x : Vec Ideal S256x2048 .f32) (b : Fin 2048) (a : Fin 256) : EReal :=
  part d w a b * x (ix2 a b) * recip (fun j => x (ix2 a j))

/-- What a row of either group adds. -/
theorem first_share (d : Vec Ideal S256x2048 .bf16) (w : Vec Ideal S2048x2048 .bf16) (y : Vec Ideal S256x2048 .f32) (x : Vec Ideal S128x2048 .f32)
    (k : Fin 128) (b : Fin 2048) (i : Fin 256) (hi : i.val = k.val) (hx : ∀ j, x (ix2 k j) = y (ix2 i j)) :
    k0_pay5 d w (ix2 k b) * x (ix2 k b) * recip (fun j => x (ix2 k j)) = share d w y b i := by
  unfold share
  rw [pay5_slice, pay4_apply, hx, funext hx, show (⟨k.val, by omega⟩ : Fin 256) = i from Fin.ext hi.symm]

theorem second_share (d : Vec Ideal S256x2048 .bf16) (w : Vec Ideal S2048x2048 .bf16) (y : Vec Ideal S256x2048 .f32) (x : Vec Ideal S128x2048 .f32)
    (k : Fin 128) (b : Fin 2048) (i : Fin 256) (hi : i.val = 128 + k.val) (hx : ∀ j, x (ix2 k j) = y (ix2 i j)) :
    k0_pay11 (k0_pay4 d w) (ix2 k b) * x (ix2 k b) * recip (fun j => x (ix2 k j)) = share d w y b i := by
  unfold share
  rw [pay11_slice, pay4_apply, hx, funext hx, show (⟨128 + k.val, by omega⟩ : Fin 256) = i from Fin.ext hi.symm]

/-- Two groups of 128 rows are the block's 256. -/
theorem sum_two (f : Fin 256 → EReal) :
    (∑ k : Fin 128, f ⟨(0 : Fin 2).val * 128 + k.val, by omega⟩) + (∑ k : Fin 128, f ⟨(1 : Fin 2).val * 128 + k.val, by omega⟩) = ∑ a, f a := by
  rw [← Fin.sum_univ_two (fun s : Fin 2 => ∑ k : Fin 128, f ⟨s.val * 128 + k.val, by omega⟩)]
  exact Fin.sum_mul_add_congr fun s k hl => rfl

/-- The first point leaves its share. -/
theorem out7_first (c : Dev nD) (t : Fin cfg0.N) (h2 : t.val = 0) (q : Fin 1) (b : Fin 2048) :
    (outsAt0 m c t.val t.isLt).2.2 (ix2 q b) = ∑ a, share (iblk m c 0 t) (iblk m c 1 t) (iblk m c 2 t) b a := by
  rw [outsAt0_A m c t (by omega) (by omega)]
  frame_out []
  rw [pay2_apply, pay9_apply, pay14_apply]
  refine Eq.trans ?_ (sum_two (share (iblk m c 0 t) (iblk m c 1 t) (iblk m c 2 t) b))
  refine congrArg₂ (· + ·) ?_ ?_
  · refine Finset.sum_congr rfl fun k _ => first_share _ _ (iblk m c 2 t) _ k b _ (by simp) fun j => ?_
    refine congrArg (iblk m c 2 t) (funext fun d => Fin.ext ?_)
    match d with
    | ⟨0, _⟩ => simp
    | ⟨1, _⟩ => simp
  · refine Finset.sum_congr rfl fun k _ => second_share _ _ (iblk m c 2 t) _ k b _ (by simp) fun j => ?_
    refine congrArg (iblk m c 2 t) (funext fun d => Fin.ext ?_)
    match d with
    | ⟨0, _⟩ => simp
    | ⟨1, _⟩ => simp

/-- A later point adds its share to what was there. -/
theorem out7_next (c : Dev nD) (t : Fin cfg0.N) (h2 : t.val ≠ 0) (q : Fin 1) (b : Fin 2048) :
    (outsAt0 m c t.val t.isLt).2.2 (ix2 q b) = (outsAt0 m c (t.val - 1) (Nat.lt_of_le_of_lt (Nat.sub_le _ _) t.isLt)).2.2 (ix2 q b)
      + ∑ a, share (iblk m c 0 t) (iblk m c 1 t) (iblk m c 2 t) b a := by
  rw [outsAt0_B m c t (later t h2) (by omega)]
  frame_out []
  rw [pay3_apply, pay9_apply, pay14_apply]
  refine congrArg (fun v => (outsAt0 m c (t.val - 1) (Nat.lt_of_le_of_lt (Nat.sub_le _ _) t.isLt)).2.2 (ix2 q b) + v) ?_
  refine Eq.trans ?_ (sum_two (share (iblk m c 0 t) (iblk m c 1 t) (iblk m c 2 t) b))
  refine congrArg₂ (· + ·) ?_ ?_
  · refine Finset.sum_congr rfl fun k _ => first_share _ _ (iblk m c 2 t) _ k b _ (by simp) fun j => ?_
    refine congrArg (iblk m c 2 t) (funext fun d => Fin.ext ?_)
    match d with
    | ⟨0, _⟩ => simp
    | ⟨1, _⟩ => simp
  · refine Finset.sum_congr rfl fun k _ => second_share _ _ (iblk m c 2 t) _ k b _ (by simp) fun j => ?_
    refine congrArg (iblk m c 2 t) (funext fun d => Fin.ext ?_)
    match d with
    | ⟨0, _⟩ => simp
    | ⟨1, _⟩ => simp

end Cert.PledxIdeal.Sum

end
-- ==== Proof.PledxResult.lean ====
/-
  The input gradient of the per-layer embedding's gate: the result arrays in closed form, the reference's, and that they agree where
  the gradient, the weight, the input and the scale are finite.
-/
module

public import proofs.«01_k».proof.Proof.PledxValue
public import proofs.«01_k».proof.Defs
public import Idealize.ShloMosaic.Lib.Pipeline.ValueKit.Partial
public import proofs.«01_k».proof.Proof.Gen.Pre_pledx_finite
public import proofs.«01_k».proof.Proof.Gen.PledxReferenceIdeal.Read

@[expose] public section

noncomputable section

namespace Cert.PledxIdeal.Sum

open Idealize.ShloMosaic Idealize.ShloMosaic.TcCoe Idealize.SL.Sem
open Cert.PledxIdeal Cert.PledxIdeal.Gen Cert.PledxReferenceIdeal.Read Cert.Norm

variable (m : (ℓ : Loc nD τ sig) → Buf (Elt Ideal) ℓ)

/-! ## What the kernel leaves -/

/-- A token's gradient before the normalisation: its gate's gradient against row `b` of the weight. -/
def before (d : Vec Ideal S4096x2048 .bf16) (w : Vec Ideal S2048x2048 .f32) (i : Fin 4096) (b : Fin 2048) : EReal :=
  ∑ k : Fin 2048, d (ix2 i k) * w (ix2 b k)

/-- The grid's block indices, decided: row block `t`. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] :=
  (by decide +kernel : ∀ t : Fin grid0.N, _)

/-- A token's gradient before the normalisation, of this call's arguments. -/
def grad (c : Dev nD) (i : Fin 4096) (b : Fin 2048) : EReal :=
  before (m ((c : Thread nD τ).loc main_arg0)) (m ((c : Thread nD τ).loc main_arg1)) i b

/-- A block's product is the gradient before the normalisation. -/
theorem sums_row (c : Dev nD) (t : Fin cfg0.N) (a : Fin 256) (b : Fin 2048) (i : Fin 4096) (hi : t.val * 256 + a.val = i.val) :
    part (iblk m c 0 t) (iblk m c 1 t) a b = grad m c i b := by
  obtain ⟨i, _⟩ := i
  subst hi
  unfold part grad before
  refine Finset.sum_congr rfl fun k _ => ?_
  blk_point [iblk, V, idx t]

theorem input_eq (c : Dev nD) (t : Fin cfg0.N) (a : Fin 256) (b : Fin 2048) (i : Fin 4096) (hi : t.val * 256 + a.val = i.val) :
    iblk m c 2 t (ix2 a b) = m ((c : Thread nD τ).loc main_arg2) (ix2 i b) := by
  obtain ⟨i, _⟩ := i
  subst hi
  blk_point [iblk, V, idx t]

theorem scale_eq (c : Dev nD) (t : Fin cfg0.N) (q : Fin 1) (b : Fin 2048) :
    iblk m c 3 t (ix2 q b) = m ((c : Thread nD τ).loc main_arg3) (ix2 q b) := by
  blk_point [iblk, V, idx t]

theorem arrived_eq (c : Dev nD) (t : Fin cfg0.N) (a : Fin 256) (b : Fin 2048) (i : Fin 4096) (hi : t.val * 256 + a.val = i.val) :
    iblk m c 4 t (ix2 a b) = m ((c : Thread nD τ).loc main_arg4) (ix2 i b) := by
  obtain ⟨i, _⟩ := i
  subst hi
  blk_point [iblk, V, idx t]

/-- A token's row of the input, and the scale. -/
def row (c : Dev nD) (i : Fin 4096) (b : Fin 2048) : EReal := m ((c : Thread nD τ).loc main_arg2) (ix2 i b)
def scale (c : Dev nD) (b : Fin 2048) : EReal := m ((c : Thread nD τ).loc main_arg3) (ix2 0 b)

/-- The array of gradients. -/
def closed (c : Dev nD) (j : S4096x2048.Idx) : EReal :=
  back (grad m c (j 0)) (row m c (j 0)) (scale m c) (m ((c : Thread nD τ).loc main_arg4) j) (j 1)

/-- Where a point's block lies in the result arrays. -/
theorem idx_out : ∀ t : Fin cfg0.N, win0_5.index t = ![t.val, 0] ∧ win0_6.index t = ![t.val, 0] ∧ win0_7.index t = ![0, 0] :=
  (by decide +kernel : ∀ t : Fin grid0.N, _)

theorem emb5 (t : Fin cfg0.N) (a : Fin 256) (b : Fin 2048) : (win0_5.blk t).view.emb (ix2 a b)
    = (ix2 ⟨t.val * 256 + a.val, by have h := lt_of_lt_of_eq t.isLt N_0; omega⟩ b : S4096x2048.Idx) := by
  have e := (idx_out t).1
  refine @funext (Fin 2) (fun d => Fin (S4096x2048.size d)) _ _ fun d => Fin.ext ?_
  match d with
  | ⟨0, _⟩ => blk_simp [e]
  | ⟨1, _⟩ => blk_simp [e]

theorem emb6 (t : Fin cfg0.N) (a : Fin 256) (b : Fin 2048) : (win0_6.blk t).view.emb (ix2 a b)
    = (ix2 ⟨t.val * 256 + a.val, by have h := lt_of_lt_of_eq t.isLt N_0; omega⟩ b : S4096x2048.Idx) := by
  have e := (idx_out t).2.1
  refine @funext (Fin 2) (fun d => Fin (S4096x2048.size d)) _ _ fun d => Fin.ext ?_
  match d with
  | ⟨0, _⟩ => blk_simp [e]
  | ⟨1, _⟩ => blk_simp [e]

theorem emb7 (t : Fin cfg0.N) (q : Fin 1) (b : Fin 2048) : (win0_7.blk t).view.emb (ix2 q b) = (ix2 q b : S1x2048.Idx) := by
  have e := (idx_out t).2.2
  refine @funext (Fin 2) (fun d => Fin (S1x2048.size d)) _ _ fun d => Fin.ext ?_
  match d with
  | ⟨0, _⟩ => blk_simp [e]
  | ⟨1, _⟩ => blk_simp [e]

/-- A written block's row. -/
theorem block_row (c : Dev nD) (t : Fin cfg0.N) (a : Fin 256) (b : Fin 2048) (i : Fin 4096) (hi : t.val * 256 + a.val = i.val) :
    back (part (iblk m c 0 t) (iblk m c 1 t) a) (fun j => iblk m c 2 t (ix2 a j)) (fun j => iblk m c 3 t (ix2 0 j))
      (iblk m c 4 t (ix2 a b)) b = closed m c (ix2 i b) :=
  back_congr (fun j => sums_row m c t a j i hi) (fun j => input_eq m c t a j i hi) (fun j => scale_eq m c t 0 j)
    (arrived_eq m c t a b i hi) rfl

/-- The array of gradients after the call. -/
theorem result5 (c : Dev nD) : (dats m 0 c).arrAt 5 cfg0.N = closed m c := by
  refine (dats m 0 c).arrAt_eq_of_covers 5 _ (by decide +kernel) fun t hf y => ?_
  blk_simp
  rw [after0_5]
  obtain ⟨a, b, rfl⟩ : ∃ (a : Fin 256) (b : Fin 2048), y = ix2 a b := ⟨y 0, y 1, ValueIdx.eq_ix2 y⟩
  rw [emb5]
  exact (out5_eq m c t a b).trans (block_row m c t a b _ rfl)

/-- The same array in the narrow format. -/
theorem result6 (c : Dev nD) : (dats m 0 c).arrAt 6 cfg0.N = closed m c := by
  refine (dats m 0 c).arrAt_eq_of_covers 6 _ (by decide +kernel) fun t hf y => ?_
  blk_simp
  rw [after0_6]
  obtain ⟨a, b, rfl⟩ : ∃ (a : Fin 256) (b : Fin 2048), y = ix2 a b := ⟨y 0, y 1, ValueIdx.eq_ix2 y⟩
  rw [emb6]
  exact (out6_eq m c t a b).trans (block_row m c t a b _ rfl)

/-- What a token adds to the scale's gradient. -/
def token (c : Dev nD) (b : Fin 2048) (i : Fin 4096) : EReal := grad m c i b * row m c i b * recip (row m c i)

/-- What the tokens of row block `s` add. -/
def tokens (c : Dev nD) (b : Fin 2048) (s : Nat) : EReal := ∑ a : Fin 256, token m c b ⟨(s * 256 + a.val) % 4096, Nat.mod_lt _ (by omega)⟩

/-- The sixteen blocks' tokens are all of them. -/
theorem tokens_sum (c : Dev nD) (b : Fin 2048) : ∑ s ∈ Finset.range 16, tokens m c b s = ∑ i, token m c b i := by
  rw [Finset.sum_range]
  exact Fin.sum_mul_add_congr fun s k hl => congrArg (token m c b) (Fin.ext (Nat.mod_eq_of_lt hl))

theorem share_eq (c : Dev nD) (t : Fin cfg0.N) (b : Fin 2048) :
    ∑ a, share (iblk m c 0 t) (iblk m c 1 t) (iblk m c 2 t) b a = tokens m c b t.val := by
  refine Finset.sum_congr rfl fun a _ => ?_
  have hi : t.val * 256 + a.val = (⟨(t.val * 256 + a.val) % 4096, Nat.mod_lt _ (by omega)⟩ : Fin 4096).val := by
    have h := lt_of_lt_of_eq t.isLt N_0
    exact (Nat.mod_eq_of_lt (by omega)).symm
  unfold share token
  rw [sums_row m c t a b _ hi, input_eq m c t a b _ hi, funext fun j => input_eq m c t a j _ hi]
  rfl

/-- After a point the scale's gradient holds the blocks so far. -/
theorem so_far (c : Dev nD) (b : Fin 2048) : ∀ (n : Nat) (h : n < cfg0.N),
    (outsAt0 m c n h).2.2 (ix2 0 b) = ∑ r ∈ Finset.range (n + 1), tokens m c b r := by
  intro n
  induction n with
  | zero =>
    intro h
    rw [Finset.sum_range_one]
    exact (out7_first m c ⟨0, h⟩ rfl 0 b).trans (share_eq m c ⟨0, h⟩ b)
  | succ n ih =>
    intro h
    rw [Finset.sum_range_succ, ← ih (by omega)]
    exact (out7_next m c ⟨n + 1, h⟩ (by show n + 1 ≠ 0; omega) 0 b).trans (congrArg (_ + ·) (share_eq m c ⟨n + 1, h⟩ b))

/-- The scale's gradient after the call. -/
theorem result7 (c : Dev nD) : (dats m 0 c).arrAt 7 cfg0.N = fun j : S1x2048.Idx => ∑ i, token m c (j 1) i := by
  refine (dats m 0 c).arrAt_eq_of_covers 7 _ (by decide +kernel) fun t hf y => ?_
  have hf' : t.val = 15 := (by decide +kernel : ∀ t : Fin grid0.N, win0_7.flush t = true → t.val = 15) t hf
  blk_simp
  rw [after0_7]
  obtain ⟨q, b, rfl⟩ : ∃ (q : Fin 1) (b : Fin 2048), y = ix2 q b := ⟨y 0, y 1, ValueIdx.eq_ix2 y⟩
  rw [emb7, Subsingleton.elim q 0]
  refine (so_far m c b t.val t.isLt).trans ?_
  rw [hf']
  exact tokens_sum m c b

/-! ## What the reference leaves -/

section Reference

variable (x0 : Vec Ideal S4096x2048 .bf16) (x1 : Vec Ideal S2048x2048 .f32) (x2 : Vec Ideal S4096x2048 .f32) (x3 : Vec Ideal S1x2048 .f32)
  (x4 : Vec Ideal S4096x2048 .f32)

theorem ref_square (i : Fin 4096) (q : Fin 1) : val_main_v7 (F := Ideal) x2 (ix2 i q) = square fun j => x2 (ix2 i j) := by
  rw [val_main_v7_apply, val_main_v5_apply, val_main_v3_apply, val_main_v2_apply, val_main_v4_apply, val_main_v6_apply,
    val_main_cst_apply, val_main_cst_0_apply, val_main_cst_1_apply]
  unfold square
  have e : ∀ k : Fin 2048, val_main_v1 (F := Ideal) x2 (idx_main_v2 (idx_main_v3 (ix2 i q)) k) = x2 (ix2 i k) * x2 (ix2 i k) := by
    intro k
    rw [at2 (idx_main_v2 (idx_main_v3 (ix2 i q)) k) i k rfl rfl, val_main_v1_apply]
    rfl
  rw [Finset.sum_congr rfl fun k _ => e k]
  show Ideal.div (Ideal.ofBits .f32 0x00000000#32 + _) _ + _ = _
  rw [zero_eq, zero_add]
  rfl

theorem ref_recip (i : Fin 4096) (q : Fin 1) : val_main_v8 (F := Ideal) x2 (ix2 i q) = recip fun j => x2 (ix2 i j) := by
  rw [val_main_v8_apply, ref_square]
  rfl

theorem ref_scale (i : Fin 4096) (b : Fin 2048) : val_main_v23 (F := Ideal) x3 (ix2 i b) = x3 (ix2 0 b) := by
  rw [val_main_v23_apply, val_main_v14_apply, val_main_v0_apply]
  exact congrArg x3 (at2 _ 0 b rfl (by first | rfl | (show b.val % 2048 = b.val; omega)))

theorem ref_before (i : Fin 4096) (b : Fin 2048) : val_main_v19 (F := Ideal) x0 x1 (ix2 i b) = before x0 x1 i b := by
  rw [val_main_v19_apply]
  unfold before
  refine Finset.sum_congr rfl fun k _ => ?_
  rw [val_main_v18_apply]
  exact congrArg₂ (fun p r => x0 p * x1 r) (at2 _ i k rfl rfl) (at2 _ b k rfl rfl)

/-- The gradient of the normalised row. -/
theorem ref_scaled (i : Fin 4096) (b : Fin 2048) : val_main_v24 (F := Ideal) x0 x1 x3 (ix2 i b) = before x0 x1 i b * x3 (ix2 0 b) := by
  rw [val_main_v24_apply, ref_before, ref_scale]
  rfl

/-- What the mean square sends back. -/
theorem ref_slope (i : Fin 4096) (b : Fin 2048) : val_main_v36 (F := Ideal) x0 x1 x2 x3 (ix2 i b)
    = slope (before x0 x1 i) (fun j => x2 (ix2 i j)) (fun j => x3 (ix2 0 j)) := by
  have e : ∀ k : Fin 2048, val_main_v26 (F := Ideal) x0 x1 x2 x3 (ix2 i k) = x2 (ix2 i k) * (before x0 x1 i k * x3 (ix2 0 k)) := by
    intro k
    rw [val_main_v26_apply, ref_scaled]
    rfl
  have e27 : ∀ j : Cert.PledxReferenceIdeal.S4096.Idx, (j 0).val = i.val → val_main_v27 (F := Ideal) x0 x1 x2 x3 j
      = ∑ k : Fin 2048, x2 (ix2 i k) * (before x0 x1 i k * x3 (ix2 0 k)) := by
    intro j hj
    rw [val_main_v27_apply, val_main_cst_5_apply]
    show Ideal.ofBits .f32 0x00000000#32 + _ = _
    rw [zero_eq, zero_add]
    refine Finset.sum_congr rfl fun k _ => ?_
    rw [at2 (idx_main_v27 j k) i k hj rfl, e]
  have e34 : ∀ j : Cert.PledxReferenceIdeal.S4096x1.Idx, (j 0).val = i.val → val_main_v34 (F := Ideal) x0 x1 x2 x3 j
      = slope (before x0 x1 i) (fun j => x2 (ix2 i j)) (fun j => x3 (ix2 0 j)) := by
    intro j hj
    have e0 : j = ix2 i 0 := at2 j i 0 hj (by have h := (j 1).isLt; show (j 1).val = 0; exact Nat.lt_one_iff.1 h)
    have h28 : (j 0).val * 1 + (j 1).val = i.val := by
      have h : (j 1).val = 0 := Nat.lt_one_iff.1 (j 1).isLt
      omega
    rw [val_main_v34_apply, val_main_v32_apply, val_main_v28_apply, e27 _ h28, val_main_v11_apply, val_main_v10_apply, val_main_cst_2_apply,
      val_main_v9_apply, val_main_v33_apply, val_main_cst_6_apply, e0, ref_recip, ref_square]
    rfl
  rw [val_main_v36_apply, val_main_v35_apply, val_main_cst_7_apply]
  show Ideal.ofBits .f32 0x00000000#32 + _ = _
  rw [zero_eq, zero_add, Fin.sum_univ_one]
  exact e34 _ rfl

/-- A row of the reference's gradient, where everything it is made of but what has arrived is finite. -/
theorem ref_row (i : Fin 4096) (b : Fin 2048) (hd : ∀ j, ∃ r : ℝ, before x0 x1 i j = (r : EReal))
    (hx : Cert.Finite.Real (e := .f32) x2) (hw : Cert.Finite.Real (e := .f32) x3) : val_main_v40 (F := Ideal) x0 x1 x2 x3 x4 (ix2 i b)
      = back (before x0 x1 i) (fun j => x2 (ix2 i j)) (fun j => x3 (ix2 0 j)) (x4 (ix2 i b)) b := by
  rw [back_eq _ _ _ _ _ hd (fun j => hx _) (fun j => hw _), val_main_v40_apply, val_main_v38_apply, val_main_v31_apply, val_main_v30_apply,
    val_main_v29_apply, val_main_v37_apply, val_main_v39_apply, ref_scaled, ref_slope, at2 (idx_main_v29 (ix2 i b)) i 0 rfl rfl, ref_recip]
  rfl

/-- The reference's gradient of the scale. -/
theorem ref_scale_grad (q : Fin 1) (b : Fin 2048) : val_main_v41 (F := Ideal) x0 x1 x2 (ix2 q b)
    = ∑ i : Fin 4096, before x0 x1 i b * x2 (ix2 i b) * recip (fun j => x2 (ix2 i j)) := by
  have e : ∀ j : Cert.PledxReferenceIdeal.S2048.Idx, (j 0).val = b.val → val_main_v21 (F := Ideal) x0 x1 x2 j
      = ∑ i : Fin 4096, before x0 x1 i b * x2 (ix2 i b) * recip (fun j => x2 (ix2 i j)) := by
    intro j hj
    rw [val_main_v21_apply, val_main_cst_3_apply]
    show Ideal.ofBits .f32 0x00000000#32 + _ = _
    rw [zero_eq, zero_add]
    refine Finset.sum_congr rfl fun i _ => ?_
    rw [at2 (idx_main_v21 j i) i b rfl hj, val_main_v20_apply, val_main_v13_apply, val_main_v12_apply, ref_before,
      at2 (idx_main_v12 (ix2 i b)) i 0 rfl rfl, ref_recip]
    show x2 _ * _ * _ = _
    rw [mul_comm, mul_assoc]
  rw [val_main_v41_apply, val_main_v25_apply, val_main_cst_4_apply]
  show Ideal.ofBits .f32 0x00000000#32 + _ = _
  rw [zero_eq, zero_add, Fin.sum_univ_one, val_main_v22_apply]
  exact e _ (by first | rfl | simp)

end Reference

instance : Subsingleton (Cert.Pre_pledx_finite.S_).Idx := ⟨fun a b => funext fun d => d.elim0⟩

/-- The precondition, read back. -/
theorem finite_args {c : Dev nD} (h : Cert.Pre_PledxIdeal_pledx_finite m) :
    Cert.Finite.Real (e := .bf16) (m ((c : Thread nD τ).loc main_arg0)) ∧ Cert.Finite.Real (e := .f32) (m ((c : Thread nD τ).loc main_arg1))
    ∧ Cert.Finite.Real (e := .f32) (m ((c : Thread nD τ).loc main_arg2)) ∧ Cert.Finite.Real (e := .f32) (m ((c : Thread nD τ).loc main_arg3)) := by
  have e := congrFun (h c) (fun d => d.elim0)
  obtain ⟨e, e3⟩ := IntOp.andi_eq_one.1 e
  obtain ⟨e, e2⟩ := IntOp.andi_eq_one.1 e
  obtain ⟨e0, e1⟩ := IntOp.andi_eq_one.1 e
  refine ⟨?_, ?_, ?_, ?_⟩
  · exact Cert.Finite.of_all (s := S4096x2048) (m ((c : Thread nD τ).loc main_arg0)) _ _ _ _ _ e0
  · exact Cert.Finite.of_all _ _ _ _ _ _ e1
  · exact Cert.Finite.of_all _ _ _ _ _ _ e2
  · exact Cert.Finite.of_all _ _ _ _ _ _ e3

/-- A row the call writes is the reference's. -/
theorem closed_row (c : Dev nD) (h : Cert.Pre_PledxIdeal_pledx_finite m) (i : Fin 4096) (b : Fin 2048) :
    closed m c (ix2 i b) = val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 i b) := by
  obtain ⟨h0, h1, h2, h3⟩ := finite_args m h (c := c)
  exact (ref_row _ _ _ _ _ i b (fun j => Cert.Finite.sum _ _ fun k => Cert.Finite.mul (h0 _) (h1 _)) h2 h3).symm

/-- The array of gradients is the reference's. -/
theorem agree5 (c : Dev nD) (h : Cert.Pre_PledxIdeal_pledx_finite m) : (dats m 0 c).arrAt 5 cfg0.N
    = val_main_v40 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [result5]
  refine @funext S4096x2048.Idx (fun _ => EReal) _ _ fun j => ?_
  obtain ⟨i, b, rfl⟩ : ∃ (i : Fin 4096) (b : Fin 2048), j = ix2 i b := ⟨j 0, j 1, ValueIdx.eq_ix2 j⟩
  exact closed_row m c h i b

/-- The same array in the narrow format. -/
theorem agree6 (c : Dev nD) (h : Cert.Pre_PledxIdeal_pledx_finite m) : (dats m 0 c).arrAt 6 cfg0.N
    = val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [result6]
  refine @funext S4096x2048.Idx (fun _ => EReal) _ _ fun j => ?_
  obtain ⟨i, b, rfl⟩ : ∃ (i : Fin 4096) (b : Fin 2048), j = ix2 i b := ⟨j 0, j 1, ValueIdx.eq_ix2 j⟩
  exact closed_row m c h i b

/-- The scale's gradient is the reference's. -/
theorem agree7 (c : Dev nD) : (dats m 0 c).arrAt 7 cfg0.N = val_main_v41 (F := Ideal)
    (m ((c : Thread nD τ).loc main_arg0)) (m ((c : Thread nD τ).loc main_arg1)) (m ((c : Thread nD τ).loc main_arg2)) := by
  rw [result7]
  refine @funext S1x2048.Idx (fun _ => EReal) _ _ fun j => ?_
  obtain ⟨q, b, rfl⟩ : ∃ (q : Fin 1) (b : Fin 2048), j = ix2 q b := ⟨j 0, j 1, ValueIdx.eq_ix2 j⟩
  exact (ref_scale_grad _ _ _ q b).symm

end Cert.PledxIdeal.Sum

end
-- ==== Proof.Mixer.lean ====
/-
  The value claims of the mixer's and the per-layer embedding's calls: each kernel's arrays and its reference's are the same arrays.
-/
module

public import proofs.«01_k».proof.Defs
public import proofs.«01_k».proof.Proof.RmsResult
public import proofs.«01_k».proof.Proof.ProjResult
public import proofs.«01_k».proof.Proof.MergeResult
public import proofs.«01_k».proof.Proof.OutResult
public import proofs.«01_k».proof.Proof.DmergeResult
public import proofs.«01_k».proof.Proof.DwoutResult
public import proofs.«01_k».proof.Proof.DwupResult
public import proofs.«01_k».proof.Proof.DmixResult
public import proofs.«01_k».proof.Proof.DwinResult
public import proofs.«01_k».proof.Proof.DxinResult
public import proofs.«01_k».proof.Proof.PleResult
public import proofs.«01_k».proof.Proof.PledgateResult
public import proofs.«01_k».proof.Proof.PledwpResult
public import proofs.«01_k».proof.Proof.PledwgResult
public import proofs.«01_k».proof.Proof.PledxResult
public import proofs.«01_k».proof.Proof.Gen.Pre_dxin_finite
public import proofs.«01_k».proof.Proof.Gen.Pre_pledx_finite

@[expose] public section

namespace Cert.Mixer

open Idealize.ShloMosaic Idealize.ShloMosaic.TcCoe Idealize.SL.Sem

/-- The root-mean-square normalisation. -/
theorem rms : Cert.algebraic_RmsIdeal_RmsReferenceIdeal := by
  intro m ρ m' ρ' _ hagree
  refine ⟨fun c => (Cert.RmsIdeal.Gen.dats m 0 c).arrAt 2 _,
    Cert.RmsIdeal.Value.run_blocks m ρ, ?_⟩
  refine (θ_run Cert.RmsReferenceIdeal.defs _ _).mono (fun _ h c => ⟨(h c).1.trans ?_, (h c).2⟩)
    (Cert.RmsReferenceIdeal.Value.run (F := Ideal) m' ρ')
  refine (Cert.RmsReferenceIdeal.Read.val_main_v14_eq _ _).trans ?_
  rw [(hagree c).1, (hagree c).2]
  exact (Cert.RmsIdeal.Sum.result2 m c).symm

/-- The mixer's combined input projection. -/
theorem proj : Cert.algebraic_ProjIdeal_ProjReferenceIdeal := by
  intro m ρ m' ρ' _ hagree
  refine ⟨fun c => (Cert.ProjIdeal.Gen.dats m 0 c).arrAt 4 _,
    Cert.ProjIdeal.Value.run_blocks m ρ, ?_⟩
  refine (θ_run Cert.ProjReferenceIdeal.defs _ _).mono (fun _ h c => ⟨(h c).1.trans ?_, (h c).2⟩)
    (Cert.ProjReferenceIdeal.Value.run (F := Ideal) m' ρ')
  refine (Cert.ProjReferenceIdeal.Read.val_main_v1_eq _ _).trans ?_
  rw [(hagree c).1, (hagree c).2]
  exact (Cert.ProjIdeal.Sum.result4 m c).symm

/-- The gated merge of the two heads. -/
theorem merge : Cert.algebraic_MergeIdeal_MergeReferenceIdeal := by
  intro m ρ m' ρ' _ hagree
  refine ⟨fun c => (Cert.MergeIdeal.Gen.dats m 0 c).arrAt 6 _,
    fun c => (Cert.MergeIdeal.Gen.dats m 0 c).arrAt 7 _,
    fun c => (Cert.MergeIdeal.Gen.dats m 0 c).arrAt 8 _,
    Cert.MergeIdeal.Value.run_blocks m ρ, ?_⟩
  refine (θ_run Cert.MergeReferenceIdeal.defs _ _).mono (fun _ h c => ⟨(h c).1.trans ?_, (h c).2.1.trans ?_, (h c).2.2.1.trans ?_, (h c).2.2.2⟩)
    (Cert.MergeReferenceIdeal.Value.run (F := Ideal) m' ρ')
  · refine (Cert.MergeReferenceIdeal.Read.val_main_v21_eq _ _ _ _ _).trans ?_
    rw [(hagree c).1, (hagree c).2.1, (hagree c).2.2.1, (hagree c).2.2.2.1, (hagree c).2.2.2.2]
    exact (Cert.MergeIdeal.Sum.result6 m c).symm
  · refine (Cert.MergeReferenceIdeal.Read.val_main_v22_eq _ _).trans ?_
    rw [(hagree c).1, (hagree c).2.2.2.1]
    exact (Cert.MergeIdeal.Sum.result7 m c).symm
  · refine (Cert.MergeReferenceIdeal.Read.val_main_v23_eq _ _).trans ?_
    rw [(hagree c).2.1, (hagree c).2.2.2.2]
    exact (Cert.MergeIdeal.Sum.result8 m c).symm

/-- The mixer's output projection. -/
theorem out : Cert.algebraic_OutIdeal_OutReferenceIdeal := by
  intro m ρ m' ρ' _ hagree
  refine ⟨fun c => (Cert.OutIdeal.Gen.dats m 0 c).arrAt 3 _,
    Cert.OutIdeal.Value.run_blocks m ρ, ?_⟩
  refine (θ_run Cert.OutReferenceIdeal.defs _ _).mono (fun _ h c => ⟨(h c).1.trans ?_, (h c).2⟩)
    (Cert.OutReferenceIdeal.Value.run (F := Ideal) m' ρ')
  refine (Cert.OutReferenceIdeal.Read.val_main_v2_eq _ _ _).trans ?_
  rw [(hagree c).1, (hagree c).2.1, (hagree c).2.2]
  exact (Cert.OutIdeal.Sum.result3 m c).symm

/-- The gradient through the merge. -/
theorem dmerge : Cert.algebraic_DmergeIdeal_DmergeReferenceIdeal := by
  intro m ρ m' ρ' _ hagree
  refine ⟨fun c => (Cert.DmergeIdeal.Gen.dats m 0 c).arrAt 6 _,
    fun c => (Cert.DmergeIdeal.Gen.dats m 0 c).arrAt 7 _,
    fun c => (Cert.DmergeIdeal.Gen.dats m 0 c).arrAt 8 _,
    fun c => (Cert.DmergeIdeal.Gen.dats m 0 c).arrAt 9 _,
    Cert.DmergeIdeal.Value.run_blocks m ρ, ?_⟩
  refine (θ_run Cert.DmergeReferenceIdeal.defs _ _).mono (fun _ h c => ⟨(h c).1.trans ?_, (h c).2.1.trans ?_, (h c).2.2.1.trans ?_, (h c).2.2.2.1.trans ?_, (h c).2.2.2.2⟩)
    (Cert.DmergeReferenceIdeal.Value.run (F := Ideal) m' ρ')
  · refine (Cert.DmergeReferenceIdeal.Read.val_main_v33_eq _ _ _).trans ?_
    rw [(hagree c).1, (hagree c).2.2.2.1, (hagree c).2.2.2.2]
    exact (Cert.DmergeIdeal.Sum.result6 m c).symm
  · refine (Cert.DmergeReferenceIdeal.Read.val_main_v34_eq _ _ _).trans ?_
    rw [(hagree c).1, (hagree c).2.2.2.1, (hagree c).2.2.2.2]
    exact (Cert.DmergeIdeal.Sum.result7 m c).symm
  · refine (Cert.DmergeReferenceIdeal.Read.val_main_v35_eq _ _ _ _).trans ?_
    rw [(hagree c).1, (hagree c).2.1, (hagree c).2.2.2.1, (hagree c).2.2.2.2]
    exact (Cert.DmergeIdeal.Sum.result8 m c).symm
  · refine (Cert.DmergeReferenceIdeal.Read.val_main_v36_eq _ _ _ _).trans ?_
    rw [(hagree c).1, (hagree c).2.2.1, (hagree c).2.2.2.1, (hagree c).2.2.2.2]
    exact (Cert.DmergeIdeal.Sum.result9 m c).symm

/-- The output projection's weight gradient. -/
theorem dwout : Cert.algebraic_DwoutIdeal_DwoutReferenceIdeal := by
  intro m ρ m' ρ' _ hagree
  refine ⟨fun c => Cert.DwoutIdeal.Value.G2 m c,
    Cert.DwoutIdeal.Value.run m ρ, ?_⟩
  refine (θ_run Cert.DwoutReferenceIdeal.defs _ _).mono (fun _ h c => ⟨(h c).1.trans ?_, (h c).2⟩)
    (Cert.DwoutReferenceIdeal.Value.run (F := Ideal) m' ρ')
  refine (Cert.DwoutReferenceIdeal.Read.val_main_v5_eq _ _).trans ?_
  rw [(hagree c).1, (hagree c).2]
  exact (Cert.DwoutIdeal.Sum.agree m c).symm

/-- The weight gradients of the two heads' output products. -/
theorem dwup : Cert.algebraic_DwupIdeal_DwupReferenceIdeal := by
  intro m ρ m' ρ' _ hagree
  refine ⟨fun c => Cert.DwupIdeal.Value.G4 m c,
    fun c => Cert.DwupIdeal.Value.G5 m c,
    Cert.DwupIdeal.Value.run m ρ, ?_⟩
  refine (θ_run Cert.DwupReferenceIdeal.defs _ _).mono (fun _ h c => ⟨(h c).1.trans ?_, (h c).2.1.trans ?_, (h c).2.2⟩)
    (Cert.DwupReferenceIdeal.Value.run (F := Ideal) m' ρ')
  · refine (Cert.DwupReferenceIdeal.Read.val_main_v8_eq _ _).trans ?_
    rw [(hagree c).1, (hagree c).2.2.1]
    exact (Cert.DwupIdeal.Sum.agree4 m c).symm
  · refine (Cert.DwupReferenceIdeal.Read.val_main_v17_eq _ _).trans ?_
    rw [(hagree c).2.1, (hagree c).2.2.2]
    exact (Cert.DwupIdeal.Sum.agree5 m c).symm

/-- The gradients of the two heads' outputs. -/
theorem dmix : Cert.algebraic_DmixIdeal_DmixReferenceIdeal := by
  intro m ρ m' ρ' _ hagree
  refine ⟨fun c => Cert.DmixIdeal.Value.G4 m c,
    fun c => Cert.DmixIdeal.Value.G5 m c,
    Cert.DmixIdeal.Value.run m ρ, ?_⟩
  refine (θ_run Cert.DmixReferenceIdeal.defs _ _).mono (fun _ h c => ⟨(h c).1.trans ?_, (h c).2.1.trans ?_, (h c).2.2⟩)
    (Cert.DmixReferenceIdeal.Value.run (F := Ideal) m' ρ')
  · refine (Cert.DmixReferenceIdeal.Read.val_main_v4_eq _ _).trans ?_
    rw [(hagree c).1, (hagree c).2.2.1]
    exact (Cert.DmixIdeal.Sum.agree4 m c).symm
  · refine (Cert.DmixReferenceIdeal.Read.val_main_v9_eq _ _).trans ?_
    rw [(hagree c).2.1, (hagree c).2.2.2]
    exact (Cert.DmixIdeal.Sum.agree5 m c).symm

/-- The combined input projection's weight gradient. -/
theorem dwin : Cert.algebraic_DwinIdeal_DwinReferenceIdeal := by
  intro m ρ m' ρ' _ hagree
  refine ⟨fun c => Cert.DwinIdeal.Value.G2 m c,
    Cert.DwinIdeal.Value.run m ρ, ?_⟩
  refine (θ_run Cert.DwinReferenceIdeal.defs _ _).mono (fun _ h c => ⟨(h c).1.trans ?_, (h c).2⟩)
    (Cert.DwinReferenceIdeal.Value.run (F := Ideal) m' ρ')
  refine (Cert.DwinReferenceIdeal.Read.val_main_v7_eq _ _).trans ?_
  rw [(hagree c).1, (hagree c).2]
  exact (Cert.DwinIdeal.Sum.agree m c).symm

/-- The mixer's input gradient, of finite operands. -/
theorem dxin : Cert.algebraic_DxinIdeal_DxinReferenceIdeal_pre_dxin_finite := by
  intro m ρ m' ρ' hpre hagree
  refine ⟨fun c => (Cert.DxinIdeal.Gen.dats m 0 c).arrAt 6 _,
    fun c => (Cert.DxinIdeal.Gen.dats m 0 c).arrAt 7 _,
    fun c => (Cert.DxinIdeal.Gen.dats m 0 c).arrAt 8 _,
    Cert.DxinIdeal.Value.run_blocks m ρ, ?_⟩
  refine (θ_run Cert.DxinReferenceIdeal.defs _ _).mono (fun _ h c => ⟨(h c).1.trans ?_, (h c).2.1.trans ?_, (h c).2.2.1.trans ?_, (h c).2.2.2⟩)
    (Cert.DxinReferenceIdeal.Value.run (F := Ideal) m' ρ')
  · refine (Cert.DxinReferenceIdeal.Read.val_main_v40_eq _ _).trans ?_
    rw [(hagree c).1, (hagree c).2.1, (hagree c).2.2.1, (hagree c).2.2.2.1, (hagree c).2.2.2.2]
    exact (Cert.DxinIdeal.Sum.agree6 m c hpre).symm
  · refine (Cert.DxinReferenceIdeal.Read.val_main_v42_eq _ _).trans ?_
    rw [(hagree c).1, (hagree c).2.1, (hagree c).2.2.1, (hagree c).2.2.2.1, (hagree c).2.2.2.2]
    exact (Cert.DxinIdeal.Sum.agree7 m c hpre).symm
  · refine (Cert.DxinReferenceIdeal.Read.val_main_v41_eq _ _ _).trans ?_
    rw [(hagree c).1, (hagree c).2.1, (hagree c).2.2.1]
    exact (Cert.DxinIdeal.Sum.agree8 m c).symm

/-- The per-layer embedding added through its gate. -/
theorem ple : Cert.algebraic_PleIdeal_PleReferenceIdeal := by
  intro m ρ m' ρ' _ hagree
  refine ⟨fun c => (Cert.PleIdeal.Gen.dats m 0 c).arrAt 5 _,
    fun c => (Cert.PleIdeal.Gen.dats m 0 c).arrAt 6 _,
    fun c => (Cert.PleIdeal.Gen.dats m 0 c).arrAt 7 _,
    Cert.PleIdeal.Value.run_blocks m ρ, ?_⟩
  refine (θ_run Cert.PleReferenceIdeal.defs _ _).mono (fun _ h c => ⟨(h c).1.trans ?_, (h c).2.1.trans ?_, (h c).2.2.1.trans ?_, (h c).2.2.2⟩)
    (Cert.PleReferenceIdeal.Value.run (F := Ideal) m' ρ')
  · refine (Cert.PleReferenceIdeal.Read.val_main_v10_eq _ _ _ _ _).trans ?_
    rw [(hagree c).1, (hagree c).2.1, (hagree c).2.2.1, (hagree c).2.2.2.1, (hagree c).2.2.2.2]
    exact (Cert.PleIdeal.Sum.result5 m c).symm
  · refine (Cert.PleReferenceIdeal.Read.val_main_v11_eq _ _).trans ?_
    rw [(hagree c).2.1, (hagree c).2.2.2.1]
    exact (Cert.PleIdeal.Sum.result6 m c).symm
  · refine (Cert.PleReferenceIdeal.Read.val_main_v12_eq _ _).trans ?_
    rw [(hagree c).2.2.1, (hagree c).2.2.2.2]
    exact (Cert.PleIdeal.Sum.result7 m c).symm

/-- The gradient through that gate. -/
theorem pledgate : Cert.algebraic_PledgateIdeal_PledgateReferenceIdeal := by
  intro m ρ m' ρ' _ hagree
  refine ⟨fun c => (Cert.PledgateIdeal.Gen.dats m 0 c).arrAt 3 _,
    fun c => (Cert.PledgateIdeal.Gen.dats m 0 c).arrAt 4 _,
    Cert.PledgateIdeal.Value.run_blocks m ρ, ?_⟩
  refine (θ_run Cert.PledgateReferenceIdeal.defs _ _).mono (fun _ h c => ⟨(h c).1.trans ?_, (h c).2.1.trans ?_, (h c).2.2⟩)
    (Cert.PledgateReferenceIdeal.Value.run (F := Ideal) m' ρ')
  · refine (Cert.PledgateReferenceIdeal.Read.val_main_v15_eq _ _ _).trans ?_
    rw [(hagree c).1, (hagree c).2.1, (hagree c).2.2]
    exact (Cert.PledgateIdeal.Sum.result3 m c).symm
  · refine (Cert.PledgateReferenceIdeal.Read.val_main_v16_eq _ _).trans ?_
    rw [(hagree c).1, (hagree c).2.2]
    exact (Cert.PledgateIdeal.Sum.result4 m c).symm

/-- The weight gradient of the embedding's projection. -/
theorem pledwp : Cert.algebraic_PledwpIdeal_PledwpReferenceIdeal := by
  intro m ρ m' ρ' _ hagree
  refine ⟨fun c => (Cert.PledwpIdeal.Gen.dats m 0 c).arrAt 2 _,
    Cert.PledwpIdeal.Value.run_blocks m ρ, ?_⟩
  refine (θ_run Cert.PledwpReferenceIdeal.defs _ _).mono (fun _ h c => ⟨(h c).1.trans ?_, (h c).2⟩)
    (Cert.PledwpReferenceIdeal.Value.run (F := Ideal) m' ρ')
  refine (Cert.PledwpReferenceIdeal.Read.val_main_v7_eq _ _).trans ?_
  rw [(hagree c).1, (hagree c).2]
  exact (Cert.PledwpIdeal.Sum.result2 m c).symm

/-- The weight gradient of the embedding's gate. -/
theorem pledwg : Cert.algebraic_PledwgIdeal_PledwgReferenceIdeal := by
  intro m ρ m' ρ' _ hagree
  refine ⟨fun c => Cert.PledwgIdeal.Value.G2 m c,
    Cert.PledwgIdeal.Value.run m ρ, ?_⟩
  refine (θ_run Cert.PledwgReferenceIdeal.defs _ _).mono (fun _ h c => ⟨(h c).1.trans ?_, (h c).2⟩)
    (Cert.PledwgReferenceIdeal.Value.run (F := Ideal) m' ρ')
  refine (Cert.PledwgReferenceIdeal.Read.val_main_v6_eq _ _).trans ?_
  rw [(hagree c).1, (hagree c).2]
  exact (Cert.PledwgIdeal.Sum.agree m c).symm

/-- The input gradient of the embedding's gate, of finite operands. -/
theorem pledx : Cert.algebraic_PledxIdeal_PledxReferenceIdeal_pre_pledx_finite := by
  intro m ρ m' ρ' hpre hagree
  refine ⟨fun c => (Cert.PledxIdeal.Gen.dats m 0 c).arrAt 5 _,
    fun c => (Cert.PledxIdeal.Gen.dats m 0 c).arrAt 6 _,
    fun c => (Cert.PledxIdeal.Gen.dats m 0 c).arrAt 7 _,
    Cert.PledxIdeal.Value.run_blocks m ρ, ?_⟩
  refine (θ_run Cert.PledxReferenceIdeal.defs _ _).mono (fun _ h c => ⟨(h c).1.trans ?_, (h c).2.1.trans ?_, (h c).2.2.1.trans ?_, (h c).2.2.2⟩)
    (Cert.PledxReferenceIdeal.Value.run (F := Ideal) m' ρ')
  · refine (Cert.PledxReferenceIdeal.Read.val_main_v40_eq _ _).trans ?_
    rw [(hagree c).1, (hagree c).2.1, (hagree c).2.2.1, (hagree c).2.2.2.1, (hagree c).2.2.2.2]
    exact (Cert.PledxIdeal.Sum.agree5 m c hpre).symm
  · refine (Cert.PledxReferenceIdeal.Read.val_main_v42_eq _ _).trans ?_
    rw [(hagree c).1, (hagree c).2.1, (hagree c).2.2.1, (hagree c).2.2.2.1, (hagree c).2.2.2.2]
    exact (Cert.PledxIdeal.Sum.agree6 m c hpre).symm
  · refine (Cert.PledxReferenceIdeal.Read.val_main_v41_eq _ _ _).trans ?_
    rw [(hagree c).1, (hagree c).2.1, (hagree c).2.2.1]
    exact (Cert.PledxIdeal.Sum.agree7 m c).symm

end Cert.Mixer

end
-- ==== Proof.lean ====
/-
  The certificate: the frames of the calls, of their ideal readings and of the references, that the ideal readings are the
  programs' own, and the value claims.
-/
module

public import proofs.«01_k».proof.Defs
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.Dact.Frame
public import proofs.«01_k».proof.Proof.Gen.DactIdeal.Frame
public import proofs.«01_k».proof.Proof.Gen.Dwd.Frame
public import proofs.«01_k».proof.Proof.Gen.DwdIdeal.Frame
public import proofs.«01_k».proof.Proof.Gen.Dwg.Frame
public import proofs.«01_k».proof.Proof.Gen.DwgIdeal.Frame
public import proofs.«01_k».proof.Proof.Gen.Dxa.Frame
public import proofs.«01_k».proof.Proof.Gen.DxaIdeal.Frame
public import proofs.«01_k».proof.Proof.Gen.Dxb.Frame
public import proofs.«01_k».proof.Proof.Gen.DxbIdeal.Frame
public import proofs.«01_k».proof.Proof.Gen.Rms.Frame
public import proofs.«01_k».proof.Proof.Gen.RmsIdeal.Frame
public import proofs.«01_k».proof.Proof.Gen.Proj.Frame
public import proofs.«01_k».proof.Proof.Gen.ProjIdeal.Frame
public import proofs.«01_k».proof.Proof.Gen.Merge.Frame
public import proofs.«01_k».proof.Proof.Gen.MergeIdeal.Frame
public import proofs.«01_k».proof.Proof.Gen.Out.Frame
public import proofs.«01_k».proof.Proof.Gen.OutIdeal.Frame
public import proofs.«01_k».proof.Proof.Gen.Dmerge.Frame
public import proofs.«01_k».proof.Proof.Gen.DmergeIdeal.Frame
public import proofs.«01_k».proof.Proof.Gen.Dwout.Frame
public import proofs.«01_k».proof.Proof.Gen.DwoutIdeal.Frame
public import proofs.«01_k».proof.Proof.Gen.Dwup.Frame
public import proofs.«01_k».proof.Proof.Gen.DwupIdeal.Frame
public import proofs.«01_k».proof.Proof.Gen.Dmix.Frame
public import proofs.«01_k».proof.Proof.Gen.DmixIdeal.Frame
public import proofs.«01_k».proof.Proof.Gen.Dwin.Frame
public import proofs.«01_k».proof.Proof.Gen.DwinIdeal.Frame
public import proofs.«01_k».proof.Proof.Gen.Dxin.Frame
public import proofs.«01_k».proof.Proof.Gen.DxinIdeal.Frame
public import proofs.«01_k».proof.Proof.Gen.Ple.Frame
public import proofs.«01_k».proof.Proof.Gen.PleIdeal.Frame
public import proofs.«01_k».proof.Proof.Gen.Pledgate.Frame
public import proofs.«01_k».proof.Proof.Gen.PledgateIdeal.Frame
public import proofs.«01_k».proof.Proof.Gen.Pledwp.Frame
public import proofs.«01_k».proof.Proof.Gen.PledwpIdeal.Frame
public import proofs.«01_k».proof.Proof.Gen.Pledwg.Frame
public import proofs.«01_k».proof.Proof.Gen.PledwgIdeal.Frame
public import proofs.«01_k».proof.Proof.Gen.Pledx.Frame
public import proofs.«01_k».proof.Proof.Gen.PledxIdeal.Frame
public import proofs.«01_k».proof.Proof.References
public import proofs.«01_k».proof.Proof.Products
public import proofs.«01_k».proof.Proof.Mixer

@[expose] public section

namespace Cert.Proof

open Idealize.ShloMosaic Idealize.SL.Sem

/-- Everything the certificate states. -/
theorem claim : Cert.Claim := ⟨
  Cert.Up.Gen.facts, Cert.UpIdeal.Gen.facts, Cert.UpReferenceIdeal.Gen.facts,
  Cert.Down.Gen.facts, Cert.DownIdeal.Gen.facts, Cert.DownReferenceIdeal.Gen.facts,
  Cert.Dact.Gen.facts, Cert.DactIdeal.Gen.facts, Cert.DactReferenceIdeal.Gen.facts,
  Cert.Dwd.Gen.facts, Cert.DwdIdeal.Gen.facts, Cert.DwdReferenceIdeal.Gen.facts,
  Cert.Dwg.Gen.facts, Cert.DwgIdeal.Gen.facts, Cert.DwgReferenceIdeal.Gen.facts,
  Cert.Dxa.Gen.facts, Cert.DxaIdeal.Gen.facts, Cert.DxaReferenceIdeal.Gen.facts,
  Cert.Dxb.Gen.facts, Cert.DxbIdeal.Gen.facts, Cert.DxbReferenceIdeal.Gen.facts,
  Cert.Rms.Gen.facts, Cert.RmsIdeal.Gen.facts, Cert.RmsReferenceIdeal.Gen.facts,
  Cert.Proj.Gen.facts, Cert.ProjIdeal.Gen.facts, Cert.ProjReferenceIdeal.Gen.facts,
  Cert.Merge.Gen.facts, Cert.MergeIdeal.Gen.facts, Cert.MergeReferenceIdeal.Gen.facts,
  Cert.Out.Gen.facts, Cert.OutIdeal.Gen.facts, Cert.OutReferenceIdeal.Gen.facts,
  Cert.Dmerge.Gen.facts, Cert.DmergeIdeal.Gen.facts, Cert.DmergeReferenceIdeal.Gen.facts,
  Cert.Dwout.Gen.facts, Cert.DwoutIdeal.Gen.facts, Cert.DwoutReferenceIdeal.Gen.facts,
  Cert.Dwup.Gen.facts, Cert.DwupIdeal.Gen.facts, Cert.DwupReferenceIdeal.Gen.facts,
  Cert.Dmix.Gen.facts, Cert.DmixIdeal.Gen.facts, Cert.DmixReferenceIdeal.Gen.facts,
  Cert.Dwin.Gen.facts, Cert.DwinIdeal.Gen.facts, Cert.DwinReferenceIdeal.Gen.facts,
  Cert.Dxin.Gen.facts, Cert.DxinIdeal.Gen.facts, Cert.DxinReferenceIdeal.Gen.facts,
  Cert.Ple.Gen.facts, Cert.PleIdeal.Gen.facts, Cert.PleReferenceIdeal.Gen.facts,
  Cert.Pledgate.Gen.facts, Cert.PledgateIdeal.Gen.facts, Cert.PledgateReferenceIdeal.Gen.facts,
  Cert.Pledwp.Gen.facts, Cert.PledwpIdeal.Gen.facts, Cert.PledwpReferenceIdeal.Gen.facts,
  Cert.Pledwg.Gen.facts, Cert.PledwgIdeal.Gen.facts, Cert.PledwgReferenceIdeal.Gen.facts,
  Cert.Pledx.Gen.facts, Cert.PledxIdeal.Gen.facts, Cert.PledxReferenceIdeal.Gen.facts,
  Cert.Pre_dact_finite.Gen.facts,
  Cert.Pre_dxa_finite.Gen.facts,
  Cert.Pre_dxb_finite.Gen.facts,
  Cert.Pre_dxin_finite.Gen.facts,
  Cert.Pre_pledx_finite.Gen.facts,
  Cert.On_first_half.Gen.facts,
  fun m ρ _ => Cert.Up.Gen.frame m ρ, fun m ρ _ => Cert.UpIdeal.Gen.frame m ρ, Cert.References.frame_Up,
  fun m ρ _ => Cert.Down.Gen.frame m ρ, fun m ρ _ => Cert.DownIdeal.Gen.frame m ρ, Cert.References.frame_Down,
  fun m ρ _ => Cert.Dact.Gen.frame m ρ, fun m ρ _ => Cert.DactIdeal.Gen.frame m ρ, fun m ρ _ => Cert.DactIdeal.Gen.frame m ρ,
  Cert.References.frame_Dact, fun m ρ _ => Cert.References.frame_Dact m ρ trivial,
  fun m ρ _ => Cert.Dwd.Gen.frame m ρ, fun m ρ _ => Cert.DwdIdeal.Gen.frame m ρ, Cert.References.frame_Dwd,
  fun m ρ _ => Cert.Dwg.Gen.frame m ρ, fun m ρ _ => Cert.DwgIdeal.Gen.frame m ρ, Cert.References.frame_Dwg,
  fun m ρ _ => Cert.Dxa.Gen.frame m ρ, fun m ρ _ => Cert.DxaIdeal.Gen.frame m ρ, fun m ρ _ => Cert.DxaIdeal.Gen.frame m ρ,
  Cert.References.frame_Dxa, fun m ρ _ => Cert.References.frame_Dxa m ρ trivial,
  fun m ρ _ => Cert.Dxb.Gen.frame m ρ, fun m ρ _ => Cert.DxbIdeal.Gen.frame m ρ, fun m ρ _ => Cert.DxbIdeal.Gen.frame m ρ,
  Cert.References.frame_Dxb, fun m ρ _ => Cert.References.frame_Dxb m ρ trivial,
  fun m ρ _ => Cert.Rms.Gen.frame m ρ, fun m ρ _ => Cert.RmsIdeal.Gen.frame m ρ, Cert.References.frame_Rms,
  fun m ρ _ => Cert.Proj.Gen.frame m ρ, fun m ρ _ => Cert.ProjIdeal.Gen.frame m ρ, Cert.References.frame_Proj,
  fun m ρ _ => Cert.Merge.Gen.frame m ρ, fun m ρ _ => Cert.MergeIdeal.Gen.frame m ρ, Cert.References.frame_Merge,
  fun m ρ _ => Cert.Out.Gen.frame m ρ, fun m ρ _ => Cert.OutIdeal.Gen.frame m ρ, Cert.References.frame_Out,
  fun m ρ _ => Cert.Dmerge.Gen.frame m ρ, fun m ρ _ => Cert.DmergeIdeal.Gen.frame m ρ, Cert.References.frame_Dmerge,
  fun m ρ _ => Cert.Dwout.Gen.frame m ρ, fun m ρ _ => Cert.DwoutIdeal.Gen.frame m ρ, Cert.References.frame_Dwout,
  fun m ρ _ => Cert.Dwup.Gen.frame m ρ, fun m ρ _ => Cert.DwupIdeal.Gen.frame m ρ, Cert.References.frame_Dwup,
  fun m ρ _ => Cert.Dmix.Gen.frame m ρ, fun m ρ _ => Cert.DmixIdeal.Gen.frame m ρ, Cert.References.frame_Dmix,
  fun m ρ _ => Cert.Dwin.Gen.frame m ρ, fun m ρ _ => Cert.DwinIdeal.Gen.frame m ρ, Cert.References.frame_Dwin,
  fun m ρ _ => Cert.Dxin.Gen.frame m ρ, fun m ρ _ => Cert.DxinIdeal.Gen.frame m ρ, fun m ρ _ => Cert.DxinIdeal.Gen.frame m ρ,
  Cert.References.frame_Dxin, fun m ρ _ => Cert.References.frame_Dxin m ρ trivial,
  fun m ρ _ => Cert.Ple.Gen.frame m ρ, fun m ρ _ => Cert.PleIdeal.Gen.frame m ρ, Cert.References.frame_Ple,
  fun m ρ _ => Cert.Pledgate.Gen.frame m ρ, fun m ρ _ => Cert.PledgateIdeal.Gen.frame m ρ, Cert.References.frame_Pledgate,
  fun m ρ _ => Cert.Pledwp.Gen.frame m ρ, fun m ρ _ => Cert.PledwpIdeal.Gen.frame m ρ, Cert.References.frame_Pledwp,
  fun m ρ _ => Cert.Pledwg.Gen.frame m ρ, fun m ρ _ => Cert.PledwgIdeal.Gen.frame m ρ, Cert.References.frame_Pledwg,
  fun m ρ _ => Cert.Pledx.Gen.frame m ρ, fun m ρ _ => Cert.PledxIdeal.Gen.frame m ρ, fun m ρ _ => Cert.PledxIdeal.Gen.frame m ρ,
  Cert.References.frame_Pledx, fun m ρ _ => Cert.References.frame_Pledx m ρ trivial,
  trivial, trivial, trivial, trivial, trivial, trivial, trivial, trivial, trivial, trivial, trivial, trivial, trivial, trivial, trivial, trivial, trivial, trivial, trivial, trivial, trivial, trivial,
  Cert.Products.up,
  Cert.Products.down,
  Cert.Products.dact,
  Cert.Products.dwd,
  Cert.Products.dwg,
  Cert.Products.dxa,
  Cert.Products.dxb,
  Cert.Mixer.rms,
  Cert.Mixer.proj,
  Cert.Mixer.merge,
  Cert.Mixer.out,
  Cert.Mixer.dmerge,
  Cert.Mixer.dwout,
  Cert.Mixer.dwup,
  Cert.Mixer.dmix,
  Cert.Mixer.dwin,
  Cert.Mixer.dxin,
  Cert.Mixer.ple,
  Cert.Mixer.pledgate,
  Cert.Mixer.pledwp,
  Cert.Mixer.pledwg,
  Cert.Mixer.pledx⟩

end Cert.Proof

end
